-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))).1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))).2.1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))).2.2.1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))).2.2.2.1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))).2.2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))).2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))).2.2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))).2.2.2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swaf_finite [hPre_swaf_finite : Cert.Pre_swaf_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swaf_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).1 = (fun _ => 1#1)
    ∧ (Cert.Pre_swaf_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.1 = (fun _ => 1#1)
    ∧ (Cert.Pre_swaf_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.2.1 = (fun _ => 1#1)
    ∧ (Cert.Pre_swaf_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))).2.2.2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swaf_finite [hPre_swaf_finite : Cert.Pre_swaf_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swaf_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).1 = (fun _ => 1#1)
    ∧ (Cert.Pre_swaf_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.1 = (fun _ => 1#1)
    ∧ (Cert.Pre_swaf_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.2.1 = (fun _ => 1#1)
    ∧ (Cert.Pre_swaf_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))).2.2.2 = (fun _ => 1#1)

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5)
      ∧ r.2.mem ((c.tc : Thread Cert.Resid.nD Cert.Resid.τ).loc Cert.Resid.main_arg6) = m ((c.tc : Thread Cert.Resid.nD Cert.Resid.τ).loc Cert.Resid.main_arg6)
      ∧ r.2.mem ((c.tc : Thread Cert.Resid.nD Cert.Resid.τ).loc Cert.Resid.main_arg7) = m ((c.tc : Thread Cert.Resid.nD Cert.Resid.τ).loc Cert.Resid.main_arg7)
      ∧ r.2.mem ((c.tc : Thread Cert.Resid.nD Cert.Resid.τ).loc Cert.Resid.main_arg8) = m ((c.tc : Thread Cert.Resid.nD Cert.Resid.τ).loc Cert.Resid.main_arg8)
      ∧ r.2.mem ((c.tc : Thread Cert.Resid.nD Cert.Resid.τ).loc Cert.Resid.main_arg9) = m ((c.tc : Thread Cert.Resid.nD Cert.Resid.τ).loc Cert.Resid.main_arg9)
      ∧ r.2.mem ((c.tc : Thread Cert.Resid.nD Cert.Resid.τ).loc Cert.Resid.main_arg10) = m ((c.tc : Thread Cert.Resid.nD Cert.Resid.τ).loc Cert.Resid.main_arg10))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
      ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6)
      ∧ r.2.mem ((c.tc : Thread Cert.ResidIdeal.nD Cert.ResidIdeal.τ).loc Cert.ResidIdeal.main_arg7) = m ((c.tc : Thread Cert.ResidIdeal.nD Cert.ResidIdeal.τ).loc Cert.ResidIdeal.main_arg7)
      ∧ r.2.mem ((c.tc : Thread Cert.ResidIdeal.nD Cert.ResidIdeal.τ).loc Cert.ResidIdeal.main_arg8) = m ((c.tc : Thread Cert.ResidIdeal.nD Cert.ResidIdeal.τ).loc Cert.ResidIdeal.main_arg8)
      ∧ r.2.mem ((c.tc : Thread Cert.ResidIdeal.nD Cert.ResidIdeal.τ).loc Cert.ResidIdeal.main_arg9) = m ((c.tc : Thread Cert.ResidIdeal.nD Cert.ResidIdeal.τ).loc Cert.ResidIdeal.main_arg9)
      ∧ r.2.mem ((c.tc : Thread Cert.ResidIdeal.nD Cert.ResidIdeal.τ).loc Cert.ResidIdeal.main_arg10) = m ((c.tc : Thread Cert.ResidIdeal.nD Cert.ResidIdeal.τ).loc Cert.ResidIdeal.main_arg10))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4)
      ∧ r.2.mem ((c.tc : Thread Cert.ResidRefIdeal.nD Cert.ResidRefIdeal.τ).loc Cert.ResidRefIdeal.main_arg5) = m ((c.tc : Thread Cert.ResidRefIdeal.nD Cert.ResidRefIdeal.τ).loc Cert.ResidRefIdeal.main_arg5)
      ∧ r.2.mem ((c.tc : Thread Cert.ResidRefIdeal.nD Cert.ResidRefIdeal.τ).loc Cert.ResidRefIdeal.main_arg6) = m ((c.tc : Thread Cert.ResidRefIdeal.nD Cert.ResidRefIdeal.τ).loc Cert.ResidRefIdeal.main_arg6)
      ∧ r.2.mem ((c.tc : Thread Cert.ResidRefIdeal.nD Cert.ResidRefIdeal.τ).loc Cert.ResidRefIdeal.main_arg7) = m ((c.tc : Thread Cert.ResidRefIdeal.nD Cert.ResidRefIdeal.τ).loc Cert.ResidRefIdeal.main_arg7)
      ∧ r.2.mem ((c.tc : Thread Cert.ResidRefIdeal.nD Cert.ResidRefIdeal.τ).loc Cert.ResidRefIdeal.main_arg8) = m ((c.tc : Thread Cert.ResidRefIdeal.nD Cert.ResidRefIdeal.τ).loc Cert.ResidRefIdeal.main_arg8)
      ∧ r.2.mem ((c.tc : Thread Cert.ResidRefIdeal.nD Cert.ResidRefIdeal.τ).loc Cert.ResidRefIdeal.main_arg9) = m ((c.tc : Thread Cert.ResidRefIdeal.nD Cert.ResidRefIdeal.τ).loc Cert.ResidRefIdeal.main_arg9)
      ∧ r.2.mem ((c.tc : Thread Cert.ResidRefIdeal.nD Cert.ResidRefIdeal.τ).loc Cert.ResidRefIdeal.main_arg10) = m ((c.tc : Thread Cert.ResidRefIdeal.nD Cert.ResidRefIdeal.τ).loc Cert.ResidRefIdeal.main_arg10))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3)
      ∧ r.2.mem ((c.tc : Thread Cert.SwaFwd.nD Cert.SwaFwd.τ).loc Cert.SwaFwd.main_arg4) = m ((c.tc : Thread Cert.SwaFwd.nD Cert.SwaFwd.τ).loc Cert.SwaFwd.main_arg4))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdIdeal_pre_swaf_finite [hSwaFwdIdeal : Cert.SwaFwdIdeal.Facts] [hPre_swaf_finite : Cert.Pre_swaf_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swaf_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def quiescent_SwaFwdRefIdeal_pre_swaf_finite [hSwaFwdRefIdeal : Cert.SwaFwdRefIdeal.Facts] [hPre_swaf_finite : Cert.Pre_swaf_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swaf_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3)
      ∧ r.2.mem ((c.tc : Thread Cert.ResidFwd.nD Cert.ResidFwd.τ).loc Cert.ResidFwd.main_arg4) = m ((c.tc : Thread Cert.ResidFwd.nD Cert.ResidFwd.τ).loc Cert.ResidFwd.main_arg4)
      ∧ r.2.mem ((c.tc : Thread Cert.ResidFwd.nD Cert.ResidFwd.τ).loc Cert.ResidFwd.main_arg5) = m ((c.tc : Thread Cert.ResidFwd.nD Cert.ResidFwd.τ).loc Cert.ResidFwd.main_arg5)
      ∧ r.2.mem ((c.tc : Thread Cert.ResidFwd.nD Cert.ResidFwd.τ).loc Cert.ResidFwd.main_arg6) = m ((c.tc : Thread Cert.ResidFwd.nD Cert.ResidFwd.τ).loc Cert.ResidFwd.main_arg6))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
      ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
      ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5)
      ∧ r.2.mem ((c.tc : Thread Cert.ResidFwdIdeal.nD Cert.ResidFwdIdeal.τ).loc Cert.ResidFwdIdeal.main_arg6) = m ((c.tc : Thread Cert.ResidFwdIdeal.nD Cert.ResidFwdIdeal.τ).loc Cert.ResidFwdIdeal.main_arg6))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3)
      ∧ r.2.mem ((c.tc : Thread Cert.ResidFwdRefIdeal.nD Cert.ResidFwdRefIdeal.τ).loc Cert.ResidFwdRefIdeal.main_arg4) = m ((c.tc : Thread Cert.ResidFwdRefIdeal.nD Cert.ResidFwdRefIdeal.τ).loc Cert.ResidFwdRefIdeal.main_arg4)
      ∧ r.2.mem ((c.tc : Thread Cert.ResidFwdRefIdeal.nD Cert.ResidFwdRefIdeal.τ).loc Cert.ResidFwdRefIdeal.main_arg5) = m ((c.tc : Thread Cert.ResidFwdRefIdeal.nD Cert.ResidFwdRefIdeal.τ).loc Cert.ResidFwdRefIdeal.main_arg5)
      ∧ r.2.mem ((c.tc : Thread Cert.ResidFwdRefIdeal.nD Cert.ResidFwdRefIdeal.τ).loc Cert.ResidFwdRefIdeal.main_arg6) = m ((c.tc : Thread Cert.ResidFwdRefIdeal.nD Cert.ResidFwdRefIdeal.τ).loc Cert.ResidFwdRefIdeal.main_arg6))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v8_0)) (v1 : (c : Dev Cert.ConvIdeal.nD) → Buf (Elt Ideal) ((c.tc : Thread Cert.ConvIdeal.nD Cert.ConvIdeal.τ).loc Cert.ConvIdeal.main_v8_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8_0) = v0 c
          ∧ r.2.mem ((c.tc : Thread Cert.ConvIdeal.nD Cert.ConvIdeal.τ).loc Cert.ConvIdeal.main_v8_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v73) = v0 c
          ∧ r.2.mem ((c.tc : Thread Cert.ConvRefIdeal.nD Cert.ConvRefIdeal.τ).loc Cert.ConvRefIdeal.main_v74) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v14)) (v1 : (c : Dev Cert.ActIdeal.nD) → Buf (Elt Ideal) ((c.tc : Thread Cert.ActIdeal.nD Cert.ActIdeal.τ).loc Cert.ActIdeal.main_v17)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v14) = v0 c
          ∧ r.2.mem ((c.tc : Thread Cert.ActIdeal.nD Cert.ActIdeal.τ).loc Cert.ActIdeal.main_v17) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v14) = v0 c
          ∧ r.2.mem ((c.tc : Thread Cert.ActRefIdeal.nD Cert.ActRefIdeal.τ).loc Cert.ActRefIdeal.main_v15) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Swa_SwaIdeal : Prop :=
  IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)) →
    ∃ (v0 : (c : Dev Cert.SwaIdeal.nD) → Buf (Elt Ideal) ((c.tc : Thread Cert.SwaIdeal.nD Cert.SwaIdeal.τ).loc Cert.SwaIdeal.main_v23_0)) (v1 : (c : Dev Cert.SwaIdeal.nD) → Buf (Elt Ideal) ((c.tc : Thread Cert.SwaIdeal.nD Cert.SwaIdeal.τ).loc Cert.SwaIdeal.main_v23_1)) (v2 : (c : Dev Cert.SwaIdeal.nD) → Buf (Elt Ideal) ((c.tc : Thread Cert.SwaIdeal.nD Cert.SwaIdeal.τ).loc Cert.SwaIdeal.main_v23_2)) (v3 : (c : Dev Cert.SwaIdeal.nD) → Buf (Elt Ideal) ((c.tc : Thread Cert.SwaIdeal.nD Cert.SwaIdeal.τ).loc Cert.SwaIdeal.main_v25)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v23_0) = v0 c
          ∧ r.2.mem ((c.tc : Thread Cert.SwaIdeal.nD Cert.SwaIdeal.τ).loc Cert.SwaIdeal.main_v23_1) = v1 c
          ∧ r.2.mem ((c.tc : Thread Cert.SwaIdeal.nD Cert.SwaIdeal.τ).loc Cert.SwaIdeal.main_v23_2) = v2 c
          ∧ r.2.mem ((c.tc : Thread Cert.SwaIdeal.nD Cert.SwaIdeal.τ).loc Cert.SwaIdeal.main_v25) = v3 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v267) = v0 c
          ∧ r.2.mem ((c.tc : Thread Cert.SwaRefIdeal.nD Cert.SwaRefIdeal.τ).loc Cert.SwaRefIdeal.main_v247) = v1 c
          ∧ r.2.mem ((c.tc : Thread Cert.SwaRefIdeal.nD Cert.SwaRefIdeal.τ).loc Cert.SwaRefIdeal.main_v225) = v2 c
          ∧ r.2.mem ((c.tc : Thread Cert.SwaRefIdeal.nD Cert.SwaRefIdeal.τ).loc Cert.SwaRefIdeal.main_v194) = v3 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v2) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v20) = v0 c
          ∧ r.2.mem ((c.tc : Thread Cert.LossRefIdeal.nD Cert.LossRefIdeal.τ).loc Cert.LossRefIdeal.main_v26) = v1 c
          ∧ r.2.mem ((c.tc : Thread Cert.LossRefIdeal.nD Cert.LossRefIdeal.τ).loc Cert.LossRefIdeal.main_v25) = v2 c
          ∧ r.2.mem ((c.tc : Thread Cert.LossRefIdeal.nD Cert.LossRefIdeal.τ).loc Cert.LossRefIdeal.main_v14) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)) (v3 : (c : Dev Cert.InProjIdeal.nD) → Buf (Elt Ideal) ((c.tc : Thread Cert.InProjIdeal.nD Cert.InProjIdeal.τ).loc Cert.InProjIdeal.main_v11_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_v11_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v51) = v0 c
          ∧ r.2.mem ((c.tc : Thread Cert.InProjRefIdeal.nD Cert.InProjRefIdeal.τ).loc Cert.InProjRefIdeal.main_v34) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_v26) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)
      ∧ m' ((c.tc : Thread Cert.ResidRefIdeal.nD Cert.ResidRefIdeal.τ).loc Cert.ResidRefIdeal.main_arg5) = m ((c.tc : Thread Cert.ResidIdeal.nD Cert.ResidIdeal.τ).loc Cert.ResidIdeal.main_arg5)
      ∧ m' ((c.tc : Thread Cert.ResidRefIdeal.nD Cert.ResidRefIdeal.τ).loc Cert.ResidRefIdeal.main_arg6) = m ((c.tc : Thread Cert.ResidIdeal.nD Cert.ResidIdeal.τ).loc Cert.ResidIdeal.main_arg6)
      ∧ m' ((c.tc : Thread Cert.ResidRefIdeal.nD Cert.ResidRefIdeal.τ).loc Cert.ResidRefIdeal.main_arg7) = m ((c.tc : Thread Cert.ResidIdeal.nD Cert.ResidIdeal.τ).loc Cert.ResidIdeal.main_arg7)
      ∧ m' ((c.tc : Thread Cert.ResidRefIdeal.nD Cert.ResidRefIdeal.τ).loc Cert.ResidRefIdeal.main_arg8) = m ((c.tc : Thread Cert.ResidIdeal.nD Cert.ResidIdeal.τ).loc Cert.ResidIdeal.main_arg8)
      ∧ m' ((c.tc : Thread Cert.ResidRefIdeal.nD Cert.ResidRefIdeal.τ).loc Cert.ResidRefIdeal.main_arg9) = m ((c.tc : Thread Cert.ResidIdeal.nD Cert.ResidIdeal.τ).loc Cert.ResidIdeal.main_arg9)
      ∧ m' ((c.tc : Thread Cert.ResidRefIdeal.nD Cert.ResidRefIdeal.τ).loc Cert.ResidRefIdeal.main_arg10) = m ((c.tc : Thread Cert.ResidIdeal.nD Cert.ResidIdeal.τ).loc Cert.ResidIdeal.main_arg10)) →
    ∃ (v0 : (c : Dev Cert.ResidIdeal.nD) → Buf (Elt Ideal) ((c.tc : Thread Cert.ResidIdeal.nD Cert.ResidIdeal.τ).loc Cert.ResidIdeal.main_v10_0)) (v1 : (c : Dev Cert.ResidIdeal.nD) → Buf (Elt Ideal) ((c.tc : Thread Cert.ResidIdeal.nD Cert.ResidIdeal.τ).loc Cert.ResidIdeal.main_v10_1)) (v2 : (c : Dev Cert.ResidIdeal.nD) → Buf (Elt Ideal) ((c.tc : Thread Cert.ResidIdeal.nD Cert.ResidIdeal.τ).loc Cert.ResidIdeal.main_v10_2)) (v3 : (c : Dev Cert.ResidIdeal.nD) → Buf (Elt Ideal) ((c.tc : Thread Cert.ResidIdeal.nD Cert.ResidIdeal.τ).loc Cert.ResidIdeal.main_v10_3)) (v4 : (c : Dev Cert.ResidIdeal.nD) → Buf (Elt Ideal) ((c.tc : Thread Cert.ResidIdeal.nD Cert.ResidIdeal.τ).loc Cert.ResidIdeal.main_v10_4)) (v5 : (c : Dev Cert.ResidIdeal.nD) → Buf (Elt Ideal) ((c.tc : Thread Cert.ResidIdeal.nD Cert.ResidIdeal.τ).loc Cert.ResidIdeal.main_v10_5)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v10_0) = v0 c
          ∧ r.2.mem ((c.tc : Thread Cert.ResidIdeal.nD Cert.ResidIdeal.τ).loc Cert.ResidIdeal.main_v10_1) = v1 c
          ∧ r.2.mem ((c.tc : Thread Cert.ResidIdeal.nD Cert.ResidIdeal.τ).loc Cert.ResidIdeal.main_v10_2) = v2 c
          ∧ r.2.mem ((c.tc : Thread Cert.ResidIdeal.nD Cert.ResidIdeal.τ).loc Cert.ResidIdeal.main_v10_3) = v3 c
          ∧ r.2.mem ((c.tc : Thread Cert.ResidIdeal.nD Cert.ResidIdeal.τ).loc Cert.ResidIdeal.main_v10_4) = v4 c
          ∧ r.2.mem ((c.tc : Thread Cert.ResidIdeal.nD Cert.ResidIdeal.τ).loc Cert.ResidIdeal.main_v10_5) = v5 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
          ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6)
          ∧ r.2.mem ((c.tc : Thread Cert.ResidIdeal.nD Cert.ResidIdeal.τ).loc Cert.ResidIdeal.main_arg7) = m ((c.tc : Thread Cert.ResidIdeal.nD Cert.ResidIdeal.τ).loc Cert.ResidIdeal.main_arg7)
          ∧ r.2.mem ((c.tc : Thread Cert.ResidIdeal.nD Cert.ResidIdeal.τ).loc Cert.ResidIdeal.main_arg8) = m ((c.tc : Thread Cert.ResidIdeal.nD Cert.ResidIdeal.τ).loc Cert.ResidIdeal.main_arg8)
          ∧ r.2.mem ((c.tc : Thread Cert.ResidIdeal.nD Cert.ResidIdeal.τ).loc Cert.ResidIdeal.main_arg9) = m ((c.tc : Thread Cert.ResidIdeal.nD Cert.ResidIdeal.τ).loc Cert.ResidIdeal.main_arg9)
          ∧ r.2.mem ((c.tc : Thread Cert.ResidIdeal.nD Cert.ResidIdeal.τ).loc Cert.ResidIdeal.main_arg10) = m ((c.tc : Thread Cert.ResidIdeal.nD Cert.ResidIdeal.τ).loc Cert.ResidIdeal.main_arg10))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v59) = v0 c
          ∧ r.2.mem ((c.tc : Thread Cert.ResidRefIdeal.nD Cert.ResidRefIdeal.τ).loc Cert.ResidRefIdeal.main_v66) = v1 c
          ∧ r.2.mem ((c.tc : Thread Cert.ResidRefIdeal.nD Cert.ResidRefIdeal.τ).loc Cert.ResidRefIdeal.main_v65) = v2 c
          ∧ r.2.mem ((c.tc : Thread Cert.ResidRefIdeal.nD Cert.ResidRefIdeal.τ).loc Cert.ResidRefIdeal.main_v42) = v3 c
          ∧ r.2.mem ((c.tc : Thread Cert.ResidRefIdeal.nD Cert.ResidRefIdeal.τ).loc Cert.ResidRefIdeal.main_v37) = v4 c
          ∧ r.2.mem ((c.tc : Thread Cert.ResidRefIdeal.nD Cert.ResidRefIdeal.τ).loc Cert.ResidRefIdeal.main_v34) = v5 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4)
          ∧ r.2.mem ((c.tc : Thread Cert.ResidRefIdeal.nD Cert.ResidRefIdeal.τ).loc Cert.ResidRefIdeal.main_arg5) = m' ((c.tc : Thread Cert.ResidRefIdeal.nD Cert.ResidRefIdeal.τ).loc Cert.ResidRefIdeal.main_arg5)
          ∧ r.2.mem ((c.tc : Thread Cert.ResidRefIdeal.nD Cert.ResidRefIdeal.τ).loc Cert.ResidRefIdeal.main_arg6) = m' ((c.tc : Thread Cert.ResidRefIdeal.nD Cert.ResidRefIdeal.τ).loc Cert.ResidRefIdeal.main_arg6)
          ∧ r.2.mem ((c.tc : Thread Cert.ResidRefIdeal.nD Cert.ResidRefIdeal.τ).loc Cert.ResidRefIdeal.main_arg7) = m' ((c.tc : Thread Cert.ResidRefIdeal.nD Cert.ResidRefIdeal.τ).loc Cert.ResidRefIdeal.main_arg7)
          ∧ r.2.mem ((c.tc : Thread Cert.ResidRefIdeal.nD Cert.ResidRefIdeal.τ).loc Cert.ResidRefIdeal.main_arg8) = m' ((c.tc : Thread Cert.ResidRefIdeal.nD Cert.ResidRefIdeal.τ).loc Cert.ResidRefIdeal.main_arg8)
          ∧ r.2.mem ((c.tc : Thread Cert.ResidRefIdeal.nD Cert.ResidRefIdeal.τ).loc Cert.ResidRefIdeal.main_arg9) = m' ((c.tc : Thread Cert.ResidRefIdeal.nD Cert.ResidRefIdeal.τ).loc Cert.ResidRefIdeal.main_arg9)
          ∧ r.2.mem ((c.tc : Thread Cert.ResidRefIdeal.nD Cert.ResidRefIdeal.τ).loc Cert.ResidRefIdeal.main_arg10) = m' ((c.tc : Thread Cert.ResidRefIdeal.nD Cert.ResidRefIdeal.τ).loc Cert.ResidRefIdeal.main_arg10))

def preserves_SwaFwd_SwaFwdIdeal : Prop :=
  IdealRules.named_const.Statement Cert.SwaFwdIdeal.κ "mask" .f32 0xF149F2CA#32 ⊥

def algebraic_SwaFwdIdeal_SwaFwdRefIdeal_pre_swaf_finite [hSwaFwdIdeal : Cert.SwaFwdIdeal.Facts] [hSwaFwdRefIdeal : Cert.SwaFwdRefIdeal.Facts] [hPre_swaf_finite : Cert.Pre_swaf_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swaf_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)
      ∧ m' ((c.tc : Thread Cert.SwaFwdRefIdeal.nD Cert.SwaFwdRefIdeal.τ).loc Cert.SwaFwdRefIdeal.main_arg4) = m ((c.tc : Thread Cert.SwaFwdIdeal.nD Cert.SwaFwdIdeal.τ).loc Cert.SwaFwdIdeal.main_arg4)) →
    ∃ (v0 : (c : Dev Cert.SwaFwdIdeal.nD) → Buf (Elt Ideal) ((c.tc : Thread Cert.SwaFwdIdeal.nD Cert.SwaFwdIdeal.τ).loc Cert.SwaFwdIdeal.main_v25)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v25) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
          ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v123) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3)
          ∧ r.2.mem ((c.tc : Thread Cert.SwaFwdRefIdeal.nD Cert.SwaFwdRefIdeal.τ).loc Cert.SwaFwdRefIdeal.main_arg4) = m' ((c.tc : Thread Cert.SwaFwdRefIdeal.nD Cert.SwaFwdRefIdeal.τ).loc Cert.SwaFwdRefIdeal.main_arg4))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v10)) (v1 : (c : Dev Cert.UpActIdeal.nD) → Buf (Elt Ideal) ((c.tc : Thread Cert.UpActIdeal.nD Cert.UpActIdeal.τ).loc Cert.UpActIdeal.main_v13)) (v2 : (c : Dev Cert.UpActIdeal.nD) → Buf (Elt Ideal) ((c.tc : Thread Cert.UpActIdeal.nD Cert.UpActIdeal.τ).loc Cert.UpActIdeal.main_v6_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v10) = v0 c
          ∧ r.2.mem ((c.tc : Thread Cert.UpActIdeal.nD Cert.UpActIdeal.τ).loc Cert.UpActIdeal.main_v13) = v1 c
          ∧ r.2.mem ((c.tc : Thread Cert.UpActIdeal.nD Cert.UpActIdeal.τ).loc Cert.UpActIdeal.main_v6_1) = v2 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v2) = v0 c
          ∧ r.2.mem ((c.tc : Thread Cert.UpActRefIdeal.nD Cert.UpActRefIdeal.τ).loc Cert.UpActRefIdeal.main_v4) = v1 c
          ∧ r.2.mem ((c.tc : Thread Cert.UpActRefIdeal.nD Cert.UpActRefIdeal.τ).loc Cert.UpActRefIdeal.main_v7) = v2 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v8)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v8) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)
      ∧ m' ((c.tc : Thread Cert.ResidFwdRefIdeal.nD Cert.ResidFwdRefIdeal.τ).loc Cert.ResidFwdRefIdeal.main_arg4) = m ((c.tc : Thread Cert.ResidFwdIdeal.nD Cert.ResidFwdIdeal.τ).loc Cert.ResidFwdIdeal.main_arg4)
      ∧ m' ((c.tc : Thread Cert.ResidFwdRefIdeal.nD Cert.ResidFwdRefIdeal.τ).loc Cert.ResidFwdRefIdeal.main_arg5) = m ((c.tc : Thread Cert.ResidFwdIdeal.nD Cert.ResidFwdIdeal.τ).loc Cert.ResidFwdIdeal.main_arg5)
      ∧ m' ((c.tc : Thread Cert.ResidFwdRefIdeal.nD Cert.ResidFwdRefIdeal.τ).loc Cert.ResidFwdRefIdeal.main_arg6) = m ((c.tc : Thread Cert.ResidFwdIdeal.nD Cert.ResidFwdIdeal.τ).loc Cert.ResidFwdIdeal.main_arg6)) →
    ∃ (v0 : (c : Dev Cert.ResidFwdIdeal.nD) → Buf (Elt Ideal) ((c.tc : Thread Cert.ResidFwdIdeal.nD Cert.ResidFwdIdeal.τ).loc Cert.ResidFwdIdeal.main_v2_0)) (v1 : (c : Dev Cert.ResidFwdIdeal.nD) → Buf (Elt Ideal) ((c.tc : Thread Cert.ResidFwdIdeal.nD Cert.ResidFwdIdeal.τ).loc Cert.ResidFwdIdeal.main_v2_1)) (v2 : (c : Dev Cert.ResidFwdIdeal.nD) → Buf (Elt Ideal) ((c.tc : Thread Cert.ResidFwdIdeal.nD Cert.ResidFwdIdeal.τ).loc Cert.ResidFwdIdeal.main_v2_2)) (v3 : (c : Dev Cert.ResidFwdIdeal.nD) → Buf (Elt Ideal) ((c.tc : Thread Cert.ResidFwdIdeal.nD Cert.ResidFwdIdeal.τ).loc Cert.ResidFwdIdeal.main_v2_3)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v2_0) = v0 c
          ∧ r.2.mem ((c.tc : Thread Cert.ResidFwdIdeal.nD Cert.ResidFwdIdeal.τ).loc Cert.ResidFwdIdeal.main_v2_1) = v1 c
          ∧ r.2.mem ((c.tc : Thread Cert.ResidFwdIdeal.nD Cert.ResidFwdIdeal.τ).loc Cert.ResidFwdIdeal.main_v2_2) = v2 c
          ∧ r.2.mem ((c.tc : Thread Cert.ResidFwdIdeal.nD Cert.ResidFwdIdeal.τ).loc Cert.ResidFwdIdeal.main_v2_3) = v3 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
          ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
          ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5)
          ∧ r.2.mem ((c.tc : Thread Cert.ResidFwdIdeal.nD Cert.ResidFwdIdeal.τ).loc Cert.ResidFwdIdeal.main_arg6) = m ((c.tc : Thread Cert.ResidFwdIdeal.nD Cert.ResidFwdIdeal.τ).loc Cert.ResidFwdIdeal.main_arg6))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v23) = v0 c
          ∧ r.2.mem ((c.tc : Thread Cert.ResidFwdRefIdeal.nD Cert.ResidFwdRefIdeal.τ).loc Cert.ResidFwdRefIdeal.main_v1) = v1 c
          ∧ r.2.mem ((c.tc : Thread Cert.ResidFwdRefIdeal.nD Cert.ResidFwdRefIdeal.τ).loc Cert.ResidFwdRefIdeal.main_v4) = v2 c
          ∧ r.2.mem ((c.tc : Thread Cert.ResidFwdRefIdeal.nD Cert.ResidFwdRefIdeal.τ).loc Cert.ResidFwdRefIdeal.main_v24) = v3 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3)
          ∧ r.2.mem ((c.tc : Thread Cert.ResidFwdRefIdeal.nD Cert.ResidFwdRefIdeal.τ).loc Cert.ResidFwdRefIdeal.main_arg4) = m' ((c.tc : Thread Cert.ResidFwdRefIdeal.nD Cert.ResidFwdRefIdeal.τ).loc Cert.ResidFwdRefIdeal.main_arg4)
          ∧ r.2.mem ((c.tc : Thread Cert.ResidFwdRefIdeal.nD Cert.ResidFwdRefIdeal.τ).loc Cert.ResidFwdRefIdeal.main_arg5) = m' ((c.tc : Thread Cert.ResidFwdRefIdeal.nD Cert.ResidFwdRefIdeal.τ).loc Cert.ResidFwdRefIdeal.main_arg5)
          ∧ r.2.mem ((c.tc : Thread Cert.ResidFwdRefIdeal.nD Cert.ResidFwdRefIdeal.τ).loc Cert.ResidFwdRefIdeal.main_arg6) = m' ((c.tc : Thread Cert.ResidFwdRefIdeal.nD Cert.ResidFwdRefIdeal.τ).loc Cert.ResidFwdRefIdeal.main_arg6))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v6_0)) (v1 : (c : Dev Cert.NormInIdeal.nD) → Buf (Elt Ideal) ((c.tc : Thread Cert.NormInIdeal.nD Cert.NormInIdeal.τ).loc Cert.NormInIdeal.main_v12)) (v2 : (c : Dev Cert.NormInIdeal.nD) → Buf (Elt Ideal) ((c.tc : Thread Cert.NormInIdeal.nD Cert.NormInIdeal.τ).loc Cert.NormInIdeal.main_v8)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v6_0) = v0 c
          ∧ r.2.mem ((c.tc : Thread Cert.NormInIdeal.nD Cert.NormInIdeal.τ).loc Cert.NormInIdeal.main_v12) = v1 c
          ∧ r.2.mem ((c.tc : Thread Cert.NormInIdeal.nD Cert.NormInIdeal.τ).loc Cert.NormInIdeal.main_v8) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v20) = v0 c
          ∧ r.2.mem ((c.tc : Thread Cert.NormInRefIdeal.nD Cert.NormInRefIdeal.τ).loc Cert.NormInRefIdeal.main_v19) = v1 c
          ∧ r.2.mem ((c.tc : Thread Cert.NormInRefIdeal.nD Cert.NormInRefIdeal.τ).loc Cert.NormInRefIdeal.main_v23) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def Claim : Prop :=
  ∃ (hConv : Cert.Conv.Facts) (hConvIdeal : Cert.ConvIdeal.Facts) (hConvRefIdeal : Cert.ConvRefIdeal.Facts) (hAct : Cert.Act.Facts) (hActIdeal : Cert.ActIdeal.Facts) (hActRefIdeal : Cert.ActRefIdeal.Facts) (hSwa : Cert.Swa.Facts) (hSwaIdeal : Cert.SwaIdeal.Facts) (hSwaRefIdeal : Cert.SwaRefIdeal.Facts) (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hResid : Cert.Resid.Facts) (hResidIdeal : Cert.ResidIdeal.Facts) (hResidRefIdeal : Cert.ResidRefIdeal.Facts) (hSwaFwd : Cert.SwaFwd.Facts) (hSwaFwdIdeal : Cert.SwaFwdIdeal.Facts) (hSwaFwdRefIdeal : Cert.SwaFwdRefIdeal.Facts) (hUpAct : Cert.UpAct.Facts) (hUpActIdeal : Cert.UpActIdeal.Facts) (hUpActRefIdeal : Cert.UpActRefIdeal.Facts) (hConvFwd : Cert.ConvFwd.Facts) (hConvFwdIdeal : Cert.ConvFwdIdeal.Facts) (hConvFwdRefIdeal : Cert.ConvFwdRefIdeal.Facts) (hResidFwd : Cert.ResidFwd.Facts) (hResidFwdIdeal : Cert.ResidFwdIdeal.Facts) (hResidFwdRefIdeal : Cert.ResidFwdRefIdeal.Facts) (hNormIn : Cert.NormIn.Facts) (hNormInIdeal : Cert.NormInIdeal.Facts) (hNormInRefIdeal : Cert.NormInRefIdeal.Facts) (hPre_conv_finite : Cert.Pre_conv_finite.Facts) (hPre_act_finite : Cert.Pre_act_finite.Facts) (hPre_swa_finite : Cert.Pre_swa_finite.Facts) (hPre_swaf_finite : Cert.Pre_swaf_finite.Facts),
    quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Loss (hLoss := hLoss)
    ∧ quiescent_LossIdeal (hLossIdeal := hLossIdeal)
    ∧ quiescent_LossRefIdeal (hLossRefIdeal := hLossRefIdeal)
    ∧ quiescent_InProj (hInProj := hInProj)
    ∧ quiescent_InProjIdeal (hInProjIdeal := hInProjIdeal)
    ∧ quiescent_InProjRefIdeal (hInProjRefIdeal := hInProjRefIdeal)
    ∧ quiescent_Resid (hResid := hResid)
    ∧ quiescent_ResidIdeal (hResidIdeal := hResidIdeal)
    ∧ quiescent_ResidRefIdeal (hResidRefIdeal := hResidRefIdeal)
    ∧ quiescent_SwaFwd (hSwaFwd := hSwaFwd)
    ∧ quiescent_SwaFwdIdeal (hSwaFwdIdeal := hSwaFwdIdeal)
    ∧ quiescent_SwaFwdIdeal_pre_swaf_finite (hSwaFwdIdeal := hSwaFwdIdeal) (hPre_swaf_finite := hPre_swaf_finite)
    ∧ quiescent_SwaFwdRefIdeal (hSwaFwdRefIdeal := hSwaFwdRefIdeal)
    ∧ quiescent_SwaFwdRefIdeal_pre_swaf_finite (hSwaFwdRefIdeal := hSwaFwdRefIdeal) (hPre_swaf_finite := hPre_swaf_finite)
    ∧ quiescent_UpAct (hUpAct := hUpAct)
    ∧ quiescent_UpActIdeal (hUpActIdeal := hUpActIdeal)
    ∧ quiescent_UpActRefIdeal (hUpActRefIdeal := hUpActRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_NormIn (hNormIn := hNormIn)
    ∧ quiescent_NormInIdeal (hNormInIdeal := hNormInIdeal)
    ∧ quiescent_NormInRefIdeal (hNormInRefIdeal := hNormInRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Act_ActIdeal
    ∧ algebraic_ActIdeal_ActRefIdeal_pre_act_finite (hActIdeal := hActIdeal) (hActRefIdeal := hActRefIdeal) (hPre_act_finite := hPre_act_finite)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Loss_LossIdeal
    ∧ algebraic_LossIdeal_LossRefIdeal (hLossIdeal := hLossIdeal) (hLossRefIdeal := hLossRefIdeal)
    ∧ preserves_InProj_InProjIdeal
    ∧ algebraic_InProjIdeal_InProjRefIdeal (hInProjIdeal := hInProjIdeal) (hInProjRefIdeal := hInProjRefIdeal)
    ∧ preserves_Resid_ResidIdeal
    ∧ algebraic_ResidIdeal_ResidRefIdeal (hResidIdeal := hResidIdeal) (hResidRefIdeal := hResidRefIdeal)
    ∧ preserves_SwaFwd_SwaFwdIdeal
    ∧ algebraic_SwaFwdIdeal_SwaFwdRefIdeal_pre_swaf_finite (hSwaFwdIdeal := hSwaFwdIdeal) (hSwaFwdRefIdeal := hSwaFwdRefIdeal) (hPre_swaf_finite := hPre_swaf_finite)
    ∧ preserves_UpAct_UpActIdeal
    ∧ algebraic_UpActIdeal_UpActRefIdeal (hUpActIdeal := hUpActIdeal) (hUpActRefIdeal := hUpActRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_NormIn_NormInIdeal
    ∧ algebraic_NormInIdeal_NormInRefIdeal (hNormInIdeal := hNormInIdeal) (hNormInRefIdeal := hNormInRefIdeal)
-- ==== Pre_act_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S1024x2816 .bf16) (main_arg2 : FVec F S1024x2816 .bf16) (main_arg3 : FVec F S2816x1024 .bf16) (main_arg4 : FVec F S4096x1024 .bf16) : IVec S4096x1024 1 × IVec S1024x2816 1 × IVec S2816x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x2816 .bf16 := Host.absf main_arg2
  let main_cst_0 : FVec F S_ .bf16 := constant S_ .bf16 0x7F80#16
  let main_v4 : FVec F S1024x2816 .bf16 := broadcastInDim S1024x2816 ![] bcast_S_S1024x2816 main_cst_0
  let main_v5 : IVec S1024x2816 1 := cmpf .olt main_v3 main_v4
  let main_v6 : FVec F S2816x1024 .bf16 := Host.absf main_arg3
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S4096x1024 .bf16 := Host.absf main_arg4
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Pre_conv_finite.lean ====
abbrev S4096x2832 : Shape := ⟨2, ![4096, 2832]⟩
abbrev S4x1x1536 : Shape := ⟨3, ![4, 1, 1536]⟩
abbrev S4096x1536 : Shape := ⟨2, ![4096, 1536]⟩
abbrev S4096x3072 : Shape := ⟨2, ![4096, 3072]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x2832 .f32) (main_arg1 : FVec F S4x1x1536 .f32) (main_arg2 : FVec F S4096x1536 .f32) (main_arg3 : FVec F S4096x3072 .bf16) : IVec S4096x1536 1 :=
  let main_v0 : FVec F S4096x1536 .f32 := Host.absf main_arg2
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Pre_swa_finite.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S4096x3072 : Shape := ⟨2, ![4096, 3072]⟩
abbrev S_ : Shape := ⟨0, ![]⟩

class Facts : Prop where
  bcast_S_S4096x2832 : S_.BroadcastsInDim S4096x2832 (![] : Fin 0 → Fin S4096x2832.rank)
  bcast_S_S1x64 : S_.BroadcastsInDim S1x64 (![] : Fin 0 → Fin S1x64.rank)
  bcast_S_S8 : S_.BroadcastsInDim S8 (![] : Fin 0 → Fin S8.rank)
  bcast_S_S4096x1024 : S_.BroadcastsInDim S4096x1024 (![] : Fin 0 → Fin S4096x1024.rank)

variable [Facts]

def fn {F : FTy → Type} [FloatOps F] (main_arg0 : FVec F S4096x2832 .f32) (main_arg1 : FVec F S1x64 .f32) (main_arg2 : FVec F S1x64 .f32) (main_arg3 : FVec F S8 .f32) (main_arg4 : FVec F S4096x1024 .f32) (main_arg5 : FVec F S4096x3072 .bf16) : IVec S4096x2832 1 × IVec S1x64 1 × IVec S1x64 1 × IVec S8 1 × IVec S4096x1024 1 :=
  let main_v0 : FVec F S4096x2832 .f32 := Host.absf main_arg0
  let main_cst : FVec F S_ .f32 := constant S_ .f32 0x7F800000#32
  let main_v1 : FVec F S4096x2832 .f32 := broadcastInDim S4096x2832 ![] bcast_S_S4096x2832 main_cst
  let main_v2 : IVec S4096x2832 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_swaf_finite.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S_ : Shape := ⟨0, ![]⟩

class Facts : Prop where
  bcast_S_S4096x2832 : S_.BroadcastsInDim S4096x2832 (![] : Fin 0 → Fin S4096x2832.rank)
  bcast_S_S1x64 : S_.BroadcastsInDim S1x64 (![] : Fin 0 → Fin S1x64.rank)
  bcast_S_S8 : S_.BroadcastsInDim S8 (![] : Fin 0 → Fin S8.rank)

variable [Facts]

def fn {F : FTy → Type} [FloatOps F] (main_arg0 : FVec F S4096x2832 .f32) (main_arg1 : FVec F S1x64 .f32) (main_arg2 : FVec F S1x64 .f32) (main_arg3 : FVec F S8 .f32) (main_arg4 : FVec F S4096x1024 .f32) : IVec S4096x2832 1 × IVec S1x64 1 × IVec S1x64 1 × IVec S8 1 :=
  let main_v0 : FVec F S4096x2832 .f32 := Host.absf main_arg0
  let main_cst : FVec F S_ .f32 := constant S_ .f32 0x7F800000#32
  let main_v1 : FVec F S4096x2832 .f32 := broadcastInDim S4096x2832 ![] bcast_S_S4096x2832 main_cst
  let main_v2 : IVec S4096x2832 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Conv.lean ====
abbrev S4096x2832 : Shape := ⟨2, ![4096, 2832]⟩
abbrev S4x1x1536 : Shape := ⟨3, ![4, 1, 1536]⟩
abbrev S4096x1536 : Shape := ⟨2, ![4096, 1536]⟩
abbrev S4096x3072 : Shape := ⟨2, ![4096, 3072]⟩
abbrev S4096x24x64 : Shape := ⟨3, ![4096, 24, 64]⟩
abbrev S24x4096x64 : Shape := ⟨3, ![24, 4096, 64]⟩
abbrev S4096x2048 : Shape := ⟨2, ![4096, 2048]⟩
abbrev S4096x768 : Shape := ⟨2, ![4096, 768]⟩
abbrev S4096x16 : Shape := ⟨2, ![4096, 16]⟩
abbrev S_ : Shape := ⟨0, ![]⟩
abbrev S4096x240 : Shape := ⟨2, ![4096, 240]⟩
abbrev S4x1536 : Shape := ⟨2, ![4, 1536]⟩
abbrev S4096x128 : Shape := ⟨2, ![4096, 128]⟩
abbrev S4x128 : Shape := ⟨2, ![4, 128]⟩
abbrev S2x4096x64 : Shape := ⟨3, ![2, 4096, 64]⟩
abbrev S1x128 : Shape := ⟨2, ![1, 128]⟩
abbrev S1x4096x64 : Shape := ⟨3, ![1, 4096, 64]⟩
abbrev S4096x64 : Shape := ⟨2, ![4096, 64]⟩
abbrev S128 : Shape := ⟨1, ![128]⟩

abbrev nBuf : Space → Nat
  | .hbm => 15
  | .vmem => 10
  | .smem => 0
  | _ => 0

abbrev bufTy : (tb : Table) → Fin (tcTables nBuf tb) → BufTy
  | .hbm, ⟨0, _⟩ => ⟨S4096x2832, .f32⟩
  | .hbm, ⟨1, _⟩ => ⟨S4x1x1536, .f32⟩
  | .hbm, ⟨2, _⟩ => ⟨S4096x1536, .f32⟩
  | .hbm, ⟨3, _⟩ => ⟨S4096x3072, .bf16⟩
  | .hbm, ⟨4, _⟩ => ⟨S4096x24x64, .f32⟩
  | .hbm, ⟨5, _⟩ => ⟨S24x4096x64, .f32⟩
  | .hbm, ⟨6, _⟩ => ⟨S4096x2048, .f32⟩
  | .hbm, ⟨7, _⟩ => ⟨S4096x768, .f32⟩
  | .hbm, ⟨8, _⟩ => ⟨S4096x16, .f32⟩
  | .hbm, ⟨9, _⟩ => ⟨S_, .f32⟩
  | .hbm, ⟨10, _⟩ => ⟨S4096x240, .f32⟩
  | .hbm, ⟨11, _⟩ => ⟨S4096x3072, .f32⟩
  | .hbm, ⟨12, _⟩ => ⟨S4x1536, .f32⟩
  | .hbm, ⟨13, _⟩ => ⟨S4096x3072, .bf16⟩
  | .hbm, ⟨14, _⟩ => ⟨S4x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S2x4096x64, .f32⟩
  | .local _ .vmem, ⟨5, _⟩ => ⟨S2x4096x64, .f32⟩
  | .local _ .vmem, ⟨6, _⟩ => ⟨S4096x128, .bf16⟩
  | .local _ .vmem, ⟨7, _⟩ => ⟨S4096x128, .bf16⟩
  | .local _ .vmem, ⟨8, _⟩ => ⟨S4x128, .f32⟩
  | .local _ .vmem, ⟨9, _⟩ => ⟨S4x128, .f32⟩
  | _, _ => ⟨S4096x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4096x2832 : Shape := ⟨2, ![4096, 2832]⟩
abbrev S4x1x1536 : Shape := ⟨3, ![4, 1, 1536]⟩
abbrev S4096x1536 : Shape := ⟨2, ![4096, 1536]⟩
abbrev S4096x3072 : Shape := ⟨2, ![4096, 3072]⟩
abbrev S_ : Shape := ⟨0, ![]⟩
abbrev S3x1536 : Shape := ⟨2, ![3, 1536]⟩
abbrev S4099x1536 : Shape := ⟨2, ![4099, 1536]⟩
abbrev S1x1x1536 : Shape := ⟨3, ![1, 1, 1536]⟩
abbrev S1x1536 : Shape := ⟨2, ![1, 1536]⟩
abbrev S1536 : Shape := ⟨1, ![1536]⟩
abbrev S4x1536 : Shape := ⟨2, ![4, 1536]⟩

abbrev nBuf : Space → Nat
  | .hbm => 109
  | .vmem => 0
  | .smem => 0
  | _ => 0

abbrev bufTy : (tb : Table) → Fin (tcTables nBuf tb) → BufTy
  | .hbm, ⟨0, _⟩ => ⟨S4096x2832, .f32⟩
  | .hbm, ⟨1, _⟩ => ⟨S4x1x1536, .f32⟩
  | .hbm, ⟨2, _⟩ => ⟨S4096x1536, .f32⟩
  | .hbm, ⟨3, _⟩ => ⟨S4096x3072, .bf16⟩
  | .hbm, ⟨4, _⟩ => ⟨S4096x1536, .f32⟩
  | .hbm, ⟨5, _⟩ => ⟨S_, .f32⟩
  | .hbm, ⟨6, _⟩ => ⟨S3x1536, .f32⟩
  | .hbm, ⟨7, _⟩ => ⟨S4099x1536, .f32⟩
  | .hbm, ⟨8, _⟩ => ⟨S_, .f32⟩
  | .hbm, ⟨9, _⟩ => ⟨S3x1536, .f32⟩
  | .hbm, ⟨10, _⟩ => ⟨S1x1x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S1x1x1536, .f32⟩
  | .hbm, ⟨19, _⟩ => ⟨S1x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S1x1x1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S1x1x1536, .f32⟩
  | .hbm, ⟨31, _⟩ => ⟨S1x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S_, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S4099x1536, .f32⟩
  | .hbm, ⟨61, _⟩ => ⟨S1x1x1536, .f32⟩
  | .hbm, ⟨62, _⟩ => ⟨S_, .f32⟩
  | .hbm, ⟨63, _⟩ => ⟨S4x1x1536, .f32⟩
  | .hbm, ⟨64, _⟩ => ⟨S4096x1536, .f32⟩
  | .hbm, ⟨65, _⟩ => ⟨S4096x1536, .f32⟩
  | .hbm, ⟨66, _⟩ => ⟨S4096x1536, .f32⟩
  | .hbm, ⟨67, _⟩ => ⟨S_, .f32⟩
  | .hbm, ⟨68, _⟩ => ⟨S1536, .f32⟩
  | .hbm, ⟨69, _⟩ => ⟨S1x1536, .f32⟩
  | .hbm, ⟨70, _⟩ => ⟨S_, .f32⟩
  | .hbm, ⟨71, _⟩ => ⟨S4099x1536, .f32⟩
  | .hbm, ⟨72, _⟩ => ⟨S4099x1536, .f32⟩
  | .hbm, ⟨73, _⟩ => ⟨S1x1x1536, .f32⟩
  | .hbm, ⟨74, _⟩ => ⟨S_, .f32⟩
  | .hbm, ⟨75, _⟩ => ⟨S4x1x1536, .f32⟩
  | .hbm, ⟨76, _⟩ => ⟨S4x1x1536, .f32⟩
  | .hbm, ⟨77, _⟩ => ⟨S4096x1536, .f32⟩
  | .hbm, ⟨78, _⟩ => ⟨S4096x1536, .f32⟩
  | .hbm, ⟨79, _⟩ => ⟨S4096x1536, .f32⟩
  | .hbm, ⟨80, _⟩ => ⟨S_, .f32⟩
  | .hbm, ⟨81, _⟩ => ⟨S1536, .f32⟩
  | .hbm, ⟨82, _⟩ => ⟨S1x1536, .f32⟩
  | .hbm, ⟨83, _⟩ => ⟨S_, .f32⟩
  | .hbm, ⟨84, _⟩ => ⟨S4099x1536, .f32⟩
  | .hbm, ⟨85, _⟩ => ⟨S4099x1536, .f32⟩
  | .hbm, ⟨86, _⟩ => ⟨S1x1x1536, .f32⟩
  | .hbm, ⟨87, _⟩ => ⟨S_, .f32⟩
  | .hbm, ⟨88, _⟩ => ⟨S4x1x1536, .f32⟩
  | .hbm, ⟨89, _⟩ => ⟨S4x1x1536, .f32⟩
  | .hbm, ⟨90, _⟩ => ⟨S4096x1536, .f32⟩
  | .hbm, ⟨91, _⟩ => ⟨S4096x1536, .f32⟩
  | .hbm, ⟨92, _⟩ => ⟨S4096x1536, .f32⟩
  | .hbm, ⟨93, _⟩ => ⟨S_, .f32⟩
  | .hbm, ⟨94, _⟩ => ⟨S1536, .f32⟩
  | .hbm, ⟨95, _⟩ => ⟨S1x1536, .f32⟩
  | .hbm, ⟨96, _⟩ => ⟨S_, .f32⟩
  | .hbm, ⟨97, _⟩ => ⟨S4099x1536, .f32⟩
  | .hbm, ⟨98, _⟩ => ⟨S4099x1536, .f32⟩
  | .hbm, ⟨99, _⟩ => ⟨S1x1x1536, .f32⟩
  | .hbm, ⟨100, _⟩ => ⟨S_, .f32⟩
  | .hbm, ⟨101, _⟩ => ⟨S4x1x1536, .f32⟩
  | .hbm, ⟨102, _⟩ => ⟨S4x1x1536, .f32⟩
  | .hbm, ⟨103, _⟩ => ⟨S3x1536, .f32⟩
  | .hbm, ⟨104, _⟩ => ⟨S4096x1536, .f32⟩
  | .hbm, ⟨105, _⟩ => ⟨S4096x1536, .bf16⟩
  | .hbm, ⟨106, _⟩ => ⟨S4096x1536, .bf16⟩
  | .hbm, ⟨107, _⟩ => ⟨S4096x3072, .bf16⟩
  | .hbm, ⟨108, _⟩ => ⟨S4x1536, .f32⟩
  | _, _ => ⟨S4096x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Act.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4096x11x1x256 : Shape := ⟨4, ![4096, 11, 1, 256]⟩
abbrev S4096x11x2x256 : Shape := ⟨4, ![4096, 11, 2, 256]⟩
abbrev S4096x5632 : Shape := ⟨2, ![4096, 5632]⟩
abbrev S2048x1024 : Shape := ⟨2, ![2048, 1024]⟩
abbrev S256x1024 : Shape := ⟨2, ![256, 1024]⟩
abbrev S2048x512 : Shape := ⟨2, ![2048, 512]⟩
abbrev S3x2048x512 : Shape := ⟨3, ![3, 2048, 512]⟩
abbrev S3 : Shape := ⟨1, ![3]⟩
abbrev S1 : Shape := ⟨1, ![1]⟩
abbrev S_ : Shape := ⟨0, ![]⟩
abbrev S1x2048x512 : Shape := ⟨3, ![1, 2048, 512]⟩
abbrev S2048x256 : Shape := ⟨2, ![2048, 256]⟩
abbrev S4096x11x256 : Shape := ⟨3, ![4096, 11, 256]⟩

abbrev nBuf : Space → Nat
  | .hbm => 23
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4096x1024, .bf16⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x1024, .f32⟩
  | .hbm, ⟨9, _⟩ => ⟨S1024x2816, .f32⟩
  | .hbm, ⟨10, _⟩ => ⟨S4096x2816, .f32⟩
  | .hbm, ⟨11, _⟩ => ⟨S4096x11x1x256, .f32⟩
  | .hbm, ⟨12, _⟩ => ⟨S4096x11x1x256, .f32⟩
  | .hbm, ⟨13, _⟩ => ⟨S4096x11x2x256, .f32⟩
  | .hbm, ⟨14, _⟩ => ⟨S4096x5632, .f32⟩
  | .hbm, ⟨15, _⟩ => ⟨S4096x5632, .bf16⟩
  | .hbm, ⟨16, _⟩ => ⟨S4096x11x2x256, .bf16⟩
  | .hbm, ⟨17, _⟩ => ⟨S4096x11x1x256, .bf16⟩
  | .hbm, ⟨18, _⟩ => ⟨S4096x11x256, .bf16⟩
  | .hbm, ⟨19, _⟩ => ⟨S4096x2816, .bf16⟩
  | .hbm, ⟨20, _⟩ => ⟨S4096x11x1x256, .bf16⟩
  | .hbm, ⟨21, _⟩ => ⟨S4096x11x256, .bf16⟩
  | .hbm, ⟨22, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x512, .bf16⟩
  | .local _ .vmem, ⟨5, _⟩ => ⟨S2048x512, .bf16⟩
  | .local _ .vmem, ⟨6, _⟩ => ⟨S3x2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c22_i32 : BitVec 32 := 22#32
  let v7 : BitVec 1 := Scalar.cmpi .slt v6 c22_i32
  let v8 : BitVec 32 := Scalar.extui v7
  let c0_i32_1 : BitVec 32 := 0#32
  let v9 : BitVec 1 := Scalar.cmpi .ne v8 c0_i32_1
  v9

def k0_off1 (i : grid0.Coords) : Fin 1 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_52 : BitVec 32 := 3#32
  let v103 : BitVec 32 := Scalar.addi v1 c3_i32_52
  let c1_i32_53 : BitVec 32 := 1#32
  let v104 : BitVec 32 := Scalar.subi v103 c1_i32_53
  let c3_i32_75 : BitVec 32 := 3#32
  let c0_i32_76 : BitVec 32 := 0#32
  let v144 : BitVec 1 := Scalar.cmpi .eq c3_i32_75 c0_i32_76
  let c1_i32_77 : BitVec 32 := 1#32
  let v145 : BitVec 32 := Scalar.select v144 c1_i32_77 c3_i32_75
  let v146 : BitVec 32 := Scalar.remsi v104 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  ![v153.toNat]
def k0_off2 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_52 : BitVec 32 := 3#32
  let v103 : BitVec 32 := Scalar.addi v1 c3_i32_52
  let c1_i32_53 : BitVec 32 := 1#32
  let v104 : BitVec 32 := Scalar.subi v103 c1_i32_53
  let c3_i32_69 : BitVec 32 := 3#32
  let c0_i32_70 : BitVec 32 := 0#32
  let v134 : BitVec 1 := Scalar.cmpi .eq c3_i32_69 c0_i32_70
  let c1_i32_71 : BitVec 32 := 1#32
  let v135 : BitVec 32 := Scalar.select v134 c1_i32_71 c3_i32_69
  let v136 : BitVec 32 := Scalar.remsi v104 v135
  let c0_i32_73 : BitVec 32 := 0#32
  let v138 : BitVec 1 := Scalar.cmpi .slt v136 c0_i32_73
  let c0_i32_74 : BitVec 32 := 0#32
  let v139 : BitVec 1 := Scalar.cmpi .slt v135 c0_i32_74
  let v140 : BitVec 1 := Scalar.xori v138 v139
  let c0_i32_72 : BitVec 32 := 0#32
  let v137 : BitVec 1 := Scalar.cmpi .ne v136 c0_i32_72
  let v141 : BitVec 1 := Scalar.andi v140 v137
  let v142 : BitVec 32 := Scalar.addi v136 v135
  let v143 : BitVec 32 := Scalar.select v141 v142 v136
  let c0_i32_81 : BitVec 32 := 0#32
  let c0_i32_82 : BitVec 32 := 0#32
  ![v143.toNat, 0, 0]
def k0_off3 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_52 : BitVec 32 := 3#32
  let v103 : BitVec 32 := Scalar.addi v1 c3_i32_52
  let c1_i32_53 : BitVec 32 := 1#32
  let v104 : BitVec 32 := Scalar.subi v103 c1_i32_53
  let c0_i32_55 : BitVec 32 := 0#32
  let v106 : BitVec 1 := Scalar.cmpi .sgt v104 c0_i32_55
  let v107 : BitVec 32 := Scalar.extui v106
  let c0_i32_56 : BitVec 32 := 0#32
  let v108 : BitVec 1 := Scalar.cmpi .slt v104 c0_i32_56
  let v109 : BitVec 32 := Scalar.extui v108
  let v110 : BitVec 32 := Scalar.subi v107 v109
  let c11_i32_54 : BitVec 32 := 11#32
  let c0_i32_57 : BitVec 32 := 0#32
  let v111 : BitVec 1 := Scalar.cmpi .sgt c11_i32_54 c0_i32_57
  let v112 : BitVec 32 := Scalar.extui v111
  let c0_i32_58 : BitVec 32 := 0#32
  let v113 : BitVec 1 := Scalar.cmpi .slt c11_i32_54 c0_i32_58
  let v114 : BitVec 32 := Scalar.extui v113
  let v115 : BitVec 32 := Scalar.subi v112 v114
  let v116 : BitVec 1 := Scalar.cmpi .ne v110 v115
  let v117 : BitVec 32 := Scalar.remsi v104 c11_i32_54
  let c0_i32_59 : BitVec 32 := 0#32
  let v118 : BitVec 1 := Scalar.cmpi .ne v117 c0_i32_59
  let v119 : BitVec 1 := Scalar.andi v116 v118
  let v105 : BitVec 32 := Scalar.divsi v104 c11_i32_54
  let c1_i32_60 : BitVec 32 := 1#32
  let v120 : BitVec 32 := Scalar.subi v105 c1_i32_60
  let v121 : BitVec 32 := Scalar.select v119 v120 v105
  let c2048_i32_61 : BitVec 32 := 2048#32
  let v122 : BitVec 32 := Scalar.muli v121 c2048_i32_61
  let c11_i32_62 : BitVec 32 := 11#32
  let c0_i32_63 : BitVec 32 := 0#32
  let v123 : BitVec 1 := Scalar.cmpi .eq c11_i32_62 c0_i32_63
  let c1_i32_64 : BitVec 32 := 1#32
  let v124 : BitVec 32 := Scalar.select v123 c1_i32_64 c11_i32_62
  let v125 : BitVec 32 := Scalar.remsi v104 v124
  let c0_i32_66 : BitVec 32 := 0#32
  let v127 : BitVec 1 := Scalar.cmpi .slt v125 c0_i32_66
  let c0_i32_67 : BitVec 32 := 0#32
  let v128 : BitVec 1 := Scalar.cmpi .slt v124 c0_i32_67
  let v129 : BitVec 1 := Scalar.xori v127 v128
  let c0_i32_65 : BitVec 32 := 0#32
  let v126 : BitVec 1 := Scalar.cmpi .ne v125 c0_i32_65
  let v130 : BitVec 1 := Scalar.andi v129 v126
  let v131 : BitVec 32 := Scalar.addi v125 v124
  let v132 : BitVec 32 := Scalar.select v130 v131 v125
  let c512_i32_68 : BitVec 32 := 512#32
  let v133 : BitVec 32 := Scalar.muli v132 c512_i32_68
  ![v122.toNat, v133.toNat]
def k0_off4 (i : grid0.Coords) : Fin 1 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_24 : BitVec 32 := 3#32
  let c0_i32_25 : BitVec 32 := 0#32
  let v52 : BitVec 1 := Scalar.cmpi .eq c3_i32_24 c0_i32_25
  let c1_i32_26 : BitVec 32 := 1#32
  let v53 : BitVec 32 := Scalar.select v52 c1_i32_26 c3_i32_24
  let v54 : BitVec 32 := Scalar.remsi v1 v53
  let c0_i32_28 : BitVec 32 := 0#32
  let v56 : BitVec 1 := Scalar.cmpi .slt v54 c0_i32_28
  let c0_i32_29 : BitVec 32 := 0#32
  let v57 : BitVec 1 := Scalar.cmpi .slt v53 c0_i32_29
  let v58 : BitVec 1 := Scalar.xori v56 v57
  let c0_i32_27 : BitVec 32 := 0#32
  let v55 : BitVec 1 := Scalar.cmpi .ne v54 c0_i32_27
  let v59 : BitVec 1 := Scalar.andi v58 v55
  let v60 : BitVec 32 := Scalar.addi v54 v53
  let v61 : BitVec 32 := Scalar.select v59 v60 v54
  ![v61.toNat]
def k0_off5 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_18 : BitVec 32 := 3#32
  let c0_i32_19 : BitVec 32 := 0#32
  let v42 : BitVec 1 := Scalar.cmpi .eq c3_i32_18 c0_i32_19
  let c1_i32_20 : BitVec 32 := 1#32
  let v43 : BitVec 32 := Scalar.select v42 c1_i32_20 c3_i32_18
  let v44 : BitVec 32 := Scalar.remsi v1 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_30 : BitVec 32 := 0#32
  let c0_i32_31 : BitVec 32 := 0#32
  ![v51.toNat, 0, 0]
def k0_off6 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c11_i32_5 : BitVec 32 := 11#32
  let c0_i32_8 : BitVec 32 := 0#32
  let v19 : BitVec 1 := Scalar.cmpi .sgt c11_i32_5 c0_i32_8
  let v20 : BitVec 32 := Scalar.extui v19
  let c0_i32_9 : BitVec 32 := 0#32
  let v21 : BitVec 1 := Scalar.cmpi .slt c11_i32_5 c0_i32_9
  let v22 : BitVec 32 := Scalar.extui v21
  let v23 : BitVec 32 := Scalar.subi v20 v22
  let v24 : BitVec 1 := Scalar.cmpi .ne v18 v23
  let v25 : BitVec 32 := Scalar.remsi v1 c11_i32_5
  let c0_i32_10 : BitVec 32 := 0#32
  let v26 : BitVec 1 := Scalar.cmpi .ne v25 c0_i32_10
  let v27 : BitVec 1 := Scalar.andi v24 v26
  let v13 : BitVec 32 := Scalar.divsi v1 c11_i32_5
  let c1_i32_11 : BitVec 32 := 1#32
  let v28 : BitVec 32 := Scalar.subi v13 c1_i32_11
  let v29 : BitVec 32 := Scalar.select v27 v28 v13
  let c2048_i32 : BitVec 32 := 2048#32
  let v30 : BitVec 32 := Scalar.muli v29 c2048_i32
  let c11_i32_12 : BitVec 32 := 11#32
  let c0_i32_13 : BitVec 32 := 0#32
  let v31 : BitVec 1 := Scalar.cmpi .eq c11_i32_12 c0_i32_13
  let c1_i32_14 : BitVec 32 := 1#32
  let v32 : BitVec 32 := Scalar.select v31 c1_i32_14 c11_i32_12
  let v33 : BitVec 32 := Scalar.remsi v1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  ![v30.toNat, v41.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ActRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4096x1024, .bf16⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S2816x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Swa.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S4096x3072 : Shape := ⟨2, ![4096, 3072]⟩
abbrev S4096x2048 : Shape := ⟨2, ![4096, 2048]⟩
abbrev S4096x768 : Shape := ⟨2, ![4096, 768]⟩
abbrev S4096x16 : Shape := ⟨2, ![4096, 16]⟩
abbrev S_ : Shape := ⟨0, ![]⟩
abbrev S4096x240 : Shape := ⟨2, ![4096, 240]⟩
abbrev S4096x1280 : Shape := ⟨2, ![4096, 1280]⟩
abbrev S4096x20x64 : Shape := ⟨3, ![4096, 20, 64]⟩
abbrev S20x4096x64 : Shape := ⟨3, ![20, 4096, 64]⟩
abbrev S8x1x1 : Shape := ⟨3, ![8, 1, 1]⟩
abbrev S8x128x1 : Shape := ⟨3, ![8, 128, 1]⟩
abbrev S4096x16x64 : Shape := ⟨3, ![4096, 16, 64]⟩
abbrev S16x4096x64 : Shape := ⟨3, ![16, 4096, 64]⟩
abbrev S8x128x64 : Shape := ⟨3, ![8, 128, 64]⟩
abbrev S2x128x64 : Shape := ⟨3, ![2, 128, 64]⟩
abbrev S128x1024 : Shape := ⟨2, ![128, 1024]⟩
abbrev S1x128x64 : Shape := ⟨3, ![1, 128, 64]⟩
abbrev S128x128 : Shape := ⟨2, ![128, 128]⟩
abbrev S8x128 : Shape := ⟨2, ![8, 128]⟩
abbrev S1x1x64 : Shape := ⟨3, ![1, 1, 64]⟩
abbrev S8x128x128 : Shape := ⟨3, ![8, 128, 128]⟩
abbrev S1x128x128 : Shape := ⟨3, ![1, 128, 128]⟩
abbrev S64 : Shape := ⟨1, ![64]⟩
abbrev S4x128x64 : Shape := ⟨3, ![4, 128, 64]⟩
abbrev S128x64 : Shape := ⟨2, ![128, 64]⟩
abbrev S128x512 : Shape := ⟨2, ![128, 512]⟩
abbrev S128x256 : Shape := ⟨2, ![128, 256]⟩
abbrev S8x1 : Shape := ⟨2, ![8, 1]⟩

abbrev nBuf : Space → Nat
  | .hbm => 40
  | .vmem => 23
  | .smem => 0
  | _ => 0

abbrev bufTy : (tb : Table) → Fin (tcTables nBuf tb) → BufTy
  | .hbm, ⟨0, _⟩ => ⟨S4096x2832, .f32⟩
  | .hbm, ⟨1, _⟩ => ⟨S1x64, .f32⟩
  | .hbm, ⟨2, _⟩ => ⟨S1x64, .f32⟩
  | .hbm, ⟨3, _⟩ => ⟨S8, .f32⟩
  | .hbm, ⟨4, _⟩ => ⟨S4096x1024, .f32⟩
  | .hbm, ⟨5, _⟩ => ⟨S4096x3072, .bf16⟩
  | .hbm, ⟨6, _⟩ => ⟨S4096x2048, .f32⟩
  | .hbm, ⟨7, _⟩ => ⟨S4096x768, .f32⟩
  | .hbm, ⟨8, _⟩ => ⟨S4096x16, .f32⟩
  | .hbm, ⟨9, _⟩ => ⟨S_, .f32⟩
  | .hbm, ⟨10, _⟩ => ⟨S4096x240, .f32⟩
  | .hbm, ⟨11, _⟩ => ⟨S4096x3072, .f32⟩
  | .hbm, ⟨12, _⟩ => ⟨S4096x1280, .f32⟩
  | .hbm, ⟨13, _⟩ => ⟨S4096x20x64, .f32⟩
  | .hbm, ⟨14, _⟩ => ⟨S20x4096x64, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1x1, .f32⟩
  | .hbm, ⟨29, _⟩ => ⟨S8x128x1, .f32⟩
  | .hbm, ⟨30, _⟩ => ⟨S8x1x1, .f32⟩
  | .hbm, ⟨31, _⟩ => ⟨S8x128x1, .f32⟩
  | .hbm, ⟨32, _⟩ => ⟨S4096x16x64, .f32⟩
  | .hbm, ⟨33, _⟩ => ⟨S16x4096x64, .f32⟩
  | .hbm, ⟨34, _⟩ => ⟨S4096x3072, .bf16⟩
  | .hbm, ⟨35, _⟩ => ⟨S1x64, .f32⟩
  | .hbm, ⟨36, _⟩ => ⟨S1x64, .f32⟩
  | .hbm, ⟨37, _⟩ => ⟨S8x128x1, .f32⟩
  | .hbm, ⟨38, _⟩ => ⟨S8x1x1, .f32⟩
  | .hbm, ⟨39, _⟩ => ⟨S8, .f32⟩
  | .local _ .vmem, ⟨0, _⟩ => ⟨S8x128x64, .f32⟩
  | .local _ .vmem, ⟨1, _⟩ => ⟨S8x128x64, .f32⟩
  | .local _ .vmem, ⟨2, _⟩ => ⟨S2x128x64, .f32⟩
  | .local _ .vmem, ⟨3, _⟩ => ⟨S2x128x64, .f32⟩
  | .local _ .vmem, ⟨4, _⟩ => ⟨S2x128x64, .f32⟩
  | .local _ .vmem, ⟨5, _⟩ => ⟨S2x128x64, .f32⟩
  | .local _ .vmem, ⟨6, _⟩ => ⟨S2x128x64, .f32⟩
  | .local _ .vmem, ⟨7, _⟩ => ⟨S2x128x64, .f32⟩
  | .local _ .vmem, ⟨8, _⟩ => ⟨S2x128x64, .f32⟩
  | .local _ .vmem, ⟨9, _⟩ => ⟨S2x128x64, .f32⟩
  | .local _ .vmem, ⟨10, _⟩ => ⟨S1x64, .f32⟩
  | .local _ .vmem, ⟨11, _⟩ => ⟨S1x64, .f32⟩
  | .local _ .vmem, ⟨12, _⟩ => ⟨S8x128x1, .f32⟩
  | .local _ .vmem, ⟨13, _⟩ => ⟨S8x128x1, .f32⟩
  | .local _ .vmem, ⟨14, _⟩ => ⟨S8x128x64, .f32⟩
  | .local _ .vmem, ⟨15, _⟩ => ⟨S8x128x64, .f32⟩
  | .local _ .vmem, ⟨16, _⟩ => ⟨S128x1024, .bf16⟩
  | .local _ .vmem, ⟨17, _⟩ => ⟨S128x1024, .bf16⟩
  | .local _ .vmem, ⟨18, _⟩ => ⟨S1x64, .f32⟩
  | .local _ .vmem, ⟨19, _⟩ => ⟨S1x64, .f32⟩
  | .local _ .vmem, ⟨20, _⟩ => ⟨S8x128x1, .f32⟩
  | .local _ .vmem, ⟨21, _⟩ => ⟨S2x128x64, .f32⟩
  | .local _ .vmem, ⟨22, _⟩ => ⟨S2x128x64, .f32⟩
  | _, _ => ⟨S4096x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  let c0_i32_1 : BitVec 32 := 0#32
  ![c8_i32.toNat, v2.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  let c0_i32_0 : BitVec 32 := 0#32
  ![c8_i32.toNat, v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  let c0_i32_1 : BitVec 32 := 0#32
  ![c9_i32.toNat, v2.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  let c0_i32_0 : BitVec 32 := 0#32
  ![c9_i32.toNat, v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S4096x3072 : Shape := ⟨2, ![4096, 3072]⟩
abbrev S4096x512 : Shape := ⟨2, ![4096, 512]⟩
abbrev S4096x128 : Shape := ⟨2, ![4096, 128]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S32x128x2x4x64 : Shape := ⟨5, ![32, 128, 2, 4, 64]⟩
abbrev S32x128x2x64 : Shape := ⟨4, ![32, 128, 2, 64]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S2x32x256x128x4 : Shape := ⟨5, ![2, 32, 256, 128, 4]⟩
abbrev S2x4x32x128x256 : Shape := ⟨5, ![2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x32x128 : Shape := ⟨4, ![2, 4, 32, 128]⟩
abbrev S2x4x32x128x1 : Shape := ⟨5, ![2, 4, 32, 128, 1]⟩
abbrev S32x2x64x4x128 : Shape := ⟨5, ![32, 2, 64, 4, 128]⟩
abbrev S32x2x4x128x256 : Shape := ⟨5, ![32, 2, 4, 128, 256]⟩
abbrev S32x2x64x256 : Shape := ⟨4, ![32, 2, 64, 256]⟩
abbrev S2x4x1 : Shape := ⟨3, ![2, 4, 1]⟩
abbrev S2x32x128x4x64 : Shape := ⟨5, ![2, 32, 128, 4, 64]⟩
abbrev S2x32x256x64 : Shape := ⟨4, ![2, 32, 256, 64]⟩
abbrev S64 : Shape := ⟨1, ![64]⟩
abbrev S4096x256 : Shape := ⟨2, ![4096, 256]⟩
abbrev S4096x2048 : Shape := ⟨2, ![4096, 2048]⟩

abbrev nBuf : Space → Nat
  | .hbm => 336
  | .vmem => 0
  | .smem => 0
  | _ => 0

abbrev hbmTy0_0 (i : Nat) : BufTy := match i % 128 with
  | 0 => ⟨S4096x2832, .f32⟩
  | 1 => ⟨S1x64, .f32⟩
  | 2 => ⟨S1x64, .f32⟩
  | 3 => ⟨S8, .f32⟩
  | 4 => ⟨S4096x1024, .f32⟩
  | 5 => ⟨S4096x3072, .bf16⟩
  | 6 => ⟨S4096x512, .f32⟩
  | 7 => ⟨S4096x128, .f32⟩
  | 8 => ⟨S4096x128, .f32⟩
  | 9 => ⟨S4096x8x64, .f32⟩
  | 10 => ⟨S4096x8x64, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S_, .f32⟩
  | 18 => ⟨S4096x8x1, .f32⟩
  | 19 => ⟨S4096x8x1, .f32⟩
  | 20 => ⟨S4096x8x1, .f32⟩
  | 21 => ⟨S4096x8x1, .f32⟩
  | 22 => ⟨S_, .f32⟩
  | 23 => ⟨S4096x8x1, .f32⟩
  | 24 => ⟨S4096x8x1, .f32⟩
  | 25 => ⟨S4096x8x64, .f32⟩
  | 26 => ⟨S4096x8x64, .f32⟩
  | 27 => ⟨S1x1x64, .f32⟩
  | 28 => ⟨S4096x8x64, .f32⟩
  | 29 => ⟨S4096x8x64, .f32⟩
  | 30 => ⟨S4096x2x64, .f32⟩
  | 31 => ⟨S4096x2x64, .f32⟩
  | 32 => ⟨S_, .f32⟩
  | 33 => ⟨S4096x2, .f32⟩
  | 34 => ⟨S4096x2x1, .f32⟩
  | 35 => ⟨S_, .f32⟩
  | 36 => ⟨S4096x2x1, .f32⟩
  | 37 => ⟨S4096x2x1, .f32⟩
  | 38 => ⟨S_, .f32⟩
  | 39 => ⟨S4096x2x1, .f32⟩
  | 40 => ⟨S4096x2x1, .f32⟩
  | 41 => ⟨S4096x2x1, .f32⟩
  | 42 => ⟨S4096x2x1, .f32⟩
  | 43 => ⟨S_, .f32⟩
  | 44 => ⟨S4096x2x1, .f32⟩
  | 45 => ⟨S4096x2x1, .f32⟩
  | 46 => ⟨S4096x2x64, .f32⟩
  | 47 => ⟨S4096x2x64, .f32⟩
  | 48 => ⟨S1x1x64, .f32⟩
  | 49 => ⟨S4096x2x64, .f32⟩
  | 50 => ⟨S4096x2x64, .f32⟩
  | 51 => ⟨S4096x2x64, .f32⟩
  | 52 => ⟨S32x128x2x4x64, .f32⟩
  | 53 => ⟨S32x128x2x64, .f32⟩
  | 54 => ⟨S_, .f32⟩
  | 55 => ⟨S1x128x2x64, .f32⟩
  | 56 => ⟨S31x128x2x64, .f32⟩
  | 57 => ⟨S32x128x2x64, .f32⟩
  | 58 => ⟨S_, .f32⟩
  | 59 => ⟨S1x128x2x64, .f32⟩
  | 60 => ⟨S32x256x2x64, .f32⟩
  | 61 => ⟨S32x128x2x64, .f32⟩
  | 62 => ⟨S_, .f32⟩
  | 63 => ⟨S1x128x2x64, .f32⟩
  | 64 => ⟨S31x128x2x64, .f32⟩
  | 65 => ⟨S32x128x2x64, .f32⟩
  | 66 => ⟨S_, .f32⟩
  | 67 => ⟨S1x128x2x64, .f32⟩
  | 68 => ⟨S32x256x2x64, .f32⟩
  | 69 => ⟨S2x32x256x128x4, .f32⟩
  | 70 => ⟨S2x4x32x128x256, .f32⟩
  | 71 => ⟨S_, .f32⟩
  | 72 => ⟨S2x4x32x128x256, .f32⟩
  | 73 => ⟨S2x4x32x128x256, .f32⟩
  | 74 => ⟨S128, .i32⟩
  | 75 => ⟨S128x1, .i32⟩
  | 76 => ⟨S_, .i32⟩
  | 77 => ⟨S128x1, .i32⟩
  | 78 => ⟨S128x1, .i32⟩
  | 79 => ⟨S256, .i32⟩
  | 80 => ⟨S1x256, .i32⟩
  | 81 => ⟨S128x256, .i32⟩
  | 82 => ⟨S128x256, .i32⟩
  | 83 => ⟨S128x256, .i32⟩
  | 84 => ⟨S128x256, .f32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S128x256, .i32⟩
  | 92 => ⟨S128x256, .i32⟩
  | 93 => ⟨S128x256, .i32⟩
  | 94 => ⟨S_, .i32⟩
  | 95 => ⟨S128x256, .i32⟩
  | 96 => ⟨S128x256, .i1⟩
  | 97 => ⟨S128x256, .i1⟩
  | 98 => ⟨S32, .i32⟩
  | 99 => ⟨S32x1, .i32⟩
  | 100 => ⟨S_, .i32⟩
  | 101 => ⟨S32x1, .i32⟩
  | 102 => ⟨S32x1, .i32⟩
  | 103 => ⟨S32x256, .i32⟩
  | 104 => ⟨S32x256, .i32⟩
  | 105 => ⟨S32x256, .i32⟩
  | 106 => ⟨S_, .i32⟩
  | 107 => ⟨S32x256, .i32⟩
  | 108 => ⟨S32x256, .i32⟩
  | 109 => ⟨S_, .i32⟩
  | 110 => ⟨S32x256, .i32⟩
  | 111 => ⟨S32x256, .i1⟩
  | 112 => ⟨S1x128x256, .i1⟩
  | 113 => ⟨S32x1x256, .i1⟩
  | 114 => ⟨S32x128x256, .i1⟩
  | 115 => ⟨S32x128x256, .i1⟩
  | 116 => ⟨S32x128x256, .i1⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S4096x2832, .f32⟩

abbrev hbmTy0_1 (i : Nat) : BufTy := match i % 128 with
  | 0 => ⟨S8, .f32⟩
  | 1 => ⟨S8, .f32⟩
  | 2 => ⟨S2x4, .f32⟩
  | 3 => ⟨S2x4x1x1x1, .f32⟩
  | 4 => ⟨S1x1x1x128x256, .f32⟩
  | 5 => ⟨S2x4x1x128x256, .f32⟩
  | 6 => ⟨S2x4x1x128x256, .f32⟩
  | 7 => ⟨S2x4x1x128x256, .f32⟩
  | 8 => ⟨S2x4x32x128x256, .f32⟩
  | 9 => ⟨S2x4x32x128x256, .f32⟩
  | 10 => ⟨S_, .f32⟩
  | 11 => ⟨S_, .f32⟩
  | 12 => ⟨S2x4x32x128x256, .i1⟩
  | 13 => ⟨S2x4x32x128x256, .f32⟩
  | 14 => ⟨S2x4x32x128x256, .f32⟩
  | 15 => ⟨S_, .f32⟩
  | 16 => ⟨S2x4x32x128x256, .f32⟩
  | 17 => ⟨S2x4, .f32⟩
  | 18 => ⟨S2x4x1x1x1, .f32⟩
  | 19 => ⟨S_, .f32⟩
  | 20 => ⟨S2x4x32x128, .f32⟩
  | 21 => ⟨S2x4x32x128x1, .f32⟩
  | 22 => ⟨S2x4x32x128x256, .f32⟩
  | 23 => ⟨S2x4x32x128x256, .i1⟩
  | 24 => ⟨S2x4x32x128x256, .f32⟩
  | 25 => ⟨S_, .f32⟩
  | 26 => ⟨S2x4x32x128, .f32⟩
  | 27 => ⟨S2x4x32x128x1, .f32⟩
  | 28 => ⟨S2x4x32x128x1, .f32⟩
  | 29 => ⟨S2x4x32x128x1, .f32⟩
  | 30 => ⟨S2x4x32x128x1, .f32⟩
  | 31 => ⟨S2x4x32x128x1, .i1⟩
  | 32 => ⟨S2x4x32x128x1, .f32⟩
  | 33 => ⟨S2x4x32x128x1, .i1⟩
  | 34 => ⟨S_, .f32⟩
  | 35 => ⟨S2x4x32x128x1, .f32⟩
  | 36 => ⟨S_, .f32⟩
  | 37 => ⟨S2x4x32x128x1, .f32⟩
  | 38 => ⟨S_, .f32⟩
  | 39 => ⟨S2x4x32x128x1, .f32⟩
  | 40 => ⟨S2x4x32x128x1, .f32⟩
  | 41 => ⟨S2x4x32x128x1, .f32⟩
  | 42 => ⟨S2x4x32x128x1, .f32⟩
  | 43 => ⟨S2x4x32x128x1, .i1⟩
  | 44 => ⟨S2x4x32x128x1, .f32⟩
  | 45 => ⟨S2x4x32x128x1, .i1⟩
  | 46 => ⟨S_, .f32⟩
  | 47 => ⟨S2x4x32x128x1, .f32⟩
  | 48 => ⟨S_, .f32⟩
  | 49 => ⟨S2x4x32x128x1, .f32⟩
  | 50 => ⟨S_, .f32⟩
  | 51 => ⟨S2x4x32x128x1, .f32⟩
  | 52 => ⟨S2x4x32x128x1, .f32⟩
  | 53 => ⟨S2x4x32x128x1, .f32⟩
  | 54 => ⟨S2x4x32x128x256, .f32⟩
  | 55 => ⟨S2x4x32x128x256, .f32⟩
  | 56 => ⟨S2x4x32x128x256, .f32⟩
  | 57 => ⟨S_, .f32⟩
  | 58 => ⟨S2x4x32x128, .f32⟩
  | 59 => ⟨S2x4x32x128x1, .f32⟩
  | 60 => ⟨S2x4x32x128x1, .f32⟩
  | 61 => ⟨S2x4x32x128x1, .f32⟩
  | 62 => ⟨S2x4x32x128x1, .f32⟩
  | 63 => ⟨S2x4x32x128x1, .f32⟩
  | 64 => ⟨S2x4x32x128x256, .f32⟩
  | 65 => ⟨S2x4x32x128x256, .f32⟩
  | 66 => ⟨S2x4x32x128x1, .f32⟩
  | 67 => ⟨S_, .f32⟩
  | 68 => ⟨S2x4x32x128x1, .f32⟩
  | 69 => ⟨S2x4x32x128x1, .f32⟩
  | 70 => ⟨S32x2x64x4x128, .f32⟩
  | 71 => ⟨S32x128x2x4x64, .f32⟩
  | 72 => ⟨S4096x512, .f32⟩
  | 73 => ⟨S4096x512, .f32⟩
  | 74 => ⟨S32x128x2x4x64, .f32⟩
  | 75 => ⟨S32x2x64x4x128, .f32⟩
  | 76 => ⟨S32x2x4x128x256, .f32⟩
  | 77 => ⟨S2x4x32x128x256, .f32⟩
  | 78 => ⟨S32x2x64x256, .f32⟩
  | 79 => ⟨S32x256x2x64, .f32⟩
  | 80 => ⟨S2x4x32x128x256, .f32⟩
  | 81 => ⟨S2x4x32x128x256, .f32⟩
  | 82 => ⟨S2x4x32x128x256, .f32⟩
  | 83 => ⟨S_, .f32⟩
  | 84 => ⟨S2x4x32x128, .f32⟩
  | 85 => ⟨S2x4x32x128x1, .f32⟩
  | 86 => ⟨S2x4x32x128x1, .f32⟩
  | 87 => ⟨S2x4x32x128x256, .f32⟩
  | 88 => ⟨S2x4x32x128x256, .f32⟩
  | 89 => ⟨S2x4x32x128x1, .f32⟩
  | 90 => ⟨S_, .f32⟩
  | 91 => ⟨S2x4x1, .f32⟩
  | 92 => ⟨S2x4x1x1x1, .f32⟩
  | 93 => ⟨S2x4x32x128x1, .f32⟩
  | 94 => ⟨S_, .f32⟩
  | 95 => ⟨S2x4x32x128, .f32⟩
  | 96 => ⟨S2x4x32x128x256, .f32⟩
  | 97 => ⟨S2x4x32x128x256, .f32⟩
  | 98 => ⟨S2x4x32x128x256, .f32⟩
  | 99 => ⟨S2x4x32x128x256, .f32⟩
  | 100 => ⟨S_, .f32⟩
  | 101 => ⟨S2x4x32x128, .f32⟩
  | 102 => ⟨S2x4x32x128x1, .f32⟩
  | 103 => ⟨S2x4x32x128x1, .f32⟩
  | 104 => ⟨S2x4x32x128x1, .f32⟩
  | 105 => ⟨S_, .f32⟩
  | 106 => ⟨S2x4x1, .f32⟩
  | 107 => ⟨S2x4x1x1x1, .f32⟩
  | 108 => ⟨S2x4x1x1x1, .f32⟩
  | 109 => ⟨S2x4x32x128x1, .f32⟩
  | 110 => ⟨S_, .f32⟩
  | 111 => ⟨S2x4x32x128, .f32⟩
  | 112 => ⟨S2x4x32x128, .f32⟩
  | 113 => ⟨S2x4x32x128x256, .f32⟩
  | 114 => ⟨S2x4x32x128x256, .f32⟩
  | 115 => ⟨S2x4x32x128x256, .f32⟩
  | 116 => ⟨S_, .f32⟩
  | 117 => ⟨S2x4, .f32⟩
  | 118 => ⟨S8, .f32⟩
  | 119 => ⟨S_, .f32⟩
  | 120 => ⟨S2x4x32x128x256, .f32⟩
  | 121 => ⟨S2x4x32x128x256, .f32⟩
  | 122 => ⟨S_, .f32⟩
  | 123 => ⟨S2x4x32x128x256, .f32⟩
  | 124 => ⟨S2x4x32x128x256, .f32⟩
  | 125 => ⟨S2x32x256x128x4, .f32⟩
  | 126 => ⟨S2x32x128x4x64, .f32⟩
  | 127 => ⟨S32x128x2x4x64, .f32⟩
  | _ => ⟨S4096x2832, .f32⟩

abbrev hbmTy0_2 (i : Nat) : BufTy := match i % 128 with
  | 0 => ⟨S2x32x256x64, .f32⟩
  | 1 => ⟨S32x256x2x64, .f32⟩
  | 2 => ⟨S32x128x2x64, .f32⟩
  | 3 => ⟨S32x128x2x64, .f32⟩
  | 4 => ⟨S1x128x2x64, .f32⟩
  | 5 => ⟨S31x128x2x64, .f32⟩
  | 6 => ⟨S_, .f32⟩
  | 7 => ⟨S32x128x2x64, .f32⟩
  | 8 => ⟨S32x128x2x64, .f32⟩
  | 9 => ⟨S4096x2x64, .f32⟩
  | 10 => ⟨S32x128x2x64, .f32⟩
  | 11 => ⟨S32x128x2x64, .f32⟩
  | 12 => ⟨S1x128x2x64, .f32⟩
  | 13 => ⟨S31x128x2x64, .f32⟩
  | 14 => ⟨S_, .f32⟩
  | 15 => ⟨S32x128x2x64, .f32⟩
  | 16 => ⟨S32x128x2x64, .f32⟩
  | 17 => ⟨S4096x2x64, .f32⟩
  | 18 => ⟨S4096x8x64, .f32⟩
  | 19 => ⟨S4096x128, .f32⟩
  | 20 => ⟨S4096x2x64, .f32⟩
  | 21 => ⟨S_, .f32⟩
  | 22 => ⟨S64, .f32⟩
  | 23 => ⟨S1x1x64, .f32⟩
  | 24 => ⟨S4096x2x64, .f32⟩
  | 25 => ⟨S4096x2x64, .f32⟩
  | 26 => ⟨S_, .f32⟩
  | 27 => ⟨S64, .f32⟩
  | 28 => ⟨S1x64, .f32⟩
  | 29 => ⟨S4096x2x64, .f32⟩
  | 30 => ⟨S_, .f32⟩
  | 31 => ⟨S4096x2, .f32⟩
  | 32 => ⟨S4096x2x1, .f32⟩
  | 33 => ⟨S4096x2x64, .f32⟩
  | 34 => ⟨S4096x2x64, .f32⟩
  | 35 => ⟨S4096x2x1, .f32⟩
  | 36 => ⟨S_, .f32⟩
  | 37 => ⟨S4096x2x1, .f32⟩
  | 38 => ⟨S4096x2x1, .f32⟩
  | 39 => ⟨S_, .f32⟩
  | 40 => ⟨S4096x2, .f32⟩
  | 41 => ⟨S4096x2x64, .f32⟩
  | 42 => ⟨S4096x2x64, .f32⟩
  | 43 => ⟨S4096x2x64, .f32⟩
  | 44 => ⟨S4096x2x64, .f32⟩
  | 45 => ⟨S4096x2x64, .f32⟩
  | 46 => ⟨S4096x128, .f32⟩
  | 47 => ⟨S4096x8x64, .f32⟩
  | 48 => ⟨S_, .f32⟩
  | 49 => ⟨S64, .f32⟩
  | 50 => ⟨S1x1x64, .f32⟩
  | 51 => ⟨S4096x8x64, .f32⟩
  | 52 => ⟨S4096x8x64, .f32⟩
  | 53 => ⟨S_, .f32⟩
  | 54 => ⟨S64, .f32⟩
  | 55 => ⟨S1x64, .f32⟩
  | 56 => ⟨S4096x8x64, .f32⟩
  | 57 => ⟨S_, .f32⟩
  | 58 => ⟨S4096x8, .f32⟩
  | 59 => ⟨S4096x8x1, .f32⟩
  | 60 => ⟨S4096x8x64, .f32⟩
  | 61 => ⟨S4096x8x64, .f32⟩
  | 62 => ⟨S4096x8x1, .f32⟩
  | 63 => ⟨S_, .f32⟩
  | 64 => ⟨S4096x8x1, .f32⟩
  | 65 => ⟨S4096x8x1, .f32⟩
  | 66 => ⟨S_, .f32⟩
  | 67 => ⟨S4096x8, .f32⟩
  | 68 => ⟨S4096x8x64, .f32⟩
  | 69 => ⟨S4096x8x64, .f32⟩
  | 70 => ⟨S4096x8x64, .f32⟩
  | 71 => ⟨S4096x8x64, .f32⟩
  | 72 => ⟨S4096x8x64, .f32⟩
  | 73 => ⟨S4096x512, .f32⟩
  | 74 => ⟨S_, .f32⟩
  | 75 => ⟨S4096x256, .f32⟩
  | 76 => ⟨S4096x1024, .f32⟩
  | 77 => ⟨S4096x1024, .bf16⟩
  | 78 => ⟨S4096x2048, .bf16⟩
  | 79 => ⟨S4096x3072, .bf16⟩
  | _ => ⟨S4096x2832, .f32⟩

abbrev hbmTy (i : Nat) : BufTy := match i / 128 with
  | 0 => hbmTy0_0 i
  | 1 => hbmTy0_1 i
  | 2 => hbmTy0_2 i
  | _ => ⟨S4096x2832, .f32⟩

abbrev bufTy : (tb : Table) → Fin (tcTables nBuf tb) → BufTy
  | .hbm, ⟨i, _⟩ => hbmTy i
  | _, _ => ⟨S4096x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_14 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_15 : Ref sig .tc := ⟨.hbm, 106, rfl⟩
abbrev main_v83 : Ref sig .tc := ⟨.hbm, 107, rfl⟩
abbrev main_v84 : Ref sig .tc := ⟨.hbm, 108, rfl⟩
abbrev main_c_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_17 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_v95 : Ref sig .tc := ⟨.hbm, 122, rfl⟩
abbrev main_v96 : Ref sig .tc := ⟨.hbm, 123, rfl⟩
abbrev main_cst_19 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_21 : Ref sig .tc := ⟨.hbm, 138, rfl⟩
abbrev main_call0_v0 : Ref sig .tc := ⟨.hbm, 139, rfl⟩
abbrev main_v109_1 : Ref sig .tc := ⟨.hbm, 140, rfl⟩
abbrev main_call0_v2 : Ref sig .tc := ⟨.hbm, 141, rfl⟩
abbrev main_v109_0 : Ref sig .tc := ⟨.hbm, 142, rfl⟩
abbrev main_call0_cst : Ref sig .tc := ⟨.hbm, 143, rfl⟩
abbrev main_v109_2 : Ref sig .tc := ⟨.hbm, 144, rfl⟩
abbrev main_v110 : Ref sig .tc := ⟨.hbm, 145, rfl⟩
abbrev main_v111 : Ref sig .tc := ⟨.hbm, 146, rfl⟩
abbrev main_cst_22 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_23 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_24 : Ref sig .tc := ⟨.hbm, 162, rfl⟩
abbrev main_v125 : Ref sig .tc := ⟨.hbm, 163, rfl⟩
abbrev main_cst_25 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_27 : Ref sig .tc := ⟨.hbm, 174, rfl⟩
abbrev main_v134 : Ref sig .tc := ⟨.hbm, 175, rfl⟩
abbrev main_cst_28 : Ref sig .tc := ⟨.hbm, 176, rfl⟩
abbrev main_v135 : Ref sig .tc := ⟨.hbm, 177, rfl⟩
abbrev main_cst_29 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_30 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_31 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_32 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_33 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_34 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_35 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_36 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_37 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_38 : Ref sig .tc := ⟨.hbm, 244, rfl⟩
abbrev main_v193 : Ref sig .tc := ⟨.hbm, 245, rfl⟩
abbrev main_v194 : Ref sig .tc := ⟨.hbm, 246, rfl⟩
abbrev main_call1_cst : Ref sig .tc := ⟨.hbm, 247, rfl⟩
abbrev main_call1_v0 : Ref sig .tc := ⟨.hbm, 248, rfl⟩
abbrev main_v195 : Ref sig .tc := ⟨.hbm, 249, rfl⟩
abbrev main_cst_39 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_40 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_41 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_cst_42 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_cst_43 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_cst_44 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_45 : Ref sig .tc := ⟨.hbm, 292, rfl⟩
abbrev main_v232 : Ref sig .tc := ⟨.hbm, 293, rfl⟩
abbrev main_v233 : Ref sig .tc := ⟨.hbm, 294, rfl⟩
abbrev main_cst_46 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_47 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_48 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_49 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_50 : Ref sig .tc := ⟨.hbm, 319, rfl⟩
abbrev main_v254 : Ref sig .tc := ⟨.hbm, 320, rfl⟩
abbrev main_v255 : Ref sig .tc := ⟨.hbm, 321, rfl⟩
abbrev main_cst_51 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_cst_52 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x1408 : Shape := ⟨2, ![512, 1408]⟩
abbrev S512x1024 : Shape := ⟨2, ![512, 1024]⟩
abbrev S1408x1024 : Shape := ⟨2, ![1408, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x128, .f32⟩
  | .hbm, ⟨9, _⟩ => ⟨S1x1, .f32⟩
  | .hbm, ⟨10, _⟩ => ⟨S_, .f32⟩
  | .local _ .vmem, ⟨0, _⟩ => ⟨S512x1408, .bf16⟩
  | .local _ .vmem, ⟨1, _⟩ => ⟨S512x1408, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1408_i32 : BitVec 32 := 1408#32
  let v6 : BitVec 32 := Scalar.muli arg1 c1408_i32
  v6
def k0_off1 (i : grid0.Coords) : Fin 2 → Nat :=
  let arg1 : BitVec 32 := BitVec.ofNat 32 (i 1).val
  let c1408_i32 : BitVec 32 := 1408#32
  let v6 : BitVec 32 := Scalar.muli arg1 c1408_i32
  let v7 : BitVec 32 := v6
  let v8 : Index := Scalar.indexCast v7
  let c0_3 : Index := 0#32
  ![v8.toNat, 0]
def k0_cond4 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_8 : BitVec 32 := 0#32
  let v19 : BitVec 1 := Scalar.cmpi .ne v18 c0_i32_8
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x2832 : Shape := ⟨2, ![1024, 2832]⟩
abbrev S4096x2832 : Shape := ⟨2, ![4096, 2832]⟩
abbrev S4096x2048 : Shape := ⟨2, ![4096, 2048]⟩
abbrev S4096x768 : Shape := ⟨2, ![4096, 768]⟩
abbrev S4096x16 : Shape := ⟨2, ![4096, 16]⟩
abbrev S_ : Shape := ⟨0, ![]⟩
abbrev S4096x240 : Shape := ⟨2, ![4096, 240]⟩
abbrev S4096x3072 : Shape := ⟨2, ![4096, 3072]⟩
abbrev S1024x2048 : Shape := ⟨2, ![1024, 2048]⟩
abbrev S1024x768 : Shape := ⟨2, ![1024, 768]⟩
abbrev S1024x16 : Shape := ⟨2, ![1024, 16]⟩
abbrev S1024x240 : Shape := ⟨2, ![1024, 240]⟩
abbrev S1024x3072 : Shape := ⟨2, ![1024, 3072]⟩
abbrev S3072x1024 : Shape := ⟨2, ![3072, 1024]⟩
abbrev S512x1024 : Shape := ⟨2, ![512, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 24
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2832, .bf16⟩
  | .hbm, ⟨5, _⟩ => ⟨S4096x1024, .f32⟩
  | .hbm, ⟨6, _⟩ => ⟨S4096x2832, .bf16⟩
  | .hbm, ⟨7, _⟩ => ⟨S4096x2048, .bf16⟩
  | .hbm, ⟨8, _⟩ => ⟨S4096x768, .bf16⟩
  | .hbm, ⟨9, _⟩ => ⟨S4096x16, .bf16⟩
  | .hbm, ⟨10, _⟩ => ⟨S_, .bf16⟩
  | .hbm, ⟨11, _⟩ => ⟨S4096x240, .bf16⟩
  | .hbm, ⟨12, _⟩ => ⟨S4096x3072, .bf16⟩
  | .hbm, ⟨13, _⟩ => ⟨S1024x2048, .bf16⟩
  | .hbm, ⟨14, _⟩ => ⟨S1024x768, .bf16⟩
  | .hbm, ⟨15, _⟩ => ⟨S1024x16, .bf16⟩
  | .hbm, ⟨16, _⟩ => ⟨S_, .bf16⟩
  | .hbm, ⟨17, _⟩ => ⟨S1024x240, .bf16⟩
  | .hbm, ⟨18, _⟩ => ⟨S1024x3072, .bf16⟩
  | .hbm, ⟨19, _⟩ => ⟨S3072x1024, .bf16⟩
  | .hbm, ⟨20, _⟩ => ⟨S4096x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  v7
def k0_off1 (i : grid0.Coords) : Fin 2 → Nat :=
  let arg1 : BitVec 32 := BitVec.ofNat 32 (i 1).val
  let c1024_i32 : BitVec 32 := 1024#32
  let v7 : BitVec 32 := Scalar.muli arg1 c1024_i32
  let v8 : BitVec 32 := v7
  let v9 : Index := Scalar.indexCast v8
  let c0_3 : Index := 0#32
  ![v9.toNat, 0]
def k0_cond4 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_8 : BitVec 32 := 0#32
  let v21 : BitVec 1 := Scalar.cmpi .ne v20 c0_i32_8
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== InProjRefIdeal.lean ====
abbrev S4096x1024 : Shape := ⟨2, ![4096, 1024]⟩
abbrev S1x1024 : Shape := ⟨2, ![1, 1024]⟩
abbrev S1024x2832 : Shape := ⟨2, ![1024, 2832]⟩
abbrev S4096x2832 : Shape := ⟨2, ![4096, 2832]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2832, .bf16⟩
  | .hbm, ⟨5, _⟩ => ⟨S4096x1024, .f32⟩
  | .hbm, ⟨6, _⟩ => ⟨S4096x2832, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x2832, .f32⟩
  | .hbm, ⟨34, _⟩ => ⟨S4096x2832, .f32⟩
  | .hbm, ⟨35, _⟩ => ⟨S4096x2832, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Resid.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S4096x11x1x256 : Shape := ⟨4, ![4096, 11, 1, 256]⟩
abbrev S4096x11x2x256 : Shape := ⟨4, ![4096, 11, 2, 256]⟩
abbrev S4096x5632 : Shape := ⟨2, ![4096, 5632]⟩
abbrev S2816x1024 : Shape := ⟨2, ![2816, 1024]⟩
abbrev S11x1x256x1024 : Shape := ⟨4, ![11, 1, 256, 1024]⟩
abbrev S11x2x256x1024 : Shape := ⟨4, ![11, 2, 256, 1024]⟩
abbrev S5632x1024 : Shape := ⟨2, ![5632, 1024]⟩
abbrev S512x1408 : Shape := ⟨2, ![512, 1408]⟩
abbrev S512x1024 : Shape := ⟨2, ![512, 1024]⟩
abbrev S1408x1024 : Shape := ⟨2, ![1408, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 27
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S4096x1024, .f32⟩
  | .hbm, ⟨9, _⟩ => ⟨S4096x2816, .bf16⟩
  | .hbm, ⟨10, _⟩ => ⟨S4096x2816, .bf16⟩
  | .hbm, ⟨11, _⟩ => ⟨S4096x11x1x256, .bf16⟩
  | .hbm, ⟨12, _⟩ => ⟨S4096x11x1x256, .bf16⟩
  | .hbm, ⟨13, _⟩ => ⟨S4096x11x2x256, .bf16⟩
  | .hbm, ⟨14, _⟩ => ⟨S4096x5632, .bf16⟩
  | .hbm, ⟨15, _⟩ => ⟨S2816x1024, .bf16⟩
  | .hbm, ⟨16, _⟩ => ⟨S2816x1024, .bf16⟩
  | .hbm, ⟨17, _⟩ => ⟨S11x1x256x1024, .bf16⟩
  | .hbm, ⟨18, _⟩ => ⟨S11x1x256x1024, .bf16⟩
  | .hbm, ⟨19, _⟩ => ⟨S11x2x256x1024, .bf16⟩
  | .hbm, ⟨20, _⟩ => ⟨S5632x1024, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1408_i32 : BitVec 32 := 1408#32
  let v7 : BitVec 32 := Scalar.muli arg1 c1408_i32
  v7
def k0_off1 (i : grid0.Coords) : Fin 2 → Nat :=
  let arg1 : BitVec 32 := BitVec.ofNat 32 (i 1).val
  let c1408_i32 : BitVec 32 := 1408#32
  let v7 : BitVec 32 := Scalar.muli arg1 c1408_i32
  let v8 : BitVec 32 := v7
  let v9 : Index := Scalar.indexCast v8
  let c0_3 : Index := 0#32
  ![v9.toNat, 0]
def k0_cond4 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_8 : BitVec 32 := 0#32
  let v21 : BitVec 1 := Scalar.cmpi .ne v20 c0_i32_8
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ResidRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S4096x1024, .f32⟩
  | .hbm, ⟨9, _⟩ => ⟨S4096x2816, .bf16⟩
  | .hbm, ⟨10, _⟩ => ⟨S4096x2816, .bf16⟩
  | .hbm, ⟨11, _⟩ => ⟨S4096x2816, .f32⟩
  | .hbm, ⟨12, _⟩ => ⟨S4096x2816, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1024x2816, .f32⟩
  | .hbm, ⟨43, _⟩ => ⟨S4096x2816, .f32⟩
  | .hbm, ⟨44, _⟩ => ⟨S1024x2816, .f32⟩
  | .hbm, ⟨45, _⟩ => ⟨S4096x2816, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== SwaFwd.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S4096x2048 : Shape := ⟨2, ![4096, 2048]⟩
abbrev S4096x768 : Shape := ⟨2, ![4096, 768]⟩
abbrev S4096x16 : Shape := ⟨2, ![4096, 16]⟩
abbrev S_ : Shape := ⟨0, ![]⟩
abbrev S4096x240 : Shape := ⟨2, ![4096, 240]⟩
abbrev S4096x3072 : Shape := ⟨2, ![4096, 3072]⟩
abbrev S4096x1280 : Shape := ⟨2, ![4096, 1280]⟩
abbrev S4096x20x64 : Shape := ⟨3, ![4096, 20, 64]⟩
abbrev S20x4096x64 : Shape := ⟨3, ![20, 4096, 64]⟩
abbrev S8x1x1 : Shape := ⟨3, ![8, 1, 1]⟩
abbrev S8x128x1 : Shape := ⟨3, ![8, 128, 1]⟩
abbrev S4096x16x64 : Shape := ⟨3, ![4096, 16, 64]⟩
abbrev S16x4096x64 : Shape := ⟨3, ![16, 4096, 64]⟩
abbrev S8x128x64 : Shape := ⟨3, ![8, 128, 64]⟩
abbrev S2x128x64 : Shape := ⟨3, ![2, 128, 64]⟩
abbrev S1x128x64 : Shape := ⟨3, ![1, 128, 64]⟩
abbrev S128x128 : Shape := ⟨2, ![128, 128]⟩
abbrev S8x128 : Shape := ⟨2, ![8, 128]⟩
abbrev S1x1x64 : Shape := ⟨3, ![1, 1, 64]⟩
abbrev S8x128x128 : Shape := ⟨3, ![8, 128, 128]⟩
abbrev S1x128x128 : Shape := ⟨3, ![1, 128, 128]⟩

abbrev nBuf : Space → Nat
  | .hbm => 36
  | .vmem => 16
  | .smem => 0
  | _ => 0

abbrev bufTy : (tb : Table) → Fin (tcTables nBuf tb) → BufTy
  | .hbm, ⟨0, _⟩ => ⟨S4096x2832, .f32⟩
  | .hbm, ⟨1, _⟩ => ⟨S1x64, .f32⟩
  | .hbm, ⟨2, _⟩ => ⟨S1x64, .f32⟩
  | .hbm, ⟨3, _⟩ => ⟨S8, .f32⟩
  | .hbm, ⟨4, _⟩ => ⟨S4096x1024, .f32⟩
  | .hbm, ⟨5, _⟩ => ⟨S4096x2048, .f32⟩
  | .hbm, ⟨6, _⟩ => ⟨S4096x768, .f32⟩
  | .hbm, ⟨7, _⟩ => ⟨S4096x16, .f32⟩
  | .hbm, ⟨8, _⟩ => ⟨S_, .f32⟩
  | .hbm, ⟨9, _⟩ => ⟨S4096x240, .f32⟩
  | .hbm, ⟨10, _⟩ => ⟨S4096x3072, .f32⟩
  | .hbm, ⟨11, _⟩ => ⟨S4096x1280, .f32⟩
  | .hbm, ⟨12, _⟩ => ⟨S4096x20x64, .f32⟩
  | .hbm, ⟨13, _⟩ => ⟨S20x4096x64, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x1x1, .f32⟩
  | .hbm, ⟨28, _⟩ => ⟨S8x128x1, .f32⟩
  | .hbm, ⟨29, _⟩ => ⟨S8x1x1, .f32⟩
  | .hbm, ⟨30, _⟩ => ⟨S8x128x1, .f32⟩
  | .hbm, ⟨31, _⟩ => ⟨S4096x16x64, .f32⟩
  | .hbm, ⟨32, _⟩ => ⟨S16x4096x64, .f32⟩
  | .hbm, ⟨33, _⟩ => ⟨S16x4096x64, .f32⟩
  | .hbm, ⟨34, _⟩ => ⟨S4096x16x64, .f32⟩
  | .hbm, ⟨35, _⟩ => ⟨S4096x1024, .f32⟩
  | .local _ .vmem, ⟨0, _⟩ => ⟨S8x128x64, .f32⟩
  | .local _ .vmem, ⟨1, _⟩ => ⟨S8x128x64, .f32⟩
  | .local _ .vmem, ⟨2, _⟩ => ⟨S2x128x64, .f32⟩
  | .local _ .vmem, ⟨3, _⟩ => ⟨S2x128x64, .f32⟩
  | .local _ .vmem, ⟨4, _⟩ => ⟨S2x128x64, .f32⟩
  | .local _ .vmem, ⟨5, _⟩ => ⟨S2x128x64, .f32⟩
  | .local _ .vmem, ⟨6, _⟩ => ⟨S2x128x64, .f32⟩
  | .local _ .vmem, ⟨7, _⟩ => ⟨S2x128x64, .f32⟩
  | .local _ .vmem, ⟨8, _⟩ => ⟨S2x128x64, .f32⟩
  | .local _ .vmem, ⟨9, _⟩ => ⟨S2x128x64, .f32⟩
  | .local _ .vmem, ⟨10, _⟩ => ⟨S1x64, .f32⟩
  | .local _ .vmem, ⟨11, _⟩ => ⟨S1x64, .f32⟩
  | .local _ .vmem, ⟨12, _⟩ => ⟨S8x128x1, .f32⟩
  | .local _ .vmem, ⟨13, _⟩ => ⟨S8x128x1, .f32⟩
  | .local _ .vmem, ⟨14, _⟩ => ⟨S8x128x64, .f32⟩
  | .local _ .vmem, ⟨15, _⟩ => ⟨S8x128x64, .f32⟩
  | _, _ => ⟨S4096x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let c0_i32_1 : BitVec 32 := 0#32
  ![c8_i32.toNat, v1.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let c0_i32_1 : BitVec 32 := 0#32
  ![c9_i32.toNat, v1.toNat, c0_i32_0.toNat]

def cc0_transform_4 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S4096x2832 : Shape := ⟨2, ![4096, 2832]⟩
abbrev S1x64 : Shape := ⟨2, ![1, 64]⟩
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S32x128x2x4x64 : Shape := ⟨5, ![32, 128, 2, 4, 64]⟩
abbrev S32x128x2x64 : Shape := ⟨4, ![32, 128, 2, 64]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S2x32x256x128x4 : Shape := ⟨5, ![2, 32, 256, 128, 4]⟩
abbrev S2x4x32x128x256 : Shape := ⟨5, ![2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x32x128 : Shape := ⟨4, ![2, 4, 32, 128]⟩
abbrev S2x4x32x128x1 : Shape := ⟨5, ![2, 4, 32, 128, 1]⟩
abbrev S32x2x64x4x128 : Shape := ⟨5, ![32, 2, 64, 4, 128]⟩

abbrev nBuf : Space → Nat
  | .hbm => 154
  | .vmem => 0
  | .smem => 0
  | _ => 0

abbrev hbmTy0_0 (i : Nat) : BufTy := match i % 128 with
  | 0 => ⟨S4096x2832, .f32⟩
  | 1 => ⟨S1x64, .f32⟩
  | 2 => ⟨S1x64, .f32⟩
  | 3 => ⟨S8, .f32⟩
  | 4 => ⟨S4096x1024, .f32⟩
  | 5 => ⟨S4096x512, .f32⟩
  | 6 => ⟨S4096x128, .f32⟩
  | 7 => ⟨S4096x128, .f32⟩
  | 8 => ⟨S4096x8x64, .f32⟩
  | 9 => ⟨S4096x8x64, .f32⟩
  | 10 => ⟨S_, .f32⟩
  | 11 => ⟨S4096x8, .f32⟩
  | 12 => ⟨S4096x8x1, .f32⟩
  | 13 => ⟨S_, .f32⟩
  | 14 => ⟨S4096x8x1, .f32⟩
  | 15 => ⟨S4096x8x1, .f32⟩
  | 16 => ⟨S_, .f32⟩
  | 17 => ⟨S4096x8x1, .f32⟩
  | 18 => ⟨S4096x8x1, .f32⟩
  | 19 => ⟨S4096x8x1, .f32⟩
  | 20 => ⟨S4096x8x64, .f32⟩
  | 21 => ⟨S4096x8x64, .f32⟩
  | 22 => ⟨S1x1x64, .f32⟩
  | 23 => ⟨S4096x8x64, .f32⟩
  | 24 => ⟨S4096x8x64, .f32⟩
  | 25 => ⟨S4096x2x64, .f32⟩
  | 26 => ⟨S4096x2x64, .f32⟩
  | 27 => ⟨S_, .f32⟩
  | 28 => ⟨S4096x2, .f32⟩
  | 29 => ⟨S4096x2x1, .f32⟩
  | 30 => ⟨S_, .f32⟩
  | 31 => ⟨S4096x2x1, .f32⟩
  | 32 => ⟨S4096x2x1, .f32⟩
  | 33 => ⟨S_, .f32⟩
  | 34 => ⟨S4096x2x1, .f32⟩
  | 35 => ⟨S4096x2x1, .f32⟩
  | 36 => ⟨S4096x2x1, .f32⟩
  | 37 => ⟨S4096x2x64, .f32⟩
  | 38 => ⟨S4096x2x64, .f32⟩
  | 39 => ⟨S1x1x64, .f32⟩
  | 40 => ⟨S4096x2x64, .f32⟩
  | 41 => ⟨S4096x2x64, .f32⟩
  | 42 => ⟨S4096x2x64, .f32⟩
  | 43 => ⟨S32x128x2x4x64, .f32⟩
  | 44 => ⟨S32x128x2x64, .f32⟩
  | 45 => ⟨S_, .f32⟩
  | 46 => ⟨S1x128x2x64, .f32⟩
  | 47 => ⟨S31x128x2x64, .f32⟩
  | 48 => ⟨S32x128x2x64, .f32⟩
  | 49 => ⟨S32x256x2x64, .f32⟩
  | 50 => ⟨S32x128x2x64, .f32⟩
  | 51 => ⟨S_, .f32⟩
  | 52 => ⟨S1x128x2x64, .f32⟩
  | 53 => ⟨S31x128x2x64, .f32⟩
  | 54 => ⟨S32x128x2x64, .f32⟩
  | 55 => ⟨S32x256x2x64, .f32⟩
  | 56 => ⟨S2x32x256x128x4, .f32⟩
  | 57 => ⟨S2x4x32x128x256, .f32⟩
  | 58 => ⟨S_, .f32⟩
  | 59 => ⟨S2x4x32x128x256, .f32⟩
  | 60 => ⟨S2x4x32x128x256, .f32⟩
  | 61 => ⟨S128, .i32⟩
  | 62 => ⟨S128x1, .i32⟩
  | 63 => ⟨S_, .i32⟩
  | 64 => ⟨S128x1, .i32⟩
  | 65 => ⟨S128x1, .i32⟩
  | 66 => ⟨S256, .i32⟩
  | 67 => ⟨S1x256, .i32⟩
  | 68 => ⟨S128x256, .i32⟩
  | 69 => ⟨S128x256, .i32⟩
  | 70 => ⟨S128x256, .i32⟩
  | 71 => ⟨S128x256, .f32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S128x256, .i32⟩
  | 79 => ⟨S128x256, .i32⟩
  | 80 => ⟨S128x256, .i32⟩
  | 81 => ⟨S_, .i32⟩
  | 82 => ⟨S128x256, .i32⟩
  | 83 => ⟨S128x256, .i1⟩
  | 84 => ⟨S128x256, .i1⟩
  | 85 => ⟨S32, .i32⟩
  | 86 => ⟨S32x1, .i32⟩
  | 87 => ⟨S_, .i32⟩
  | 88 => ⟨S32x1, .i32⟩
  | 89 => ⟨S32x1, .i32⟩
  | 90 => ⟨S32x256, .i32⟩
  | 91 => ⟨S32x256, .i32⟩
  | 92 => ⟨S32x256, .i32⟩
  | 93 => ⟨S_, .i32⟩
  | 94 => ⟨S32x256, .i32⟩
  | 95 => ⟨S32x256, .i32⟩
  | 96 => ⟨S_, .i32⟩
  | 97 => ⟨S32x256, .i32⟩
  | 98 => ⟨S32x256, .i1⟩
  | 99 => ⟨S1x128x256, .i1⟩
  | 100 => ⟨S32x1x256, .i1⟩
  | 101 => ⟨S32x128x256, .i1⟩
  | 102 => ⟨S32x128x256, .i1⟩
  | 103 => ⟨S32x128x256, .i1⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S2x4, .f32⟩
  | 118 => ⟨S2x4x1x1x1, .f32⟩
  | 119 => ⟨S1x1x1x128x256, .f32⟩
  | 120 => ⟨S2x4x1x128x256, .f32⟩
  | 121 => ⟨S2x4x1x128x256, .f32⟩
  | 122 => ⟨S2x4x1x128x256, .f32⟩
  | 123 => ⟨S2x4x32x128x256, .f32⟩
  | 124 => ⟨S2x4x32x128x256, .f32⟩
  | 125 => ⟨S_, .f32⟩
  | 126 => ⟨S_, .f32⟩
  | 127 => ⟨S2x4x32x128x256, .i1⟩
  | _ => ⟨S4096x2832, .f32⟩

abbrev hbmTy0_1 (i : Nat) : BufTy := match i % 128 with
  | 0 => ⟨S2x4x32x128x256, .f32⟩
  | 1 => ⟨S2x4x32x128x256, .f32⟩
  | 2 => ⟨S2x4, .f32⟩
  | 3 => ⟨S2x4x1x1x1, .f32⟩
  | 4 => ⟨S_, .f32⟩
  | 5 => ⟨S2x4x32x128, .f32⟩
  | 6 => ⟨S2x4x32x128x1, .f32⟩
  | 7 => ⟨S2x4x32x128x1, .f32⟩
  | 8 => ⟨S2x4x32x128x1, .f32⟩
  | 9 => ⟨S2x4x32x128x256, .f32⟩
  | 10 => ⟨S2x4x32x128x256, .f32⟩
  | 11 => ⟨S2x4x32x128x256, .f32⟩
  | 12 => ⟨S_, .f32⟩
  | 13 => ⟨S2x4x32x128, .f32⟩
  | 14 => ⟨S2x4x32x128x1, .f32⟩
  | 15 => ⟨S2x4x32x128x1, .f32⟩
  | 16 => ⟨S2x4x32x128x1, .f32⟩
  | 17 => ⟨S2x4x32x128x1, .f32⟩
  | 18 => ⟨S2x4x32x128x1, .f32⟩
  | 19 => ⟨S2x4x32x128x256, .f32⟩
  | 20 => ⟨S2x4x32x128x256, .f32⟩
  | 21 => ⟨S32x2x64x4x128, .f32⟩
  | 22 => ⟨S32x128x2x4x64, .f32⟩
  | 23 => ⟨S4096x512, .f32⟩
  | 24 => ⟨S4096x512, .f32⟩
  | 25 => ⟨S4096x1024, .f32⟩
  | _ => ⟨S4096x2832, .f32⟩

abbrev hbmTy (i : Nat) : BufTy := match i / 128 with
  | 0 => hbmTy0_0 i
  | 1 => hbmTy0_1 i
  | _ => ⟨S4096x2832, .f32⟩

abbrev bufTy : (tb : Table) → Fin (tcTables nBuf tb) → BufTy
  | .hbm, ⟨i, _⟩ => hbmTy i
  | _, _ => ⟨S4096x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_11 : Ref sig .tc := ⟨.hbm, 93, rfl⟩
abbrev main_v75 : Ref sig .tc := ⟨.hbm, 94, rfl⟩
abbrev main_v76 : Ref sig .tc := ⟨.hbm, 95, rfl⟩
abbrev main_c_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_17 : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_19 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩

abbrev nD : Nat := 1
abbrev τ : Topo := Topo.v7x

variable {F : FTy → Type} [FloatOps F]
-- ==== UpAct.lean ====
abbrev S4096x1024 : Shape := ⟨2, ![4096, 1024]⟩
abbrev S1024x2816 : Shape := ⟨2, ![1024, 2816]⟩
abbrev S2816x1024 : Shape := ⟨2, ![2816, 1024]⟩
abbrev S11x1x256x1024 : Shape := ⟨4, ![11, 1, 256, 1024]⟩
abbrev S11x2x256x1024 : Shape := ⟨4, ![11, 2, 256, 1024]⟩
abbrev S5632x1024 : Shape := ⟨2, ![5632, 1024]⟩
abbrev S4096x5632 : Shape := ⟨2, ![4096, 5632]⟩
abbrev S4096x2816 : Shape := ⟨2, ![4096, 2816]⟩
abbrev S2048x1024 : Shape := ⟨2, ![2048, 1024]⟩
abbrev S512x1024 : Shape := ⟨2, ![512, 1024]⟩
abbrev S2048x512 : Shape := ⟨2, ![2048, 512]⟩
abbrev S2048x256 : Shape := ⟨2, ![2048, 256]⟩
abbrev S4096x11x2x256 : Shape := ⟨4, ![4096, 11, 2, 256]⟩
abbrev S4096x11x1x256 : Shape := ⟨4, ![4096, 11, 1, 256]⟩
abbrev S4096x11x256 : Shape := ⟨3, ![4096, 11, 256]⟩

abbrev nBuf : Space → Nat
  | .hbm => 18
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S11x1x256x1024, .bf16⟩
  | .hbm, ⟨6, _⟩ => ⟨S11x1x256x1024, .bf16⟩
  | .hbm, ⟨7, _⟩ => ⟨S11x2x256x1024, .bf16⟩
  | .hbm, ⟨8, _⟩ => ⟨S5632x1024, .bf16⟩
  | .hbm, ⟨9, _⟩ => ⟨S4096x5632, .f32⟩
  | .hbm, ⟨10, _⟩ => ⟨S4096x2816, .bf16⟩
  | .hbm, ⟨11, _⟩ => ⟨S4096x11x2x256, .f32⟩
  | .hbm, ⟨12, _⟩ => ⟨S4096x11x1x256, .f32⟩
  | .hbm, ⟨13, _⟩ => ⟨S4096x11x256, .f32⟩
  | .hbm, ⟨14, _⟩ => ⟨S4096x2816, .f32⟩
  | .hbm, ⟨15, _⟩ => ⟨S4096x11x1x256, .f32⟩
  | .hbm, ⟨16, _⟩ => ⟨S4096x11x256, .f32⟩
  | .hbm, ⟨17, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpActRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== ConvFwd.lean ====
abbrev S4096x2832 : Shape := ⟨2, ![4096, 2832]⟩
abbrev S4x1x1536 : Shape := ⟨3, ![4, 1, 1536]⟩
abbrev S4096x2048 : Shape := ⟨2, ![4096, 2048]⟩
abbrev S4096x768 : Shape := ⟨2, ![4096, 768]⟩
abbrev S4096x16 : Shape := ⟨2, ![4096, 16]⟩
abbrev S_ : Shape := ⟨0, ![]⟩
abbrev S4096x240 : Shape := ⟨2, ![4096, 240]⟩
abbrev S4096x3072 : Shape := ⟨2, ![4096, 3072]⟩
abbrev S4x1536 : Shape := ⟨2, ![4, 1536]⟩
abbrev S24x4096x64 : Shape := ⟨3, ![24, 4096, 64]⟩
abbrev S4096x128 : Shape := ⟨2, ![4096, 128]⟩
abbrev S4x128 : Shape := ⟨2, ![4, 128]⟩
abbrev S2x4096x64 : Shape := ⟨3, ![2, 4096, 64]⟩
abbrev S1x128 : Shape := ⟨2, ![1, 128]⟩
abbrev S4096x64 : Shape := ⟨2, ![4096, 64]⟩
abbrev S1x4096x64 : Shape := ⟨3, ![1, 4096, 64]⟩
abbrev S4096x24x64 : Shape := ⟨3, ![4096, 24, 64]⟩
abbrev S4096x1536 : Shape := ⟨2, ![4096, 1536]⟩

abbrev nBuf : Space → Nat
  | .hbm => 12
  | .vmem => 6
  | .smem => 0
  | _ => 0

abbrev bufTy : (tb : Table) → Fin (tcTables nBuf tb) → BufTy
  | .hbm, ⟨0, _⟩ => ⟨S4096x2832, .f32⟩
  | .hbm, ⟨1, _⟩ => ⟨S4x1x1536, .f32⟩
  | .hbm, ⟨2, _⟩ => ⟨S4096x2048, .f32⟩
  | .hbm, ⟨3, _⟩ => ⟨S4096x768, .f32⟩
  | .hbm, ⟨4, _⟩ => ⟨S4096x16, .f32⟩
  | .hbm, ⟨5, _⟩ => ⟨S_, .f32⟩
  | .hbm, ⟨6, _⟩ => ⟨S4096x240, .f32⟩
  | .hbm, ⟨7, _⟩ => ⟨S4096x3072, .f32⟩
  | .hbm, ⟨8, _⟩ => ⟨S4x1536, .f32⟩
  | .hbm, ⟨9, _⟩ => ⟨S24x4096x64, .f32⟩
  | .hbm, ⟨10, _⟩ => ⟨S4096x24x64, .f32⟩
  | .hbm, ⟨11, _⟩ => ⟨S4096x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S2x4096x64, .f32⟩
  | .local _ .vmem, ⟨5, _⟩ => ⟨S2x4096x64, .f32⟩
  | _, _ => ⟨S4096x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S4096x2832 : Shape := ⟨2, ![4096, 2832]⟩
abbrev S4x1x1536 : Shape := ⟨3, ![4, 1, 1536]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1x1x1536 : Shape := ⟨3, ![1, 1, 1536]⟩
abbrev S1x1536 : Shape := ⟨2, ![1, 1536]⟩

abbrev nBuf : Space → Nat
  | .hbm => 41
  | .vmem => 0
  | .smem => 0
  | _ => 0

abbrev bufTy : (tb : Table) → Fin (tcTables nBuf tb) → BufTy
  | .hbm, ⟨0, _⟩ => ⟨S4096x2832, .f32⟩
  | .hbm, ⟨1, _⟩ => ⟨S4x1x1536, .f32⟩
  | .hbm, ⟨2, _⟩ => ⟨S4096x1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S1x1x1536, .f32⟩
  | .hbm, ⟨7, _⟩ => ⟨S1x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S1x1x1536, .f32⟩
  | .hbm, ⟨15, _⟩ => ⟨S1x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S4096x1536, .f32⟩
  | .hbm, ⟨20, _⟩ => ⟨S1x1x1536, .f32⟩
  | .hbm, ⟨21, _⟩ => ⟨S1x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S1x1x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S4096x1536, .f32⟩
  | _, _ => ⟨S4096x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== ResidFwd.lean ====
abbrev S4096x1024 : Shape := ⟨2, ![4096, 1024]⟩
abbrev S1024x1024 : Shape := ⟨2, ![1024, 1024]⟩
abbrev S1x1024 : Shape := ⟨2, ![1, 1024]⟩
abbrev S4096x16x64 : Shape := ⟨3, ![4096, 16, 64]⟩
abbrev S16x4096x64 : Shape := ⟨3, ![16, 4096, 64]⟩
abbrev S16x512x64 : Shape := ⟨3, ![16, 512, 64]⟩
abbrev S512x1024 : Shape := ⟨2, ![512, 1024]⟩
abbrev S1x512x64 : Shape := ⟨3, ![1, 512, 64]⟩
abbrev S512x64 : Shape := ⟨2, ![512, 64]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x16x64, .f32⟩
  | .hbm, ⟨8, _⟩ => ⟨S16x4096x64, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S16x512x64, .f32⟩
  | .local _ .vmem, ⟨1, _⟩ => ⟨S16x512x64, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ResidFwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S1024x2832 : Shape := ⟨2, ![1024, 2832]⟩
abbrev S1024x2048 : Shape := ⟨2, ![1024, 2048]⟩
abbrev S1024x768 : Shape := ⟨2, ![1024, 768]⟩
abbrev S1024x16 : Shape := ⟨2, ![1024, 16]⟩
abbrev S_ : Shape := ⟨0, ![]⟩
abbrev S1024x240 : Shape := ⟨2, ![1024, 240]⟩
abbrev S1024x3072 : Shape := ⟨2, ![1024, 3072]⟩
abbrev S3072x1024 : Shape := ⟨2, ![3072, 1024]⟩
abbrev S4096x3072 : Shape := ⟨2, ![4096, 3072]⟩
abbrev S20x4096x64 : Shape := ⟨3, ![20, 4096, 64]⟩
abbrev S1024x1024 : Shape := ⟨2, ![1024, 1024]⟩
abbrev S1024x1536 : Shape := ⟨2, ![1024, 1536]⟩
abbrev S20x1024x64 : Shape := ⟨3, ![20, 1024, 64]⟩
abbrev S256x1024 : Shape := ⟨2, ![256, 1024]⟩
abbrev S256 : Shape := ⟨1, ![256]⟩
abbrev S256x1 : Shape := ⟨2, ![256, 1]⟩
abbrev S1536x1024 : Shape := ⟨2, ![1536, 1024]⟩
abbrev S1024x128 : Shape := ⟨2, ![1024, 128]⟩
abbrev S1024x64 : Shape := ⟨2, ![1024, 64]⟩
abbrev S1x1024x64 : Shape := ⟨3, ![1, 1024, 64]⟩
abbrev S4096x20x64 : Shape := ⟨3, ![4096, 20, 64]⟩
abbrev S4096x1280 : Shape := ⟨2, ![4096, 1280]⟩
abbrev S4096x2048 : Shape := ⟨2, ![4096, 2048]⟩
abbrev S4096x16 : Shape := ⟨2, ![4096, 16]⟩
abbrev S4096x768 : Shape := ⟨2, ![4096, 768]⟩
abbrev S4096x2832 : Shape := ⟨2, ![4096, 2832]⟩

abbrev nBuf : Space → Nat
  | .hbm => 21
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2832, .bf16⟩
  | .hbm, ⟨5, _⟩ => ⟨S1024x2048, .bf16⟩
  | .hbm, ⟨6, _⟩ => ⟨S1024x768, .bf16⟩
  | .hbm, ⟨7, _⟩ => ⟨S1024x16, .bf16⟩
  | .hbm, ⟨8, _⟩ => ⟨S_, .bf16⟩
  | .hbm, ⟨9, _⟩ => ⟨S1024x240, .bf16⟩
  | .hbm, ⟨10, _⟩ => ⟨S1024x3072, .bf16⟩
  | .hbm, ⟨11, _⟩ => ⟨S3072x1024, .bf16⟩
  | .hbm, ⟨12, _⟩ => ⟨S4096x1024, .bf16⟩
  | .hbm, ⟨13, _⟩ => ⟨S4096x3072, .f32⟩
  | .hbm, ⟨14, _⟩ => ⟨S20x4096x64, .f32⟩
  | .hbm, ⟨15, _⟩ => ⟨S4096x20x64, .f32⟩
  | .hbm, ⟨16, _⟩ => ⟨S4096x1280, .f32⟩
  | .hbm, ⟨17, _⟩ => ⟨S4096x2048, .f32⟩
  | .hbm, ⟨18, _⟩ => ⟨S4096x16, .f32⟩
  | .hbm, ⟨19, _⟩ => ⟨S4096x768, .f32⟩
  | .hbm, ⟨20, _⟩ => ⟨S4096x2832, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3072x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1536, .f32⟩
  | .local _ .vmem, ⟨9, _⟩ => ⟨S1024x1536, .f32⟩
  | .local _ .vmem, ⟨10, _⟩ => ⟨S20x1024x64, .f32⟩
  | .local _ .vmem, ⟨11, _⟩ => ⟨S20x1024x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1536_i32 : BitVec 32 := 1536#32
  let v5 : BitVec 32 := Scalar.muli arg1 c1536_i32
  v5
def k0_off1 (i : grid0.Coords) : Fin 2 → Nat :=
  let arg1 : BitVec 32 := BitVec.ofNat 32 (i 1).val
  let c1536_i32 : BitVec 32 := 1536#32
  let v5 : BitVec 32 := Scalar.muli arg1 c1536_i32
  let v6 : BitVec 32 := v5
  let v7 : Index := Scalar.indexCast v6
  let c0_2 : Index := 0#32
  ![v7.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S20x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== NormInRefIdeal.lean ====
abbrev S4096x1024 : Shape := ⟨2, ![4096, 1024]⟩
abbrev S1x1024 : Shape := ⟨2, ![1, 1024]⟩
abbrev S1024x2832 : Shape := ⟨2, ![1024, 2832]⟩
abbrev S_ : Shape := ⟨0, ![]⟩
abbrev S4096 : Shape := ⟨1, ![4096]⟩
abbrev S4096x1 : Shape := ⟨2, ![4096, 1]⟩
abbrev S4096x2832 : Shape := ⟨2, ![4096, 2832]⟩
abbrev S4096x512 : Shape := ⟨2, ![4096, 512]⟩
abbrev S4096x768 : Shape := ⟨2, ![4096, 768]⟩
abbrev S4096x1280 : Shape := ⟨2, ![4096, 1280]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2832, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2832, .f32⟩
  | .hbm, ⟨28, _⟩ => ⟨S4096x2832, .f32⟩
  | .hbm, ⟨29, _⟩ => ⟨S4096x1024, .bf16⟩
  | .hbm, ⟨30, _⟩ => ⟨S4096x512, .f32⟩
  | .hbm, ⟨31, _⟩ => ⟨S4096x768, .f32⟩
  | .hbm, ⟨32, _⟩ => ⟨S4096x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Reals.lean ====
/- Finite extended reals: the ones that are real numbers, and what keeps them so. -/
module

public import Idealize.ShloMosaic.Lib.Pointwise
public import Idealize.ShloMosaic.PureOps.Ideal.Laws

@[expose] public section

namespace Cert.Reals

open Idealize.ShloMosaic

/-- `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.neg {x : EReal} : IsReal x → IsReal (-x)
  | ⟨a, ha⟩ => ⟨-a, by rw [ha, EReal.coe_neg]⟩
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a real number that is not zero. -/
theorem div_real {a b : ℝ} (hb : b ≠ 0) : Ideal.div (a : EReal) (b : EReal) = ((a / b : ℝ) : EReal) := by
  rw [Ideal.div_coe hb, ← EReal.coe_mul]
  congr 1
  ring

theorem ofBits_inf : Ideal.ofBits .f32 0x7F800000#32 = ⊤ := by simp [Ideal.ofBits, Ideal.ieee]

/-- A value whose magnitude is below infinity is a real number. -/
theorem IsReal.of_abs_lt {x : EReal} (h : max x (-x) < ⊤) : IsReal x := by
  induction x with
  | bot => simp at h
  | top => simp at h
  | coe r => exact ⟨r, rfl⟩

/-- The same, of the comparison as a precondition states it. -/
theorem IsReal.of_cmp {x : EReal} (h : Ideal.cmp .olt (max x (-x)) (Ideal.ofBits .f32 0x7F800000#32) = 1#1) : IsReal x := by
  refine IsReal.of_abs_lt ?_
  rw [← ofBits_inf]
  by_contra hn
  unfold Ideal.cmp at h
  simp only [hn, decide_false] at h
  exact absurd h (by decide)

/-! ## The logistic function -/

/-- The logistic function. -/
noncomputable def sigm (p : EReal) : EReal := Ideal.div 1 (1 + Ideal.exp (0 - p))

theorem sigm_coe (p : ℝ) : sigm (p : EReal) = ((1 / (1 + Real.exp (-p)) : ℝ) : EReal) := by
  have h : (1 : ℝ) + Real.exp (-p) ≠ 0 := (add_pos one_pos (Real.exp_pos _)).ne'
  unfold sigm
  rw [show (0 : EReal) - (p : EReal) = ((-p : ℝ) : EReal) by rw [zero_sub, EReal.coe_neg]]
  rw [show Ideal.exp ((-p : ℝ) : EReal) = ((Real.exp (-p) : ℝ) : EReal) from rfl, ← EReal.coe_one, ← EReal.coe_add, div_real h]

theorem sigm_top : sigm ⊤ = 1 := by
  unfold sigm
  rw [show (0 : EReal) - ⊤ = ⊥ from rfl, show Ideal.exp ⊥ = 0 from rfl, add_zero, ← EReal.coe_one, div_real one_ne_zero, div_one]

theorem sigm_bot : sigm ⊥ = 0 := by
  unfold sigm
  rw [show (0 : EReal) - ⊥ = ⊤ from rfl, show Ideal.exp ⊤ = ⊤ from rfl, show (1 : EReal) + ⊤ = ⊤ from rfl]
  simp [Ideal.div]

/-- The derivative of `p * sigm p` against a finite cotangent: the two forms of it agree, at every `p`. -/
theorem silu_grad {d : EReal} (hd : IsReal d) (p : EReal) :
    d * sigm p + p * d * (sigm p * (1 - sigm p)) = d * (sigm p * (1 + p * (1 - sigm p))) := by
  obtain ⟨d, rfl⟩ := hd
  induction p with
  | bot => rw [sigm_bot]; simp
  | top => rw [sigm_top, show (1 : EReal) - 1 = 0 from by rw [← EReal.coe_one, ← EReal.coe_sub]; simp]; simp
  | coe p =>
    rw [sigm_coe]
    generalize 1 / (1 + Real.exp (-p)) = s
    rw [← EReal.coe_one, ← EReal.coe_sub]
    simp only [← EReal.coe_mul, ← EReal.coe_add]
    congr 1
    ring

end Cert.Reals

end
-- ==== Proof.ConvBlock.lean ====
/- The short convolution's gradient: what one grid point stores, read from the three blocks that it loads. -/
module

public import proofs.«01_k».proof.Defs
public import proofs.«01_k».proof.Proof.Gen.ConvIdeal.Value
public import proofs.«01_k».proof.Proof.Gen.ConvRefIdeal.Read
public import Idealize.ShloMosaic.Lib.Pointwise
public import Idealize.ShloMosaic.Lib.Pipeline.ValueKit
public import proofs.«01_k».proof.Proof.Reals
public import Idealize.ShloMosaic.Lib.Claim
public import Idealize.ShloMosaic.Lib.KernelVsHost
public import Idealize.ShloMosaic.Lib.WordCmp

@[expose] public section

set_option maxRecDepth 16384

noncomputable section

namespace Cert.ConvIdeal.Grad

open Idealize.ShloMosaic Idealize.ShloMosaic.TcCoe Idealize.SL.Sem
open Idealize.ShloMosaic.Pipeline (Dat)
open Cert.ConvIdeal Cert.ConvIdeal.Gen Cert.Reals

variable (m : (ℓ : Loc nD τ sig) → Buf (Elt Ideal) ℓ)

/-! ## One column in plain sums

A column is a function of the 4096 time steps; `a`, `b`, `c`, `e` are its four taps. -/

/-- The column `k` steps earlier, zero before the start. -/
def lag (f : Fin 4096 → EReal) (k : ℕ) (r : Fin 4096) : EReal :=
  if h : r.val < k then 0 else f ⟨r.val - k, by omega⟩

/-- The column `k` steps later, zero after the end. -/
def lead (f : Fin 4096 → EReal) (k : ℕ) (r : Fin 4096) : EReal :=
  if h : r.val + k < 4096 then f ⟨r.val + k, h⟩ else 0

/-- The causal convolution of the column. -/
def pre (x : Fin 4096 → EReal) (a b c e : EReal) (r : Fin 4096) : EReal :=
  a * lag x 3 r + b * lag x 2 r + c * lag x 1 r + e * x r

/-- The gradient of the pre-activation: the cotangent times the derivative of `p * sigm p`. -/
def dpre (x : Fin 4096 → EReal) (a b c e : EReal) (d : Fin 4096 → EReal) (r : Fin 4096) : EReal :=
  d r * (sigm (pre x a b c e r) * (1 + pre x a b c e r * (1 - sigm (pre x a b c e r))))

/-- The gradient of the column: the taps against the later gradients. -/
def dcol (g : Fin 4096 → EReal) (a b c e : EReal) (r : Fin 4096) : EReal :=
  a * lead g 3 r + b * lead g 2 r + c * lead g 1 r + e * g r

/-! ## The kernel's payloads -/

theorem slt_word {a b : ℕ} (ha : a < 4096) (hb : b < 5000) :
    IntOp.cmpi .slt (BitVec.ofNat 32 a) (BitVec.ofNat 32 b) = BitVec.ofBool (decide (a < b)) :=
  WordCmp.cmpi_slt_ofNat (w := 32) (by omega) (by omega)

theorem sge_word {a b : ℕ} (ha : a < 4096) (hb : b < 5000) :
    IntOp.cmpi .sge (BitVec.ofNat 32 a) (BitVec.ofNat 32 b) = BitVec.ofBool (decide (b ≤ a)) :=
  WordCmp.cmpi_sge_ofNat (w := 32) (by omega) (by omega)

theorem sel_bool {p : Prop} [Decidable p] (u v : EReal) :
    Scalar.select (BitVec.ofBool (decide p)) u v = if p then u else v := by
  by_cases h : p <;> simp [h, Scalar.select]

/-- A rotation read under its mask is the lagged column. -/
theorem rot_lag (x : FVec Ideal S4096x128 .f32) (w : EReal) (r : Fin 4096) (l : Fin 128) (k : ℕ) (hk : k < 4096) (hk0 : 0 < k)
    (h) : Scalar.select (IntOp.cmpi .sge (BitVec.ofNat 32 r.val) (BitVec.ofNat 32 k))
      (w * x (ix2 ⟨(r.val + 4096 - k) % 4096, h⟩ l)) 0 = w * lag (fun r => x (ix2 r l)) k r := by
  rw [sge_word r.isLt (by omega), sel_bool]
  unfold lag
  by_cases hr : r.val < k
  · rw [if_neg (by omega), dif_pos hr, mul_zero]
  · rw [if_pos (by omega), dif_neg hr]
    congr 3
    exact Fin.ext (by show (r.val + 4096 - k) % 4096 = r.val - k; omega)

set_option backward.isDefEq.respectTransparency false in
theorem pay15_apply (x : FVec Ideal S4096x128 .f32) (w0 w1 w2 w3 : FVec Ideal S1x128 .f32) (d0 d1 : FVec Ideal S1x4096x64 .f32)
    (r : Fin 4096) (l : Fin 128) : k0_pay15 (F := Ideal) (k0_pay5 x) (k0_pay7 x) (k0_pay8 x)
      (k0_pay10 w1) (k0_pay11 w2) (k0_pay12 w3) k0_pay13 (k0_pay14 x w0) d0 d1 (ix2 r l)
    = dpre (fun r => x (ix2 r l)) (w0 (ix2 0 l)) (w1 (ix2 0 l)) (w2 (ix2 0 l)) (w3 (ix2 0 l))
        (fun r => if h : l.val < 64 then d0 (ix3 0 r ⟨l.val, h⟩) else d1 (ix3 0 r ⟨l.val - 64, by omega⟩)) r := by
  pointwise [k0_pay15, k0_pay14, k0_pay13, k0_pay12, k0_pay11, k0_pay10, k0_pay9, k0_pay8, k0_pay7, k0_pay6, k0_pay5]
  have h3 := rot_lag x (w0 (ix2 0 l)) r l 3 (by omega) (by omega) (Nat.mod_lt _ (by omega))
  have h2 := rot_lag x (w1 (ix2 0 l)) r l 2 (by omega) (by omega) (Nat.mod_lt _ (by omega))
  have h1 := rot_lag x (w2 (ix2 0 l)) r l 1 (by omega) (by omega) (Nat.mod_lt _ (by omega))
  rw [h1, h2, h3]
  unfold dpre pre sigm
  by_cases hl : l.val < 64
  · simp only [hl, dif_pos]
  · simp only [hl, dif_neg, not_false_iff]

/-- A rotation forward read under its mask is the later column. -/
theorem rot_lead (D : FVec Ideal S4096x128 .f32) (r : Fin 4096) (l : Fin 128) (k : ℕ) (hk : k < 4096) (hk0 : 0 < k) :
    Scalar.select (IntOp.cmpi .slt (BitVec.ofNat 32 r.val) (BitVec.ofNat 32 (4096 - k)))
      (dynamicRotate 0 (BitVec.ofNat 32 (4096 - k)) none D rotates_S4096x128_d0 (ix2 r l)) 0 = lead (fun r => D (ix2 r l)) k r := by
  rw [slt_word r.isLt (by omega), sel_bool]
  unfold lead
  by_cases hr : r.val + k < 4096
  · rw [if_pos (by omega), dif_pos hr]
    refine Idealize.ShloMosaic.dynamicRotate_apply (s := S4096x128) 0 _ D _ _ (ix2 ⟨r.val + k, hr⟩ l) fun b => ?_
    have hb : (BitVec.ofNat 32 (4096 - k)).toNat = 4096 - k := by
      rw [BitVec.toNat_ofNat]; exact Nat.mod_eq_of_lt (by omega)
    rw [hb]
    match b with
    | ⟨0, _⟩ => show r.val + k = (r.val + 4096 - (4096 - k) % 4096) % 4096; omega
    | ⟨1, _⟩ => rfl
  · rw [if_neg (by omega), dif_neg hr]

theorem pay4_apply (D E : FVec Ideal S4096x128 .f32) (w1 w2 w3 : FVec Ideal S1x128 .f32)
    (r : Fin 4096) (l : Fin 128) :
    k0_pay4 (F := Ideal) (iota Kind.tc S4096x128 32 [0] iota_S4096x128_d0_w32) (k0_pay10 w1) (k0_pay11 w2) (k0_pay12 w3) D E (ix2 r l)
      = E (ix2 r l) + w1 (ix2 0 l) * lead (fun r => D (ix2 r l)) 2 r + w2 (ix2 0 l) * lead (fun r => D (ix2 r l)) 1 r + w3 (ix2 0 l) * D (ix2 r l) := by
  rw [← rot_lead D r l 2 (by omega) (by omega), ← rot_lead D r l 1 (by omega) (by omega)]
  unfold k0_pay4
  dsimp only
  generalize dynamicRotate 0 4094#32 none D rotates_S4096x128_d0 = R2
  generalize dynamicRotate 0 4095#32 none D rotates_S4096x128_d0 = R3
  pointwise [k0_pay12, k0_pay11, k0_pay10, k0_pay9]

theorem lag_zero (f : Fin 4096 → EReal) (r : Fin 4096) : lag f 0 r = f r := by
  unfold lag
  simp

/-- The lagged operand of a tap's gradient. -/
theorem pay6_apply (x : FVec Ideal S4096x128 .f32) (r : Fin 4096) (l : Fin 128) :
    k0_pay6 (F := Ideal) x (ix2 r l) = lag (fun r => x (ix2 r l)) 3 r := by
  have h := rot_lag x 1 r l 3 (by omega) (by omega) (Nat.mod_lt _ (by omega))
  rw [one_mul, one_mul] at h
  rw [← h]
  pointwise [k0_pay6, k0_pay5]

theorem pay7_apply (x : FVec Ideal S4096x128 .f32) (r : Fin 4096) (l : Fin 128) :
    k0_pay7 (F := Ideal) x (ix2 r l) = lag (fun r => x (ix2 r l)) 2 r := by
  have h := rot_lag x 1 r l 2 (by omega) (by omega) (Nat.mod_lt _ (by omega))
  rw [one_mul, one_mul] at h
  rw [← h]
  pointwise [k0_pay7, k0_pay5]

theorem pay8_apply (x : FVec Ideal S4096x128 .f32) (r : Fin 4096) (l : Fin 128) :
    k0_pay8 (F := Ideal) x (ix2 r l) = lag (fun r => x (ix2 r l)) 1 r := by
  have h := rot_lag x 1 r l 1 (by omega) (by omega) (Nat.mod_lt _ (by omega))
  rw [one_mul, one_mul] at h
  rw [← h]
  pointwise [k0_pay8, k0_pay5]

theorem pay1_apply (v D : FVec Ideal S4096x128 .f32) (i : Fin 1) (l : Fin 128) :
    k0_pay1 (F := Ideal) v D (ix2 i l) = ∑ r : Fin 4096, D (ix2 r l) * v (ix2 r l) := by
  pointwise [k0_pay1]

theorem pay2_apply (v D : FVec Ideal S4096x128 .f32) (i : Fin 1) (l : Fin 128) :
    k0_pay2 (F := Ideal) v D (ix2 i l) = ∑ r : Fin 4096, D (ix2 r l) * v (ix2 r l) := by
  pointwise [k0_pay2]

theorem pay3_apply (v D : FVec Ideal S4096x128 .f32) (i : Fin 1) (l : Fin 128) :
    k0_pay3 (F := Ideal) v D (ix2 i l) = ∑ r : Fin 4096, D (ix2 r l) * v (ix2 r l) := by
  pointwise [k0_pay3]

theorem pay5_apply (x : FVec Ideal S4096x128 .f32) (r : Fin 4096) (l : Fin 128) : k0_pay5 (F := Ideal) x (ix2 r l) = x (ix2 r l) := by
  pointwise [k0_pay5]

theorem pay17_apply (x3 x9 x14 x19 : FVec Ideal S4096x128 .f32) (w1 w2 w3 : FVec Ideal S1x128 .f32) (x36 x38 : FVec Ideal S4096x128 .f32) (d0 d1 : FVec Ideal S1x4096x64 .f32)
    (i : Fin 1) (l : Fin 128) :
    k0_pay17 (F := Ideal) x3 x9 x14 x19 w1 w2 w3 x36 x38 d0 d1 (ix2 i l)
      = ∑ r : Fin 4096, k0_pay15 (F := Ideal) x3 x14 x19 w1 w2 w3 x36 x38 d0 d1 (ix2 r l) * x9 (ix2 r l) := by
  pointwise [k0_pay17]

theorem pay16_apply (x3 x14 x19 : FVec Ideal S4096x128 .f32) (w0 w1 w2 w3 : FVec Ideal S1x128 .f32) (x36 x38 : FVec Ideal S4096x128 .f32) (d0 d1 : FVec Ideal S1x4096x64 .f32)
    (r : Fin 4096) (l : Fin 128) :
    k0_pay16 (F := Ideal) x3 (iota Kind.tc S4096x128 32 [0] iota_S4096x128_d0_w32) x14 x19 (k0_pay9 w0) w1 w2 w3 x36 x38 d0 d1 (ix2 r l)
      = w0 (ix2 0 l) * lead (fun r => k0_pay15 (F := Ideal) x3 x14 x19 w1 w2 w3 x36 x38 d0 d1 (ix2 r l)) 3 r := by
  rw [← rot_lead _ r l 3 (by omega) (by omega)]
  unfold k0_pay16
  dsimp only
  generalize k0_pay15 (F := Ideal) x3 x14 x19 w1 w2 w3 x36 x38 d0 d1 = D
  generalize dynamicRotate 0 4093#32 none D rotates_S4096x128_d0 = R
  pointwise [k0_pay9]

/-! ## What a grid point stores -/

/-- The cotangent's column `l` of a block: two heads side by side. -/
def dcols (d : FVec Ideal S2x4096x64 .f32) (l : Fin 128) (r : Fin 4096) : EReal :=
  d (ix3 ⟨l.val / 64, by omega⟩ r ⟨l.val % 64, by omega⟩)

/-- The gradient of the pre-activation in a block's column. -/
def bpre (x : FVec Ideal S4096x128 .f32) (w : FVec Ideal S4x128 .f32) (d : FVec Ideal S2x4096x64 .f32) (l : Fin 128) : Fin 4096 → EReal :=
  dpre (fun r => x (ix2 r l)) (w (ix2 0 l)) (w (ix2 1 l)) (w (ix2 2 l)) (w (ix2 3 l)) (dcols d l)

theorem pay15_block (x : FVec Ideal S4096x128 .f32) (w : FVec Ideal S4x128 .f32) (d : FVec Ideal S2x4096x64 .f32) (l : Fin 128)
    (w0 w1 w2 w3 : FVec Ideal S1x128 .f32) (d0 d1 : FVec Ideal S1x4096x64 .f32)
    (h0 : w0 (ix2 0 l) = w (ix2 0 l)) (h1 : w1 (ix2 0 l) = w (ix2 1 l)) (h2 : w2 (ix2 0 l) = w (ix2 2 l)) (h3 : w3 (ix2 0 l) = w (ix2 3 l))
    (e0 : ∀ r (l : Fin 64), d0 (ix3 0 r l) = d (ix3 0 r l)) (e1 : ∀ r (l : Fin 64), d1 (ix3 0 r l) = d (ix3 1 r l)) :
    (fun r => k0_pay15 (F := Ideal) (k0_pay5 x) (k0_pay7 x) (k0_pay8 x)
      (k0_pay10 w1) (k0_pay11 w2) (k0_pay12 w3) k0_pay13 (k0_pay14 x w0) d0 d1 (ix2 r l)) = bpre x w d l := by
  funext r
  rw [pay15_apply, h0, h1, h2, h3]
  unfold bpre
  congr 1
  funext r
  unfold dcols
  by_cases hl : l.val < 64
  · rw [dif_pos hl, e0]
    congr 1
    exact (ix3_inj ..).2 ⟨Fin.ext (by show 0 = l.val / 64; omega), rfl, Fin.ext (by show l.val = l.val % 64; omega)⟩
  · rw [dif_neg hl, e1]
    congr 1
    exact (ix3_inj ..).2 ⟨Fin.ext (by show 1 = l.val / 64; omega), rfl, Fin.ext (by show l.val - 64 = l.val % 64; omega)⟩

/-- The block's share of the gradient of the convolution's input. -/
theorem stored_dx (x : FVec Ideal S4096x128 .f32) (w : FVec Ideal S4x128 .f32) (d : FVec Ideal S2x4096x64 .f32) (r : Fin 4096) (l : Fin 128)
    (w0 w1 w2 w3 : FVec Ideal S1x128 .f32) (d0 d1 : FVec Ideal S1x4096x64 .f32)
    (h0 : w0 (ix2 0 l) = w (ix2 0 l)) (h1 : w1 (ix2 0 l) = w (ix2 1 l)) (h2 : w2 (ix2 0 l) = w (ix2 2 l)) (h3 : w3 (ix2 0 l) = w (ix2 3 l))
    (e0 : ∀ r (l : Fin 64), d0 (ix3 0 r l) = d (ix3 0 r l)) (e1 : ∀ r (l : Fin 64), d1 (ix3 0 r l) = d (ix3 1 r l)) :
    k0_pay4 (F := Ideal) (iota Kind.tc S4096x128 32 [0] iota_S4096x128_d0_w32) (k0_pay10 w1) (k0_pay11 w2) (k0_pay12 w3)
      (k0_pay15 (F := Ideal) (k0_pay5 x) (k0_pay7 x) (k0_pay8 x) (k0_pay10 w1) (k0_pay11 w2) (k0_pay12 w3) k0_pay13 (k0_pay14 x w0) d0 d1)
      (k0_pay16 (F := Ideal) (k0_pay5 x) (iota Kind.tc S4096x128 32 [0] iota_S4096x128_d0_w32) (k0_pay7 x) (k0_pay8 x) (k0_pay9 w0) (k0_pay10 w1) (k0_pay11 w2) (k0_pay12 w3) k0_pay13 (k0_pay14 x w0) d0 d1) (ix2 r l)
      = dcol (bpre x w d l) (w (ix2 0 l)) (w (ix2 1 l)) (w (ix2 2 l)) (w (ix2 3 l)) r := by
  have H := pay15_block x w d l w0 w1 w2 w3 d0 d1 h0 h1 h2 h3 e0 e1
  have H' := congrFun H r
  rw [pay4_apply, pay16_apply, H, h0, h1, h2, h3]
  unfold dcol
  rw [← H']

/-- The block's share of a tap's gradient, of the lag with which the tap reads. -/
theorem stored_dw (x : FVec Ideal S4096x128 .f32) (w : FVec Ideal S4x128 .f32) (d : FVec Ideal S2x4096x64 .f32) (j : Fin 4) (l : Fin 128)
    (w0 w1 w2 w3 : FVec Ideal S1x128 .f32) (d0 d1 : FVec Ideal S1x4096x64 .f32)
    (h0 : w0 (ix2 0 l) = w (ix2 0 l)) (h1 : w1 (ix2 0 l) = w (ix2 1 l)) (h2 : w2 (ix2 0 l) = w (ix2 2 l)) (h3 : w3 (ix2 0 l) = w (ix2 3 l))
    (e0 : ∀ r (l : Fin 64), d0 (ix3 0 r l) = d (ix3 0 r l)) (e1 : ∀ r (l : Fin 64), d1 (ix3 0 r l) = d (ix3 1 r l))
    (v : FVec Ideal S4096x128 .f32) (hv : ∀ r, v (ix2 r l) = lag (fun r => x (ix2 r l)) (3 - j.val) r) :
    ∑ r : Fin 4096, k0_pay15 (F := Ideal) (k0_pay5 x) (k0_pay7 x) (k0_pay8 x) (k0_pay10 w1) (k0_pay11 w2) (k0_pay12 w3) k0_pay13 (k0_pay14 x w0) d0 d1 (ix2 r l) * v (ix2 r l)
      = ∑ r : Fin 4096, bpre x w d l r * lag (fun r => x (ix2 r l)) (3 - j.val) r := by
  have H := pay15_block x w d l w0 w1 w2 w3 d0 d1 h0 h1 h2 h3 e0 e1
  refine Finset.sum_congr rfl fun r _ => ?_
  rw [← H, hv]

/-- The three blocks that a grid point reads. -/
abbrev X (c : Dev nD) (t : Fin cfg0.N) : FVec Ideal S4096x128 .f32 := iblk m c 0 t
abbrev W (c : Dev nD) (t : Fin cfg0.N) : FVec Ideal S4x128 .f32 := iblk m c 1 t
abbrev D (c : Dev nD) (t : Fin cfg0.N) : FVec Ideal S2x4096x64 .f32 := iblk m c 2 t

theorem point3 (c : Dev nD) (t : Fin cfg0.N) (r : Fin 4096) (l : Fin 128) :
    (outsAt0 m c t).1 (ix2 r l)
      = dcol (bpre (X m c t) (W m c t) (D m c t) l) (W m c t (ix2 0 l)) (W m c t (ix2 1 l))
          (W m c t (ix2 2 l)) (W m c t (ix2 3 l)) r := by
  unfold outsAt0
  frame_out
  refine stored_dx (X m c t) (W m c t) (D m c t) r l _ _ _ _ _ _ ?_ ?_ ?_ ?_ ?_ ?_
  all_goals (try intro r l); pointwise

theorem point4 (c : Dev nD) (t : Fin cfg0.N) (j : Fin 4) (l : Fin 128) :
    (outsAt0 m c t).2 (ix2 j l)
      = ∑ r : Fin 4096, bpre (X m c t) (W m c t) (D m c t) l r * lag (fun r => X m c t (ix2 r l)) (3 - j.val) r := by
  unfold outsAt0
  frame_out
  have H := stored_dw (X m c t) (W m c t) (D m c t) j l
  canon_tiles x h
  · rw [show x = ix2 0 l by have h1l : l.val = (x 1).val := h1; blk_ext, pay3_apply]
    refine H _ _ _ _ _ _ ?_ ?_ ?_ ?_ ?_ ?_ _ ?_
    iterate 4 pointwise
    iterate 2 (intro r l; pointwise)
    intro r
    have hj : 3 - j.val = 0 := by have : j.val = 3 + (x 0).val := h0; omega
    rw [pay5_apply, hj, lag_zero]
  · rw [show x = ix2 0 l by have h1l : l.val = (x 1).val := h1; blk_ext, pay2_apply]
    refine H _ _ _ _ _ _ ?_ ?_ ?_ ?_ ?_ ?_ _ ?_
    iterate 4 pointwise
    iterate 2 (intro r l; pointwise)
    intro r
    have hj : 3 - j.val = 1 := by have : j.val = 2 + (x 0).val := h0; omega
    rw [pay8_apply, hj]
  · rw [show x = ix2 0 l by have h1l : l.val = (x 1).val := h1; blk_ext, pay1_apply]
    refine H _ _ _ _ _ _ ?_ ?_ ?_ ?_ ?_ ?_ _ ?_
    iterate 4 pointwise
    iterate 2 (intro r l; pointwise)
    intro r
    have hj : 3 - j.val = 2 := by have : j.val = 1 + (x 0).val := h0; omega
    rw [pay7_apply, hj]
  · rw [show x = ix2 0 l by have h1l : l.val = (x 1).val := h1; blk_ext, pay17_apply]
    refine H _ _ _ _ _ _ ?_ ?_ ?_ ?_ ?_ ?_ _ ?_
    iterate 4 pointwise
    iterate 2 (intro r l; pointwise)
    intro r
    have hj : 3 - j.val = 3 := by have : j.val = (x 0).val := h0; omega
    rw [pay6_apply, hj]

end Cert.ConvIdeal.Grad
end
-- ==== Proof.ConvHost.lean ====
/- The short convolution's gradient: what the reference computes, at an index. -/
module

public import proofs.«01_k».proof.Defs
public import proofs.«01_k».proof.Proof.Gen.ConvIdeal.Value
public import proofs.«01_k».proof.Proof.Gen.ConvRefIdeal.Read
public import Idealize.ShloMosaic.Lib.Pointwise
public import Idealize.ShloMosaic.Lib.Pipeline.ValueKit
public import proofs.«01_k».proof.Proof.Reals
public import proofs.«01_k».proof.Proof.ConvBlock
public import Idealize.ShloMosaic.Lib.Claim
public import Idealize.ShloMosaic.Lib.KernelVsHost
public import Idealize.ShloMosaic.Lib.WordCmp

@[expose] public section

set_option maxRecDepth 16384

noncomputable section

namespace Cert.ConvIdeal.Grad

open Idealize.ShloMosaic Idealize.ShloMosaic.TcCoe Idealize.SL.Sem
open Idealize.ShloMosaic.Pipeline (Dat)
open Cert.ConvIdeal Cert.ConvIdeal.Gen Cert.Reals

variable (m : (ℓ : Loc nD τ sig) → Buf (Elt Ideal) ℓ)

/-! ## What the reference computes -/

section
open Cert.ConvRefIdeal.Read

variable (x0 : FVec Ideal S4096x2832 .f32) (x1 : FVec Ideal S4x1x1536 .f32) (x2 : FVec Ideal S4096x1536 .f32) (x3 : FVec Ideal S4096x3072 .bf16)

/-- Column `q` of the reference's gradient of the pre-activation. -/
def rpre (q : Fin 1536) : Fin 4096 → EReal :=
  dpre (fun r => x0 (ix2 r ⟨q.val, by omega⟩)) (x1 (ix3 0 0 q)) (x1 (ix3 1 0 q)) (x1 (ix3 2 0 q)) (x1 (ix3 3 0 q)) (fun r => x2 (ix2 r q))

/-- The lagged column, read from a column with three zeros before it. -/
theorem lag_shift (f : Fin 4096 → EReal) (k a : ℕ) (r : Fin 4096) (h : a + k = 3) :
    (if h : a + r.val < 3 then 0 else f ⟨a + r.val - 3, by omega⟩) = lag f k r := by
  unfold lag
  by_cases hr : r.val < k
  · rw [dif_pos (by omega), dif_pos hr]
  · rw [dif_neg (by omega), dif_neg hr]
    exact congrArg f (Fin.ext (by show a + r.val - 3 = r.val - k; omega))

/-- The later column, read from a column with zeros on both sides. -/
theorem lead_shift (f : Fin 4096 → EReal) (w : EReal) (k a : ℕ) (r : Fin 4096) (P : Prop) [Decidable P] (hP : P ↔ r.val + k < 4096) (e : P → a = r.val + k) (ha : P → a < 4096) :
    (if h : P then w * f ⟨a, ha h⟩ else 0) = w * lead f k r := by
  unfold lead
  by_cases hp : P
  · rw [dif_pos hp, dif_pos (hP.1 hp)]
    exact congrArg (fun y => w * f y) (Fin.ext (e hp))
  · rw [dif_neg hp, dif_neg (fun h => hp (hP.2 h)), mul_zero]

theorem ref_pre (r : Fin 4096) (q : Fin 1536) :
    val_main_v28 (F := Ideal) x0 x1 (ix2 r q)
      = pre (fun r => x0 (ix2 r ⟨q.val, by omega⟩)) (x1 (ix3 0 0 q)) (x1 (ix3 1 0 q)) (x1 (ix3 2 0 q)) (x1 (ix3 3 0 q)) r := by
  pointwise [val_main_v0,val_main_cst,val_main_v1,val_main_v2,val_main_cst_0,val_main_v3,val_main_v4,val_main_v5,val_main_v6,val_main_v7,val_main_v8,val_main_cst_1,val_main_v9,val_main_v10,val_main_v11,val_main_v12,val_main_v13,val_main_v14,val_main_v15,val_main_v16,val_main_v17,val_main_v18,val_main_v19,val_main_v20,val_main_v21,val_main_v22,val_main_v23,val_main_v24,val_main_v25,val_main_v26,val_main_v27,val_main_v28]
  unfold pre
  rw [← lag_shift (fun r => x0 (ix2 r ⟨q.val, by omega⟩)) 2 1 r rfl, ← lag_shift (fun r => x0 (ix2 r ⟨q.val, by omega⟩)) 1 2 r rfl]
  rfl

theorem ref_dpre (h : ∀ i, IsReal (x2 i)) (r : Fin 4096) (q : Fin 1536) :
    val_main_v30 (F := Ideal) x0 x1 x2 (ix2 r q) = rpre x0 x1 x2 q r := by
  pointwise [val_main_call0_v0,val_main_call0_v1,val_main_call0_cst,val_main_call0_v2,val_main_call0_v3,val_main_call0_cst_0,val_main_call0_v4,val_main_v29_2,val_main_call0_cst_1,val_main_call0_v6,val_main_call0_v7,val_main_v29_1,val_main_v29_0,val_main_call1_v0,val_main_call1_v1,val_main_call1_v2,val_main_v30]
  have hs : Ideal.div 1 (1 + Ideal.exp (-val_main_v28 (F := Ideal) x0 x1 (ix2 r q))) = sigm (val_main_v28 (F := Ideal) x0 x1 (ix2 r q)) := by
    unfold sigm
    rw [zero_sub]
  rw [hs, silu_grad (h _), ref_pre]
  rfl

theorem dcol_comm (g : Fin 4096 → EReal) (a b c e : EReal) (r : Fin 4096) :
    dcol g a b c e r = e * g r + c * lead g 1 r + b * lead g 2 r + a * lead g 3 r := by
  unfold dcol
  abel

theorem ref_lag3 (r : Fin 4096) (q : Fin 1536) :
    val_main_v6 (F := Ideal) x0 (ix2 r q) = lag (fun r => x0 (ix2 r ⟨q.val, by omega⟩)) 3 r := by
  rw [← lag_shift (fun r => x0 (ix2 r ⟨q.val, by omega⟩)) 3 0 r rfl]
  pointwise [val_main_v6, val_main_v3, val_main_cst_0, val_main_v2, val_main_v1, val_main_cst, val_main_v0]

theorem ref_dx (r : Fin 4096) (q : Fin 3072) :
    val_main_v73 (F := Ideal) x0 x1 x2 x3 (ix2 r q)
      = if h : q.val < 1536 then dcol (fun r => val_main_v30 (F := Ideal) x0 x1 x2 (ix2 r ⟨q.val, h⟩)) (x1 (ix3 0 0 ⟨q.val, h⟩)) (x1 (ix3 1 0 ⟨q.val, h⟩)) (x1 (ix3 2 0 ⟨q.val, h⟩)) (x1 (ix3 3 0 ⟨q.val, h⟩)) r
        else x3 (ix2 r q) := by
  pointwise [val_main_v73, val_main_v72, val_main_v71, val_main_v70, val_main_v65, val_main_v64, val_main_cst_12, val_main_v60, val_main_v59, val_main_v54, val_main_cst_9, val_main_v50, val_main_v49, val_main_v44, val_main_cst_6, val_main_v40, val_main_v39, val_main_v36, val_main_cst_3, val_main_v32, val_main_v31, val_main_v63, val_main_v55,val_main_v45,val_main_v26,val_main_v27,val_main_v20,val_main_v21,val_main_v14,val_main_v15,val_main_v7,val_main_v8,val_main_v24,val_main_v23,val_main_v22,val_main_v18,val_main_v17,val_main_v16,val_main_v12,val_main_v11,val_main_v10,val_main_v5,val_main_v4]
  by_cases hq : q.val < 1536
  · refine (dif_pos hq).trans (Eq.trans ?_ (dif_pos hq).symm)
    refine Eq.trans ?_ (dcol_comm ..).symm
    refine congrArg₂ (· + ·) (congrArg₂ (· + ·) (congrArg₂ (· + ·) (dif_pos hq) ?_) ?_) ?_
    · exact lead_shift (fun r => val_main_v30 (F := Ideal) x0 x1 x2 (ix2 r ⟨q.val, hq⟩)) (x1 (ix3 2 0 ⟨q.val, hq⟩)) 1 (3 + r.val - 2) r _ (by omega) (by omega) (by omega)
    · exact lead_shift (fun r => val_main_v30 (F := Ideal) x0 x1 x2 (ix2 r ⟨q.val, hq⟩)) (x1 (ix3 1 0 ⟨q.val, hq⟩)) 2 (3 + r.val - 1) r _ (by omega) (by omega) (by omega)
    · exact lead_shift (fun r => val_main_v30 (F := Ideal) x0 x1 x2 (ix2 r ⟨q.val, hq⟩)) (x1 (ix3 0 0 ⟨q.val, hq⟩)) 3 (3 + r.val) r _ (by omega) (by omega) (by omega)
  · refine (dif_neg hq).trans (Eq.trans ?_ (dif_neg hq).symm)
    blk_ext

theorem ref_dw (j : Fin 4) (q : Fin 1536) :
    val_main_v74 (F := Ideal) x0 x1 x2 (ix2 j q)
      = ∑ r : Fin 4096, val_main_v30 (F := Ideal) x0 x1 x2 (ix2 r q) * lag (fun r => x0 (ix2 r ⟨q.val, by omega⟩)) (3 - j.val) r := by
  pointwise [val_main_v74, val_main_v68, val_main_v67, val_main_cst_13, val_main_v66, val_main_v62, val_main_cst_11, val_main_v61, val_main_v58, val_main_v57, val_main_cst_10, val_main_v56, val_main_v52, val_main_cst_8, val_main_v51, val_main_v48, val_main_v47, val_main_cst_7, val_main_v46, val_main_v42, val_main_cst_5, val_main_v41, val_main_v38, val_main_cst_4, val_main_v37, val_main_v35, val_main_v34, val_main_cst_2, val_main_v33, val_main_v25, val_main_v19, val_main_v13, val_main_v5, val_main_v4, val_main_v3, val_main_cst_0, val_main_v2, val_main_v1, val_main_cst, val_main_v0, val_main_v43, val_main_v53, val_main_v63]
  simp only [ref_lag3, lag_shift _ 1 2 _ rfl, lag_shift _ 2 1 _ rfl]
  fin_cases j
  · simp
  iterate 2
    simp
    refine Finset.sum_congr rfl fun r _ => ?_
    first | rw [← lag_shift (fun r => x0 (ix2 r ⟨q.val, by omega⟩)) 2 1 r rfl] | rw [← lag_shift (fun r => x0 (ix2 r ⟨q.val, by omega⟩)) 1 2 r rfl]
    rw [mul_dite, mul_zero]
  · simp [lag_zero]
end

end Cert.ConvIdeal.Grad
end
-- ==== Proof.ConvArray.lean ====
/- The short convolution's gradient: the two arrays that the kernel leaves are the reference's. -/
module

public import proofs.«01_k».proof.Defs
public import proofs.«01_k».proof.Proof.Gen.ConvIdeal.Value
public import proofs.«01_k».proof.Proof.Gen.ConvRefIdeal.Read
public import Idealize.ShloMosaic.Lib.Pointwise
public import Idealize.ShloMosaic.Lib.Pipeline.ValueKit
public import proofs.«01_k».proof.Proof.Reals
public import proofs.«01_k».proof.Proof.ConvHost
public import Idealize.ShloMosaic.Lib.Claim
public import Idealize.ShloMosaic.Lib.KernelVsHost
public import Idealize.ShloMosaic.Lib.WordCmp

@[expose] public section

set_option maxRecDepth 16384

noncomputable section

namespace Cert.ConvIdeal.Grad

open Idealize.ShloMosaic Idealize.ShloMosaic.TcCoe Idealize.SL.Sem
open Idealize.ShloMosaic.Pipeline (Dat)
open Cert.ConvIdeal Cert.ConvIdeal.Gen Cert.Reals

variable (m : (ℓ : Loc nD τ sig) → Buf (Elt Ideal) ℓ)

/-! ## Blocks of the host's arrays -/

theorem idx : ∀ t : Fin cfg0.N, win0_0.index t = ![0, t.val] ∧ win0_1.index t = ![0, t.val] ∧ win0_2.index t = ![t.val, 0, 0] ∧ win0_3.index t = ![0, t.val] ∧ win0_4.index t = ![0, t.val] :=
  (by decide +kernel : ∀ t : Fin grid0.N, win0_0.index t = ![0, t.val] ∧ win0_1.index t = ![0, t.val] ∧ win0_2.index t = ![t.val, 0, 0] ∧ win0_3.index t = ![0, t.val] ∧ win0_4.index t = ![0, t.val])

/-- The arguments on device `c`. -/
abbrev A0 (c : Dev nD) : FVec Ideal S4096x2832 .f32 := m ((c.tc : Thread nD τ).loc main_arg0)
abbrev A1 (c : Dev nD) : FVec Ideal S4x1x1536 .f32 := m ((c.tc : Thread nD τ).loc main_arg1)
abbrev A2 (c : Dev nD) : FVec Ideal S4096x1536 .f32 := m ((c.tc : Thread nD τ).loc main_arg2)
abbrev A3 (c : Dev nD) : FVec Ideal S4096x3072 .bf16 := m ((c.tc : Thread nD τ).loc main_arg3)

theorem V_main_v6 (c : Dev nD) : V m c main_v6 = concatenate S4096x3072 1 [⟨S4096x2048, extractStridedSlice S4096x2048 ![0, 0] (A0 m c) slices_S4096x2832_S4096x2048_0_0⟩,
    ⟨S4096x768, extractStridedSlice S4096x768 ![0, 2064] (A0 m c) slices_S4096x2832_S4096x768_0_2064⟩, ⟨S4096x16, extractStridedSlice S4096x16 ![0, 2048] (A0 m c) slices_S4096x2832_S4096x16_0_2048⟩,
    ⟨S4096x240, broadcastInDim S4096x240 ![] bcast_S_S4096x240 (constant (F := Ideal) S_ .f32 0x00000000#32)⟩] concatenates_S4096x2048_S4096x768_S4096x16_S4096x240_S4096x3072_d1 := by
  unfold V
  after_results
  rfl

theorem in_x (c : Dev nD) (r : Fin 4096) (q : Fin 1536) : (show FVec Ideal S4096x3072 .f32 from V m c main_v6) (ix2 r ⟨q.val, by omega⟩) = A0 m c (ix2 r ⟨q.val, by omega⟩) := by
  rw [V_main_v6]
  pointwise
  rw [dif_pos (by omega)]

theorem in_w (c : Dev nD) (j : Fin 4) (q : Fin 1536) : (show FVec Ideal S4x1536 .f32 from V m c main_v7) (ix2 j q) = A1 m c (ix3 j 0 q) := by
  dsimp only
  entry_read
  pointwise

theorem in_d (c : Dev nD) (h : Fin 24) (r : Fin 4096) (l : Fin 64) : (show FVec Ideal S24x4096x64 .f32 from V m c main_v1) (ix3 h r l) = A2 m c (ix2 r ⟨h.val * 64 + l.val, by omega⟩) := by
  dsimp only
  entry_read
  pointwise

/-- The column of the whole array at which a block's column stands. -/
def col (t : Fin cfg0.N) (l : Fin 128) : Fin 1536 := ⟨t.val * 128 + l.val, by have : t.val < 12 := t.isLt; omega⟩

theorem blk_x (c : Dev nD) (t : Fin cfg0.N) (r : Fin 4096) (l : Fin 128) :
    X m c t (ix2 r l) = A0 m c (ix2 r ⟨(col t l).val, by omega⟩) := by
  rw [← in_x]
  unfold col
  blk_ext [X, W, D, iblk, idx t]

theorem blk_w (c : Dev nD) (t : Fin cfg0.N) (j : Fin 4) (l : Fin 128) :
    W m c t (ix2 j l) = A1 m c (ix3 j 0 (col t l)) := by
  rw [← in_w]
  unfold col
  blk_ext [X, W, D, iblk, idx t]

theorem blk_d (c : Dev nD) (t : Fin cfg0.N) (l : Fin 128) :
    dcols (D m c t) l = fun r => A2 m c (ix2 r (col t l)) := by
  have ht : t.val < 12 := t.isLt
  funext r
  have h := in_d m c ⟨t.val * 2 + l.val / 64, by omega⟩ r ⟨l.val % 64, by omega⟩
  refine Eq.trans ?_ (h.trans ?_)
  · unfold dcols
    blk_ext [X, W, D, iblk, idx t]
  · unfold col
    blk_ext

/-- A block's column of the gradient of the pre-activation is the reference's. -/
theorem blk_pre (c : Dev nD) (t : Fin cfg0.N) (l : Fin 128) :
    bpre (X m c t) (W m c t) (D m c t) l = rpre (A0 m c) (A1 m c) (A2 m c) (col t l) := by
  unfold bpre rpre
  rw [blk_d, blk_w, blk_w, blk_w, blk_w]
  exact congrArg (fun f => dpre f _ _ _ _ _) (funext fun r => blk_x m c t r l)

/-! ## The two results -/

/-- The gradient of the convolution's input, beside the columns that the call leaves. -/
def DX (c : Dev nD) : FVec Ideal S4096x3072 .bf16 := fun i => Cert.ConvRefIdeal.Read.val_main_v73 (F := Ideal) (A0 m c) (A1 m c) (A2 m c) (A3 m c) i

/-- The gradient of the taps. -/
def DW (c : Dev nD) : FVec Ideal S4x1536 .f32 := fun i => Cert.ConvRefIdeal.Read.val_main_v74 (F := Ideal) (A0 m c) (A1 m c) (A2 m c) i

theorem final4 (c : Dev nD) (hd : ∀ i, IsReal (A2 m c i)) : (dats m 0 c).arrAt 4 cfg0.N = DW m c := by
  refine (dats m 0 c).arrAt_eq_of_covers 4 _ (by decide +kernel) fun t hf y => ?_
  have hy : ∃ j l, y = ix2 (n0 := 4) (n1 := 128) j l := ⟨y 0, y 1, by funext b; match b with | ⟨0, _⟩ => rfl | ⟨1, _⟩ => rfl⟩
  obtain ⟨j, l, rfl⟩ := hy
  blk_simp
  rw [after0_4]
  refine (point4 m c t j l).trans ?_
  rw [blk_pre]
  unfold DW
  refine Eq.trans ?_ ((congrArg _ (show _ = ix2 j (col t l) by unfold col; blk_ext [idx t])).trans (ref_dw (A0 m c) (A1 m c) (A2 m c) j (col t l))).symm
  refine Finset.sum_congr rfl fun r _ => ?_
  rw [ref_dpre _ _ _ hd]
  exact congrArg (fun f => _ * lag f _ _) (funext fun r => blk_x m c t r l)

theorem final3 (c : Dev nD) (hd : ∀ i, IsReal (A2 m c i)) : (dats m 0 c).arrAt 3 cfg0.N = DX m c := by
  refine (dats m 0 c).arrAt_eq_of_coversWhere_of_agree 3 (DX m c) (fun β => β 1 < 12) (by decide +kernel) (fun t hf y => ?_) (fun j hj => ?_)
  · have hy : ∃ j l, y = ix2 (n0 := 4096) (n1 := 128) j l := ⟨y 0, y 1, by funext b; match b with | ⟨0, _⟩ => rfl | ⟨1, _⟩ => rfl⟩
    obtain ⟨j, l, rfl⟩ := hy
    blk_simp
    rw [after0_3]
    refine (point3 m c t j l).trans ?_
    rw [blk_pre, blk_w, blk_w, blk_w, blk_w]
    unfold DX
    have hq : ((⟨(col t l).val, by omega⟩ : Fin 3072)).val < 1536 := (col t l).isLt
    refine Eq.trans ?_ ((congrArg _ (show _ = ix2 j ⟨(col t l).val, by omega⟩ by unfold col; blk_ext [idx t])).trans
      ((ref_dx (A0 m c) (A1 m c) (A2 m c) (A3 m c) j ⟨(col t l).val, by omega⟩).trans (dif_pos hq))).symm
    exact congrArg (fun g => dcol g _ _ _ _ j) (funext fun r => (ref_dpre _ _ _ hd r (col t l)).symm)
  · have hj' := hj
    blk_simp [Pipeline.Window.cell_apply] at hj'
    have hi : ∃ r q, j = ix2 (n0 := 4096) (n1 := 3072) r q := ⟨j 0, j 1, by funext b; match b with | ⟨0, _⟩ => rfl | ⟨1, _⟩ => rfl⟩
    obtain ⟨r, q, rfl⟩ := hi
    have hq : ¬ q.val < 1536 := by
      have h : ¬ q.val / 128 < 12 := hj'
      omega
    unfold DX
    refine Eq.trans ?_ ((ref_dx (A0 m c) (A1 m c) (A2 m c) (A3 m c) r q).trans (dif_neg hq)).symm
    rw [A_eq]
    show V m c main_v8_0 (ix2 r q) = _
    unfold V
    after_results
    rfl

end Cert.ConvIdeal.Grad
end
-- ==== Proof.ConvClaims.lean ====
/- The claims about the short convolution's gradient. -/
module

public import proofs.«01_k».proof.Defs
public import proofs.«01_k».proof.Proof.ConvArray
public import proofs.«01_k».proof.Proof.Gen.Pre_conv_finite
public import proofs.«01_k».proof.Proof.Gen.Conv.Frame
public import proofs.«01_k».proof.Proof.Gen.ConvRefIdeal.Run
public import Idealize.ShloMosaic.Adequacy

@[expose] public section

noncomputable section

namespace Cert.Proof.ConvClaims

open Idealize.ShloMosaic Idealize.ShloMosaic.TcCoe Idealize.SL.Sem

/-- The precondition says that every entry of the cotangent is a real number. -/
theorem real_of_pre (m : (ℓ : Loc Cert.ConvIdeal.nD Cert.ConvIdeal.τ Cert.ConvIdeal.sig) → Buf (Elt Ideal) ℓ)
    (h : Cert.Pre_ConvIdeal_conv_finite m) (c : Dev Cert.ConvIdeal.nD) (i) : Cert.Reals.IsReal (Cert.ConvIdeal.Grad.A2 m c i) :=
  Cert.Reals.IsReal.of_cmp (congrFun (h c) i)

/-- The reference leaves its arguments as they were; it has no semaphore. -/
theorem frame_ref : Cert.quiescent_ConvRefIdeal := fun m ρ _ =>
  (θ_run Cert.ConvRefIdeal.defs _ _).mono (fun r h => ⟨fun c => (h c).2.2, sem_eq_zero_of_no_sems (by decide) r.2⟩) (Cert.ConvRefIdeal.Value.run m ρ)

/-- The kernel and the derivative of the convolution leave the same arrays, where the cotangent is finite. -/
theorem algebraic : Cert.algebraic_ConvIdeal_ConvRefIdeal_pre_conv_finite := by
  pair_intro
  · run_from Cert.ConvIdeal.Value.run_blocks m g
  · run_from Cert.ConvRefIdeal.Value.run m' g'
    · rw [Cert.ConvIdeal.Grad.final3 m c (real_of_pre m hpre c), Cert.ConvRefIdeal.Read.val_main_v73_eq]
      unfold Cert.ConvIdeal.Grad.DX Cert.ConvIdeal.Grad.A0 Cert.ConvIdeal.Grad.A1 Cert.ConvIdeal.Grad.A2 Cert.ConvIdeal.Grad.A3
      rw [← (hagree c).1, ← (hagree c).2.1, ← (hagree c).2.2.1, ← (hagree c).2.2.2]
    · rw [Cert.ConvIdeal.Grad.final4 m c (real_of_pre m hpre c), Cert.ConvRefIdeal.Read.val_main_v74_eq]
      unfold Cert.ConvIdeal.Grad.DW Cert.ConvIdeal.Grad.A0 Cert.ConvIdeal.Grad.A1 Cert.ConvIdeal.Grad.A2
      rw [← (hagree c).1, ← (hagree c).2.1, ← (hagree c).2.2.1]

end Cert.Proof.ConvClaims

end
-- ==== Proof.ActBlock.lean ====
/- The feed-forward gate's gradient: what one point of the grid leaves. -/
module

public import proofs.«01_k».proof.Defs
public import proofs.«01_k».proof.Proof.Gen.ActIdeal.Frame
public import proofs.«01_k».proof.Proof.Reals
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ActIdeal.Grad

open Idealize.ShloMosaic Idealize.ShloMosaic.TcCoe Idealize.SL.Sem
open Idealize.ShloMosaic.Pipeline (Dat)
open Cert.ActIdeal Cert.ActIdeal.Gen Cert.Reals

variable (m : (ℓ : Loc nD τ sig) → Buf (Elt Ideal) ℓ)

/-! ## One point -/

/-- A load from a slot that a block filled reads that block. -/
theorem slot_read {sp : Space} (v : View sig .tc sp S2048x512 .f32) (Z : S2048x512.Idx → Elt Ideal .f32) (r : Rect S2048x512) :
    v.readCov (Val := Elt Ideal) [⟨Rect.whole S2048x512, Z⟩] r.toLoadRect = View.ld Z r := by
  rw [View.readCov_eq_canon']
  have h : View.canon (Val := Elt Ideal) [⟨Rect.whole S2048x512, Z⟩] = Z := by
    funext y
    have h := View.canon_cons_emb (Val := Elt Ideal) (Rect.whole S2048x512) Z [] y
    rw [Rect.emb_whole_apply] at h
    exact h
  rw [h]

/-- The block of the streamed operand that point `b` waits for. -/
theorem src_read (W : FVec Ideal S4096x5632 .f32) (b : Fin 22) (r : Fin 2048) (q : Fin 512) :
    View.read (Elt Ideal) (srcB0_0 b).view W (ix2 r q) = W (ix2 ⟨2048 * (b.val / 11) + r.val, by omega⟩ ⟨512 * (b.val % 11) + q.val, by omega⟩) := by
  show W _ = W _
  unfold srcB0_0
  blk_ext
  · show 2048 * (b.val / 11) + 1 * r.val = _
    omega
  · show 512 * (b.val % 11) + 1 * q.val = _
    omega

theorem pay1_lo (d a b : FVec Ideal S2048x256 .f32) (r : Fin 2048) (l : Fin 256) : k0_pay1 d a b (ix2 r ⟨l.val, by omega⟩) =
    d (ix2 r l) * b (ix2 r l) * (sigm (a (ix2 r l)) * (1 + a (ix2 r l) * (1 - sigm (a (ix2 r l))))) := by
  unfold sigm
  pointwise [k0_pay1]

theorem pay1_hi (d a b : FVec Ideal S2048x256 .f32) (r : Fin 2048) (l : Fin 256) : k0_pay1 d a b (ix2 r ⟨256 + l.val, by omega⟩) =
    d (ix2 r l) * (a (ix2 r l) * sigm (a (ix2 r l))) := by
  unfold sigm
  pointwise [k0_pay1]

theorem pay2_at (x : FVec Ideal S2048x1024 .bf16) (w : FVec Ideal S256x1024 .bf16) (r : Fin 2048) (l : Fin 256) :
    k0_pay2 (F := Ideal) x w (ix2 r l) = ∑ k : Fin 1024, x (ix2 r k) * w (ix2 l k) := by
  pointwise [k0_pay2]

abbrev X (c : Dev nD) (t : Fin cfg0.N) : FVec Ideal S2048x1024 .bf16 := iblk m c 0 t
abbrev W (c : Dev nD) (t : Fin cfg0.N) : FVec Ideal S256x1024 .bf16 := iblk m c 1 t
abbrev AB (c : Dev nD) : FVec Ideal S4096x5632 .f32 := V m c main_v9

/-- The row and the column of the streamed operand at which a block's element stands. -/
def row (t : Fin cfg0.N) (r : Fin 2048) : Fin 4096 := ⟨2048 * (t.val / 11) + r.val, by have : t.val < 22 := lt_of_lt_of_eq t.isLt (show cfg0.N = 22 from N_0); omega⟩
def lane (t : Fin cfg0.N) (q : Fin 512) : Fin 5632 := ⟨512 * (t.val % 11) + q.val, by omega⟩

/-- The streamed block that a point reads. -/
abbrev S (c : Dev nD) (t : Fin cfg0.N) : S2048x512.Idx → Elt Ideal .f32 := View.read (Elt Ideal) (srcB0_0 (Ring.bk 22 t.val)).view (V m c main_v9)

theorem S_at (c : Dev nD) (t : Fin cfg0.N) (r : Fin 2048) (q : Fin 512) : S m c t (ix2 r q) = AB m c (ix2 (row t r) (lane t q)) := by
  have hN : t.val < 22 := lt_of_lt_of_eq t.isLt (show cfg0.N = 22 from N_0)
  have hb : (Ring.bk 22 t.val : Fin 22) = ⟨t.val, hN⟩ := Fin.ext (Ring.bk_val hN)
  unfold S
  rw [hb]
  exact src_read _ _ _ _

/-- What a point leaves, over the blocks that it reads. -/
theorem point (c : Dev nD) (t : Fin cfg0.N) :
    outsAt0 m c t.val t.isLt = k0_pay1 (F := Ideal) (k0_pay2 (F := Ideal) (X m c t) (W m c t))
      (View.ld (S m c t) (Rect.unit ![0, 0] ![2048, 256] inb_S2048x512_S2048x256_0_0))
      (View.ld (S m c t) (Rect.unit ![0, 256] ![2048, 256] inb_S2048x512_S2048x256_0_256)) := by
  have hN : t.val < 22 := lt_of_lt_of_eq t.isLt (show cfg0.N = 22 from N_0)
  by_cases h0 : t.val % 22 = 0
  · rw [outsAt0_A m c t h0 (by omega)]
    frame_out
    rw [slot_read, slot_read]
  · by_cases h1 : t.val < 20
    · rw [outsAt0_B m c t h0 h1]
      frame_out
      rw [slot_read, slot_read]
    · rw [outsAt0_C m c t h0 h1]
      frame_out
      rw [slot_read, slot_read]

theorem ld_lo (Z : S2048x512.Idx → Elt Ideal .f32) (r : Fin 2048) (l : Fin 256) :
    View.ld Z (Rect.unit ![0, 0] ![2048, 256] inb_S2048x512_S2048x256_0_0) (ix2 r l) = Z (ix2 r ⟨l.val, by omega⟩) := by
  pointwise

theorem ld_hi (Z : S2048x512.Idx → Elt Ideal .f32) (r : Fin 2048) (l : Fin 256) :
    View.ld Z (Rect.unit ![0, 256] ![2048, 256] inb_S2048x512_S2048x256_0_256) (ix2 r l) = Z (ix2 r ⟨256 + l.val, by omega⟩) := by
  pointwise

/-- The product that a point computes. -/
def dact (c : Dev nD) (t : Fin cfg0.N) (r : Fin 2048) (l : Fin 256) : EReal := ∑ k : Fin 1024, X m c t (ix2 r k) * W m c t (ix2 l k)

theorem point_lo (c : Dev nD) (t : Fin cfg0.N) (r : Fin 2048) (l : Fin 256) (a b : EReal)
    (ha : AB m c (ix2 (row t r) (lane t ⟨l.val, by omega⟩)) = a) (hb : AB m c (ix2 (row t r) (lane t ⟨256 + l.val, by omega⟩)) = b) :
    outsAt0 m c t.val t.isLt (ix2 r ⟨l.val, by omega⟩) = dact m c t r l * b * (sigm a * (1 + a * (1 - sigm a))) := by
  rw [point, pay1_lo, pay2_at, ld_lo, ld_hi, S_at, S_at, ha, hb]
  rfl

theorem point_hi (c : Dev nD) (t : Fin cfg0.N) (r : Fin 2048) (l : Fin 256) (a : EReal)
    (ha : AB m c (ix2 (row t r) (lane t ⟨l.val, by omega⟩)) = a) :
    outsAt0 m c t.val t.isLt (ix2 r ⟨256 + l.val, by omega⟩) = dact m c t r l * (a * sigm a) := by
  rw [point, pay1_hi, pay2_at, ld_lo, S_at, ha]
  rfl

end Cert.ActIdeal.Grad
end
-- ==== Proof.ActArray.lean ====
/- The feed-forward gate's gradient: the array that the kernel leaves. -/
module

public import proofs.«01_k».proof.Defs
public import proofs.«01_k».proof.Proof.Gen.ActIdeal.Frame
public import proofs.«01_k».proof.Proof.ActBlock
public import proofs.«01_k».proof.Proof.Reals
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ActIdeal.Grad

open Idealize.ShloMosaic Idealize.ShloMosaic.TcCoe Idealize.SL.Sem
open Idealize.ShloMosaic.Pipeline (Dat)
open Cert.ActIdeal Cert.ActIdeal.Gen Cert.Reals

variable (m : (ℓ : Loc nD τ sig) → Buf (Elt Ideal) ℓ)

/-! ## The arguments and the host's lines -/

abbrev A0 (c : Dev nD) : FVec Ideal S4096x1024 .bf16 := m ((c.tc : Thread nD τ).loc main_arg0)
abbrev A1 (c : Dev nD) : FVec Ideal S1024x2816 .bf16 := m ((c.tc : Thread nD τ).loc main_arg1)
abbrev A2 (c : Dev nD) : FVec Ideal S1024x2816 .bf16 := m ((c.tc : Thread nD τ).loc main_arg2)
abbrev A3 (c : Dev nD) : FVec Ideal S2816x1024 .bf16 := m ((c.tc : Thread nD τ).loc main_arg3)
abbrev A4 (c : Dev nD) : FVec Ideal S4096x1024 .bf16 := m ((c.tc : Thread nD τ).loc main_arg4)

/-- The gate's and the multiplier's pre-activation. -/
def up (h : FVec Ideal S4096x1024 .bf16) (w : FVec Ideal S1024x2816 .bf16) (i : Fin 4096) (n : Fin 2816) : EReal := ∑ k : Fin 1024, h (ix2 i k) * w (ix2 k n)

/-- The gradient of the activation. -/
def down (w : FVec Ideal S2816x1024 .bf16) (d : FVec Ideal S4096x1024 .bf16) (i : Fin 4096) (n : Fin 2816) : EReal := ∑ k : Fin 1024, d (ix2 i k) * w (ix2 n k)

theorem V_ab (c : Dev nD) : AB m c = shapeCast S4096x5632 (concatenate S4096x11x2x256 2
    [⟨S4096x11x1x256, shapeCast S4096x11x1x256 (Host.dotGeneral dot_S4096x1024_S1024x2816_S4096x2816_1_0_0_1_n_n none (extf .f32 (A0 m c) bitsLt_bf16_f32) (extf .f32 (A1 m c) bitsLt_bf16_f32) : FVec Ideal S4096x2816 .f32) shapeCasts_S4096x2816_S4096x11x1x256⟩,
     ⟨S4096x11x1x256, shapeCast S4096x11x1x256 (Host.dotGeneral dot_S4096x1024_S1024x2816_S4096x2816_1_0_0_1_n_n none (extf .f32 (A0 m c) bitsLt_bf16_f32) (extf .f32 (A2 m c) bitsLt_bf16_f32) : FVec Ideal S4096x2816 .f32) shapeCasts_S4096x2816_S4096x11x1x256⟩]
    concatenates_S4096x11x1x256_S4096x11x1x256_S4096x11x2x256_d2) shapeCasts_S4096x11x2x256_S4096x5632 := by
  unfold AB V V0
  simp only [List.flatten_cons, List.flatten_nil, List.append_nil]
  after_results
  rfl

theorem ab_lo (c : Dev nD) (i : Fin 4096) (j : Fin 11) (l : Fin 256) :
    AB m c (ix2 i ⟨512 * j.val + l.val, by omega⟩) = up (A0 m c) (A1 m c) i ⟨256 * j.val + l.val, by omega⟩ := by
  unfold up
  rw [V_ab]
  pointwise
  refine (dif_pos (by omega)).trans ?_
  simp only [Nat.mul_comm j.val 256]

theorem ab_hi (c : Dev nD) (i : Fin 4096) (j : Fin 11) (l : Fin 256) :
    AB m c (ix2 i ⟨512 * j.val + (256 + l.val), by omega⟩) = up (A0 m c) (A2 m c) i ⟨256 * j.val + l.val, by omega⟩ := by
  unfold up
  rw [V_ab]
  pointwise
  refine (dif_neg (by omega)).trans ?_
  simp only [Nat.mul_comm j.val 256]

theorem idx : ∀ t : Fin cfg0.N, win0_0.index t = ![t.val / 11, 0] ∧ win0_1.index t = ![t.val % 11, 0] ∧ win0_2.index t = ![t.val / 11, t.val % 11] :=
  (by decide +kernel : ∀ t : Fin grid0.N, win0_0.index t = ![t.val / 11, 0] ∧ win0_1.index t = ![t.val % 11, 0] ∧ win0_2.index t = ![t.val / 11, t.val % 11])

theorem in_x (c : Dev nD) (i : Fin 4096) (k : Fin 1024) : (show FVec Ideal S4096x1024 .bf16 from V m c main_arg4) (ix2 i k) = A4 m c (ix2 i k) := by
  dsimp only
  rw [V_main_arg4]

theorem in_w (c : Dev nD) (n : Fin 2816) (k : Fin 1024) : (show FVec Ideal S2816x1024 .bf16 from V m c main_arg3) (ix2 n k) = A3 m c (ix2 n k) := by
  dsimp only
  rw [V_main_arg3]

theorem blk_x (c : Dev nD) (t : Fin cfg0.N) (r : Fin 2048) (k : Fin 1024) : X m c t (ix2 r k) = A4 m c (ix2 (row t r) k) := by
  rw [← in_x]
  unfold row
  blk_ext [X, iblk, idx t]

theorem blk_w (c : Dev nD) (t : Fin cfg0.N) (l : Fin 256) (k : Fin 1024) : W m c t (ix2 l k) = A3 m c (ix2 ⟨256 * (t.val % 11) + l.val, by omega⟩ k) := by
  rw [← in_w]
  blk_ext [W, iblk, idx t]

theorem dact_eq (c : Dev nD) (t : Fin cfg0.N) (r : Fin 2048) (l : Fin 256) :
    dact m c t r l = down (A3 m c) (A4 m c) (row t r) ⟨256 * (t.val % 11) + l.val, by omega⟩ :=
  Finset.sum_congr rfl fun k _ => by rw [blk_x, blk_w]

/-! ## The array that the kernel leaves -/

/-- The gradient of the gate's pre-activation, in the kernel's form, and of the multiplier. -/
def gate (c : Dev nD) (i : Fin 4096) (n : Fin 2816) : EReal :=
  down (A3 m c) (A4 m c) i n * up (A0 m c) (A2 m c) i n * (sigm (up (A0 m c) (A1 m c) i n) * (1 + up (A0 m c) (A1 m c) i n * (1 - sigm (up (A0 m c) (A1 m c) i n))))
def mult (c : Dev nD) (i : Fin 4096) (n : Fin 2816) : EReal :=
  down (A3 m c) (A4 m c) i n * (up (A0 m c) (A1 m c) i n * sigm (up (A0 m c) (A1 m c) i n))

/-- Both, interleaved in blocks of 256 columns. -/
def OUT (c : Dev nD) : FVec Ideal S4096x5632 .bf16 := fun y =>
  if (y 1).val % 512 < 256 then gate m c (y 0) ⟨256 * ((y 1).val / 512) + (y 1).val % 256, by have : (y 1).val < 5632 := (y 1).isLt; omega⟩
  else mult m c (y 0) ⟨256 * ((y 1).val / 512) + (y 1).val % 256, by have : (y 1).val < 5632 := (y 1).isLt; omega⟩

theorem out_lo (c : Dev nD) (i : Fin 4096) (j : Fin 11) (l : Fin 256) (q : Fin 5632) (h : q.val = 512 * j.val + l.val) : OUT m c (ix2 i q) = gate m c i ⟨256 * j.val + l.val, by omega⟩ := by
  unfold OUT
  have hq : ((ix2 i q : S4096x5632.Idx) 1).val = q.val := rfl
  rw [if_pos (by omega)]
  exact congrArg₂ (gate m c) rfl (Fin.ext (by show 256 * (q.val / 512) + q.val % 256 = 256 * j.val + l.val; omega))

theorem out_hi (c : Dev nD) (i : Fin 4096) (j : Fin 11) (l : Fin 256) (q : Fin 5632) (h : q.val = 512 * j.val + (256 + l.val)) : OUT m c (ix2 i q) = mult m c i ⟨256 * j.val + l.val, by omega⟩ := by
  unfold OUT
  have hq : ((ix2 i q : S4096x5632.Idx) 1).val = q.val := rfl
  rw [if_neg (by omega)]
  exact congrArg₂ (mult m c) rfl (Fin.ext (by show 256 * (q.val / 512) + q.val % 256 = 256 * j.val + l.val; omega))

theorem final (c : Dev nD) : (dats m 0 c).arrAt 2 cfg0.N = OUT m c := by
  refine (dats m 0 c).arrAt_eq_of_covers 2 _ (by decide +kernel) fun t hf y => ?_
  have hN : t.val < 22 := lt_of_lt_of_eq t.isLt (show cfg0.N = 22 from N_0)
  have hy : ∃ j l, y = ix2 (n0 := 2048) (n1 := 512) j l := ⟨y 0, y 1, by funext b; match b with | ⟨0, _⟩ => rfl | ⟨1, _⟩ => rfl⟩
  obtain ⟨r, q, rfl⟩ := hy
  blk_simp
  rw [after0_2]
  have hj : t.val % 11 < 11 := Nat.mod_lt _ (by decide)
  have hout : OUT m c (((cfg0.win 2).blk t).view.emb (ix2 r q)) = OUT m c (ix2 (row t r) (lane t q)) :=
    congrArg _ (by unfold row lane; blk_ext [idx t])
  by_cases hq : q.val < 256
  · refine (point_lo m c t r ⟨q.val, hq⟩ _ _ (ab_lo m c (row t r) ⟨t.val % 11, hj⟩ ⟨q.val, hq⟩) (ab_hi m c (row t r) ⟨t.val % 11, hj⟩ ⟨q.val, hq⟩)).trans ?_
    rw [dact_eq]
    exact ((out_lo m c (row t r) ⟨t.val % 11, hj⟩ ⟨q.val, hq⟩ (lane t q) rfl).symm.trans hout.symm)
  · have hl : q.val - 256 < 256 := by omega
    have hqe : q = ⟨256 + (q.val - 256), by omega⟩ := Fin.ext (by show q.val = 256 + (q.val - 256); omega)
    have e := point_hi m c t r ⟨q.val - 256, hl⟩ _ (ab_lo m c (row t r) ⟨t.val % 11, hj⟩ ⟨q.val - 256, hl⟩)
    rw [dact_eq] at e
    refine Eq.trans ?_ (e.trans ((out_hi m c (row t r) ⟨t.val % 11, hj⟩ ⟨q.val - 256, hl⟩ (lane t q) (by show 512 * (t.val % 11) + q.val = 512 * (t.val % 11) + (256 + (q.val - 256)); omega)).symm.trans hout.symm))
    exact congrArg (fun z => outsAt0 m c t.val t.isLt (ix2 r z)) hqe

theorem at_exit (c : Dev nD) : Pipeline.withArrays (cfgs 0).spec c (V0 m c) (fun w => (dats m 0 c).arrAt w (cfgs 0).N) (Proc.tc.devRef main_v10) = OUT m c :=
  (Pipeline.withArrays_arr spec0 (by decide) c (V0 m c) (fun w => (dats m 0 c).arrAt w (cfgs 0).N) 2).trans (final m c)

theorem tail14 (c : Dev nD) : Pipeline.afterTail₀ cfgs (dats m) 0 (V0 m) [hostOps1] c main_v14 =
    shapeCast S4096x2816 (shapeCast S4096x11x256 (extractStridedSlice S4096x11x1x256 ![0, 0, 0, 0] (shapeCast S4096x11x2x256 (OUT m c) shapeCasts_S4096x5632_S4096x11x2x256) slices_S4096x11x2x256_S4096x11x1x256_0_0_0_0) shapeCasts_S4096x11x1x256_S4096x11x256) shapeCasts_S4096x11x256_S4096x2816 := by
  unfold Pipeline.afterTail₀
  simp only [List.flatten_cons, List.flatten_nil, List.append_nil]
  after_results
  rw [at_exit]
  rfl

theorem tail17 (c : Dev nD) : Pipeline.afterTail₀ cfgs (dats m) 0 (V0 m) [hostOps1] c main_v17 =
    shapeCast S4096x2816 (shapeCast S4096x11x256 (extractStridedSlice S4096x11x1x256 ![0, 0, 1, 0] (shapeCast S4096x11x2x256 (OUT m c) shapeCasts_S4096x5632_S4096x11x2x256) slices_S4096x11x2x256_S4096x11x1x256_0_0_1_0) shapeCasts_S4096x11x1x256_S4096x11x256) shapeCasts_S4096x11x256_S4096x2816 := by
  unfold Pipeline.afterTail₀
  simp only [List.flatten_cons, List.flatten_nil, List.append_nil]
  after_results
  rw [at_exit]
  rfl

/-- The first result: the gradient of the gate's pre-activation. -/
theorem res_gate (c : Dev nD) (i : Fin 4096) (n : Fin 2816) : (show FVec Ideal S4096x2816 .bf16 from Pipeline.afterTail₀ cfgs (dats m) 0 (V0 m) [hostOps1] c main_v14) (ix2 i n) = gate m c i n := by
  rw [tail14]
  obtain ⟨n, hn⟩ := n
  have e := out_lo m c i ⟨n / 256, by omega⟩ ⟨n % 256, by omega⟩ ⟨512 * (n / 256) + n % 256, by omega⟩ rfl
  have h : 256 * (n / 256) + n % 256 = n := by omega
  simp only [h] at e
  rw [← e]
  dsimp only
  pointwise
  simp only [Nat.mul_comm]

/-- The second: the gradient of the multiplier. -/
theorem res_mult (c : Dev nD) (i : Fin 4096) (n : Fin 2816) : (show FVec Ideal S4096x2816 .bf16 from Pipeline.afterTail₀ cfgs (dats m) 0 (V0 m) [hostOps1] c main_v17) (ix2 i n) = mult m c i n := by
  rw [tail17]
  obtain ⟨n, hn⟩ := n
  have e := out_hi m c i ⟨n / 256, by omega⟩ ⟨n % 256, by omega⟩ ⟨512 * (n / 256) + (256 + n % 256), by omega⟩ rfl
  have h : 256 * (n / 256) + n % 256 = n := by omega
  simp only [h] at e
  rw [← e]
  dsimp only
  pointwise
  simp only [Nat.mul_comm (n / 256) 512, Nat.add_assoc]

end Cert.ActIdeal.Grad
end
-- ==== Proof.ActClaims.lean ====
/- The claims about the feed-forward gate's gradient. -/
module

public import proofs.«01_k».proof.Defs
public import proofs.«01_k».proof.Proof.ActArray
public import proofs.«01_k».proof.Proof.Gen.Pre_act_finite
public import proofs.«01_k».proof.Proof.Gen.Act.Frame
public import proofs.«01_k».proof.Proof.Gen.ActRefIdeal.Read
public import Idealize.ShloMosaic.Adequacy
public import Idealize.ShloMosaic.Lib.KernelVsHost

@[expose] public section

noncomputable section

namespace Cert.Proof.ActClaims

open Idealize.ShloMosaic Idealize.ShloMosaic.TcCoe Idealize.SL.Sem
open Cert.ActIdeal Cert.ActIdeal.Grad Cert.Reals

/-- The precondition says that every entry of the four arguments is a real number. -/
theorem real_of_pre (m : (ℓ : Loc nD τ sig) → Buf (Elt Ideal) ℓ) (h : Cert.Pre_ActIdeal_act_finite m) (c : Dev nD) :
    (∀ i, IsReal (A0 m c i)) ∧ (∀ i, IsReal (A2 m c i)) ∧ (∀ i, IsReal (A3 m c i)) ∧ (∀ i, IsReal (A4 m c i)) :=
  ⟨fun i => IsReal.of_cmp (congrFun (h c).1 i), fun i => IsReal.of_cmp (congrFun (h c).2.1 i),
    fun i => IsReal.of_cmp (congrFun (h c).2.2.1 i), fun i => IsReal.of_cmp (congrFun (h c).2.2.2 i)⟩

/-- The reference leaves its arguments as they were; it has no semaphore. -/
theorem frame_ref : Cert.quiescent_ActRefIdeal := fun m ρ _ =>
  (θ_run Cert.ActRefIdeal.defs _ _).mono (fun r h => ⟨fun c => (h c).2.2, sem_eq_zero_of_no_sems (by decide) r.2⟩) (Cert.ActRefIdeal.Value.run m ρ)

section
open Cert.ActRefIdeal.Read

variable (x0 : FVec Ideal S4096x1024 .bf16) (x1 x2 : FVec Ideal S1024x2816 .bf16) (x3 : FVec Ideal S2816x1024 .bf16) (x4 : FVec Ideal S4096x1024 .bf16)

/-- The reference's gradient of the gate's pre-activation, at an index. -/
theorem ref_gate (i : Fin 4096) (n : Fin 2816) : val_main_v14 (F := Ideal) x0 x1 x2 x3 x4 (ix2 i n) =
    down x3 x4 i n * up x0 x2 i n * sigm (up x0 x1 i n) + up x0 x1 i n * (down x3 x4 i n * up x0 x2 i n) * (sigm (up x0 x1 i n) * (1 - sigm (up x0 x1 i n))) := by
  unfold down up sigm
  simp only [zero_sub]
  pointwise [val_main_v14, val_main_v13, val_main_call1_v2, val_main_call1_v1, val_main_call1_v0, val_main_v12, val_main_v5_1, val_main_call0_v7, val_main_call0_v6, val_main_call0_cst_1,
    val_main_v5_2, val_main_call0_v4, val_main_call0_cst_0, val_main_call0_v3, val_main_call0_v2, val_main_call0_cst, val_main_call0_v1, val_main_call0_v0,
    val_main_v10, val_main_v9, val_main_v7, val_main_v4, val_main_v3, val_main_v2, val_main_v1, val_main_v0]

/-- The reference's gradient of the multiplier, at an index. -/
theorem ref_mult (i : Fin 4096) (n : Fin 2816) : val_main_v15 (F := Ideal) x0 x1 x3 x4 (ix2 i n) =
    up x0 x1 i n * sigm (up x0 x1 i n) * down x3 x4 i n := by
  unfold down up sigm
  simp only [zero_sub]
  pointwise [val_main_v15, val_main_v11, val_main_v5_0, val_main_v5_2, val_main_call0_v4, val_main_call0_cst_0, val_main_call0_v3, val_main_call0_v2, val_main_call0_cst, val_main_call0_v1, val_main_call0_v0,
    val_main_v10, val_main_v9, val_main_v7, val_main_v2, val_main_v1, val_main_v0]

end

variable (m : (ℓ : Loc nD τ sig) → Buf (Elt Ideal) ℓ)

theorem eq_gate (c : Dev nD) (h : Cert.Pre_ActIdeal_act_finite m) :
    Cert.ActRefIdeal.Read.val_main_v14 (F := Ideal) (A0 m c) (A1 m c) (A2 m c) (A3 m c) (A4 m c) = Pipeline.afterTail₀ cfgs (Gen.dats m) 0 (Gen.V0 m) [Gen.hostOps1] c main_v14 := by
  obtain ⟨h0, h2, h3, h4⟩ := real_of_pre m h c
  funext y
  have hy : ∃ i n, y = ix2 (n0 := 4096) (n1 := 2816) i n := ⟨y 0, y 1, by funext b; match b with | ⟨0, _⟩ => rfl | ⟨1, _⟩ => rfl⟩
  obtain ⟨i, n, rfl⟩ := hy
  refine Eq.trans ?_ (res_gate m c i n).symm
  refine (ref_gate _ _ _ _ _ i n).trans ?_
  unfold gate
  exact silu_grad (IsReal.mul (IsReal.sum _ _ fun k _ => (h4 _).mul (h3 _)) (IsReal.sum _ _ fun k _ => (h0 _).mul (h2 _))) _

theorem eq_mult (c : Dev nD) :
    Cert.ActRefIdeal.Read.val_main_v15 (F := Ideal) (A0 m c) (A1 m c) (A3 m c) (A4 m c) = Pipeline.afterTail₀ cfgs (Gen.dats m) 0 (Gen.V0 m) [Gen.hostOps1] c main_v17 := by
  funext y
  have hy : ∃ i n, y = ix2 (n0 := 4096) (n1 := 2816) i n := ⟨y 0, y 1, by funext b; match b with | ⟨0, _⟩ => rfl | ⟨1, _⟩ => rfl⟩
  obtain ⟨i, n, rfl⟩ := hy
  refine Eq.trans ?_ (res_mult m c i n).symm
  refine (ref_mult _ _ _ _ i n).trans ?_
  unfold mult
  rw [mul_comm]

/-- The kernel and the derivative of the gated activation leave the same arrays, where the four arguments are finite. -/
theorem algebraic : Cert.algebraic_ActIdeal_ActRefIdeal_pre_act_finite := by
  pair_intro
  · run_from Cert.ActIdeal.Gen.run_main m g
    · exact Gen.W_main_arg0 m (Gen.dats m) c
    · exact Gen.W_main_arg1 m (Gen.dats m) c
    · exact Gen.W_main_arg2 m (Gen.dats m) c
  · run_from Cert.ActRefIdeal.Value.run m' g'
    · exact eq_gate m c hpre
    · exact eq_mult m c

end Cert.Proof.ActClaims

end
-- ==== Proof.SwaFrame.lean ====
/-
The frame of the attention's backward call, written over the runs of its two kinds of point.
-/
module

public import proofs.«01_k».proof.Proof.Gen.SwaIdeal.Frame.RunB
public import Idealize.ShloMosaic.Lib.Claim

@[expose] public section

set_option maxRecDepth 16384

noncomputable section

namespace Cert.SwaIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves -/

/-- The four results' blocks and the two carried blocks. -/
abbrev St (F : FTy → Type) [FloatOps F] [Named F] : Type :=
  Vec F S128x1024 .bf16 × Vec F S1x64 .f32 × Vec F S1x64 .f32 × Vec F S8x128x1 .f32 × Vec F S2x128x64 .f32 × Vec F S2x128x64 .f32

/-- The body's run at the first point. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) scM0_0 (Memref.isWhole_whole _) scM0_1 (Memref.isWhole_whole _) ((hcond0_0 t).mpr h)
    (X0_0 m c t) (iblk m c 1 t) (iblk m c 2 t) (iblk m c 3 t) (iblk m c 4 t) (iblk m c 5 t) (iblk m c 6 t) (iblk m c 7 t) (iblk m c 8 t) (iblk m c 9 t)

/-- The body's run at a later point, from what the point before left. -/
abbrev runB (c : Dev nD) (t : Fin cfg0.N) (h : ¬t.val % 32 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) scM0_0 (Memref.isWhole_whole _) scM0_1 (Memref.isWhole_whole _) (fun h' => h ((hcond0_0 t).mp h'))
    (X0_0 m c t) (iblk m c 1 t) (iblk m c 2 t) (iblk m c 3 t) (iblk m c 4 t) (iblk m c 5 t) (iblk m c 6 t) (iblk m c 7 t) (iblk m c 8 t) (iblk m c 9 t)
    p.2.1 p.2.2.1 p.2.2.2.1 p.2.2.2.2.1 p.2.2.2.2.2

/-- What the first point leaves: its stores cover every block. -/
def leftA (c : Dev nD) (t : Fin cfg0.N) (h : t.val % 32 = 0) : St F :=
  (VO0_10.read (Elt F) (VO0_10.writes (Elt F) VO0_10.junk (runA m c t h).1),
    VO0_11.read (Elt F) (VO0_11.writes (Elt F) VO0_11.junk (runA m c t h).2.1),
    VO0_12.read (Elt F) (VO0_12.writes (Elt F) VO0_12.junk (runA m c t h).2.2.1),
    VO0_13.read (Elt F) (VO0_13.writes (Elt F) VO0_13.junk (runA m c t h).2.2.2.1),
    VS0_0.read (Elt F) (VS0_0.writes (Elt F) VS0_0.junk (runA m c t h).2.2.2.2.1),
    VS0_1.read (Elt F) (VS0_1.writes (Elt F) VS0_1.junk (runA m c t h).2.2.2.2.2.1))

/-- What a later point leaves over what the one before it left. -/
def leftB (c : Dev nD) (t : Fin cfg0.N) (h : ¬t.val % 32 = 0) (p : St F) : St F :=
  (VO0_10.read (Elt F) (VO0_10.writes (Elt F) VO0_10.junk (runB m c t h p).1),
    VO0_11.read (Elt F) (VO0_11.writes (Elt F) VO0_11.junk (runB m c t h p).2.1),
    VO0_12.read (Elt F) (VO0_12.writes (Elt F) VO0_12.junk (runB m c t h p).2.2.1),
    VO0_13.read (Elt F) (VO0_13.writes (Elt F) VO0_13.junk (runB m c t h p).2.2.2.1),
    VS0_0.read (Elt F) (VS0_0.writes (Elt F) VS0_0.junk (runB m c t h p).2.2.2.2.1),
    VS0_1.read (Elt F) (VS0_1.writes (Elt F) VS0_1.junk (runB m c t h p).2.2.2.2.2.1))

/-- The points one after another. The grid has 32 of them, so that only the first starts anew. -/
def state (c : Dev nD) : (n : ℕ) → n < cfg0.N → St F
  | 0, hn => leftA m c ⟨0, hn⟩ (Nat.zero_mod _)
  | n + 1, hn => leftB m c ⟨n + 1, hn⟩
      (by have : cfg0.N = 32 := N_0; dsimp only; omega) (state c n (Nat.lt_of_succ_lt hn))

theorem state_first (c : Dev nD) (t : Fin cfg0.N) (h : t.val % 32 = 0) : state m c t.val t.isLt = leftA m c t h := by
  obtain ⟨n, hn⟩ := t
  have : cfg0.N = 32 := N_0
  cases n with
  | zero => rfl
  | succ n => exfalso; dsimp only at h; omega

theorem state_next (c : Dev nD) (t : Fin cfg0.N) (h : ¬t.val % 32 = 0) :
    state m c t.val t.isLt = leftB m c t h (state m c (t.val - 1) (Nat.lt_of_le_of_lt (Nat.sub_le _ _) t.isLt)) := by
  obtain ⟨n, hn⟩ := t
  cases n with
  | zero => exact absurd (Nat.zero_mod _) h
  | succ n => rfl

/-! ## The stores of a point cover its blocks -/

section Cover
variable (c : Dev nD) (t : Fin cfg0.N)

theorem covA_10 (h : t.val % 32 = 0) : ∀ y : S128x1024.Idx, ∃ q ∈ (runA m c t h).1, y ∈ q.1.set :=
  View.cover_of_tiledL _ S128x1024.size (by sl_kernel_rfl)

theorem covA_11 (h : t.val % 32 = 0) : ∀ y : S1x64.Idx, ∃ q ∈ (runA m c t h).2.1, y ∈ q.1.set :=
  View.cover_of_tiledL _ S1x64.size (by sl_kernel_rfl)

theorem covA_12 (h : t.val % 32 = 0) : ∀ y : S1x64.Idx, ∃ q ∈ (runA m c t h).2.2.1, y ∈ q.1.set :=
  View.cover_of_tiledL _ S1x64.size (by sl_kernel_rfl)

theorem covA_13 (h : t.val % 32 = 0) : ∀ y : S8x128x1.Idx, ∃ q ∈ (runA m c t h).2.2.2.1, y ∈ q.1.set :=
  View.cover_of_tiledL _ S8x128x1.size (by sl_kernel_rfl)

theorem covA_s0 (h : t.val % 32 = 0) : ∀ y : S2x128x64.Idx, ∃ q ∈ (runA m c t h).2.2.2.2.1, y ∈ q.1.set :=
  View.cover_of_tiledL _ S2x128x64.size (by sl_kernel_rfl)

theorem covA_s1 (h : t.val % 32 = 0) : ∀ y : S2x128x64.Idx, ∃ q ∈ (runA m c t h).2.2.2.2.2.1, y ∈ q.1.set :=
  View.cover_of_tiledL _ S2x128x64.size (by sl_kernel_rfl)

theorem covB_10 (h : ¬t.val % 32 = 0) (p : St F) : ∀ y : S128x1024.Idx, ∃ q ∈ (runB m c t h p).1, y ∈ q.1.set :=
  View.cover_of_tiledL _ S128x1024.size (by sl_kernel_rfl)

theorem covB_11 (h : ¬t.val % 32 = 0) (p : St F) : ∀ y : S1x64.Idx, ∃ q ∈ (runB m c t h p).2.1, y ∈ q.1.set :=
  View.cover_of_tiledL _ S1x64.size (by sl_kernel_rfl)

theorem covB_12 (h : ¬t.val % 32 = 0) (p : St F) : ∀ y : S1x64.Idx, ∃ q ∈ (runB m c t h p).2.2.1, y ∈ q.1.set :=
  View.cover_of_tiledL _ S1x64.size (by sl_kernel_rfl)

theorem covB_13 (h : ¬t.val % 32 = 0) (p : St F) : ∀ y : S8x128x1.Idx, ∃ q ∈ (runB m c t h p).2.2.2.1, y ∈ q.1.set :=
  View.cover_of_tiledL _ S8x128x1.size (by sl_kernel_rfl)

theorem covB_s0 (h : ¬t.val % 32 = 0) (p : St F) : ∀ y : S2x128x64.Idx, ∃ q ∈ (runB m c t h p).2.2.2.2.1, y ∈ q.1.set :=
  View.cover_of_tiledL _ S2x128x64.size (by sl_kernel_rfl)

theorem covB_s1 (h : ¬t.val % 32 = 0) (p : St F) : ∀ y : S2x128x64.Idx, ∃ q ∈ (runB m c t h p).2.2.2.2.2.1, y ∈ q.1.set :=
  View.cover_of_tiledL _ S2x128x64.size (by sl_kernel_rfl)

end Cover

/-! ## The proof data -/

/-- The carried blocks and the generator between two points. -/
def carried (c : Dev nD) : (n : ℕ) → n ≤ cfg0.N → sProp 𝕄
  | 0, _ => Pipeline.ΦA spec0 c
  | n + 1, hn => iprop(iprop(owns (c : Thread nD τ) scM0_0 fullShare ((state m c n hn).2.2.2.2.1)
      ∗ owns (c : Thread nD τ) scM0_1 fullShare ((state m c n hn).2.2.2.2.2)) ∗ (∃ r, prngReg c r))

theorem carried_first (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scM0_0 fullShare ((state m c n hn).2.2.2.2.1)
      ∗ owns (c : Thread nD τ) scM0_1 fullShare ((state m c n hn).2.2.2.2.2)) ∗ (∃ r, prngReg c r)) := rfl

theorem carried_next (c : Dev nD) (n : ℕ) (h : n ≤ cfg0.N) (hz : n ≠ 0) :
    carried m c n h = iprop(iprop(owns (c : Thread nD τ) scM0_0 fullShare ((state m c (n - 1) (by omega)).2.2.2.2.1)
      ∗ owns (c : Thread nD τ) scM0_1 fullShare ((state m c (n - 1) (by omega)).2.2.2.2.2)) ∗ (∃ r, prngReg c r)) := by
  cases n with
  | zero => exact absurd rfl hz
  | succ n => rfl

/-- Each operand's buffer at its block and each result's at what the points so far left. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (state m c t.val t.isLt).1
    | ⟨11, _⟩ => (state m c t.val t.isLt).2.1
    | ⟨12, _⟩ => (state m c t.val t.isLt).2.2.1
    | ⟨13, _⟩ => (state m c t.val t.isLt).2.2.2.1
  Φ t := carried m c t.val (Nat.le_of_lt_succ t.isLt)
  q w := Pipeline.shareOf spec0 w
  owed _ := 0

theorem entry_eq (c : Dev nD) (w : Fin cfg0.W) : (dats m 0 c).A w = V m c (Pipeline.arrRef spec0 w) := by dsimp only [dats]

theorem carried_at (c : Dev nD) (t : Fin cfg0.N) : (dats m 0 c).Φ t.castSucc = carried m c t.val (Nat.le_of_lt t.isLt) := by
  dsimp only [dats]; exact Pipeline.Dat.Φ_castSucc (carried m c) t

section Windows
variable (c : Dev nD) (t : Fin cfg0.N)
theorem after_0 : (dats m 0 c).after 0 t = X0_0 m c t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = (state m c t.val t.isLt).1 := by dsimp only [dats]
theorem after_11 : (dats m 0 c).after 11 t = (state m c t.val t.isLt).2.1 := by dsimp only [dats]
theorem after_12 : (dats m 0 c).after 12 t = (state m c t.val t.isLt).2.2.1 := by dsimp only [dats]
theorem after_13 : (dats m 0 c).after 13 t = (state m c t.val t.isLt).2.2.2.1 := by dsimp only [dats]
theorem before_0 (d) : (dats m 0 c).before 0 t d = X0_0 m c t := before0_0_of m (dats m 0 c) (entry_eq m c 0) (after_0 m c) t d
theorem before_1 (d) : (dats m 0 c).before 1 t d = iblk m c 1 t := before0_1_of m (dats m 0 c) (entry_eq m c 1) (after_1 m c) t d
theorem before_2 (d) : (dats m 0 c).before 2 t d = iblk m c 2 t := before0_2_of m (dats m 0 c) (entry_eq m c 2) (after_2 m c) t d
theorem before_3 (d) : (dats m 0 c).before 3 t d = iblk m c 3 t := before0_3_of m (dats m 0 c) (entry_eq m c 3) (after_3 m c) t d
theorem before_4 (d) : (dats m 0 c).before 4 t d = iblk m c 4 t := before0_4_of m (dats m 0 c) (entry_eq m c 4) (after_4 m c) t d
theorem before_5 (d) : (dats m 0 c).before 5 t d = iblk m c 5 t := before0_5_of m (dats m 0 c) (entry_eq m c 5) (after_5 m c) t d
theorem before_6 (d) : (dats m 0 c).before 6 t d = iblk m c 6 t := before0_6_of m (dats m 0 c) (entry_eq m c 6) (after_6 m c) t d
theorem before_7 (d) : (dats m 0 c).before 7 t d = iblk m c 7 t := before0_7_of m (dats m 0 c) (entry_eq m c 7) (after_7 m c) t d
theorem before_8 (d) : (dats m 0 c).before 8 t d = iblk m c 8 t := before0_8_of m (dats m 0 c) (entry_eq m c 8) (after_8 m c) t d
theorem before_9 (d) : (dats m 0 c).before 9 t d = iblk m c 9 t := before0_9_of m (dats m 0 c) (entry_eq m c 9) (after_9 m c) t d
theorem before_11 (h : ¬t.val % 32 = 0) (d) :
    (dats m 0 c).before 11 t d = (state m c (t.val - 1) (Nat.lt_of_le_of_lt (Nat.sub_le _ _) t.isLt)).2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (h : ¬t.val % 32 = 0) (d) :
    (dats m 0 c).before 12 t d = (state m c (t.val - 1) (Nat.lt_of_le_of_lt (Nat.sub_le _ _) t.isLt)).2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before_13 (h : ¬t.val % 32 = 0) (d) :
    (dats m 0 c).before 13 t d = (state m c (t.val - 1) (Nat.lt_of_le_of_lt (Nat.sub_le _ _) t.isLt)).2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

end Windows

/-! ## The body at a point -/

/-- What the body finds. -/
def found (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What it leaves. -/
def leaves (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
theorem body_runs (c : Dev nD) (t : Fin cfg0.N) :
    found m c t ⊢ wp frame (wpE (defs₀ (F := F)) Variants.none c none) Set.univ (bodyAt0 t) (fun _ => leaves m c t) := by
  have hN : t.val < 32 := lt_of_lt_of_eq t.isLt (show cfg0.N = 32 from N_0)
  unfold found leaves bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10, after_11, after_12, after_13,
    show (dats m 0 c).Φ t.succ = carried m c (t.val + 1) t.isLt from rfl, carried_succ, carried_at]
  by_cases h : t.val % 32 = 0
  · rw [carried_first m c _ _ (by omega), PhiA0_eq, state_first m c t h]
    unfold leftA; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA m c t h).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%f0, HS0⟩, ⟨%f1, HS1⟩⟩
    isplitl [HS0 HS1 Hg]
    · isplitl [HS0 HS1]
      · isplitl [HS0]
        · unfold owns; iexists _; isplitr
          swap; · iexact HS0
          ipureintro; exact View.read_writes_of_cover _ _ _ _ _ (covA_s0 m c t h)
        unfold owns; iexists _; isplitr
        swap; · iexact HS1
        ipureintro; exact View.read_writes_of_cover _ _ _ _ _ (covA_s1 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (covA_10 m c t h)
    isplitl [H11]
    · unfold owns; iexists _; isplitr
      swap; · iexact H11
      ipureintro; exact View.read_writes_of_cover _ _ _ _ _ (covA_11 m c t h)
    isplitl [H12]
    · unfold owns; iexists _; isplitr
      swap; · iexact H12
      ipureintro; exact View.read_writes_of_cover _ _ _ _ _ (covA_12 m c t h)
    unfold owns; iexists _; isplitr
    swap; · iexact H13
    ipureintro; exact View.read_writes_of_cover _ _ _ _ _ (covA_13 m c t h)
  · rw [carried_next m c _ _ (by omega), state_next m c t h]
    simp only [before_11 m c t h, before_12 m c t h, before_13 m c t h]
    unfold leftB; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB m c t h (state m c (t.val - 1) (Nat.lt_of_le_of_lt (Nat.sub_le _ _) t.isLt))).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%f0, HS0⟩, ⟨%f1, HS1⟩⟩
    isplitl [HS0 HS1 Hg]
    · isplitl [HS0 HS1]
      · isplitl [HS0]
        · unfold owns; iexists _; isplitr
          swap; · iexact HS0
          ipureintro; exact View.read_writes_of_cover _ _ _ _ _ (covB_s0 m c t h _)
        unfold owns; iexists _; isplitr
        swap; · iexact HS1
        ipureintro; exact View.read_writes_of_cover _ _ _ _ _ (covB_s1 m c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (covB_10 m c t h _)
    isplitl [H11]
    · unfold owns; iexists _; isplitr
      swap; · iexact H11
      ipureintro; exact View.read_writes_of_cover _ _ _ _ _ (covB_11 m c t h _)
    isplitl [H12]
    · unfold owns; iexists _; isplitr
      swap; · iexact H12
      ipureintro; exact View.read_writes_of_cover _ _ _ _ _ (covB_12 m c t h _)
    unfold owns; iexists _; isplitr
    swap; · iexact H13
    ipureintro; exact View.read_writes_of_cover _ _ _ _ _ (covB_13 m c t h _)

theorem body_row (t : Fin cfg0.N) : defs₀ (F := F) .tc cfg0.body (cfg0.bodyArgs t (cfg0.slots t)) = bodyAt0 t := by
  unfold defs₀; rw [Defs.onTc_tc]

theorem body_met (c : Dev nD) : BodyObligation (dats (F := F) m 0 c) (defs₀ (F := F)) Variants.none () Set.univ := fun t => by
  rw [bigSep_W0, bigSep_W0, body_row]
  exact triple_restated (body_runs m c t) rfl .rfl fun _ => .rfl

theorem carried_in (c : Dev nD) : Pipeline.ΦA spec0 c ⊢ (dats m 0 c).Φ 0 := by
  rw [show (dats m 0 c).Φ 0 = carried m c 0 (Nat.zero_le _) from rfl, carried_first m c 0 _ rfl]

theorem carried_out (c : Dev nD) : (dats m 0 c).Φ (Fin.last cfg0.N) ⊢ Pipeline.ΦA spec0 c := by
  have hN : cfg0.N = 32 := N_0
  rw [show (dats m 0 c).Φ (Fin.last cfg0.N) = carried m c cfg0.N le_rfl from rfl, carried_next m c _ _ (by omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- Every execution ends, every array at what the points left, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_met m c).loose) (hq := fun _ _ _ => rfl) (howed := fun _ _ => rfl) (V₀ := V0 m) (opss := [hostOps1])
    (hsub := sfx_sub) (hfresh := sfx_fresh) (hkeep := sfx_keeps) (hmain := hmain m Variants.none) (hA := entry_eq m)
    (hin := carried_in m) (hout := carried_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The operands stay as they were and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry_eq m) (run_main m ρ)) ((θ_run defs _ _).mono (fun _ h => h.2) (run_quiet m ρ))

end Cert.SwaIdeal.Grad
-- ==== Proof.SwaMath.lean ====
/- The attention's gradient over the real numbers: one block of rows, and what its shifted softmax comes to. -/
module

public import Idealize.ShloMosaic.Lib.Pointwise
public import Idealize.ShloMosaic.PureOps.Ideal.Laws
public import proofs.«01_k».proof.Proof.Reals

@[expose] public section

noncomputable section

namespace Cert.SwaMath

open Idealize.ShloMosaic Cert.Reals

/-! ## Sums over the two leading axes -/

section Axes
variable {n0 n1 n2 : ℕ}

theorem drop_iff (h : (⟨3, ![n0, n1, n2]⟩ : Shape).Reduces [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem host_drop_iff (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the two leading axes of an array. -/
theorem sum_leading (h : (⟨3, ![n0, n1, n2]⟩ : Shape).Reduces [0, 1] ⟨1, ![n2]⟩) (v : (⟨3, ![n0, n1, n2]⟩ : Shape).Idx → EReal) (j : Fin n2) :
    Ideal.reduceAdd h v (ix1 j) = ∑ a : Fin n0, ∑ b : Fin n1, v (ix3 a b j) := by
  refine (Finset.sum_filter_eq_sum_of_fiber _ (fun k : Fin n0 × Fin n1 => ix3 k.1 k.2 j)
    (fun _ _ e => Prod.ext (congrFun e 0) (congrFun e 1)) (drop_iff h (ix1 j)) v).trans ?_
  simp only [Fintype.sum_prod_type]

theorem host_sum_leading (h : (⟨3, ![n0, n1, n2]⟩ : Shape).ReducesTo [0, 1] ⟨1, ![n2]⟩) (v : (⟨3, ![n0, n1, n2]⟩ : Shape).Idx → EReal)
    (z : EReal) (j : Fin n2) : Ideal.hostReduceAdd h v z (ix1 j) = z + ∑ a : Fin n0, ∑ b : Fin n1, v (ix3 a b j) := by
  refine congrArg (z + ·) ((Finset.sum_filter_eq_sum_of_fiber _ (fun k : Fin n0 × Fin n1 => ix3 k.1 k.2 j)
    (fun _ _ e => Prod.ext (congrFun e 0) (congrFun e 1)) (host_drop_iff h (ix1 j)) v).trans ?_)
  simp only [Fintype.sum_prod_type]

end Axes

/-! ## Constants -/

/-- The small number under the roots. -/
def eps : ℝ := 8796093 / 8796093022208

theorem eps_pos : 0 < eps := by unfold eps; norm_num

theorem bits_eps : Ideal.ofBits .f32 897988541#32 = ((eps : ℝ) : EReal) := by
  unfold eps; simp [Ideal.ofBits, Ideal.ieee]; rw [← EReal.coe_mul]; congr 1; norm_num
theorem bits_64 : Ideal.ofBits .f32 1115684864#32 = ((64 : ℝ) : EReal) := by simp [Ideal.ofBits, Ideal.ieee]; rw [← EReal.coe_mul]; congr 1; norm_num
theorem bits_8th : Ideal.ofBits .f32 1040187392#32 = ((1 / 8 : ℝ) : EReal) := by simp [Ideal.ofBits, Ideal.ieee]; rw [← EReal.coe_mul]; congr 1; norm_num
theorem bits_neg_half : Ideal.ofBits .f32 3204448256#32 = ((-(1 / 2) : ℝ) : EReal) := by simp [Ideal.ofBits, Ideal.ieee]; rw [← EReal.coe_mul]; congr 1; norm_num
theorem bits_one : Ideal.ofBits .f32 1065353216#32 = ((1 : ℝ) : EReal) := by simp [Ideal.ofBits, Ideal.ieee]; rw [← EReal.coe_mul, ← EReal.coe_one]; congr 1; norm_num
theorem bits_bot : Ideal.ofBits .f32 4286578688#32 = ⊥ := by simp [Ideal.ofBits, Ideal.ieee]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-! ## The norm of a row of one head and its gradient -/

/-- The mean square, kept away from zero. -/
def ms (x : Fin 64 → ℝ) : ℝ := (∑ d, x d * x d) / 64 + eps
def rs (x : Fin 64 → ℝ) : ℝ := (Real.sqrt (ms x))⁻¹
/-- The derivative of `rs` by `ms`. -/
def rs' (x : Fin 64 → ℝ) : ℝ := -(1 / 2) * (rs x / ms x)
def hat (x : Fin 64 → ℝ) (d : Fin 64) : ℝ := x d * rs x
/-- The norm scaled by `w`. -/
def rms (x w : Fin 64 → ℝ) (d : Fin 64) : ℝ := hat x d * w d
/-- The share of the gradient `y` that flows through the mean square. -/
def rmsc (x w y : Fin 64 → ℝ) : ℝ := (∑ d, x d * (y d * w d)) * rs' x / 64
/-- The gradient of `rms` by `x`, against `y`. -/
def rmsb (x w y : Fin 64 → ℝ) (d : Fin 64) : ℝ := y d * w d * rs x + x d * rmsc x w y + rmsc x w y * x d

theorem ms_pos (x : Fin 64 → ℝ) : 0 < ms x :=
  add_pos_of_nonneg_of_pos (div_nonneg (Finset.sum_nonneg fun d _ => mul_self_nonneg (x d)) (by norm_num)) eps_pos

theorem rsqrt_ms (x : Fin 64 → ℝ) : Ideal.rsqrt ((ms x : ℝ) : EReal) = ((rs x : ℝ) : EReal) := rsqrt_pos (ms_pos x)

theorem div_ms (x : Fin 64 → ℝ) (a : ℝ) : Ideal.div (a : EReal) ((ms x : ℝ) : EReal) = ((a / ms x : ℝ) : EReal) :=
  div_real (ms_pos x).ne'

theorem div_64 (a : ℝ) : Ideal.div (a : EReal) ((64 : ℝ) : EReal) = ((a / 64 : ℝ) : EReal) := div_real (by norm_num)

theorem rmsb_sum {ι : Type*} (s : Finset ι) (x w : Fin 64 → ℝ) (y : ι → Fin 64 → ℝ) (d : Fin 64) :
    ∑ i ∈ s, rmsb x w (y i) d = rmsb x w (fun d => ∑ i ∈ s, y i d) d := by
  have h : ∑ i ∈ s, rmsc x w (y i) = rmsc x w (fun d => ∑ i ∈ s, y i d) := by
    unfold rmsc
    rw [← Finset.sum_div, ← Finset.sum_mul, Finset.sum_comm]
    simp only [← Finset.mul_sum, ← Finset.sum_mul]
  unfold rmsb
  rw [Finset.sum_add_distrib, Finset.sum_add_distrib, ← Finset.mul_sum, ← Finset.sum_mul, ← Finset.sum_mul, ← Finset.sum_mul, h]

theorem rmsb_add (x w y z : Fin 64 → ℝ) (d : Fin 64) : rmsb x w y d + rmsb x w z d = rmsb x w (fun d => y d + z d) d := by
  have h : rmsc x w y + rmsc x w z = rmsc x w (fun d => y d + z d) := by
    unfold rmsc
    rw [← add_div, ← add_mul, ← Finset.sum_add_distrib]
    congr 2
    exact Finset.sum_congr rfl fun d _ => by ring
  unfold rmsb
  rw [← h]
  ring

theorem rmsb_zero (x w : Fin 64 → ℝ) (d : Fin 64) : rmsb x w (fun _ => 0) d = 0 := by
  simp [rmsb, rmsc]

/-! ## One block of rows -/

/-- What the gradient of one block reads: its queries, its keys and values and those of the block before it, the cotangents, the
    two norms' scales, the sinks and the slopes. -/
structure Blk where
  q : Fin 8 → Fin 128 → Fin 64 → ℝ
  g : Fin 8 → Fin 128 → Fin 64 → ℝ
  kc : Fin 2 → Fin 128 → Fin 64 → ℝ
  kp : Fin 2 → Fin 128 → Fin 64 → ℝ
  vc : Fin 2 → Fin 128 → Fin 64 → ℝ
  vp : Fin 2 → Fin 128 → Fin 64 → ℝ
  qw : Fin 64 → ℝ
  kw : Fin 64 → ℝ
  sk : Fin 8 → ℝ
  sl : Fin 8 → ℝ
  first : Prop

/-- The pair of keys and values that a head reads. -/
def grp (h : Fin 8) : Fin 2 := ⟨h.val / 4, by omega⟩
/-- The heads that read one pair. -/
def mem (g : Fin 2) (l : Fin 4) : Fin 8 := ⟨4 * g.val + l.val, by omega⟩

theorem grp_mem (g : Fin 2) (l : Fin 4) : grp (mem g l) = g := Fin.ext (by simp only [grp, mem]; omega)

namespace Blk
variable (b : Blk)

def qn (h : Fin 8) (i : Fin 128) (d : Fin 64) : ℝ := rms (b.q h i) b.qw d
def kcn (h : Fin 8) (j : Fin 128) (d : Fin 64) : ℝ := rms (b.kc (grp h) j) b.kw d
def kpn (h : Fin 8) (j : Fin 128) (d : Fin 64) : ℝ := rms (b.kp (grp h) j) b.kw d

def sc (h : Fin 8) (i j : Fin 128) : ℝ := (∑ d, b.qn h i d * b.kcn h j d) * (1 / 8) - b.sl h * ((i.val : ℝ) - j.val)
def sp (h : Fin 8) (i j : Fin 128) : ℝ := (∑ d, b.qn h i d * b.kpn h j d) * (1 / 8) - b.sl h * ((i.val : ℝ) - j.val + 128)

/-- A row reads the keys up to its own, -/
def okc (i j : Fin 128) : Prop := j.val ≤ i.val
/-- and of the block before it the ones less than 128 rows back. -/
def okp (i j : Fin 128) : Prop := ¬b.first ∧ i.val < j.val

open Classical in
def ec (h : Fin 8) (i j : Fin 128) : ℝ := if okc i j then Real.exp (b.sc h i j) else 0
open Classical in
def ep (h : Fin 8) (i j : Fin 128) : ℝ := if b.okp i j then Real.exp (b.sp h i j) else 0
def es (h : Fin 8) : ℝ := Real.exp (b.sk h)
def den (h : Fin 8) (i : Fin 128) : ℝ := (∑ j, b.ec h i j) + (∑ j, b.ep h i j) + b.es h

def pc (h : Fin 8) (i j : Fin 128) : ℝ := b.ec h i j / b.den h i
def pp (h : Fin 8) (i j : Fin 128) : ℝ := b.ep h i j / b.den h i
def ps (h : Fin 8) (i : Fin 128) : ℝ := b.es h / b.den h i
def dpc (h : Fin 8) (i j : Fin 128) : ℝ := ∑ d, b.g h i d * b.vc (grp h) j d
def dpp (h : Fin 8) (i j : Fin 128) : ℝ := ∑ d, b.g h i d * b.vp (grp h) j d
def del (h : Fin 8) (i : Fin 128) : ℝ := (∑ j, b.dpc h i j * b.pc h i j) + ∑ j, b.dpp h i j * b.pp h i j
def dsc (h : Fin 8) (i j : Fin 128) : ℝ := b.pc h i j * (b.dpc h i j - b.del h i) * (1 / 8)
def dsp (h : Fin 8) (i j : Fin 128) : ℝ := b.pp h i j * (b.dpp h i j - b.del h i) * (1 / 8)
def dqn (h : Fin 8) (i : Fin 128) (d : Fin 64) : ℝ := (∑ j, b.dsc h i j * b.kcn h j d) + ∑ j, b.dsp h i j * b.kpn h j d
def dkc (h : Fin 8) (j : Fin 128) (d : Fin 64) : ℝ := ∑ i, b.dsc h i j * b.qn h i d
def dkp (h : Fin 8) (j : Fin 128) (d : Fin 64) : ℝ := ∑ i, b.dsp h i j * b.qn h i d
def dvc (h : Fin 8) (j : Fin 128) (d : Fin 64) : ℝ := ∑ i, b.pc h i j * b.g h i d
def dvp (h : Fin 8) (j : Fin 128) (d : Fin 64) : ℝ := ∑ i, b.pp h i j * b.g h i d

/-- What the block adds to the gradients of the scales and of the sinks. -/
def dqw (d : Fin 64) : ℝ := ∑ h, ∑ i, hat (b.q h i) d * b.dqn h i d
def dkw (d : Fin 64) : ℝ := (∑ h, ∑ j, hat (b.kc (grp h) j) d * b.dkc h j d) + ∑ h, ∑ j, hat (b.kp (grp h) j) d * b.dkp h j d
def dsk (h : Fin 8) : ℝ := ∑ i, (0 - b.ps h i) * b.del h i

/-- The gradients of the block's rows: by the queries, and by the keys and values from its own rows and into the block before. -/
def dq (h : Fin 8) (i : Fin 128) (d : Fin 64) : ℝ := rmsb (b.q h i) b.qw (b.dqn h i) d
def dkOwn (g : Fin 2) (j : Fin 128) (d : Fin 64) : ℝ := ∑ l, rmsb (b.kc g j) b.kw (b.dkc (mem g l) j) d
def dkPass (g : Fin 2) (j : Fin 128) (d : Fin 64) : ℝ := ∑ l, rmsb (b.kp g j) b.kw (b.dkp (mem g l) j) d
def dvOwn (g : Fin 2) (j : Fin 128) (d : Fin 64) : ℝ := ∑ l, b.dvc (mem g l) j d
def dvPass (g : Fin 2) (j : Fin 128) (d : Fin 64) : ℝ := ∑ l, b.dvp (mem g l) j d

/-- One lane of the block's rows of the gradient: eight heads' queries, then the two pairs' keys and values over what the block
    after it passes back, then lanes that stay zero. -/
def out (rk rv : Fin 2 → Fin 128 → Fin 64 → ℝ) (j : Fin 128) (l : Fin 1024) : ℝ :=
  if h : l.val < 512 then b.dq ⟨l.val / 64, by omega⟩ j ⟨l.val % 64, by omega⟩
  else if h : l.val - 512 < 128 then b.dkOwn ⟨(l.val - 512) / 64, by omega⟩ j ⟨(l.val - 512) % 64, by omega⟩
    + rk ⟨(l.val - 512) / 64, by omega⟩ j ⟨(l.val - 512) % 64, by omega⟩
  else if h : l.val - 512 - 128 < 128 then b.dvOwn ⟨(l.val - 512 - 128) / 64, by omega⟩ j ⟨(l.val - 512 - 128) % 64, by omega⟩
    + rv ⟨(l.val - 512 - 128) / 64, by omega⟩ j ⟨(l.val - 512 - 128) % 64, by omega⟩
  else 0

theorem ec_nonneg (h : Fin 8) (i j : Fin 128) : 0 ≤ b.ec h i j := by unfold ec; split <;> first | exact (Real.exp_pos _).le | exact le_rfl
theorem ep_nonneg (h : Fin 8) (i j : Fin 128) : 0 ≤ b.ep h i j := by unfold ep; split <;> first | exact (Real.exp_pos _).le | exact le_rfl

theorem den_pos (h : Fin 8) (i : Fin 128) : 0 < b.den h i :=
  add_pos_of_nonneg_of_pos (add_nonneg (Finset.sum_nonneg fun j _ => b.ec_nonneg h i j) (Finset.sum_nonneg fun j _ => b.ep_nonneg h i j)) (Real.exp_pos _)

theorem pp_masked {h : Fin 8} {i j : Fin 128} (hm : ¬b.okp i j) : b.pp h i j = 0 := by
  unfold pp ep; rw [if_neg hm, zero_div]
theorem pc_masked {h : Fin 8} {i j : Fin 128} (hm : ¬okc i j) : b.pc h i j = 0 := by
  unfold pc ec; rw [if_neg hm, zero_div]

/-- The shares of a row come to one. -/
theorem shares (h : Fin 8) (i : Fin 128) : (∑ j, b.pc h i j) + (∑ j, b.pp h i j) + b.ps h i = 1 := by
  unfold pc pp ps
  rw [← Finset.sum_div, ← Finset.sum_div, ← add_div, ← add_div]
  exact div_self (b.den_pos h i).ne'

/-! ## The softmax with a shift -/

open Classical in
def ecs (μ : ℝ) (h : Fin 8) (i j : Fin 128) : ℝ := if okc i j then Real.exp (b.sc h i j - μ) else 0
open Classical in
def eps (μ : ℝ) (h : Fin 8) (i j : Fin 128) : ℝ := if b.okp i j then Real.exp (b.sp h i j - μ) else 0
def ess (μ : ℝ) (h : Fin 8) : ℝ := Real.exp (b.sk h - μ)
def dens (μ : ℝ) (h : Fin 8) (i : Fin 128) : ℝ := (∑ j, b.ecs μ h i j) + (∑ j, b.eps μ h i j) + b.ess μ h

theorem ecs_eq (μ : ℝ) (h : Fin 8) (i j : Fin 128) : b.ecs μ h i j = b.ec h i j * Real.exp (-μ) := by
  unfold ecs ec
  split
  · rw [sub_eq_add_neg, Real.exp_add]
  · rw [zero_mul]

theorem eps_eq (μ : ℝ) (h : Fin 8) (i j : Fin 128) : b.eps μ h i j = b.ep h i j * Real.exp (-μ) := by
  unfold eps ep
  split
  · rw [sub_eq_add_neg, Real.exp_add]
  · rw [zero_mul]

theorem ess_eq (μ : ℝ) (h : Fin 8) : b.ess μ h = b.es h * Real.exp (-μ) := by
  unfold ess es; rw [sub_eq_add_neg, Real.exp_add]

theorem dens_eq (μ : ℝ) (h : Fin 8) (i : Fin 128) : b.dens μ h i = b.den h i * Real.exp (-μ) := by
  unfold dens den
  simp only [ecs_eq, eps_eq, ess_eq, ← Finset.sum_mul, add_mul]

theorem dens_pos (μ : ℝ) (h : Fin 8) (i : Fin 128) : 0 < b.dens μ h i := by
  rw [dens_eq]; exact mul_pos (b.den_pos h i) (Real.exp_pos _)

theorem pc_shift (μ : ℝ) (h : Fin 8) (i j : Fin 128) : b.ecs μ h i j / b.dens μ h i = b.pc h i j := by
  rw [ecs_eq, dens_eq, mul_div_mul_right _ _ (Real.exp_pos _).ne']; rfl
theorem pp_shift (μ : ℝ) (h : Fin 8) (i j : Fin 128) : b.eps μ h i j / b.dens μ h i = b.pp h i j := by
  rw [eps_eq, dens_eq, mul_div_mul_right _ _ (Real.exp_pos _).ne']; rfl
theorem ps_shift (μ : ℝ) (h : Fin 8) (i : Fin 128) : b.ess μ h / b.dens μ h i = b.ps h i := by
  rw [ess_eq, dens_eq, mul_div_mul_right _ _ (Real.exp_pos _).ne']; rfl

end Blk

/-! ## All the rows -/

/-- What the whole gradient reads: the projections, the scales, the sinks and the cotangents. -/
structure In where
  p : Fin 4096 → Fin 2832 → ℝ
  qw : Fin 64 → ℝ
  kw : Fin 64 → ℝ
  sk : Fin 8 → ℝ
  dm : Fin 4096 → Fin 1024 → ℝ

/-- The slope of a head. -/
def slope (h : Fin 8) : ℝ := Real.rpow 2 (-8 * ((h.val : ℝ) + 1) / 8)

theorem bits_2 : Ideal.ofBits .f32 1073741824#32 = ((2 : ℝ) : EReal) := by simp [Ideal.ofBits, Ideal.ieee]; rw [← EReal.coe_mul]; congr 1; norm_num
theorem bits_8 : Ideal.ofBits .f32 1090519040#32 = ((8 : ℝ) : EReal) := by simp [Ideal.ofBits, Ideal.ieee]; rw [← EReal.coe_mul]; congr 1; norm_num
theorem bits_neg_8 : Ideal.ofBits .f32 3238002688#32 = ((-8 : ℝ) : EReal) := by simp [Ideal.ofBits, Ideal.ieee]; rw [← EReal.coe_mul]; congr 1; norm_num
theorem count_8 : ∀ h : Fin 8, (BitVec.ofNat 32 h.val).toInt = (h.val : ℤ) := by decide

/-- The slope as both programs compute it. -/
theorem slope_eq (h : Fin 8) : Ideal.pow (Ideal.ofBits .f32 1073741824#32) (Ideal.div (Ideal.ofBits .f32 3238002688#32
    * (FloatOps.sitofp (F := Ideal) .f32 (BitVec.ofNat 32 h.val) + 1)) (Ideal.ofBits .f32 1090519040#32)) = ((slope h : ℝ) : EReal) := by
  have e : (FloatOps.sitofp (F := Ideal) .f32 (BitVec.ofNat 32 h.val) : EReal) = ((h.val : ℝ) : EReal) := by
    show ((((BitVec.ofNat 32 h.val).toInt : ℤ) : ℝ) : EReal) = _
    rw [count_8]
    push_cast
    rfl
  rw [e, bits_2, bits_8, bits_neg_8, ← EReal.coe_one, ← EReal.coe_add, ← EReal.coe_mul, div_real (by norm_num), Ideal.pow_coe_coe]
  rfl

/-- The row `i` of the block `n`, of 32 blocks. -/
def row (n : ℕ) (i : Fin 128) : Fin 4096 := ⟨(128 * n + i.val) % 4096, Nat.mod_lt _ (by norm_num)⟩

/-- One head of one row: of the queries, the keys and the values. -/
def In.qrow (x : In) (r : Fin 4096) (h : Fin 8) (d : Fin 64) : ℝ := x.p r ⟨2064 + (64 * h.val + d.val), by omega⟩
def In.krow (x : In) (r : Fin 4096) (g : Fin 2) (d : Fin 64) : ℝ := x.p r ⟨2576 + (64 * g.val + d.val), by omega⟩
def In.vrow (x : In) (r : Fin 4096) (g : Fin 2) (d : Fin 64) : ℝ := x.p r ⟨2704 + (64 * g.val + d.val), by omega⟩

/-- What the block `n` reads. -/
def In.blk (x : In) (n : ℕ) : Blk where
  q h i d := x.p (row n i) ⟨2064 + (64 * h.val + d.val), by omega⟩
  g h i d := x.dm (row n i) ⟨512 + (64 * h.val + d.val), by omega⟩
  kc g i d := x.p (row n i) ⟨2576 + (64 * g.val + d.val), by omega⟩
  kp g i d := x.p (row (n - 1) i) ⟨2576 + (64 * g.val + d.val), by omega⟩
  vc g i d := x.p (row n i) ⟨2704 + (64 * g.val + d.val), by omega⟩
  vp g i d := x.p (row (n - 1) i) ⟨2704 + (64 * g.val + d.val), by omega⟩
  qw := x.qw
  kw := x.kw
  sk := x.sk
  sl := slope
  first := n = 0

/-- The same with zeros for the keys and values before the first block: what the whole program's band holds. -/
def In.band (x : In) (n : ℕ) : Blk := { x.blk n with
  kp := fun g i d => if n = 0 then 0 else (x.blk n).kp g i d
  vp := fun g i d => if n = 0 then 0 else (x.blk n).vp g i d }

/-- The two halves of a band. -/
def lo (j : Fin 128) : Fin 256 := ⟨j.val, by omega⟩
def hi (j : Fin 128) : Fin 256 := ⟨128 + j.val, by omega⟩

/-- What the block after `n` passes back to it: the last block gets nothing. -/
def In.passK (x : In) (n : ℕ) (g : Fin 2) (j : Fin 128) (d : Fin 64) : ℝ := if n = 31 then 0 else (x.blk (n + 1)).dkPass g j d
def In.passV (x : In) (n : ℕ) (g : Fin 2) (j : Fin 128) (d : Fin 64) : ℝ := if n = 31 then 0 else (x.blk (n + 1)).dvPass g j d

/-- The gradients: of the rows, of the scales and of the sinks. -/
def In.out (x : In) (n : ℕ) (j : Fin 128) (l : Fin 1024) : ℝ := (x.blk n).out (x.passK n) (x.passV n) j l
def In.dqw (x : In) (d : Fin 64) : ℝ := ∑ n ∈ Finset.range 32, (x.blk n).dqw d
def In.dkw (x : In) (d : Fin 64) : ℝ := ∑ n ∈ Finset.range 32, (x.blk n).dkw d
def In.dsk (x : In) (h : Fin 8) : ℝ := ∑ n ∈ Finset.range 32, (x.blk n).dsk h

/-! ## The greatest of a row -/

/-- The greatest of a list of values below infinity, a real number among them, is a real number. -/
theorem fold_max_lt {ι : Type*} (s : Finset ι) (f : ι → EReal) (z : EReal) (hz : z < ⊤) (h : ∀ i ∈ s, f i < ⊤) : s.fold max z f < ⊤ := by
  classical
  induction s using Finset.induction_on with
  | empty => simpa using hz
  | insert a s ha ih =>
    rw [Finset.fold_insert ha]
    exact max_lt (h a (Finset.mem_insert_self a s)) (ih fun i hi => h i (Finset.mem_insert_of_mem hi))

theorem real_max {x : EReal} (hx : x < ⊤) (s : ℝ) : ∃ μ : ℝ, max x (s : EReal) = (μ : EReal) := by
  induction x with
  | bot => exact ⟨s, by simp⟩
  | top => exact absurd hx (lt_irrefl _)
  | coe r => exact ⟨max r s, (EReal.coe_strictMono.monotone.map_max).symm⟩

end Cert.SwaMath

end
-- ==== Proof.SwaOps.lean ====
/- The attention's gradient: the operands of one point of the grid, as real numbers. -/
module

public import proofs.«01_k».proof.Defs
public import proofs.«01_k».proof.Proof.SwaFrame
public import proofs.«01_k».proof.Proof.SwaMath
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

/-! ## The operands of a point -/

/-- The blocks that one point reads, and its mark for the first block of rows. -/
structure Ops where
  q : FVec Ideal S8x128x64 .f32
  kp : FVec Ideal S2x128x64 .f32
  kc : FVec Ideal S2x128x64 .f32
  vp : FVec Ideal S2x128x64 .f32
  vc : FVec Ideal S2x128x64 .f32
  qw : FVec Ideal S1x64 .f32
  kw : FVec Ideal S1x64 .f32
  sk : FVec Ideal S8x128x1 .f32
  sl : FVec Ideal S8x128x1 .f32
  g : FVec Ideal S8x128x64 .f32
  z : BitVec 32

/-- The operands hold the real numbers `b`. -/
structure Holds (o : Ops) (b : Blk) : Prop where
  q : ∀ h i d, o.q (ix3 h i d) = ((b.q h i d : ℝ) : EReal)
  kp : ∀ g i d, o.kp (ix3 g i d) = ((b.kp g i d : ℝ) : EReal)
  kc : ∀ g i d, o.kc (ix3 g i d) = ((b.kc g i d : ℝ) : EReal)
  vp : ∀ g i d, o.vp (ix3 g i d) = ((b.vp g i d : ℝ) : EReal)
  vc : ∀ g i d, o.vc (ix3 g i d) = ((b.vc g i d : ℝ) : EReal)
  qw : ∀ z d, o.qw (ix2 z d) = ((b.qw d : ℝ) : EReal)
  kw : ∀ z d, o.kw (ix2 z d) = ((b.kw d : ℝ) : EReal)
  sk : ∀ h i z, o.sk (ix3 h i z) = ((b.sk h : ℝ) : EReal)
  sl : ∀ h i z, o.sl (ix3 h i z) = ((b.sl h : ℝ) : EReal)
  g : ∀ h i d, o.g (ix3 h i d) = ((b.g h i d : ℝ) : EReal)
  z : b.first ∧ o.z = 1#32 ∨ ¬b.first ∧ o.z = 0#32

/-- One head's plane of a block of keys or values. -/
abbrev plane0 (x : FVec Ideal S2x128x64 .f32) : FVec Ideal S1x128x64 .f32 :=
  View.ld (Val := Elt Ideal) (e' := .f32) x (Rect.unit (s := S2x128x64) ![0, 0, 0] ![1, 128, 64] inb_S2x128x64_S1x128x64_0_0_0)
abbrev plane1 (x : FVec Ideal S2x128x64 .f32) : FVec Ideal S1x128x64 .f32 :=
  View.ld (Val := Elt Ideal) (e' := .f32) x (Rect.unit (s := S2x128x64) ![1, 0, 0] ![1, 128, 64] inb_S2x128x64_S1x128x64_1_0_0)

theorem plane0_at (x : FVec Ideal S2x128x64 .f32) (z : Fin 1) (i : Fin 128) (d : Fin 64) : plane0 x (ix3 z i d) = x (ix3 0 i d) := by
  unfold plane0; pointwise
theorem plane1_at (x : FVec Ideal S2x128x64 .f32) (z : Fin 1) (i : Fin 128) (d : Fin 64) : plane1 x (ix3 z i d) = x (ix3 1 i d) := by
  unfold plane1; pointwise

/-- The number of lanes of a head, as the norms divide by it. -/
abbrev c64 : Ideal .f32 := FloatOps.ofBits FTy.f32 1115684864#32

namespace Ops
variable (o : Ops)

abbrev Q : FVec Ideal S8x128x64 .f32 := k0_pay7 o.q
abbrev KP : FVec Ideal S8x128x64 .f32 := k0_pay8 (plane0 o.kp) (plane0 o.kp) (plane0 o.kp) (plane0 o.kp) (plane1 o.kp) (plane1 o.kp) (plane1 o.kp) (plane1 o.kp)
abbrev KC : FVec Ideal S8x128x64 .f32 := k0_pay9 (plane0 o.kc) (plane0 o.kc) (plane0 o.kc) (plane0 o.kc) (plane1 o.kc) (plane1 o.kc) (plane1 o.kc) (plane1 o.kc)
abbrev VP : FVec Ideal S8x128x64 .f32 := k0_pay14 (k0_pay10 (plane0 o.vp)) (k0_pay11 (plane0 o.vp)) (k0_pay12 (plane0 o.vp)) (k0_pay13 (plane0 o.vp)) (plane1 o.vp) (plane1 o.vp) (plane1 o.vp) (plane1 o.vp)
abbrev VC : FVec Ideal S8x128x64 .f32 := k0_pay15 (plane0 o.vc) (plane0 o.vc) (plane0 o.vc) (plane0 o.vc) (plane1 o.vc) (plane1 o.vc) (plane1 o.vc) (plane1 o.vc)
abbrev SK : FVec Ideal S8x128x1 .f32 := k0_pay16 o.sk
abbrev SL : FVec Ideal S8x128x1 .f32 := k0_pay17 o.sl
abbrev G : FVec Ideal S8x128x64 .f32 := k0_pay18 o.g
abbrev SQ : FVec Ideal S8x128x1 .f32 := k0_pay29 o.KC
abbrev QN : FVec Ideal S8x128x64 .f32 := k0_pay41 o.Q o.qw
abbrev KPN : FVec Ideal S8x128x64 .f32 := k0_pay28 o.KP o.kw
abbrev KCN : FVec Ideal S8x128x64 .f32 := k0_pay35 o.KC o.kw o.SQ c64
abbrev S : FVec Ideal S8x128x128 .f32 := k0_pay42 o.Q o.KC o.qw o.kw o.SL k0_pay19 k0_pay21 o.SQ c64
abbrev R : FVec Ideal S8x128x128 .f32 := k0_pay43 o.Q o.qw o.KPN
abbrev D3 : FVec Ideal S1x128x128 .f32 := k0_pay44 (k0_pay22 (F := Ideal))
abbrev MX : FVec Ideal S8x128x1 .f32 := k0_pay46 o.SK o.SL (k0_pay20 o.z) o.S o.R D3
abbrev ES : FVec Ideal S8x128x1 .f32 := k0_pay49 o.SK o.SL (k0_pay20 o.z) o.S o.R D3
abbrev INV : FVec Ideal S8x128x1 .f32 := k0_pay50 o.SK o.SL (k0_pay20 o.z) o.S o.R D3
abbrev PC : FVec Ideal S8x128x128 .f32 := k0_pay51 o.SK o.SL (k0_pay20 o.z) o.S o.R D3
abbrev PP : FVec Ideal S8x128x128 .f32 := k0_pay52 o.SK o.SL (k0_pay20 o.z) o.S o.R D3
abbrev DPP : FVec Ideal S8x128x128 .f32 := k0_pay54 o.VP o.G
abbrev DEL : FVec Ideal S8x128x1 .f32 := k0_pay55 o.VP o.VC o.SK o.SL o.G (k0_pay20 o.z) o.S o.R D3
abbrev DS : FVec Ideal S8x128x128 .f32 := k0_pay56 o.VP o.VC o.SK o.SL o.G (k0_pay20 o.z) o.S o.R D3
abbrev DSP : FVec Ideal S8x128x128 .f32 := k0_pay58 o.PP o.DPP o.DEL
abbrev DQN : FVec Ideal S8x128x64 .f32 := k0_pay59 o.KPN o.KCN o.PP o.DPP o.DEL o.DS
abbrev DQW : FVec Ideal S1x64 .f32 := k0_pay60 o.KPN o.KCN (k0_pay39 o.Q) o.PP o.DPP o.DEL o.DS
abbrev DQ : FVec Ideal S8x128x64 .f32 :=
  k0_pay61 o.Q o.KPN o.KCN (k0_pay37 o.Q) (k0_pay38 o.Q) (k0_pay40 o.qw) o.PP o.DPP o.DEL o.DS
abbrev DKC : FVec Ideal S8x128x64 .f32 :=
  k0_pay66 o.KC (k0_pay31 o.SQ c64) (k0_pay32 o.SQ c64) (k0_pay63 (k0_pay34 o.kw) o.QN o.DS) (k0_pay65 o.KC (k0_pay34 o.kw) o.QN o.DS)
abbrev DKP : FVec Ideal S8x128x64 .f32 := k0_pay68 o.KP (k0_pay24 o.KP) (k0_pay25 o.KP) (k0_pay27 o.kw) o.QN o.DSP
abbrev DKW : FVec Ideal S1x64 .f32 := k0_pay71 (k0_pay26 o.KP) o.QN o.DSP (k0_pay64 (k0_pay33 o.KC o.SQ c64) o.QN o.DS)
abbrev DSK : FVec Ideal S8x128x1 .f32 := k0_pay73 o.DEL (k0_pay72 o.ES o.INV)
abbrev DVP : FVec Ideal S8x128x64 .f32 := k0_pay69 o.G o.PP
abbrev DVC : FVec Ideal S8x128x64 .f32 := k0_pay70 o.G o.PC
/-- The rows of the result, over what the point before carried. -/
abbrev OUT (ck cv : FVec Ideal S2x128x64 .f32) : FVec Ideal S128x1024 .bf16 :=
  k0_pay77 (k0_pay74 o.DQ) (k0_pay75 o.DKC ck) (k0_pay76 o.DVC cv)

end Ops

/-! ## The operands as real numbers -/

variable {o : Ops} {b : Blk} (H : Holds o b)
include H

theorem Q_at (h : Fin 8) (i : Fin 128) (d : Fin 64) : o.Q (ix3 h i d) = ((b.q h i d : ℝ) : EReal) := by
  pointwise [k0_pay7]; exact H.q h i d
theorem G_at (h : Fin 8) (i : Fin 128) (d : Fin 64) : o.G (ix3 h i d) = ((b.g h i d : ℝ) : EReal) := by
  pointwise [k0_pay18]; exact H.g h i d
theorem SK_at (h : Fin 8) (i : Fin 128) (z : Fin 1) : o.SK (ix3 h i z) = ((b.sk h : ℝ) : EReal) := by
  pointwise [k0_pay16]; exact H.sk h i z
theorem SL_at (h : Fin 8) (i : Fin 128) (z : Fin 1) : o.SL (ix3 h i z) = ((b.sl h : ℝ) : EReal) := by
  pointwise [k0_pay17]; exact H.sl h i z

theorem KP_at (h : Fin 8) (i : Fin 128) (d : Fin 64) : o.KP (ix3 h i d) = ((b.kp (grp h) i d : ℝ) : EReal) := by
  rw [← H.kp]
  obtain ⟨h, hh⟩ := h
  pointwise [k0_pay8, grp]
  interval_cases h <;> simp only [Nat.reduceLT, Nat.reduceSub, ↓reduceDIte, Nat.reduceDiv] <;> first | exact plane0_at _ _ _ _ | exact plane1_at _ _ _ _

theorem KC_at (h : Fin 8) (i : Fin 128) (d : Fin 64) : o.KC (ix3 h i d) = ((b.kc (grp h) i d : ℝ) : EReal) := by
  rw [← H.kc]
  obtain ⟨h, hh⟩ := h
  pointwise [k0_pay9, grp]
  interval_cases h <;> simp only [Nat.reduceLT, Nat.reduceSub, ↓reduceDIte, Nat.reduceDiv] <;> first | exact plane0_at _ _ _ _ | exact plane1_at _ _ _ _

theorem VP_at (h : Fin 8) (i : Fin 128) (d : Fin 64) : o.VP (ix3 h i d) = ((b.vp (grp h) i d : ℝ) : EReal) := by
  rw [← H.vp]
  obtain ⟨h, hh⟩ := h
  pointwise [k0_pay14, k0_pay10, k0_pay11, k0_pay12, k0_pay13, grp]
  interval_cases h <;> simp only [Nat.reduceLT, Nat.reduceSub, ↓reduceDIte, Nat.reduceDiv] <;> first | exact plane0_at _ _ _ _ | exact plane1_at _ _ _ _

theorem VC_at (h : Fin 8) (i : Fin 128) (d : Fin 64) : o.VC (ix3 h i d) = ((b.vc (grp h) i d : ℝ) : EReal) := by
  rw [← H.vc]
  obtain ⟨h, hh⟩ := h
  pointwise [k0_pay15, grp]
  interval_cases h <;> simp only [Nat.reduceLT, Nat.reduceSub, ↓reduceDIte, Nat.reduceDiv] <;> first | exact plane0_at _ _ _ _ | exact plane1_at _ _ _ _

end Cert.SwaIdeal.Grad
end
-- ==== Proof.SwaPoint.lean ====
/- The attention's gradient: what one point leaves, from the blocks that it reads. -/
module

public import proofs.«01_k».proof.Defs
public import proofs.«01_k».proof.Proof.SwaOps
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

/-! ## What a point leaves, from the blocks that it reads -/

/-- The blocks that the point `t` reads. -/
abbrev ops (c : Dev nD) (t : Fin cfg0.N) : Ops where
  q := X0_0 m c t
  kp := iblk m c 1 t
  kc := iblk m c 2 t
  vp := iblk m c 3 t
  vc := iblk m c 4 t
  qw := iblk m c 5 t
  kw := iblk m c 6 t
  sk := iblk m c 7 t
  sl := iblk m c 8 t
  g := iblk m c 9 t
  z := Scalar.extui (Scalar.cmpi .eq (BitVec.ofNat 32 ((grid0.coords t) 0).val) 31#32)

variable (c : Dev nD) (t : Fin cfg0.N)

section First
variable (h : t.val % 32 = 0)
theorem leftA_0 : (leftA m c t h).1 = (ops m c t).OUT (k0_pay2 (F := Ideal)) (k0_pay3 (F := Ideal)) := by
  unfold leftA runA; dsimp only; frame_out <;> rfl
theorem leftA_1 : (leftA m c t h).2.1 = k0_pay80 (ops m c t).DQW (k0_pay5 (F := Ideal)) := by
  unfold leftA runA; dsimp only; frame_out <;> rfl
theorem leftA_2 : (leftA m c t h).2.2.1 = k0_pay81 (ops m c t).DKW (k0_pay6 (F := Ideal)) := by
  unfold leftA runA; dsimp only; frame_out <;> rfl
theorem leftA_3 : (leftA m c t h).2.2.2.1 = k0_pay1 (ops m c t).DSK (k0_pay4 (F := Ideal)) := by
  unfold leftA runA; dsimp only; frame_out <;> rfl
theorem leftA_4 : (leftA m c t h).2.2.2.2.1 = k0_pay78 (ops m c t).DKP := by
  unfold leftA runA; dsimp only; frame_out <;> rfl
theorem leftA_5 : (leftA m c t h).2.2.2.2.2 = k0_pay79 (ops m c t).DVP := by
  unfold leftA runA; dsimp only; frame_out <;> rfl
end First

section Next
variable (h : ¬t.val % 32 = 0) (p : St Ideal)
theorem leftB_0 : (leftB m c t h p).1 = (ops m c t).OUT p.2.2.2.2.1 p.2.2.2.2.2 := by
  unfold leftB runB; dsimp only; frame_out; simp only [read_unread_whole]
theorem leftB_1 : (leftB m c t h p).2.1 = k0_pay80 (ops m c t).DQW p.2.1 := by
  unfold leftB runB; dsimp only; frame_out <;> rfl
theorem leftB_2 : (leftB m c t h p).2.2.1 = k0_pay81 (ops m c t).DKW p.2.2.1 := by
  unfold leftB runB; dsimp only; frame_out <;> rfl
theorem leftB_3 : (leftB m c t h p).2.2.2.1 = k0_pay1 (ops m c t).DSK p.2.2.2.1 := by
  unfold leftB runB; dsimp only; frame_out <;> rfl
theorem leftB_4 : (leftB m c t h p).2.2.2.2.1 = k0_pay78 (ops m c t).DKP := by
  unfold leftB runB; dsimp only; frame_out <;> rfl
theorem leftB_5 : (leftB m c t h p).2.2.2.2.2 = k0_pay79 (ops m c t).DVP := by
  unfold leftB runB; dsimp only; frame_out <;> rfl
end Next

end Cert.SwaIdeal.Grad
end
-- ==== Proof.SwaHost.lean ====
/- The attention's gradient: the blocks of a point from the arguments. -/
module

public import proofs.«01_k».proof.Defs
public import proofs.«01_k».proof.Proof.SwaPoint
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

/-! ## The arguments and the host's lines -/

abbrev A0 (c : Dev nD) : FVec Ideal S4096x2832 .f32 := m ((c.tc : Thread nD τ).loc main_arg0)
abbrev A1 (c : Dev nD) : FVec Ideal S1x64 .f32 := m ((c.tc : Thread nD τ).loc main_arg1)
abbrev A2 (c : Dev nD) : FVec Ideal S1x64 .f32 := m ((c.tc : Thread nD τ).loc main_arg2)
abbrev A3 (c : Dev nD) : FVec Ideal S8 .f32 := m ((c.tc : Thread nD τ).loc main_arg3)
abbrev A4 (c : Dev nD) : FVec Ideal S4096x1024 .f32 := m ((c.tc : Thread nD τ).loc main_arg4)
abbrev A5 (c : Dev nD) : FVec Ideal S4096x3072 .bf16 := m ((c.tc : Thread nD τ).loc main_arg5)

/-- The arguments hold the real numbers `x`. -/
structure Reads (c : Dev nD) (x : In) : Prop where
  p : ∀ r q, A0 m c (ix2 r q) = ((x.p r q : ℝ) : EReal)
  qw : ∀ z d, A1 m c (ix2 z d) = ((x.qw d : ℝ) : EReal)
  kw : ∀ z d, A2 m c (ix2 z d) = ((x.kw d : ℝ) : EReal)
  sk : ∀ h, A3 m c (ix1 h) = ((x.sk h : ℝ) : EReal)
  dm : ∀ r q, A4 m c (ix2 r q) = ((x.dm r q : ℝ) : EReal)

/-- The heads of the projections, one after another. -/
theorem V_heads (c : Dev nD) : (show FVec Ideal S20x4096x64 .f32 from V m c main_v7) = transpose S20x4096x64 [1, 0, 2] (shapeCast S4096x20x64
    (extractStridedSlice S4096x1280 ![0, 1536] (concatenate S4096x3072 1 [⟨S4096x2048, extractStridedSlice S4096x2048 ![0, 0] (A0 m c) slices_S4096x2832_S4096x2048_0_0⟩,
      ⟨S4096x768, extractStridedSlice S4096x768 ![0, 2064] (A0 m c) slices_S4096x2832_S4096x768_0_2064⟩,
      ⟨S4096x16, extractStridedSlice S4096x16 ![0, 2048] (A0 m c) slices_S4096x2832_S4096x16_0_2048⟩,
      ⟨S4096x240, broadcastInDim S4096x240 ![] bcast_S_S4096x240 (constant (F := Ideal) S_ .f32 0x00000000#32)⟩] concatenates_S4096x2048_S4096x768_S4096x16_S4096x240_S4096x3072_d1)
      slices_S4096x3072_S4096x1280_0_1536) shapeCasts_S4096x1280_S4096x20x64) transposes_S4096x20x64_S20x4096x64_1_0_2 := by
  unfold V V0
  simp only [List.flatten_cons, List.flatten_nil, List.append_nil]
  after_results
  rfl

theorem in_heads (c : Dev nD) (k : Fin 12) (r : Fin 4096) (d : Fin 64) :
    (show FVec Ideal S20x4096x64 .f32 from V m c main_v7) (ix3 ⟨8 + k.val, by omega⟩ r d) = A0 m c (ix2 r ⟨2064 + (64 * k.val + d.val), by omega⟩) := by
  rw [V_heads]
  pointwise
  refine (dif_neg (by omega)).trans ((dif_pos (by omega)).trans ?_)
  refine congrArg (A0 m c) ?_
  blk_ext

theorem V_slopes (c : Dev nD) : (show FVec Ideal S8x128x1 .f32 from V m c main_v18) = broadcastInDim S8x128x1 ![0, 1, 2] bcast_S8x1x1_S8x128x1_0_1_2
    (shapeCast S8x1x1 (Host.powf (broadcastInDim S8 ![] bcast_S_S8 (constant (F := Ideal) S_ .f32 0x40000000#32)) (Host.divf (mulf (broadcastInDim S8 ![] bcast_S_S8 (constant S_ .f32 0xC1000000#32))
      (addf (sitofp .f32 (iotaInDim S8 32 0)) (broadcastInDim S8 ![] bcast_S_S8 (constant S_ .f32 0x3F800000#32)))) (broadcastInDim S8 ![] bcast_S_S8 (constant S_ .f32 0x41000000#32)))) shapeCasts_S8_S8x1x1) := by
  unfold V V0
  simp only [List.flatten_cons, List.flatten_nil, List.append_nil]
  after_results
  rfl

theorem in_slopes (c : Dev nD) (h : Fin 8) (i : Fin 128) (z : Fin 1) : (show FVec Ideal S8x128x1 .f32 from V m c main_v18) (ix3 h i z) = ((slope h : ℝ) : EReal) := by
  rw [V_slopes]
  pointwise
  exact slope_eq h

theorem V_sinks (c : Dev nD) : (show FVec Ideal S8x128x1 .f32 from V m c main_v20) = broadcastInDim S8x128x1 ![0, 1, 2] bcast_S8x1x1_S8x128x1_0_1_2
    (shapeCast S8x1x1 (A3 m c) shapeCasts_S8_S8x1x1) := by
  unfold V V0
  simp only [List.flatten_cons, List.flatten_nil, List.append_nil]
  after_results
  rfl

theorem in_sinks (c : Dev nD) (h : Fin 8) (i : Fin 128) (z : Fin 1) : (show FVec Ideal S8x128x1 .f32 from V m c main_v20) (ix3 h i z) = A3 m c (ix1 h) := by
  rw [V_sinks]
  pointwise

theorem V_dmix (c : Dev nD) : (show FVec Ideal S16x4096x64 .f32 from V m c main_v22) = transpose S16x4096x64 [1, 0, 2] (shapeCast S4096x16x64 (A4 m c)
    shapeCasts_S4096x1024_S4096x16x64) transposes_S4096x16x64_S16x4096x64_1_0_2 := by
  unfold V V0
  simp only [List.flatten_cons, List.flatten_nil, List.append_nil]
  after_results
  rfl

theorem in_dmix (c : Dev nD) (h : Fin 8) (r : Fin 4096) (d : Fin 64) :
    (show FVec Ideal S16x4096x64 .f32 from V m c main_v22) (ix3 ⟨8 + h.val, by omega⟩ r d) = A4 m c (ix2 r ⟨512 + (64 * h.val + d.val), by omega⟩) := by
  rw [V_dmix]
  pointwise
  refine congrArg (A4 m c) ?_
  blk_ext

/-! ## The blocks of a point -/

theorem idx : ∀ t : Fin cfg0.N, win0_0.index t = ![1, 31 - t.val, 0] ∧ win0_1.index t = ![8, 31 - t.val - 1, 0] ∧ win0_2.index t = ![8, 31 - t.val, 0]
    ∧ win0_3.index t = ![9, 31 - t.val - 1, 0] ∧ win0_4.index t = ![9, 31 - t.val, 0] ∧ win0_5.index t = ![0, 0] ∧ win0_6.index t = ![0, 0]
    ∧ win0_7.index t = ![0, 0, 0] ∧ win0_8.index t = ![0, 0, 0] ∧ win0_9.index t = ![1, 31 - t.val, 0] ∧ win0_10.index t = ![31 - t.val, 2] :=
  (by decide +kernel : ∀ t : Fin grid0.N, win0_0.index t = ![1, 31 - t.val, 0] ∧ win0_1.index t = ![8, 31 - t.val - 1, 0] ∧ win0_2.index t = ![8, 31 - t.val, 0]
    ∧ win0_3.index t = ![9, 31 - t.val - 1, 0] ∧ win0_4.index t = ![9, 31 - t.val, 0] ∧ win0_5.index t = ![0, 0] ∧ win0_6.index t = ![0, 0]
    ∧ win0_7.index t = ![0, 0, 0] ∧ win0_8.index t = ![0, 0, 0] ∧ win0_9.index t = ![1, 31 - t.val, 0] ∧ win0_10.index t = ![31 - t.val, 2])

/-- Whether a point is that of the first block. -/
theorem first_word : ∀ t : Fin cfg0.N, (Scalar.extui (Scalar.cmpi .eq (BitVec.ofNat 32 ((grid0.coords t) 0).val) 31#32) : BitVec 32) = if 31 - t.val = 0 then 1#32 else 0#32 :=
  (by decide +kernel : ∀ t : Fin grid0.N, (Scalar.extui (Scalar.cmpi .eq (BitVec.ofNat 32 ((grid0.coords t) 0).val) 31#32) : BitVec 32) = if 31 - t.val = 0 then 1#32 else 0#32)

/-- The block of the queries, all of whose cells are loaded. -/
theorem at_q (c : Dev nD) (t : Fin cfg0.N) (h : Fin 8) (i : Fin 128) (d : Fin 64) : (ops m c t).q (ix3 h i d)
    = (show FVec Ideal S20x4096x64 .f32 from V m c main_v7) (ix3 ⟨8 + h.val, by omega⟩ (row (31 - t.val) i) d) := by
  refine (dif_pos (moved0_0 t _)).trans ?_
  unfold row
  blk_ext [iblk, idx t]

theorem at_kp (c : Dev nD) (t : Fin cfg0.N) (g : Fin 2) (i : Fin 128) (d : Fin 64) : (show FVec Ideal S2x128x64 .f32 from iblk m c 1 t) (ix3 g i d)
    = (show FVec Ideal S20x4096x64 .f32 from V m c main_v7) (ix3 ⟨8 + (8 + g.val), by omega⟩ (row (31 - t.val - 1) i) d) := by
  blk_ext [iblk, idx t]
  simp only [row]
  omega

theorem at_kc (c : Dev nD) (t : Fin cfg0.N) (g : Fin 2) (i : Fin 128) (d : Fin 64) : (show FVec Ideal S2x128x64 .f32 from iblk m c 2 t) (ix3 g i d)
    = (show FVec Ideal S20x4096x64 .f32 from V m c main_v7) (ix3 ⟨8 + (8 + g.val), by omega⟩ (row (31 - t.val) i) d) := by
  blk_ext [iblk, idx t]
  simp only [row]
  omega

theorem at_vp (c : Dev nD) (t : Fin cfg0.N) (g : Fin 2) (i : Fin 128) (d : Fin 64) : (show FVec Ideal S2x128x64 .f32 from iblk m c 3 t) (ix3 g i d)
    = (show FVec Ideal S20x4096x64 .f32 from V m c main_v7) (ix3 ⟨8 + (10 + g.val), by omega⟩ (row (31 - t.val - 1) i) d) := by
  blk_ext [iblk, idx t]
  simp only [row]
  omega

theorem at_vc (c : Dev nD) (t : Fin cfg0.N) (g : Fin 2) (i : Fin 128) (d : Fin 64) : (show FVec Ideal S2x128x64 .f32 from iblk m c 4 t) (ix3 g i d)
    = (show FVec Ideal S20x4096x64 .f32 from V m c main_v7) (ix3 ⟨8 + (10 + g.val), by omega⟩ (row (31 - t.val) i) d) := by
  blk_ext [iblk, idx t]
  simp only [row]
  omega

theorem at_g (c : Dev nD) (t : Fin cfg0.N) (h : Fin 8) (i : Fin 128) (d : Fin 64) : (show FVec Ideal S8x128x64 .f32 from iblk m c 9 t) (ix3 h i d)
    = (show FVec Ideal S16x4096x64 .f32 from V m c main_v22) (ix3 ⟨8 + h.val, by omega⟩ (row (31 - t.val) i) d) := by
  blk_ext [iblk, idx t]
  simp only [row]
  omega

theorem at_qw (c : Dev nD) (t : Fin cfg0.N) (z : Fin 1) (d : Fin 64) : (show FVec Ideal S1x64 .f32 from iblk m c 5 t) (ix2 z d) = (show FVec Ideal S1x64 .f32 from V m c main_arg1) (ix2 z d) := by
  blk_ext [iblk, idx t]

theorem at_kw (c : Dev nD) (t : Fin cfg0.N) (z : Fin 1) (d : Fin 64) : (show FVec Ideal S1x64 .f32 from iblk m c 6 t) (ix2 z d) = (show FVec Ideal S1x64 .f32 from V m c main_arg2) (ix2 z d) := by
  blk_ext [iblk, idx t]

theorem at_sk (c : Dev nD) (t : Fin cfg0.N) (h : Fin 8) (i : Fin 128) (z : Fin 1) : (show FVec Ideal S8x128x1 .f32 from iblk m c 7 t) (ix3 h i z) = (show FVec Ideal S8x128x1 .f32 from V m c main_v20) (ix3 h i z) := by
  blk_ext [iblk, idx t]

theorem at_sl (c : Dev nD) (t : Fin cfg0.N) (h : Fin 8) (i : Fin 128) (z : Fin 1) : (show FVec Ideal S8x128x1 .f32 from iblk m c 8 t) (ix3 h i z) = (show FVec Ideal S8x128x1 .f32 from V m c main_v18) (ix3 h i z) := by
  blk_ext [iblk, idx t]

theorem real_k (c : Dev nD) (x : In) (hx : Reads m c x) (g : Fin 2) (r : Fin 4096) (d : Fin 64) :
    (show FVec Ideal S20x4096x64 .f32 from V m c main_v7) (ix3 ⟨8 + (8 + g.val), by omega⟩ r d) = ((x.p r ⟨2576 + (64 * g.val + d.val), by omega⟩ : ℝ) : EReal) := by
  have h := (in_heads m c ⟨8 + g.val, by omega⟩ r d).trans (hx.p _ _)
  have e : (⟨2064 + (64 * (8 + g.val) + d.val), by omega⟩ : Fin 2832) = ⟨2576 + (64 * g.val + d.val), by omega⟩ := Fin.ext (by show 2064 + (64 * (8 + g.val) + d.val) = 2576 + (64 * g.val + d.val); omega)
  exact h.trans (congrArg (fun q => ((x.p r q : ℝ) : EReal)) e)

theorem real_v (c : Dev nD) (x : In) (hx : Reads m c x) (g : Fin 2) (r : Fin 4096) (d : Fin 64) :
    (show FVec Ideal S20x4096x64 .f32 from V m c main_v7) (ix3 ⟨8 + (10 + g.val), by omega⟩ r d) = ((x.p r ⟨2704 + (64 * g.val + d.val), by omega⟩ : ℝ) : EReal) := by
  have h := (in_heads m c ⟨10 + g.val, by omega⟩ r d).trans (hx.p _ _)
  have e : (⟨2064 + (64 * (10 + g.val) + d.val), by omega⟩ : Fin 2832) = ⟨2704 + (64 * g.val + d.val), by omega⟩ := Fin.ext (by show 2064 + (64 * (10 + g.val) + d.val) = 2704 + (64 * g.val + d.val); omega)
  exact h.trans (congrArg (fun q => ((x.p r q : ℝ) : EReal)) e)

theorem holds_q (c : Dev nD) (x : In) (hx : Reads m c x) (t : Fin cfg0.N) (h : Fin 8) (i : Fin 128) (d : Fin 64) :
    (ops m c t).q (ix3 h i d) = (((x.blk (31 - t.val)).q h i d : ℝ) : EReal) := (at_q m c t h i d).trans ((in_heads m c ⟨h.val, by omega⟩ _ d).trans (hx.p _ _))

theorem holds_g (c : Dev nD) (x : In) (hx : Reads m c x) (t : Fin cfg0.N) (h : Fin 8) (i : Fin 128) (d : Fin 64) :
    (ops m c t).g (ix3 h i d) = (((x.blk (31 - t.val)).g h i d : ℝ) : EReal) := (at_g m c t h i d).trans ((in_dmix m c h _ d).trans (hx.dm _ _))

theorem holds_kp (c : Dev nD) (x : In) (hx : Reads m c x) (t : Fin cfg0.N) (g : Fin 2) (i : Fin 128) (d : Fin 64) :
    (ops m c t).kp (ix3 g i d) = (((x.blk (31 - t.val)).kp g i d : ℝ) : EReal) := (at_kp m c t g i d).trans (real_k m c x hx g _ d)

theorem holds_kc (c : Dev nD) (x : In) (hx : Reads m c x) (t : Fin cfg0.N) (g : Fin 2) (i : Fin 128) (d : Fin 64) :
    (ops m c t).kc (ix3 g i d) = (((x.blk (31 - t.val)).kc g i d : ℝ) : EReal) := (at_kc m c t g i d).trans (real_k m c x hx g _ d)

theorem holds_vp (c : Dev nD) (x : In) (hx : Reads m c x) (t : Fin cfg0.N) (g : Fin 2) (i : Fin 128) (d : Fin 64) :
    (ops m c t).vp (ix3 g i d) = (((x.blk (31 - t.val)).vp g i d : ℝ) : EReal) := (at_vp m c t g i d).trans (real_v m c x hx g _ d)

theorem holds_vc (c : Dev nD) (x : In) (hx : Reads m c x) (t : Fin cfg0.N) (g : Fin 2) (i : Fin 128) (d : Fin 64) :
    (ops m c t).vc (ix3 g i d) = (((x.blk (31 - t.val)).vc g i d : ℝ) : EReal) := (at_vc m c t g i d).trans (real_v m c x hx g _ d)

theorem holds_qw (c : Dev nD) (x : In) (hx : Reads m c x) (t : Fin cfg0.N) (z : Fin 1) (d : Fin 64) :
    (ops m c t).qw (ix2 z d) = (((x.blk (31 - t.val)).qw d : ℝ) : EReal) := (at_qw m c t z d).trans ((congrFun (V_main_arg1 m c) (ix2 z d)).trans (hx.qw z d))

theorem holds_kw (c : Dev nD) (x : In) (hx : Reads m c x) (t : Fin cfg0.N) (z : Fin 1) (d : Fin 64) :
    (ops m c t).kw (ix2 z d) = (((x.blk (31 - t.val)).kw d : ℝ) : EReal) := (at_kw m c t z d).trans ((congrFun (V_main_arg2 m c) (ix2 z d)).trans (hx.kw z d))

theorem holds_sk (c : Dev nD) (x : In) (hx : Reads m c x) (t : Fin cfg0.N) (h : Fin 8) (i : Fin 128) (z : Fin 1) :
    (ops m c t).sk (ix3 h i z) = (((x.blk (31 - t.val)).sk h : ℝ) : EReal) := (at_sk m c t h i z).trans ((in_sinks m c h i z).trans (hx.sk h))

theorem holds_sl (c : Dev nD) (x : In) (t : Fin cfg0.N) (h : Fin 8) (i : Fin 128) (z : Fin 1) :
    (ops m c t).sl (ix3 h i z) = (((x.blk (31 - t.val)).sl h : ℝ) : EReal) := (at_sl m c t h i z).trans (in_slopes m c h i z)

theorem holds_first (c : Dev nD) (x : In) (t : Fin cfg0.N) :
    (x.blk (31 - t.val)).first ∧ (ops m c t).z = 1#32 ∨ ¬(x.blk (31 - t.val)).first ∧ (ops m c t).z = 0#32 := by
  have hz := first_word t
  by_cases h : 31 - t.val = 0
  · exact .inl ⟨h, hz.trans (if_pos h)⟩
  · exact .inr ⟨h, hz.trans (if_neg h)⟩

theorem holds (c : Dev nD) (x : In) (hx : Reads m c x) (t : Fin cfg0.N) : Holds (ops m c t) (x.blk (31 - t.val)) :=
  ⟨holds_q m c x hx t, holds_kp m c x hx t, holds_kc m c x hx t, holds_vp m c x hx t, holds_vc m c x hx t, holds_qw m c x hx t, holds_kw m c x hx t, holds_sk m c x hx t, holds_sl m c x t, holds_g m c x hx t, holds_first m c x t⟩

end Cert.SwaIdeal.Grad
end
-- ==== Proof.SwaScores.lean ====
/- The attention's gradient: the norms and the masked scores of one point. -/
module

public import proofs.«01_k».proof.Defs
public import proofs.«01_k».proof.Proof.SwaOps
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

/-! ## The norms -/

section Norm
variable (v : FVec Ideal S8x128x64 .f32) (w : FVec Ideal S1x64 .f32) {f : Fin 8 → Fin 128 → Fin 64 → ℝ} {u : Fin 64 → ℝ}
  (hv : ∀ h i d, v (ix3 h i d) = ((f h i d : ℝ) : EReal)) (hw : ∀ z d, w (ix2 z d) = ((u d : ℝ) : EReal))
  (s : Ideal .f32) (hs : s = Ideal.ofBits .f32 1115684864#32) (h : Fin 8) (i : Fin 128) (z : Fin 1) (d : Fin 64)

include hv in
theorem ms_kp : k0_pay23 v (ix3 h i z) = ((ms (f h i) : ℝ) : EReal) := by
  pointwise [k0_pay23]
  simp only [hv, bits_64, bits_eps, ← EReal.coe_mul, ← coe_sum, div_64, ← EReal.coe_add]
  rfl

include hv in
theorem rs_kp : k0_pay24 v (ix3 h i z) = ((rs (f h i) : ℝ) : EReal) := by
  pointwise [k0_pay24]
  rw [ms_kp v hv, rsqrt_ms]

include hv in
theorem rs'_kp : k0_pay25 v (ix3 h i z) = ((rs' (f h i) : ℝ) : EReal) := by
  pointwise [k0_pay25]
  rw [rs_kp v hv, ms_kp v hv, div_ms, bits_neg_half, ← EReal.coe_mul]
  rfl

include hv in
theorem hat_kp : k0_pay26 v (ix3 h i d) = ((hat (f h i) d : ℝ) : EReal) := by
  pointwise [k0_pay26]
  rw [rs_kp v hv, hv, ← EReal.coe_mul]
  rfl

include hw in
theorem w_kp : k0_pay27 (F := Ideal) w (ix3 z z d) = ((u d : ℝ) : EReal) := by
  pointwise [k0_pay27]
  exact hw _ _

include hv hw in
theorem rms_kp : k0_pay28 v w (ix3 h i d) = ((rms (f h i) u d : ℝ) : EReal) := by
  pointwise [k0_pay28]
  rw [hat_kp v hv, w_kp w hw, ← EReal.coe_mul]
  rfl

include hv hs in
theorem ms_kc : k0_pay30 (k0_pay29 v) s (ix3 h i z) = ((ms (f h i) : ℝ) : EReal) := by
  pointwise [k0_pay30, k0_pay29]
  simp only [hv, hs, bits_64, bits_eps, ← EReal.coe_mul, ← coe_sum, div_64, ← EReal.coe_add]
  rfl

include hv hs in
theorem rs_kc : k0_pay31 (k0_pay29 v) s (ix3 h i z) = ((rs (f h i) : ℝ) : EReal) := by
  pointwise [k0_pay31]
  rw [ms_kc v hv s hs, rsqrt_ms]

include hv hs in
theorem rs'_kc : k0_pay32 (k0_pay29 v) s (ix3 h i z) = ((rs' (f h i) : ℝ) : EReal) := by
  pointwise [k0_pay32]
  rw [rs_kc v hv s hs, ms_kc v hv s hs, div_ms, bits_neg_half, ← EReal.coe_mul]
  rfl

include hv hs in
theorem hat_kc : k0_pay33 v (k0_pay29 v) s (ix3 h i d) = ((hat (f h i) d : ℝ) : EReal) := by
  pointwise [k0_pay33]
  rw [rs_kc v hv s hs, hv, ← EReal.coe_mul]
  rfl

include hw in
theorem w_kc : k0_pay34 (F := Ideal) w (ix3 z z d) = ((u d : ℝ) : EReal) := by
  pointwise [k0_pay34]
  exact hw _ _

include hv hw hs in
theorem rms_kc : k0_pay35 v w (k0_pay29 v) s (ix3 h i d) = ((rms (f h i) u d : ℝ) : EReal) := by
  pointwise [k0_pay35]
  rw [hat_kc v hv s hs, w_kc w hw, ← EReal.coe_mul]
  rfl

include hv in
theorem ms_q : k0_pay36 v (ix3 h i z) = ((ms (f h i) : ℝ) : EReal) := by
  pointwise [k0_pay36]
  simp only [hv, bits_64, bits_eps, ← EReal.coe_mul, ← coe_sum, div_64, ← EReal.coe_add]
  rfl

include hv in
theorem rs_q : k0_pay37 v (ix3 h i z) = ((rs (f h i) : ℝ) : EReal) := by
  pointwise [k0_pay37]
  rw [ms_q v hv, rsqrt_ms]

include hv in
theorem rs'_q : k0_pay38 v (ix3 h i z) = ((rs' (f h i) : ℝ) : EReal) := by
  pointwise [k0_pay38]
  rw [rs_q v hv, ms_q v hv, div_ms, bits_neg_half, ← EReal.coe_mul]
  rfl

include hv in
theorem hat_q : k0_pay39 v (ix3 h i d) = ((hat (f h i) d : ℝ) : EReal) := by
  pointwise [k0_pay39]
  rw [rs_q v hv, hv, ← EReal.coe_mul]
  rfl

include hw in
theorem w_q : k0_pay40 (F := Ideal) w (ix3 z z d) = ((u d : ℝ) : EReal) := by
  pointwise [k0_pay40]
  exact hw _ _

include hv hw in
theorem rms_q : k0_pay41 v w (ix3 h i d) = ((rms (f h i) u d : ℝ) : EReal) := by
  pointwise [k0_pay41]
  rw [hat_q v hv, w_q w hw, ← EReal.coe_mul]
  rfl

end Norm

/-! ## The masks and the distances -/

theorem sge_word : ∀ i j : Fin 128, IntOp.cmpi .sge (BitVec.ofNat 32 i.val) (BitVec.ofNat 32 j.val) = if j.val ≤ i.val then 1#1 else 0#1 := by
  decide +kernel
theorem sgt_word : ∀ i j : Fin 128, IntOp.cmpi .sgt (BitVec.ofNat 32 j.val) (IntOp.addi (BitVec.ofNat 32 i.val) (Scalar.muli 0#32 128#32))
    = if i.val < j.val then 1#1 else 0#1 := by
  decide +kernel
theorem sgt_first : ∀ i j : Fin 128, IntOp.cmpi .sgt (BitVec.ofNat 32 j.val) (IntOp.addi (BitVec.ofNat 32 i.val) (Scalar.muli 1#32 128#32)) = 0#1 := by
  decide +kernel
theorem sub_word : ∀ i j : Fin 128, (IntOp.subi (BitVec.ofNat 32 i.val) (BitVec.ofNat 32 j.val)).toInt = (i.val : ℤ) - j.val := by
  decide +kernel
theorem sub_word' : ∀ i j : Fin 128, (IntOp.addi (IntOp.subi (BitVec.ofNat 32 i.val) (BitVec.ofNat 32 j.val)) 128#32).toInt = (i.val : ℤ) - j.val + 128 := by
  decide +kernel

theorem dist_at (i j : Fin 128) : k0_pay21 (F := Ideal) (ix2 i j) = (((i.val : ℝ) - j.val : ℝ) : EReal) := by
  pointwise [k0_pay21]
  show ((((IntOp.subi (BitVec.ofNat 32 i.val) (BitVec.ofNat 32 j.val)).toInt : ℤ) : ℝ) : EReal) = _
  rw [sub_word]
  push_cast
  rfl

theorem dist'_at (i j : Fin 128) : k0_pay22 (F := Ideal) (ix2 i j) = (((i.val : ℝ) - j.val + 128 : ℝ) : EReal) := by
  pointwise [k0_pay22]
  show ((((IntOp.addi (IntOp.subi (BitVec.ofNat 32 i.val) (BitVec.ofNat 32 j.val)) 128#32).toInt : ℤ) : ℝ) : EReal) = _
  rw [sub_word']
  push_cast
  rfl

theorem mask_at (i j : Fin 128) : k0_pay19 (ix2 i j) = if j.val ≤ i.val then 1#1 else 0#1 := by
  pointwise [k0_pay19]
  exact sge_word i j

theorem named_mask : Named.named (F := Ideal) κ "mask" (φ := .f32) 4048155338#32 = ⊥ :=
  IdealRules.named_const.ideal_named_scalar _ _ _ _ rfl

/-! ## The scores -/

variable {o : Ops} {b : Blk} (H : Holds o b)
include H

theorem mask'_at (i j : Fin 128) : k0_pay20 o.z (ix2 i j) = open Classical in if b.okp i j then 1#1 else 0#1 := by
  pointwise [k0_pay20]
  rcases H.z with ⟨hf, hz⟩ | ⟨hf, hz⟩
  · rw [hz, sgt_first, if_neg (fun h => h.1 hf)]
  · rw [hz, sgt_word]
    by_cases h : i.val < j.val
    · rw [if_pos h, if_pos ⟨hf, h⟩]
    · rw [if_neg h, if_neg (fun h' => h h'.2)]

theorem QN_at (h : Fin 8) (i : Fin 128) (d : Fin 64) : o.QN (ix3 h i d) = ((b.qn h i d : ℝ) : EReal) := rms_q _ _ (Q_at H) H.qw h i d
theorem KPN_at (h : Fin 8) (i : Fin 128) (d : Fin 64) : o.KPN (ix3 h i d) = ((b.kpn h i d : ℝ) : EReal) := rms_kp _ _ (KP_at H) H.kw h i d
theorem KCN_at (h : Fin 8) (i : Fin 128) (d : Fin 64) : o.KCN (ix3 h i d) = ((b.kcn h i d : ℝ) : EReal) := rms_kc _ _ (KC_at H) H.kw _ rfl h i d

theorem S_at (h : Fin 8) (i j : Fin 128) : o.S (ix3 h i j) = open Classical in if Blk.okc i j then ((b.sc h i j : ℝ) : EReal) else ⊥ := by
  pointwise [k0_pay42]
  rw [mask_at]
  simp only [QN_at H, rms_kc _ _ (KC_at H) H.kw _ rfl, SL_at H, dist_at, bits_8th, named_mask, ← EReal.coe_mul, ← coe_sum, ← EReal.coe_sub]
  by_cases hm : j.val ≤ i.val
  · rw [if_pos hm, if_pos (show Blk.okc i j from hm), ValueIdx.select_one]; rfl
  · rw [if_neg hm, if_neg (show ¬Blk.okc i j from hm), ValueIdx.select_zero]

theorem R_at (h : Fin 8) (i j : Fin 128) : o.R (ix3 h i j) = (((∑ d, b.qn h i d * b.kpn h j d) * (1 / 8) : ℝ) : EReal) := by
  pointwise [k0_pay43]
  simp only [QN_at H, KPN_at H, bits_8th, ← EReal.coe_mul, ← coe_sum]

theorem SP_at (h : Fin 8) (i j : Fin 128) : k0_pay45 o.SL (k0_pay20 o.z) o.R Ops.D3 (ix3 h i j) = open Classical in if b.okp i j then ((b.sp h i j : ℝ) : EReal) else ⊥ := by
  pointwise [k0_pay45, k0_pay44]
  rw [mask'_at H]
  simp only [R_at H, SL_at H, dist'_at, named_mask, ← EReal.coe_mul, ← EReal.coe_sub]
  by_cases hm : b.okp i j
  · rw [if_pos hm, if_pos hm, ValueIdx.select_one]; rfl
  · rw [if_neg hm, if_neg hm, ValueIdx.select_zero]

end Cert.SwaIdeal.Grad
end
-- ==== Proof.SwaShares.lean ====
/- The attention's gradient: the shares of one point and the gradients from them. -/
module

public import proofs.«01_k».proof.Defs
public import proofs.«01_k».proof.Proof.SwaScores
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

variable {o : Ops} {b : Blk} (H : Holds o b)

/-! ## The greatest of a row -/

include H in
theorem MX_real (h : Fin 8) (i : Fin 128) : ∃ μ : ℝ, ∀ z, o.MX (ix3 h i z) = ((μ : ℝ) : EReal) := by
  have hlt : max ((Finset.univ : Finset (Fin 128)).fold max (⊥ : EReal) fun j => o.S (ix3 h i j))
      ((Finset.univ : Finset (Fin 128)).fold max (⊥ : EReal) fun j => k0_pay45 o.SL (k0_pay20 o.z) o.R Ops.D3 (ix3 h i j)) < ⊤ := by
    refine max_lt (fold_max_lt _ _ _ bot_lt_top fun j _ => ?_) (fold_max_lt _ _ _ bot_lt_top fun j _ => ?_)
    · rw [S_at H]; split
      · exact EReal.coe_lt_top _
      · exact bot_lt_top
    · rw [SP_at H]; split
      · exact EReal.coe_lt_top _
      · exact bot_lt_top
  obtain ⟨μ, hμ⟩ := real_max hlt (b.sk h)
  refine ⟨μ, fun z => ?_⟩
  rw [← hμ]
  pointwise [k0_pay46]
  rw [SK_at H, bits_bot]

/-! ## The shifted softmax -/

section Shift
variable (μ : Fin 8 → Fin 128 → ℝ) (hμ : ∀ h i z, o.MX (ix3 h i z) = ((μ h i : ℝ) : EReal))
include H hμ

theorem EC_at (h : Fin 8) (i j : Fin 128) : k0_pay47 o.SK o.SL (k0_pay20 o.z) o.S o.R Ops.D3 (ix3 h i j) = ((b.ecs (μ h i) h i j : ℝ) : EReal) := by
  pointwise [k0_pay47]
  simp only [hμ, S_at H]
  unfold Blk.ecs
  split
  · rw [← EReal.coe_sub, Ideal.exp_coe]
  · rw [EReal.bot_sub, Ideal.exp_bot]; rfl

theorem EP_at (h : Fin 8) (i j : Fin 128) : k0_pay48 o.SK o.SL (k0_pay20 o.z) o.S o.R Ops.D3 (ix3 h i j) = ((b.eps (μ h i) h i j : ℝ) : EReal) := by
  pointwise [k0_pay48]
  simp only [hμ, SP_at H]
  unfold Blk.eps
  split
  · rw [← EReal.coe_sub, Ideal.exp_coe]
  · rw [EReal.bot_sub, Ideal.exp_bot]; rfl

theorem ES_at (h : Fin 8) (i : Fin 128) (z : Fin 1) : o.ES (ix3 h i z) = ((b.ess (μ h i) h : ℝ) : EReal) := by
  pointwise [k0_pay49]
  simp only [hμ, SK_at H, ← EReal.coe_sub, Ideal.exp_coe]
  rfl

theorem INV_at (h : Fin 8) (i : Fin 128) (z : Fin 1) : o.INV (ix3 h i z) = ((1 / b.dens (μ h i) h i : ℝ) : EReal) := by
  pointwise [k0_pay50]
  simp only [EC_at H μ hμ, EP_at H μ hμ, ES_at H μ hμ, ← coe_sum, ← EReal.coe_add, bits_one]
  exact div_real (b.dens_pos (μ h i) h i).ne'

end Shift

/-! ## The shares -/

include H

theorem shift : ∃ μ : Fin 8 → Fin 128 → ℝ, ∀ h i z, o.MX (ix3 h i z) = ((μ h i : ℝ) : EReal) :=
  ⟨fun h i => (MX_real H h i).choose, fun h i => (MX_real H h i).choose_spec⟩

theorem PC_at (h : Fin 8) (i j : Fin 128) : o.PC (ix3 h i j) = ((b.pc h i j : ℝ) : EReal) := by
  obtain ⟨μ, hμ⟩ := shift H
  pointwise [k0_pay51]
  simp only [EC_at H μ hμ, INV_at H μ hμ, ← EReal.coe_mul, mul_one_div, Blk.pc_shift]

theorem PP_at (h : Fin 8) (i j : Fin 128) : o.PP (ix3 h i j) = ((b.pp h i j : ℝ) : EReal) := by
  obtain ⟨μ, hμ⟩ := shift H
  pointwise [k0_pay52]
  simp only [EP_at H μ hμ, INV_at H μ hμ, ← EReal.coe_mul, mul_one_div, Blk.pp_shift]

theorem PS_at (h : Fin 8) (i : Fin 128) (z : Fin 1) : k0_pay72 o.ES o.INV (ix3 h i z) = ((0 - b.ps h i : ℝ) : EReal) := by
  obtain ⟨μ, hμ⟩ := shift H
  pointwise [k0_pay72]
  simp only [ES_at H μ hμ, INV_at H μ hμ, ← EReal.coe_mul, mul_one_div, Blk.ps_shift, zero_sub, ← EReal.coe_neg]

/-! ## The gradient of the scores -/

theorem DPC_at (h : Fin 8) (i j : Fin 128) : k0_pay53 o.VC o.G (ix3 h i j) = ((b.dpc h i j : ℝ) : EReal) := by
  pointwise [k0_pay53]
  simp only [VC_at H, G_at H, ← EReal.coe_mul, ← coe_sum]
  rfl

theorem DPP_at (h : Fin 8) (i j : Fin 128) : o.DPP (ix3 h i j) = ((b.dpp h i j : ℝ) : EReal) := by
  pointwise [k0_pay54]
  simp only [VP_at H, G_at H, ← EReal.coe_mul, ← coe_sum]
  rfl

theorem DEL_at (h : Fin 8) (i : Fin 128) (z : Fin 1) : o.DEL (ix3 h i z) = ((b.del h i : ℝ) : EReal) := by
  pointwise [k0_pay55]
  simp only [DPC_at H, DPP_at H, PC_at H, PP_at H, ← EReal.coe_mul, ← coe_sum, ← EReal.coe_add]
  rfl

theorem DS_at (h : Fin 8) (i j : Fin 128) : o.DS (ix3 h i j) = ((b.pc h i j * (b.dpc h i j - b.del h i) : ℝ) : EReal) := by
  pointwise [k0_pay56]
  simp only [DEL_at H, DPC_at H, PC_at H, ← EReal.coe_sub, ← EReal.coe_mul]

theorem DSC_at (h : Fin 8) (i j : Fin 128) : k0_pay57 o.DS (ix3 h i j) = ((b.dsc h i j : ℝ) : EReal) := by
  pointwise [k0_pay57]
  simp only [DS_at H, bits_8th, ← EReal.coe_mul]
  rfl

theorem DSP_at (h : Fin 8) (i j : Fin 128) : o.DSP (ix3 h i j) = ((b.dsp h i j : ℝ) : EReal) := by
  pointwise [k0_pay58]
  simp only [DEL_at H, DPP_at H, PP_at H, bits_8th, ← EReal.coe_sub, ← EReal.coe_mul, ← EReal.coe_mul]
  rfl

/-! ## The gradients of the rows -/

theorem DQN_at (h : Fin 8) (i : Fin 128) (d : Fin 64) : o.DQN (ix3 h i d) = ((b.dqn h i d : ℝ) : EReal) := by
  pointwise [k0_pay59]
  simp only [DSC_at H, DSP_at H, KCN_at H, rms_kc _ _ (KC_at H) H.kw _ rfl, KPN_at H, ← EReal.coe_mul, ← coe_sum, ← EReal.coe_add]
  rfl

theorem DKCN_at (h : Fin 8) (j : Fin 128) (d : Fin 64) : k0_pay62 o.QN o.DS (ix3 h j d) = ((b.dkc h j d : ℝ) : EReal) := by
  pointwise [k0_pay62]
  simp only [DSC_at H, QN_at H, ← EReal.coe_mul, ← coe_sum]
  rfl

theorem DKPN_at (h : Fin 8) (j : Fin 128) (d : Fin 64) : k0_pay67 o.QN o.DSP (ix3 h j d) = ((b.dkp h j d : ℝ) : EReal) := by
  pointwise [k0_pay67]
  simp only [DSP_at H, QN_at H, ← EReal.coe_mul, ← coe_sum]
  rfl

theorem DVC_at (h : Fin 8) (j : Fin 128) (d : Fin 64) : o.DVC (ix3 h j d) = ((b.dvc h j d : ℝ) : EReal) := by
  pointwise [k0_pay70]
  simp only [PC_at H, G_at H, ← EReal.coe_mul, ← coe_sum]
  rfl

theorem DVP_at (h : Fin 8) (j : Fin 128) (d : Fin 64) : o.DVP (ix3 h j d) = ((b.dvp h j d : ℝ) : EReal) := by
  pointwise [k0_pay69]
  simp only [PP_at H, G_at H, ← EReal.coe_mul, ← coe_sum]
  rfl

theorem DQ_at (h : Fin 8) (i : Fin 128) (d : Fin 64) : o.DQ (ix3 h i d) = ((b.dq h i d : ℝ) : EReal) := by
  pointwise [k0_pay61]
  simp only [DQN_at H, Q_at H, rs_q _ (Q_at H), rs'_q _ (Q_at H), w_q _ H.qw, ← EReal.coe_mul]
  simp only [bits_64, ← EReal.coe_mul, ← coe_sum, div_64, ← EReal.coe_add, Finset.sum_const, Finset.card_univ, Fintype.card_fin, one_smul]
  rfl

theorem DKC_at (h : Fin 8) (i : Fin 128) (d : Fin 64) : o.DKC (ix3 h i d) = ((rmsb (b.kc (grp h) i) b.kw (b.dkc h i) d : ℝ) : EReal) := by
  pointwise [k0_pay66, k0_pay65, k0_pay63]
  simp only [DKCN_at H, KC_at H, rs_kc _ (KC_at H) _ rfl, rs'_kc _ (KC_at H) _ rfl, w_kc _ H.kw, ← EReal.coe_mul]
  simp only [bits_64, ← EReal.coe_mul, ← coe_sum, div_64, ← EReal.coe_add, Finset.sum_const, Finset.card_univ, Fintype.card_fin, one_smul]
  rfl

theorem DKP_at (h : Fin 8) (i : Fin 128) (d : Fin 64) : o.DKP (ix3 h i d) = ((rmsb (b.kp (grp h) i) b.kw (b.dkp h i) d : ℝ) : EReal) := by
  pointwise [k0_pay68]
  simp only [DKPN_at H, KP_at H, rs_kp _ (KP_at H), rs'_kp _ (KP_at H), w_kp _ H.kw, ← EReal.coe_mul]
  simp only [bits_64, ← EReal.coe_mul, ← coe_sum, div_64, ← EReal.coe_add, Finset.sum_const, Finset.card_univ, Fintype.card_fin, one_smul]
  rfl

theorem DSK_at (h : Fin 8) (i : Fin 128) (z : Fin 1) : o.DSK (ix3 h i z) = (((0 - b.ps h i) * b.del h i : ℝ) : EReal) := by
  pointwise [k0_pay73]
  simp only [PS_at H, DEL_at H, ← EReal.coe_mul]

end Cert.SwaIdeal.Grad
end
-- ==== Proof.SwaRows.lean ====
/- The attention's gradient: what one point leaves. -/
module

public import proofs.«01_k».proof.Defs
public import proofs.«01_k».proof.Proof.SwaShares
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

/-! ## The rows of heads side by side -/

theorem at3 {n0 n1 n2 : ℕ} {α : Type} (x : (⟨3, ![n0, n1, n2]⟩ : Shape).Idx → α) {h h' : Fin n0} (i : Fin n1) {d d' : Fin n2} (e : h.val = h'.val) (e' : d.val = d'.val) :
    x (ix3 h i d) = x (ix3 h' i d') := by
  rw [Fin.ext e, Fin.ext e']

theorem outq (x : FVec Ideal S8x128x64 .f32) (i : Fin 128) (l : Fin 512) :
    k0_pay74 x (ix2 i l) = x (ix3 ⟨l.val / 64, by omega⟩ i ⟨l.val % 64, by omega⟩) := by
  obtain ⟨l, hl⟩ := l
  pointwise [k0_pay74]
  split_ifs <;> exact at3 x i (by simp only [Fin.isValue, Fin.val_zero, Fin.val_one, Fin.val_ofNat]; omega) (by simp only []; omega)

section Group
variable (x : FVec Ideal S8x128x64 .f32) (c : FVec Ideal S2x128x64 .f32) (j : Fin 128)

theorem outk (l : Fin 128) : k0_pay75 x c (ix2 j l) = (∑ m, x (ix3 (mem ⟨l.val / 64, by omega⟩ m) j ⟨l.val % 64, by omega⟩))
    + c (ix3 ⟨l.val / 64, by omega⟩ j ⟨l.val % 64, by omega⟩) := by
  obtain ⟨l, hl⟩ := l
  pointwise [k0_pay75]
  split_ifs <;> exact congr (congrArg HAdd.hAdd (Finset.sum_congr rfl fun m _ => at3 x j (by simp only [mem]; omega) (by simp only []; omega)))
    (at3 c j (by simp only [Fin.isValue, Fin.val_zero, Fin.val_one]; omega) (by simp only []; omega))

theorem outv (l : Fin 128) : k0_pay76 x c (ix2 j l) = (∑ m, x (ix3 (mem ⟨l.val / 64, by omega⟩ m) j ⟨l.val % 64, by omega⟩))
    + c (ix3 ⟨l.val / 64, by omega⟩ j ⟨l.val % 64, by omega⟩) := by
  obtain ⟨l, hl⟩ := l
  pointwise [k0_pay76]
  split_ifs <;> exact congr (congrArg HAdd.hAdd (Finset.sum_congr rfl fun m _ => at3 x j (by simp only [mem]; omega) (by simp only []; omega)))
    (at3 c j (by simp only [Fin.isValue, Fin.val_zero, Fin.val_one]; omega) (by simp only []; omega))

theorem passk (g : Fin 2) (d : Fin 64) : k0_pay78 x (ix3 g j d) = ∑ m, x (ix3 (mem g m) j d) := by
  obtain ⟨g, hg⟩ := g
  pointwise [k0_pay78]
  split_ifs <;> exact Finset.sum_congr rfl fun m _ => at3 x j (by simp only [mem]; omega) rfl

theorem passv (g : Fin 2) (d : Fin 64) : k0_pay79 x (ix3 g j d) = ∑ m, x (ix3 (mem g m) j d) := by
  obtain ⟨g, hg⟩ := g
  pointwise [k0_pay79]
  split_ifs <;> exact Finset.sum_congr rfl fun m _ => at3 x j (by simp only [mem]; omega) rfl

theorem outn (y : FVec Ideal S128x512 .f32) (k v : FVec Ideal S128x128 .f32) (l : Fin 1024) : k0_pay77 y k v (ix2 j l)
    = if h : l.val < 512 then y (ix2 j ⟨l.val, h⟩) else if h : l.val - 512 < 128 then k (ix2 j ⟨l.val - 512, h⟩)
      else if h : l.val - 512 - 128 < 128 then v (ix2 j ⟨l.val - 512 - 128, h⟩) else 0 := by
  obtain ⟨l, hl⟩ := l
  pointwise [k0_pay77]

end Group

variable {o : Ops} {b : Blk} (H : Holds o b)
include H

/-! ## The gradients of the norms' scales -/

theorem DQW_at (z : Fin 1) (d : Fin 64) : o.DQW (ix2 z d) = ((b.dqw d : ℝ) : EReal) := by
  pointwise [k0_pay60]
  rw [sum_leading]
  pointwise
  simp only [sum_leading]
  pointwise
  simp only [DQN_at H, hat_q _ (Q_at H), ← EReal.coe_mul, ← coe_sum, Finset.sum_const, Finset.card_univ, Fintype.card_fin, one_smul]
  rfl

theorem DKW_at (z : Fin 1) (d : Fin 64) : o.DKW (ix2 z d) = ((b.dkw d : ℝ) : EReal) := by
  pointwise [k0_pay71, k0_pay64]
  rw [sum_leading]
  pointwise
  simp only [sum_leading]
  pointwise
  simp only [sum_leading]
  pointwise
  simp only [DKCN_at H, DKPN_at H, hat_kp _ (KP_at H), hat_kc _ (KC_at H) _ rfl, ← EReal.coe_mul, ← coe_sum, ← EReal.coe_add,
    Finset.sum_const, Finset.card_univ, Fintype.card_fin, one_smul]
  rfl

/-! ## What the point carries on, and its rows of the result -/

theorem PASSK_at (g : Fin 2) (j : Fin 128) (d : Fin 64) : k0_pay78 o.DKP (ix3 g j d) = ((b.dkPass g j d : ℝ) : EReal) := by
  rw [passk]
  simp only [DKP_at H, grp_mem, ← coe_sum]
  rfl

theorem PASSV_at (g : Fin 2) (j : Fin 128) (d : Fin 64) : k0_pay79 o.DVP (ix3 g j d) = ((b.dvPass g j d : ℝ) : EReal) := by
  rw [passv]
  simp only [DVP_at H, ← coe_sum]
  rfl

/-- One lane of the block's rows of the result, over what the block after it passes back. -/
theorem OUT_at {ck cv : FVec Ideal S2x128x64 .f32} {rk rv : Fin 2 → Fin 128 → Fin 64 → ℝ}
    (hk : ∀ g j d, ck (ix3 g j d) = ((rk g j d : ℝ) : EReal)) (hv : ∀ g j d, cv (ix3 g j d) = ((rv g j d : ℝ) : EReal))
    (j : Fin 128) (l : Fin 1024) : o.OUT ck cv (ix2 j l) = ((b.out rk rv j l : ℝ) : EReal) := by
  refine (outn j _ _ _ l).trans ?_
  unfold Blk.out
  split_ifs with h1 h2 h3
  · rw [outq]
    exact DQ_at H _ _ _
  · rw [outk]
    simp only [DKC_at H, hk, grp_mem, ← coe_sum, ← EReal.coe_add]
    rfl
  · rw [outv]
    simp only [DVC_at H, hv, ← coe_sum, ← EReal.coe_add]
    rfl
  · rfl

end Cert.SwaIdeal.Grad
end
-- ==== Proof.SwaArray.lean ====
/- The attention's gradient: the arrays the points leave. -/
module

public import proofs.«01_k».proof.Defs
public import proofs.«01_k».proof.Proof.SwaHost
public import proofs.«01_k».proof.Proof.SwaRows
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaIdeal.Grad

open Idealize.ShloMosaic Idealize.ShloMosaic.TcCoe Idealize.SL.Sem
open Idealize.ShloMosaic.Pipeline (Dat)
open Cert.SwaIdeal Cert.SwaIdeal.Gen Cert.Reals

variable (m : (ℓ : Loc nD τ sig) → Buf (Elt Ideal) ℓ)

open Cert.SwaMath

/-! ## The points one after another -/

variable (c : Dev nD) (x : In)

/-- What a point leaves, in real numbers. -/
structure At (t : ℕ) (s : St Ideal) : Prop where
  out : ∀ j l, s.1 (ix2 j l) = ((x.out (31 - t) j l : ℝ) : EReal)
  dqw : ∀ z d, s.2.1 (ix2 z d) = ((∑ k ∈ Finset.range (t + 1), (x.blk (31 - k)).dqw d : ℝ) : EReal)
  dkw : ∀ z d, s.2.2.1 (ix2 z d) = ((∑ k ∈ Finset.range (t + 1), (x.blk (31 - k)).dkw d : ℝ) : EReal)
  dsk : ∀ h i z, s.2.2.2.1 (ix3 h i z) = ((∑ k ∈ Finset.range (t + 1), (x.blk (31 - k)).dsk h : ℝ) : EReal)
  passK : ∀ g j d, s.2.2.2.2.1 (ix3 g j d) = (((x.blk (31 - t)).dkPass g j d : ℝ) : EReal)
  passV : ∀ g j d, s.2.2.2.2.2 (ix3 g j d) = (((x.blk (31 - t)).dvPass g j d : ℝ) : EReal)

theorem zero2 (g : Fin 2) (j : Fin 128) (d : Fin 64) : k0_pay2 (F := Ideal) (ix3 g j d) = ((0 : ℝ) : EReal) := by
  pointwise [k0_pay2]
  rfl
theorem zero3 (g : Fin 2) (j : Fin 128) (d : Fin 64) : k0_pay3 (F := Ideal) (ix3 g j d) = ((0 : ℝ) : EReal) := by
  pointwise [k0_pay3]
  rfl
theorem acc80 (a p : FVec Ideal S1x64 .f32) (z : Fin 1) (d : Fin 64) : k0_pay80 (F := Ideal) a p (ix2 z d) = p (ix2 z d) + a (ix2 z d) := by
  pointwise [k0_pay80]
theorem acc81 (a p : FVec Ideal S1x64 .f32) (z : Fin 1) (d : Fin 64) : k0_pay81 (F := Ideal) a p (ix2 z d) = p (ix2 z d) + a (ix2 z d) := by
  pointwise [k0_pay81]
theorem acc1 (a p : FVec Ideal S8x128x1 .f32) (h : Fin 8) (i : Fin 128) (z : Fin 1) :
    k0_pay1 (F := Ideal) a p (ix3 h i z) = p (ix3 h i z) + ∑ j, a (ix3 h j 0) := by
  pointwise [k0_pay1]
theorem zero5 (z : Fin 1) (d : Fin 64) : k0_pay5 (F := Ideal) (ix2 z d) = ((0 : ℝ) : EReal) := by
  pointwise [k0_pay5]
  rfl
theorem zero6 (z : Fin 1) (d : Fin 64) : k0_pay6 (F := Ideal) (ix2 z d) = ((0 : ℝ) : EReal) := by
  pointwise [k0_pay6]
  rfl
theorem zero4 (h : Fin 8) (i : Fin 128) (z : Fin 1) : k0_pay4 (F := Ideal) (ix3 h i z) = ((0 : ℝ) : EReal) := by
  pointwise [k0_pay4]
  rfl

variable {c x} (hx : Reads m c x)
include hx

theorem at_first (t : Fin cfg0.N) (ht : t.val = 0) (h : t.val % 32 = 0) : At x t.val (leftA m c t h) := by
  have H := holds m c x hx t
  have hn : 31 - t.val = 31 := by omega
  refine ⟨fun j l => ?_, fun z d => ?_, fun z d => ?_, fun h i z => ?_, fun g j d => ?_, fun g j d => ?_⟩
  · rw [leftA_0, OUT_at H (rk := fun _ _ _ => 0) (rv := fun _ _ _ => 0) zero2 zero3]
    unfold In.out
    have eK : x.passK (31 - t.val) = fun _ _ _ => 0 := by funext g j d; exact if_pos hn
    have eV : x.passV (31 - t.val) = fun _ _ _ => 0 := by funext g j d; exact if_pos hn
    rw [eK, eV]
  · rw [leftA_1, acc80, zero5, DQW_at H, ← EReal.coe_add, ht, Finset.sum_range_one, zero_add]
  · rw [leftA_2, acc81, zero6, DKW_at H, ← EReal.coe_add, ht, Finset.sum_range_one, zero_add]
  · rw [leftA_3, acc1, zero4, Finset.sum_congr rfl fun j _ => DSK_at H _ j 0, ← coe_sum, ← EReal.coe_add, ht, Finset.sum_range_one, zero_add]
    rfl
  · rw [leftA_4, PASSK_at H]
  · rw [leftA_5, PASSV_at H]

theorem at_next (t : Fin cfg0.N) (h : ¬t.val % 32 = 0) (p : St Ideal) (hp : At x (t.val - 1) p) : At x t.val (leftB m c t h p) := by
  have H := holds m c x hx t
  have hN : t.val < 32 := t.isLt
  have hn : ¬31 - t.val = 31 := by omega
  have e1 : t.val - 1 + 1 = t.val := by omega
  have e2 : 31 - (t.val - 1) = 31 - t.val + 1 := by omega
  refine ⟨fun j l => ?_, fun z d => ?_, fun z d => ?_, fun h' i z => ?_, fun g j d => ?_, fun g j d => ?_⟩
  · rw [leftB_0, OUT_at H hp.passK hp.passV]
    unfold In.out
    have eK : x.passK (31 - t.val) = (x.blk (31 - (t.val - 1))).dkPass := by funext g j d; exact (if_neg hn).trans (by rw [e2])
    have eV : x.passV (31 - t.val) = (x.blk (31 - (t.val - 1))).dvPass := by funext g j d; exact (if_neg hn).trans (by rw [e2])
    rw [eK, eV]
  · rw [leftB_1, acc80, hp.dqw, DQW_at H, ← EReal.coe_add, e1, ← Finset.sum_range_succ]
  · rw [leftB_2, acc81, hp.dkw, DKW_at H, ← EReal.coe_add, e1, ← Finset.sum_range_succ]
  · rw [leftB_3, acc1, hp.dsk, Finset.sum_congr rfl fun j _ => DSK_at H _ j 0, ← coe_sum, ← EReal.coe_add, e1, Finset.sum_range_succ _ t.val]
    rfl
  · rw [leftB_4, PASSK_at H]
  · rw [leftB_5, PASSV_at H]

theorem at_state : ∀ (n : ℕ) (hn : n < cfg0.N), At x n (state m c n hn)
  | 0, hn => by
    have h := state_first m c ⟨0, hn⟩ (Nat.zero_mod _)
    exact h ▸ at_first m hx ⟨0, hn⟩ rfl (Nat.zero_mod _)
  | n + 1, hn => by
    have h' : n + 1 < 32 := hn
    have h := state_next m c ⟨n + 1, hn⟩ (by dsimp only; omega)
    exact h ▸ at_next m hx ⟨n + 1, hn⟩ (by dsimp only; omega) _ (at_state n (Nat.lt_of_succ_lt hn))

/-! ## The arrays the calls leave -/

omit hx

theorem sum_back (f : ℕ → ℝ) : ∑ k ∈ Finset.range (31 + 1), f (31 - k) = ∑ n ∈ Finset.range 32, f n := by
  have h := Finset.sum_range_reflect f 32
  exact h

variable (c x)

/-- The rows' gradients beside the columns that were there. -/
def DP : FVec Ideal S4096x3072 .bf16 := fun i => if h : (i 1).val < 2048 then A5 m c i
  else ((x.out ((i 0).val / 128) ⟨(i 0).val % 128, Nat.mod_lt _ (by norm_num)⟩ ⟨(i 1).val - 2048, by have h1 : (i 1).val < 3072 := (i 1).isLt; omega⟩ : ℝ) : EReal)
def DQW : FVec Ideal S1x64 .f32 := fun i => ((x.dqw (i 1) : ℝ) : EReal)
def DKW : FVec Ideal S1x64 .f32 := fun i => ((x.dkw (i 1) : ℝ) : EReal)
def DSKS : FVec Ideal S8x128x1 .f32 := fun i => ((x.dsk (i 0) : ℝ) : EReal)

theorem A_eq (w : Fin cfg0.W) : (dats m 0 c).A w = V m c (Pipeline.arrRef spec0 w) := entry_eq m c w

variable {c x}
include hx

theorem final10 : (dats m 0 c).arrAt 10 cfg0.N = DP m c x := by
  refine (dats m 0 c).arrAt_eq_of_coversWhere_of_agree 10 (DP m c x) (fun β => 2 ≤ β 1) (by decide +kernel) (fun t hf y => ?_) (fun j hj => ?_)
  · have hy : ∃ j l, y = ix2 (n0 := 128) (n1 := 1024) j l := ⟨y 0, y 1, by funext b; match b with | ⟨0, _⟩ => rfl | ⟨1, _⟩ => rfl⟩
    obtain ⟨j, l, rfl⟩ := hy
    have hN : t.val < 32 := t.isLt
    blk_simp
    rw [after_10]
    refine ((at_state m hx t.val t.isLt).out j l).trans ?_
    unfold DP
    have e : (((cfg0.win 10).blk t).view.emb (ix2 j l)) = ix2 (n0 := 4096) (n1 := 3072) ⟨128 * (31 - t.val) + j.val, by omega⟩ ⟨2048 + l.val, by omega⟩ := by
      blk_ext [idx t]
    rw [e]
    have h0 : (128 * (31 - t.val) + j.val) / 128 = 31 - t.val := by omega
    have h1 : (⟨(128 * (31 - t.val) + j.val) % 128, Nat.mod_lt _ (by norm_num)⟩ : Fin 128) = j := Fin.ext (by show (128 * (31 - t.val) + j.val) % 128 = j.val; omega)
    have h2 : (⟨2048 + l.val - 2048, by omega⟩ : Fin 1024) = l := Fin.ext (by show 2048 + l.val - 2048 = l.val; omega)
    refine Eq.symm ((dif_neg (by show ¬2048 + l.val < 2048; omega)).trans ?_)
    show ((x.out ((128 * (31 - t.val) + j.val) / 128) ⟨(128 * (31 - t.val) + j.val) % 128, _⟩ ⟨2048 + l.val - 2048, _⟩ : ℝ) : EReal) = _
    rw [h0, h1, h2]
  · have hj' := hj
    blk_simp [Pipeline.Window.cell_apply] at hj'
    have hi : ∃ r q, j = ix2 (n0 := 4096) (n1 := 3072) r q := ⟨j 0, j 1, by funext b; match b with | ⟨0, _⟩ => rfl | ⟨1, _⟩ => rfl⟩
    obtain ⟨r, q, rfl⟩ := hi
    have hq : q.val < 2048 := by
      have h : ¬ 2 ≤ q.val / 1024 := hj'
      omega
    unfold DP
    refine Eq.trans ?_ (dif_pos (show q.val < 2048 from hq)).symm
    rw [A_eq]
    show V m c main_v23_0 (ix2 r q) = _
    unfold V V0
    simp only [List.flatten_cons, List.flatten_nil, List.append_nil]
    after_results
    rfl

theorem last11 (t : Fin cfg0.N) (ht : t.val = 31) (z : Fin 1) (d : Fin 64) : (dats m 0 c).after 11 t (ix2 z d) = DQW x (ix2 z d) := by
  rw [after_11]
  refine ((at_state m hx t.val t.isLt).dqw z d).trans ?_
  rw [ht, sum_back fun n => (x.blk n).dqw d]
  rfl

theorem final11 : (dats m 0 c).arrAt 11 cfg0.N = DQW x := by
  refine (dats m 0 c).arrAt_eq_of_after_last 11 ⟨31, by decide⟩ (by decide +kernel) _ fun j => ?_
  have hy : ∃ z d, j = ix2 (n0 := 1) (n1 := 64) z d := ⟨j 0, j 1, by funext b; match b with | ⟨0, _⟩ => rfl | ⟨1, _⟩ => rfl⟩
  obtain ⟨z, d, rfl⟩ := hy
  blk_simp
  exact last11 m hx ⟨31, by decide⟩ rfl z d

theorem last12 (t : Fin cfg0.N) (ht : t.val = 31) (z : Fin 1) (d : Fin 64) : (dats m 0 c).after 12 t (ix2 z d) = DKW x (ix2 z d) := by
  rw [after_12]
  refine ((at_state m hx t.val t.isLt).dkw z d).trans ?_
  rw [ht, sum_back fun n => (x.blk n).dkw d]
  rfl

theorem final12 : (dats m 0 c).arrAt 12 cfg0.N = DKW x := by
  refine (dats m 0 c).arrAt_eq_of_after_last 12 ⟨31, by decide⟩ (by decide +kernel) _ fun j => ?_
  have hy : ∃ z d, j = ix2 (n0 := 1) (n1 := 64) z d := ⟨j 0, j 1, by funext b; match b with | ⟨0, _⟩ => rfl | ⟨1, _⟩ => rfl⟩
  obtain ⟨z, d, rfl⟩ := hy
  blk_simp
  exact last12 m hx ⟨31, by decide⟩ rfl z d

theorem last13 (t : Fin cfg0.N) (ht : t.val = 31) (h : Fin 8) (i : Fin 128) (z : Fin 1) : (dats m 0 c).after 13 t (ix3 h i z) = DSKS x (ix3 h i z) := by
  rw [after_13]
  refine ((at_state m hx t.val t.isLt).dsk h i z).trans ?_
  rw [ht, sum_back fun n => (x.blk n).dsk h]
  rfl

set_option maxHeartbeats 2000000 in
theorem final13 : (dats m 0 c).arrAt 13 cfg0.N = DSKS x := by
  refine (dats m 0 c).arrAt_eq_of_after_last 13 ⟨31, by decide⟩ (by decide +kernel) _ fun j => ?_
  have hy : ∃ h i z, j = ix3 (n0 := 8) (n1 := 128) (n2 := 1) h i z := ⟨j 0, j 1, j 2, by funext b; match b with | ⟨0, _⟩ => rfl | ⟨1, _⟩ => rfl | ⟨2, _⟩ => rfl⟩
  obtain ⟨h, i, z, rfl⟩ := hy
  blk_simp
  exact last13 m hx ⟨31, by decide⟩ rfl h i z

/-- The host's last lines: the sinks' gradient is the first of each head's repeated cells. -/
theorem at_exit : Pipeline.withArrays (cfgs 0).spec c (V0 m c) (fun w => (dats m 0 c).arrAt w (cfgs 0).N) (Proc.tc.devRef main_v23_3) = DSKS x :=
  ((dats m 0 c).withArrays_arrAt (by decide) (V0 m c) (fun w => entry_eq m c w) 13).trans (final13 m hx)

theorem tail26 : Pipeline.afterTail₀ cfgs (dats m) 0 (V0 m) [hostOps1] c main_v25 =
    shapeCast S8 (extractStridedSlice S8x1x1 ![0, 0, 0] (DSKS x) slices_S8x128x1_S8x1x1_0_0_0) shapeCasts_S8x1x1_S8 := by
  unfold Pipeline.afterTail₀
  simp only [List.flatten_cons, List.flatten_nil, List.append_nil]
  after_results
  rw [at_exit m hx]
  rfl

theorem res_dsk (h : Fin 8) : (show FVec Ideal S8 .f32 from Pipeline.afterTail₀ cfgs (dats m) 0 (V0 m) [hostOps1] c main_v25) (ix1 h) = ((x.dsk h : ℝ) : EReal) := by
  rw [tail26 m hx]
  pointwise
  rfl

end Cert.SwaIdeal.Grad
end
-- ==== Proof.SwaRefNorm.lean ====
/- The attention's gradient in the reference: the heads, their norms and the bands. -/
module

public import proofs.«01_k».proof.Proof.SwaMath
public import proofs.«01_k».proof.Proof.Gen.SwaRefIdeal.Read
public import Idealize.ShloMosaic.Lib.Pointwise
public import Idealize.ShloMosaic.Lib.WordCmp
public import Idealize.ShloMosaic.Lib.Pipeline.ValueKit

@[expose] public section

noncomputable section

namespace Cert.SwaRefIdeal.Grad

open Idealize.ShloMosaic Idealize.ShloMosaic.TcCoe
open Cert.SwaRefIdeal.Read Cert.Reals Cert.SwaMath

variable {x0 : FVec Ideal S4096x2832 .f32} {x1 x2 : FVec Ideal S1x64 .f32} {x3 : FVec Ideal S8 .f32} {x4 : FVec Ideal S4096x1024 .f32} {x5 : FVec Ideal S4096x3072 .bf16}

/-- The arguments hold the real numbers `x`. -/
structure Args (x : In) (x0 : FVec Ideal S4096x2832 .f32) (x1 x2 : FVec Ideal S1x64 .f32) (x3 : FVec Ideal S8 .f32) (x4 : FVec Ideal S4096x1024 .f32) : Prop where
  p : ∀ r q, x0 (ix2 r q) = ((x.p r q : ℝ) : EReal)
  qw : ∀ z d, x1 (ix2 z d) = ((x.qw d : ℝ) : EReal)
  kw : ∀ z d, x2 (ix2 z d) = ((x.kw d : ℝ) : EReal)
  sk : ∀ h, x3 (ix1 h) = ((x.sk h : ℝ) : EReal)
  dm : ∀ r q, x4 (ix2 r q) = ((x.dm r q : ℝ) : EReal)

variable {x : In} (H : Args x x0 x1 x2 x3 x4)
include H

/-! ## The heads of the rows -/

theorem q_at (r : Fin 4096) (h : Fin 8) (d : Fin 64) : (val_main_v3 (F := Ideal) x0) (ix3 r h d) = ((x.qrow r h d : ℝ) : EReal) := by
  pointwise [val_main_v3, val_main_v0]
  refine (congrArg x0 (?_ : _ = ix2 r ⟨2064 + (64 * h.val + d.val), by omega⟩)).trans (H.p _ _)
  blk_ext

theorem k_at (r : Fin 4096) (g : Fin 2) (d : Fin 64) : (val_main_v20 (F := Ideal) x0) (ix3 r g d) = ((x.krow r g d : ℝ) : EReal) := by
  pointwise [val_main_v20, val_main_v1]
  refine (congrArg x0 (?_ : _ = ix2 r ⟨2576 + (64 * g.val + d.val), by omega⟩)).trans (H.p _ _)
  blk_ext

theorem v_at (r : Fin 4096) (g : Fin 2) (d : Fin 64) : (val_main_v37 (F := Ideal) x0) (ix3 r g d) = ((x.vrow r g d : ℝ) : EReal) := by
  pointwise [val_main_v37, val_main_v2]
  refine (congrArg x0 (?_ : _ = ix2 r ⟨2704 + (64 * g.val + d.val), by omega⟩)).trans (H.p _ _)
  blk_ext

/-! ## The norms -/

theorem ms_q (r : Fin 4096) (h : Fin 8) (z : Fin 1) : (val_main_v10 (F := Ideal) x0) (ix3 r h z) = ((ms (x.qrow r h) : ℝ) : EReal) := by
  pointwise [val_main_v10, val_main_v9, val_main_cst_1, val_main_v8, val_main_v7, val_main_cst_0, val_main_v6, val_main_v5, val_main_cst, val_main_v4]
  simp only [q_at H, bits_64, bits_eps, ← EReal.coe_mul, ← coe_sum, div_64, ← EReal.coe_add]
  rfl

theorem rs_q (r : Fin 4096) (h : Fin 8) (z : Fin 1) : (val_main_v11 (F := Ideal) x0) (ix3 r h z) = ((rs (x.qrow r h) : ℝ) : EReal) := by
  pointwise [val_main_v11]
  rw [ms_q H, rsqrt_ms]

theorem rs'_q (r : Fin 4096) (h : Fin 8) (z : Fin 1) : (val_main_v14 (F := Ideal) x0) (ix3 r h z) = ((rs' (x.qrow r h) : ℝ) : EReal) := by
  pointwise [val_main_v14, val_main_v13, val_main_cst_2, val_main_v12]
  rw [rs_q H, ms_q H, div_ms, bits_neg_half, ← EReal.coe_mul]
  rfl

theorem hat_q (r : Fin 4096) (h : Fin 8) (d : Fin 64) : (val_main_v16 (F := Ideal) x0) (ix3 r h d) = ((hat (x.qrow r h) d : ℝ) : EReal) := by
  pointwise [val_main_v16, val_main_v15]
  rw [rs_q H, q_at H, ← EReal.coe_mul]
  rfl

theorem rms_q (r : Fin 4096) (h : Fin 8) (d : Fin 64) : (val_main_v19 (F := Ideal) x0 x1) (ix3 r h d) = ((rms (x.qrow r h) x.qw d : ℝ) : EReal) := by
  pointwise [val_main_v19, val_main_v18, val_main_v17]
  rw [hat_q H, H.qw, ← EReal.coe_mul]
  rfl

theorem ms_k (r : Fin 4096) (h : Fin 2) (z : Fin 1) : (val_main_v27 (F := Ideal) x0) (ix3 r h z) = ((ms (x.krow r h) : ℝ) : EReal) := by
  pointwise [val_main_v27, val_main_v26, val_main_cst_5, val_main_v25, val_main_v24, val_main_cst_4, val_main_v23, val_main_v22, val_main_cst_3, val_main_v21]
  simp only [k_at H, bits_64, bits_eps, ← EReal.coe_mul, ← coe_sum, div_64, ← EReal.coe_add]
  rfl

theorem rs_k (r : Fin 4096) (h : Fin 2) (z : Fin 1) : (val_main_v28 (F := Ideal) x0) (ix3 r h z) = ((rs (x.krow r h) : ℝ) : EReal) := by
  pointwise [val_main_v28]
  rw [ms_k H, rsqrt_ms]

theorem rs'_k (r : Fin 4096) (h : Fin 2) (z : Fin 1) : (val_main_v31 (F := Ideal) x0) (ix3 r h z) = ((rs' (x.krow r h) : ℝ) : EReal) := by
  pointwise [val_main_v31, val_main_v30, val_main_cst_6, val_main_v29]
  rw [rs_k H, ms_k H, div_ms, bits_neg_half, ← EReal.coe_mul]
  rfl

theorem hat_k (r : Fin 4096) (h : Fin 2) (d : Fin 64) : (val_main_v33 (F := Ideal) x0) (ix3 r h d) = ((hat (x.krow r h) d : ℝ) : EReal) := by
  pointwise [val_main_v33, val_main_v32]
  rw [rs_k H, k_at H, ← EReal.coe_mul]
  rfl

theorem rms_k (r : Fin 4096) (h : Fin 2) (d : Fin 64) : (val_main_v36 (F := Ideal) x0 x2) (ix3 r h d) = ((rms (x.krow r h) x.kw d : ℝ) : EReal) := by
  pointwise [val_main_v36, val_main_v35, val_main_v34]
  rw [hat_k H, H.kw, ← EReal.coe_mul]
  rfl

/-! ## The bands: each block's own keys and values after those of the block before -/

theorem qn_at (n : Fin 32) (i : Fin 128) (g : Fin 2) (l : Fin 4) (d : Fin 64) :
    (val_main_v38 (F := Ideal) x0 x1) (ix5 n i g l d) = (((x.band n).qn (mem g l) i d : ℝ) : EReal) := by
  refine Eq.trans ?_ (rms_q H (row n i) (mem g l) d)
  pointwise [val_main_v38]
  refine congrArg (val_main_v19 (F := Ideal) x0 x1) ?_
  unfold row mem
  blk_ext
  all_goals omega

theorem kn_hi (n : Fin 32) (j : Fin 128) (g : Fin 2) (d : Fin 64) :
    (val_main_v44 (F := Ideal) x0 x2) (ix4 n (hi j) g d) = ((rms ((x.band n).kc g j) x.kw d : ℝ) : EReal) := by
  refine Eq.trans ?_ (rms_k H (row n j) g d)
  pointwise [val_main_v44]
  refine (dif_neg (by simp only [hi]; omega)).trans ?_
  pointwise [val_main_v39]
  refine congrArg (val_main_v36 (F := Ideal) x0 x2) ?_
  unfold row hi
  blk_ext
  all_goals omega

theorem kn_lo (n : Fin 32) (j : Fin 128) (g : Fin 2) (d : Fin 64) :
    (val_main_v44 (F := Ideal) x0 x2) (ix4 n (lo j) g d) = ((rms ((x.band n).kp g j) x.kw d : ℝ) : EReal) := by
  pointwise [val_main_v44]
  refine (dif_pos (by simp only [lo]; omega)).trans ?_
  pointwise [val_main_v42]
  by_cases hn : n.val = 0
  · refine (dif_pos (by omega)).trans ?_
    pointwise [val_main_v40, val_main_cst_7]
    unfold In.band rms hat
    simp only [if_pos hn, zero_mul, EReal.coe_zero]
  · refine (dif_neg (by omega)).trans ?_
    refine Eq.trans ?_ ((rms_k H (row (n.val - 1) j) g d).trans ?_)
    · pointwise [val_main_v41, val_main_v39]
      refine congrArg (val_main_v36 (F := Ideal) x0 x2) ?_
      unfold row lo
      blk_ext
    · unfold In.band
      simp only [if_neg hn]
      rfl

theorem v_hi (n : Fin 32) (j : Fin 128) (g : Fin 2) (d : Fin 64) : (val_main_v50 (F := Ideal) x0) (ix4 n (hi j) g d) = (((x.band n).vc g j d : ℝ) : EReal) := by
  refine Eq.trans ?_ (v_at H (row n j) g d)
  pointwise [val_main_v50]
  refine (dif_neg (by simp only [hi]; omega)).trans ?_
  pointwise [val_main_v45]
  refine congrArg (val_main_v37 (F := Ideal) x0) ?_
  unfold row hi
  blk_ext

theorem v_lo (n : Fin 32) (j : Fin 128) (g : Fin 2) (d : Fin 64) : (val_main_v50 (F := Ideal) x0) (ix4 n (lo j) g d) = (((x.band n).vp g j d : ℝ) : EReal) := by
  pointwise [val_main_v50]
  refine (dif_pos (by simp only [lo]; omega)).trans ?_
  pointwise [val_main_v48]
  by_cases hn : n.val = 0
  · refine (dif_pos (by omega)).trans ?_
    pointwise [val_main_v46, val_main_cst_9]
    unfold In.band
    simp only [if_pos hn, EReal.coe_zero]
  · refine (dif_neg (by omega)).trans ?_
    refine Eq.trans ?_ ((v_at H (row (n.val - 1) j) g d).trans ?_)
    · pointwise [val_main_v47, val_main_v45]
      refine congrArg (val_main_v37 (F := Ideal) x0) ?_
      unfold row lo
      blk_ext
    · unfold In.band
      simp only [if_neg hn]
      rfl

theorem g_at (n : Fin 32) (i : Fin 128) (g : Fin 2) (l : Fin 4) (d : Fin 64) :
    (val_main_v157 (F := Ideal) x4) (ix5 n i g l d) = (((x.band n).g (mem g l) i d : ℝ) : EReal) := by
  pointwise [val_main_v157, val_main_v156]
  refine (congrArg x4 (?_ : _ = ix2 (row n i) ⟨512 + (64 * (mem g l).val + d.val), by have := (mem g l).isLt; omega⟩)).trans (H.dm _ _)
  unfold row mem
  blk_ext
  all_goals omega

end Cert.SwaRefIdeal.Grad
end
-- ==== Proof.SwaRefScores.lean ====
/- The attention's gradient in the reference: the scores and their mask. -/
module

public import proofs.«01_k».proof.Proof.SwaRefNorm
public import proofs.«01_k».proof.Proof.SwaMath
public import proofs.«01_k».proof.Proof.Gen.SwaRefIdeal.Read
public import Idealize.ShloMosaic.Lib.Pointwise
public import Idealize.ShloMosaic.Lib.WordCmp
public import Idealize.ShloMosaic.Lib.Pipeline.ValueKit

@[expose] public section

noncomputable section

namespace Cert.SwaRefIdeal.Grad

open Idealize.ShloMosaic Idealize.ShloMosaic.TcCoe
open Cert.SwaRefIdeal.Read Cert.Reals Cert.SwaMath

variable {x0 : FVec Ideal S4096x2832 .f32} {x1 x2 : FVec Ideal S1x64 .f32} {x3 : FVec Ideal S8 .f32} {x4 : FVec Ideal S4096x1024 .f32} {x5 : FVec Ideal S4096x3072 .bf16}

variable {x : In} (H : Args x x0 x1 x2 x3 x4)

/-! ## The scores -/

section
include H

theorem dot_lo (g : Fin 2) (l : Fin 4) (n : Fin 32) (i j : Fin 128) :
    (val_main_v52 (F := Ideal) x0 x1 x2) (ix5 g l n i (lo j)) = ((∑ d, (x.band n).qn (mem g l) i d * (x.band n).kpn (mem g l) j d : ℝ) : EReal) := by
  pointwise [val_main_v52, val_main_v51]
  simp only [kn_lo H, qn_at H, ← EReal.coe_mul, ← coe_sum]
  refine congrArg _ (Finset.sum_congr rfl fun d _ => ?_)
  rw [mul_comm]
  unfold Blk.kpn
  rw [grp_mem]
  rfl

theorem dot_hi (g : Fin 2) (l : Fin 4) (n : Fin 32) (i j : Fin 128) :
    (val_main_v52 (F := Ideal) x0 x1 x2) (ix5 g l n i (hi j)) = ((∑ d, (x.band n).qn (mem g l) i d * (x.band n).kcn (mem g l) j d : ℝ) : EReal) := by
  pointwise [val_main_v52, val_main_v51]
  simp only [kn_hi H, qn_at H, ← EReal.coe_mul, ← coe_sum]
  refine congrArg _ (Finset.sum_congr rfl fun d _ => ?_)
  rw [mul_comm]
  unfold Blk.kcn
  rw [grp_mem]
  rfl
end

theorem slope_at (g : Fin 2) (l : Fin 4) : (val_main_v101 (F := Ideal)) (ix2 g l) = ((slope (mem g l) : ℝ) : EReal) := by
  refine Eq.trans ?_ (slope_eq (mem g l))
  pointwise [val_main_v101, val_main_v100, val_main_v99, val_main_v98, val_main_v97, val_main_v96, val_main_v95, val_main_v94, val_main_v93, val_main_v92, val_main_cst_17, val_main_cst_18, val_main_cst_19, val_main_cst_20]
  unfold mem
  rw [Nat.mul_comm g.val 4]

/-! ## The distances and the mask -/

theorem word_lo : ∀ i j : Fin 128, (BitVec.ofNat 32 i.val + 128#32 - BitVec.ofNat 32 j.val).toInt = (i.val : ℤ) - j.val + 128 := by decide +kernel
theorem word_hi : ∀ i j : Fin 128, (BitVec.ofNat 32 i.val + 128#32 - BitVec.ofNat 32 (128 + j.val)).toInt = (i.val : ℤ) - j.val := by decide +kernel

theorem dist_lo (i j : Fin 128) : (val_main_v64 (F := Ideal)) (ix2 i (lo j)) = (((i.val : ℝ) - j.val + 128 : ℝ) : EReal) := by
  pointwise [val_main_v64, val_main_v63, val_main_v62, val_main_v61, val_main_v60, val_main_v59, val_main_v58, val_main_v57, val_main_v56, val_main_v55, val_main_c]
  show ((((BitVec.ofNat 32 i.val + 128#32 - BitVec.ofNat 32 j.val).toInt : ℤ) : ℝ) : EReal) = _
  rw [word_lo]
  push_cast
  rfl

theorem dist_hi (i j : Fin 128) : (val_main_v64 (F := Ideal)) (ix2 i (hi j)) = (((i.val : ℝ) - j.val : ℝ) : EReal) := by
  pointwise [val_main_v64, val_main_v63, val_main_v62, val_main_v61, val_main_v60, val_main_v59, val_main_v58, val_main_v57, val_main_v56, val_main_v55, val_main_c]
  show ((((BitVec.ofNat 32 i.val + 128#32 - BitVec.ofNat 32 (128 + j.val)).toInt : ℤ) : ℝ) : EReal) = _
  rw [word_hi]
  push_cast
  rfl

theorem near_lo : ∀ i j : Fin 128, Scalar.andi (Scalar.cmpi .sge (BitVec.ofNat 32 i.val + 128#32 - BitVec.ofNat 32 j.val) 0#32)
    (Scalar.cmpi .slt (BitVec.ofNat 32 i.val + 128#32 - BitVec.ofNat 32 j.val) 128#32) = if i.val < j.val then 1#1 else 0#1 := by decide +kernel
theorem near_hi : ∀ i j : Fin 128, Scalar.andi (Scalar.cmpi .sge (BitVec.ofNat 32 i.val + 128#32 - BitVec.ofNat 32 (128 + j.val)) 0#32)
    (Scalar.cmpi .slt (BitVec.ofNat 32 i.val + 128#32 - BitVec.ofNat 32 (128 + j.val)) 128#32) = if j.val ≤ i.val then 1#1 else 0#1 := by decide +kernel
theorem from_lo : ∀ (n : Fin 32) (j : Fin 128), Scalar.cmpi .sge (BitVec.ofNat 32 n.val * 128#32 + BitVec.ofNat 32 j.val - 128#32) 0#32
    = if n.val = 0 then 0#1 else 1#1 := by decide +kernel
theorem from_hi : ∀ (n : Fin 32) (j : Fin 128), Scalar.cmpi .sge (BitVec.ofNat 32 n.val * 128#32 + BitVec.ofNat 32 (128 + j.val) - 128#32) 0#32
    = 1#1 := by decide +kernel

open Classical in
theorem mask_lo (x : In) (n : Fin 32) (i j : Fin 128) : (val_main_v91 (F := Ideal)) (ix3 n i (lo j)) = if (x.band n).okp i j then 1#1 else 0#1 := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v60, val_main_v59, val_main_v58, val_main_v57, val_main_v56, val_main_v55, val_main_c, val_main_c_12, val_main_c_13, val_main_c_14, val_main_c_15, val_main_c_16]
  refine (congrArg₂ Scalar.andi (near_lo i j) (from_lo n j)).trans ?_
  unfold Blk.okp In.band In.blk
  by_cases hn : n.val = 0 <;> by_cases hj : i.val < j.val <;> simp [hn, hj] <;> decide

open Classical in
theorem mask_hi (n : Fin 32) (i j : Fin 128) : (val_main_v91 (F := Ideal)) (ix3 n i (hi j)) = if Blk.okc i j then 1#1 else 0#1 := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v60, val_main_v59, val_main_v58, val_main_v57, val_main_v56, val_main_v55, val_main_c, val_main_c_12, val_main_c_13, val_main_c_14, val_main_c_15, val_main_c_16]
  refine (congrArg₂ Scalar.andi (near_hi i j) (from_hi n j)).trans ?_
  unfold Blk.okc
  by_cases hj : j.val ≤ i.val <;> simp [hj] <;> decide

/-! ## The masked scores -/

section
include H

theorem score_lo (g : Fin 2) (l : Fin 4) (n : Fin 32) (i j : Fin 128) : (val_main_v108 (F := Ideal) x0 x1 x2) (ix5 g l n i (lo j)) = (((x.band n).sp (mem g l) i j : ℝ) : EReal) := by
  pointwise [val_main_v108, val_main_v107, val_main_v106, val_main_v105, val_main_v104, val_main_v103, val_main_v102, val_main_v54, val_main_v53, val_main_cst_11]
  simp only [dot_lo H, dist_lo, slope_at, bits_8th, ← EReal.coe_mul, ← EReal.coe_sub]
  rfl

theorem score_hi (g : Fin 2) (l : Fin 4) (n : Fin 32) (i j : Fin 128) : (val_main_v108 (F := Ideal) x0 x1 x2) (ix5 g l n i (hi j)) = (((x.band n).sc (mem g l) i j : ℝ) : EReal) := by
  pointwise [val_main_v108, val_main_v107, val_main_v106, val_main_v105, val_main_v104, val_main_v103, val_main_v102, val_main_v54, val_main_v53, val_main_cst_11]
  simp only [dot_hi H, dist_hi, slope_at, bits_8th, ← EReal.coe_mul, ← EReal.coe_sub]
  rfl

open Classical in
theorem masked_lo (g : Fin 2) (l : Fin 4) (n : Fin 32) (i j : Fin 128) :
    (val_main_v109_0 (F := Ideal) x0 x1 x2) (ix5 g l n i (lo j)) = if (x.band n).okp i j then (((x.band n).sp (mem g l) i j : ℝ) : EReal) else ⊥ := by
  pointwise [val_main_v109_0, val_main_v109_1, val_main_call0_v2, val_main_call0_v0, val_main_cst_21]
  simp only [mask_lo x, score_lo H, bits_bot]
  by_cases h : (x.band n).okp i j
  · simp only [if_pos h]; rfl
  · simp only [if_neg h]; rfl

open Classical in
theorem masked_hi (g : Fin 2) (l : Fin 4) (n : Fin 32) (i j : Fin 128) :
    (val_main_v109_0 (F := Ideal) x0 x1 x2) (ix5 g l n i (hi j)) = if Blk.okc i j then (((x.band n).sc (mem g l) i j : ℝ) : EReal) else ⊥ := by
  pointwise [val_main_v109_0, val_main_v109_1, val_main_call0_v2, val_main_call0_v0, val_main_cst_21]
  simp only [mask_hi, score_hi H, bits_bot]
  by_cases h : Blk.okc i j
  · simp only [if_pos h]; rfl
  · simp only [if_neg h]; rfl
end

end Cert.SwaRefIdeal.Grad
end
-- ==== Proof.SwaRefShares.lean ====
/- The attention's gradient in the reference: the shares of a row and what flows into them. -/
module

public import proofs.«01_k».proof.Proof.SwaRefScores
public import proofs.«01_k».proof.Proof.SwaMath
public import proofs.«01_k».proof.Proof.Gen.SwaRefIdeal.Read
public import Idealize.ShloMosaic.Lib.Pointwise
public import Idealize.ShloMosaic.Lib.WordCmp
public import Idealize.ShloMosaic.Lib.Pipeline.ValueKit

@[expose] public section

noncomputable section

namespace Cert.SwaRefIdeal.Grad

open Idealize.ShloMosaic Idealize.ShloMosaic.TcCoe
open Cert.SwaRefIdeal.Read Cert.Reals Cert.SwaMath

variable {x0 : FVec Ideal S4096x2832 .f32} {x1 x2 : FVec Ideal S1x64 .f32} {x3 : FVec Ideal S8 .f32} {x4 : FVec Ideal S4096x1024 .f32} {x5 : FVec Ideal S4096x3072 .bf16}

theorem sum_halves {M : Type*} [AddCommMonoid M] (f : Fin 256 → M) : ∑ J, f J = (∑ j, f (lo j)) + ∑ j, f (hi j) :=
  Fin.sum_univ_add (a := 128) (b := 128) f

theorem halves (J : Fin 256) : (∃ j, J = lo j) ∨ ∃ j, J = hi j := by
  by_cases h : J.val < 128
  · exact .inl ⟨⟨J.val, h⟩, rfl⟩
  · exact .inr ⟨⟨J.val - 128, by omega⟩, Fin.ext (by simp only [hi]; omega)⟩

theorem max_entry {s : Shape} (a b : FVec Ideal s .f32) (i : s.Idx) : maximumf a b i = max (α := EReal) (a i) (b i) := rfl

variable {x : In} (H : Args x x0 x1 x2 x3 x4)

/-! ## The greatest of a row -/

section
include H

theorem masked_lt (g : Fin 2) (l : Fin 4) (n : Fin 32) (i : Fin 128) (J : Fin 256) : (val_main_v109_0 (F := Ideal) x0 x1 x2) (ix5 g l n i J) < ⊤ := by
  rcases halves J with ⟨j, rfl⟩ | ⟨j, rfl⟩
  · rw [masked_lo H]; split
    · exact EReal.coe_lt_top _
    · exact bot_lt_top
  · rw [masked_hi H]; split
    · exact EReal.coe_lt_top _
    · exact bot_lt_top

theorem sink_at (g : Fin 2) (l : Fin 4) (z z' z'' : Fin 1) : (val_main_v111 (F := Ideal) x3) (ix5 g l z z' z'') = ((x.sk (mem g l) : ℝ) : EReal) := by
  refine Eq.trans ?_ (H.sk (mem g l))
  pointwise [val_main_v111, val_main_v110]
  refine congrArg x3 ?_
  unfold mem
  blk_ext

theorem top_at (g : Fin 2) (l : Fin 4) (n : Fin 32) (i : Fin 128) :
    (val_main_v112 (F := Ideal) x0 x1 x2) (ix4 g l n i) = (Finset.univ : Finset (Fin 256)).fold max (Ideal.ofBits .f32 4286578688#32) fun J => (val_main_v109_0 (F := Ideal) x0 x1 x2) (ix5 g l n i J) := by
  pointwise [val_main_v112, val_main_cst_22]

theorem top_lt (g : Fin 2) (l : Fin 4) (n : Fin 32) (i : Fin 128) : (val_main_v112 (F := Ideal) x0 x1 x2) (ix4 g l n i) < ⊤ := by
  rw [top_at H, bits_bot]
  exact fold_max_lt _ _ _ bot_lt_top fun J _ => masked_lt H g l n i J

omit H in
theorem top_wide (g : Fin 2) (l : Fin 4) (n : Fin 32) (i : Fin 128) (z : Fin 1) : (val_main_v118 (F := Ideal) x0 x1 x2) (ix5 g l n i z) = (val_main_v112 (F := Ideal) x0 x1 x2) (ix4 g l n i) := by
  unfold val_main_v118
  generalize (val_main_v112 (F := Ideal) x0 x1 x2) = v
  pointwise []

theorem sink_wide (g : Fin 2) (l : Fin 4) (n : Fin 32) (i : Fin 128) (z : Fin 1) : (val_main_v119 (F := Ideal) x3) (ix5 g l n i z) = ((x.sk (mem g l) : ℝ) : EReal) := by
  pointwise [val_main_v119]
  simp only [sink_at H]

theorem max_at (g : Fin 2) (l : Fin 4) (n : Fin 32) (i : Fin 128) : ∃ μ : ℝ, ∀ z, (val_main_v120 (F := Ideal) x0 x1 x2 x3) (ix5 g l n i z) = ((μ : ℝ) : EReal) := by
  obtain ⟨μ, hμ⟩ := real_max (top_lt H g l n i) (x.sk (mem g l))
  refine ⟨μ, fun z => Eq.trans ?_ hμ⟩
  have ha := top_wide (x0 := x0) (x1 := x1) (x2 := x2) g l n i z
  have hb := sink_wide H g l n i z
  refine Eq.trans ?_ (congrArg₂ (fun a b : EReal => max a b) ha hb)
  unfold val_main_v120
  exact max_entry _ _ _

theorem shift : ∃ μ : Fin 2 → Fin 4 → Fin 32 → Fin 128 → ℝ, ∀ g l n i z, (val_main_v120 (F := Ideal) x0 x1 x2 x3) (ix5 g l n i z) = ((μ g l n i : ℝ) : EReal) :=
  ⟨fun g l n i => (max_at H g l n i).choose, fun g l n i => (max_at H g l n i).choose_spec⟩

end

/-! ## The shifted softmax -/

section Shift
variable (μ : Fin 2 → Fin 4 → Fin 32 → Fin 128 → ℝ) (hμ : ∀ g l n i z, (val_main_v120 (F := Ideal) x0 x1 x2 x3) (ix5 g l n i z) = ((μ g l n i : ℝ) : EReal))
include H hμ
variable (g : Fin 2) (l : Fin 4) (n : Fin 32) (i j : Fin 128) (z : Fin 1)

theorem e_lo : (val_main_v141 (F := Ideal) x0 x1 x2 x3) (ix5 g l n i (lo j)) = (((x.band n).eps (μ g l n i) (mem g l) i j : ℝ) : EReal) := by
  pointwise [val_main_v141, val_main_v140, val_main_v139]
  simp only [hμ, masked_lo H]
  unfold Blk.eps
  split
  · rw [← EReal.coe_sub, Ideal.exp_coe]
  · rw [EReal.bot_sub, Ideal.exp_bot]; rfl

theorem e_hi : (val_main_v141 (F := Ideal) x0 x1 x2 x3) (ix5 g l n i (hi j)) = (((x.band n).ecs (μ g l n i) (mem g l) i j : ℝ) : EReal) := by
  pointwise [val_main_v141, val_main_v140, val_main_v139]
  simp only [hμ, masked_hi H]
  unfold Blk.ecs
  split
  · rw [← EReal.coe_sub, Ideal.exp_coe]
  · rw [EReal.bot_sub, Ideal.exp_bot]; rfl

theorem es_at : (val_main_v146 (F := Ideal) x0 x1 x2 x3) (ix5 g l n i z) = (((x.band n).ess (μ g l n i) (mem g l) : ℝ) : EReal) := by
  pointwise [val_main_v146, val_main_v145, val_main_v144]
  simp only [hμ, sink_at H, ← EReal.coe_sub, Ideal.exp_coe]
  rfl

theorem den_at : (val_main_v147 (F := Ideal) x0 x1 x2 x3) (ix5 g l n i z) = (((x.band n).dens (μ g l n i) (mem g l) i : ℝ) : EReal) := by
  pointwise [val_main_v147, val_main_v143, val_main_v142, val_main_cst_30]
  simp only [es_at H μ hμ, sum_halves, e_lo H μ hμ, e_hi H μ hμ, ← coe_sum, ← EReal.coe_add]
  unfold Blk.dens
  rw [add_comm (∑ j, (x.band n).ecs (μ g l n i) (mem g l) i j)]

theorem p_lo' : (val_main_v149 (F := Ideal) x0 x1 x2 x3) (ix5 g l n i (lo j)) = (((x.band n).pp (mem g l) i j : ℝ) : EReal) := by
  pointwise [val_main_v149, val_main_v148]
  simp only [e_lo H μ hμ, den_at H μ hμ]
  rw [div_real (Blk.dens_pos _ _ _ _).ne', Blk.pp_shift]

theorem p_hi' : (val_main_v149 (F := Ideal) x0 x1 x2 x3) (ix5 g l n i (hi j)) = (((x.band n).pc (mem g l) i j : ℝ) : EReal) := by
  pointwise [val_main_v149, val_main_v148]
  simp only [e_hi H μ hμ, den_at H μ hμ]
  rw [div_real (Blk.dens_pos _ _ _ _).ne', Blk.pc_shift]

theorem inv_at : (val_main_v152 (F := Ideal) x0 x1 x2 x3) (ix5 g l n i z) = ((1 / ((x.band n).dens (μ g l n i) (mem g l) i * (x.band n).dens (μ g l n i) (mem g l) i) : ℝ) : EReal) := by
  pointwise [val_main_v152, val_main_v151, val_main_v150, val_main_cst_31]
  simp only [den_at H μ hμ, ← EReal.coe_mul]
  have := (Blk.dens_pos (x.band n) (μ g l n i) (mem g l) i).ne'
  exact div_real (mul_ne_zero this this)

end Shift

section
include H
variable (g : Fin 2) (l : Fin 4) (n : Fin 32) (i j : Fin 128)

theorem p_lo : (val_main_v149 (F := Ideal) x0 x1 x2 x3) (ix5 g l n i (lo j)) = (((x.band n).pp (mem g l) i j : ℝ) : EReal) := by
  obtain ⟨μ, hμ⟩ := shift H
  exact p_lo' H μ hμ g l n i j

theorem p_hi : (val_main_v149 (F := Ideal) x0 x1 x2 x3) (ix5 g l n i (hi j)) = (((x.band n).pc (mem g l) i j : ℝ) : EReal) := by
  obtain ⟨μ, hμ⟩ := shift H
  exact p_hi' H μ hμ g l n i j

/-! ## The gradients of the shares -/

theorem dp_lo : (val_main_v160 (F := Ideal) x0 x4) (ix5 g l n i (lo j)) = (((x.band n).dpp (mem g l) i j : ℝ) : EReal) := by
  pointwise [val_main_v160, val_main_v159, val_main_v158]
  simp only [g_at H, v_lo H, ← EReal.coe_mul, ← coe_sum]
  unfold Blk.dpp
  rw [grp_mem]

theorem dp_hi : (val_main_v160 (F := Ideal) x0 x4) (ix5 g l n i (hi j)) = (((x.band n).dpc (mem g l) i j : ℝ) : EReal) := by
  pointwise [val_main_v160, val_main_v159, val_main_v158]
  simp only [g_at H, v_hi H, ← EReal.coe_mul, ← coe_sum]
  unfold Blk.dpc
  rw [grp_mem]

theorem dv_lo (d : Fin 64) : (val_main_v162 (F := Ideal) x0 x1 x2 x3 x4) (ix4 n (lo j) g d) = (((x.band n).dvPass g j d : ℝ) : EReal) := by
  pointwise [val_main_v162, val_main_v161, val_main_v158]
  simp only [g_at H, p_lo H, ← EReal.coe_mul, ← coe_sum]
  refine congrArg _ (Finset.sum_congr rfl fun l _ => Finset.sum_congr rfl fun i _ => ?_)
  exact mul_comm _ _

theorem dv_hi (d : Fin 64) : (val_main_v162 (F := Ideal) x0 x1 x2 x3 x4) (ix4 n (hi j) g d) = (((x.band n).dvOwn g j d : ℝ) : EReal) := by
  pointwise [val_main_v162, val_main_v161, val_main_v158]
  simp only [g_at H, p_hi H, ← EReal.coe_mul, ← coe_sum]
  refine congrArg _ (Finset.sum_congr rfl fun l _ => Finset.sum_congr rfl fun i _ => ?_)
  exact mul_comm _ _
end

end Cert.SwaRefIdeal.Grad
end
-- ==== Proof.SwaRefGrads.lean ====
/- The attention's gradient in the reference: what flows into the scores, the heads and the sinks. -/
module

public import proofs.«01_k».proof.Proof.SwaRefShares
public import proofs.«01_k».proof.Proof.SwaMath
public import proofs.«01_k».proof.Proof.Gen.SwaRefIdeal.Read
public import Idealize.ShloMosaic.Lib.Pointwise
public import Idealize.ShloMosaic.Lib.WordCmp
public import Idealize.ShloMosaic.Lib.Pipeline.ValueKit

@[expose] public section

noncomputable section

namespace Cert.SwaRefIdeal.Grad

open Idealize.ShloMosaic Idealize.ShloMosaic.TcCoe
open Cert.SwaRefIdeal.Read Cert.Reals Cert.SwaMath

variable {x0 : FVec Ideal S4096x2832 .f32} {x1 x2 : FVec Ideal S1x64 .f32} {x3 : FVec Ideal S8 .f32} {x4 : FVec Ideal S4096x1024 .f32} {x5 : FVec Ideal S4096x3072 .bf16}

theorem mem_split (h : Fin 8) : mem ⟨h.val / 4, by omega⟩ ⟨h.val % 4, by omega⟩ = h := Fin.ext (by simp only [mem]; omega)

variable {x : In} (H : Args x x0 x1 x2 x3 x4)

/-! ## The gradient through the quotient -/

/-- What the quotient passes to its denominator. -/
theorem del_over (b : Blk) (μ : ℝ) (h : Fin 8) (i : Fin 128) :
    (∑ j, b.dpp h i j * (1 / (b.dens μ h i * b.dens μ h i)) * b.eps μ h i j) + (∑ j, b.dpc h i j * (1 / (b.dens μ h i * b.dens μ h i)) * b.ecs μ h i j)
      = b.del h i / b.dens μ h i := by
  unfold Blk.del
  simp only [← b.pc_shift μ, ← b.pp_shift μ]
  rw [add_div, Finset.sum_div, Finset.sum_div, add_comm]
  congr 1 <;> exact Finset.sum_congr rfl fun j _ => by ring

/-- The row's gradients come to the share of the sink. -/
theorem rest (b : Blk) (h : Fin 8) (i : Fin 128) :
    b.del h i * b.ps h i + ((∑ j, -(b.pp h i j * (b.dpp h i j - b.del h i))) + ∑ j, -(b.pc h i j * (b.dpc h i j - b.del h i))) = 0 := by
  have e1 : (∑ j, -(b.pp h i j * (b.dpp h i j - b.del h i))) = (∑ j, b.pp h i j) * b.del h i - ∑ j, b.dpp h i j * b.pp h i j := by
    rw [Finset.sum_mul, ← Finset.sum_sub_distrib]
    exact Finset.sum_congr rfl fun j _ => by ring
  have e2 : (∑ j, -(b.pc h i j * (b.dpc h i j - b.del h i))) = (∑ j, b.pc h i j) * b.del h i - ∑ j, b.dpc h i j * b.pc h i j := by
    rw [Finset.sum_mul, ← Finset.sum_sub_distrib]
    exact Finset.sum_congr rfl fun j _ => by ring
  have e3 := b.shares h i
  have e4 : b.del h i = (∑ j, b.dpc h i j * b.pc h i j) + ∑ j, b.dpp h i j * b.pp h i j := rfl
  rw [e1, e2]
  linear_combination b.del h i * e3 + e4

section Shift
variable (μ : Fin 2 → Fin 4 → Fin 32 → Fin 128 → ℝ) (hμ : ∀ g l n i z, (val_main_v120 (F := Ideal) x0 x1 x2 x3) (ix5 g l n i z) = ((μ g l n i : ℝ) : EReal))
include H hμ
variable (g : Fin 2) (l : Fin 4) (n : Fin 32) (i j : Fin 128) (z : Fin 1)

theorem row_at : (val_main_v166 (F := Ideal) x0 x1 x2 x3 x4) (ix4 g l n i) = (((x.band n).del (mem g l) i / (x.band n).dens (μ g l n i) (mem g l) i : ℝ) : EReal) := by
  pointwise [val_main_v166, val_main_v165, val_main_v164, val_main_v163, val_main_cst_32]
  simp only [sum_halves, dp_lo H, dp_hi H, e_lo H μ hμ, e_hi H μ hμ, inv_at H μ hμ, ← EReal.coe_mul, ← coe_sum, ← EReal.coe_add, del_over]

theorem neg_at : (val_main_v168 (F := Ideal) x0 x1 x2 x3 x4) (ix5 g l n i z) = ((-((x.band n).del (mem g l) i / (x.band n).dens (μ g l n i) (mem g l) i) : ℝ) : EReal) := by
  pointwise [val_main_v168, val_main_v167]
  simp only [row_at H μ hμ, ← EReal.coe_neg]

theorem sink_grad : (val_main_v171 (F := Ideal) x0 x1 x2 x3 x4) (ix5 g l n i z) = ((-((x.band n).del (mem g l) i * (x.band n).ps (mem g l) i) : ℝ) : EReal) := by
  pointwise [val_main_v171]
  simp only [neg_at H μ hμ, es_at H μ hμ, ← EReal.coe_mul]
  rw [← (x.band n).ps_shift (μ g l n i)]
  congr 1
  ring

theorem grad_lo : (val_main_v178 (F := Ideal) x0 x1 x2 x3 x4) (ix5 g l n i (lo j)) = (((x.band n).pp (mem g l) i j * ((x.band n).dpp (mem g l) i j - (x.band n).del (mem g l) i) : ℝ) : EReal) := by
  pointwise [val_main_v178, val_main_v177, val_main_v176, val_main_v175, val_main_v170, val_main_v169, val_main_cst_34]
  simp only [neg_at H μ hμ, dp_lo H, e_lo H μ hμ, den_at H μ hμ]
  rw [div_real (Blk.dens_pos _ _ _ _).ne']
  simp only [Finset.sum_const, Finset.card_univ, Fintype.card_fin, one_smul, ← EReal.coe_add, ← EReal.coe_mul]
  rw [← (x.band n).pp_shift (μ g l n i)]
  congr 1
  ring

theorem grad_hi : (val_main_v178 (F := Ideal) x0 x1 x2 x3 x4) (ix5 g l n i (hi j)) = (((x.band n).pc (mem g l) i j * ((x.band n).dpc (mem g l) i j - (x.band n).del (mem g l) i) : ℝ) : EReal) := by
  pointwise [val_main_v178, val_main_v177, val_main_v176, val_main_v175, val_main_v170, val_main_v169, val_main_cst_34]
  simp only [neg_at H μ hμ, dp_hi H, e_hi H μ hμ, den_at H μ hμ]
  rw [div_real (Blk.dens_pos _ _ _ _).ne']
  simp only [Finset.sum_const, Finset.card_univ, Fintype.card_fin, one_smul, ← EReal.coe_add, ← EReal.coe_mul]
  rw [← (x.band n).pc_shift (μ g l n i)]
  congr 1
  ring

theorem none_at : (val_main_v182 (F := Ideal) x0 x1 x2 x3 x4) (ix5 g l n i z) = (0 : EReal) := by
  pointwise [val_main_v182, val_main_v181, val_main_v180, val_main_v179, val_main_v174, val_main_cst_35]
  simp only [sum_halves, grad_lo H μ hμ, grad_hi H μ hμ, sink_grad H μ hμ, ← EReal.coe_neg, ← coe_sum, ← EReal.coe_add, neg_neg, rest]
  rfl

end Shift

/-! ## The shift takes no gradient -/

section
include H
variable (g : Fin 2) (l : Fin 4) (n : Fin 32) (i j : Fin 128)

theorem none_sink (z : Fin 1) : (val_main_v183 (F := Ideal) x0 x1 x2 x3 x4) (ix5 g l n i z) = (0 : EReal) := by
  obtain ⟨μ, hμ⟩ := shift H
  pointwise [val_main_v183]
  simp only [none_at H μ hμ, zero_mul]

theorem none_top (z : Fin 1) : (val_main_v187 (F := Ideal) x0 x1 x2 x3 x4) (ix5 g l n i z) = (0 : EReal) := by
  obtain ⟨μ, hμ⟩ := shift H
  pointwise [val_main_v187]
  simp only [none_at H μ hμ, zero_mul]

theorem none_row : (val_main_v188 (F := Ideal) x0 x1 x2 x3 x4) (ix4 g l n i) = (0 : EReal) := by
  pointwise [val_main_v188, val_main_cst_37]
  simp only [none_top H, Finset.sum_const_zero]

omit H in
/-- Whether an entry is the greatest of its row, as a number. -/
theorem is_top (J : Fin 256) : (val_main_v116 (F := Ideal) x0 x1 x2) (ix5 g l n i J) = (((((val_main_v115 (F := Ideal) x0 x1 x2) (ix5 g l n i J) : BitVec 1).toNat : ℝ) : ℝ) : EReal) := by
  unfold val_main_v116
  rfl

omit H in
theorem count_top : (val_main_v117 (F := Ideal) x0 x1 x2) (ix4 g l n i) = ((∑ J, (((val_main_v115 (F := Ideal) x0 x1 x2) (ix5 g l n i J) : BitVec 1).toNat : ℝ) : ℝ) : EReal) := by
  pointwise [val_main_v117, val_main_cst_23]
  simp only [is_top, ← coe_sum]

theorem none_share (J : Fin 256) : (val_main_v191 (F := Ideal) x0 x1 x2 x3 x4) (ix5 g l n i J) = (0 : EReal) := by
  pointwise [val_main_v191, val_main_v190, val_main_v189]
  rw [none_row H, is_top, count_top]
  by_cases hJ : ((((val_main_v115 (F := Ideal) x0 x1 x2) (ix5 g l n i J) : BitVec 1).toNat : ℝ)) = 0
  · rw [hJ, EReal.coe_zero, mul_zero]
  · have hp : (0 : ℝ) < ∑ J, (((val_main_v115 (F := Ideal) x0 x1 x2) (ix5 g l n i J) : BitVec 1).toNat : ℝ) :=
      lt_of_lt_of_le (lt_of_le_of_ne (Nat.cast_nonneg _) (Ne.symm hJ))
        (Finset.single_le_sum (f := fun J => (((val_main_v115 (F := Ideal) x0 x1 x2) (ix5 g l n i J) : BitVec 1).toNat : ℝ)) (fun _ _ => Nat.cast_nonneg _) (Finset.mem_univ J))
    rw [← EReal.coe_zero, div_real hp.ne', zero_div, EReal.coe_zero, zero_mul]

/-! ## The gradient of the scores -/

theorem ds_lo : (val_main_v197 (F := Ideal) x0 x1 x2 x3 x4) (ix5 g l n i (lo j)) = (((x.band n).dsp (mem g l) i j : ℝ) : EReal) := by
  obtain ⟨μ, hμ⟩ := shift H
  pointwise [val_main_v197, val_main_v196, val_main_v195, val_main_v192, val_main_call1_v0, val_main_call1_cst, val_main_v109_1, val_main_cst_39]
  simp only [mask_lo x, grad_lo H μ hμ, none_share H, add_zero, bits_8th]
  unfold Blk.dsp
  by_cases h : (x.band n).okp i j
  · simp only [if_pos h]
    refine Eq.trans ?_ (EReal.coe_mul _ _).symm
    rfl
  · simp only [if_neg h, Blk.pp_masked _ h, zero_mul]
    rfl

theorem ds_hi : (val_main_v197 (F := Ideal) x0 x1 x2 x3 x4) (ix5 g l n i (hi j)) = (((x.band n).dsc (mem g l) i j : ℝ) : EReal) := by
  obtain ⟨μ, hμ⟩ := shift H
  pointwise [val_main_v197, val_main_v196, val_main_v195, val_main_v192, val_main_call1_v0, val_main_call1_cst, val_main_v109_1, val_main_cst_39]
  simp only [mask_hi, grad_hi H μ hμ, none_share H, add_zero, bits_8th]
  unfold Blk.dsc
  by_cases h : Blk.okc i j
  · simp only [if_pos h]
    refine Eq.trans ?_ (EReal.coe_mul _ _).symm
    rfl
  · simp only [if_neg h, Blk.pc_masked _ h, zero_mul]
    rfl

/-! ## The gradients of the heads' rows -/

theorem dq_at (d : Fin 64) : (val_main_v200 (F := Ideal) x0 x1 x2 x3 x4) (ix5 n i g l d) = (((x.band n).dqn (mem g l) i d : ℝ) : EReal) := by
  pointwise [val_main_v200, val_main_v199, val_main_v198]
  simp only [sum_halves, ds_lo H, ds_hi H, kn_lo H, kn_hi H, ← EReal.coe_mul, ← coe_sum, ← EReal.coe_add]
  unfold Blk.dqn Blk.kcn Blk.kpn
  rw [grp_mem, add_comm]
  rfl

theorem dk_lo (d : Fin 64) : (val_main_v202 (F := Ideal) x0 x1 x2 x3 x4) (ix4 n (lo j) g d) = ((∑ l, (x.band n).dkp (mem g l) j d : ℝ) : EReal) := by
  pointwise [val_main_v202, val_main_v201, val_main_v198]
  simp only [ds_lo H, qn_at H, ← EReal.coe_mul, ← coe_sum]
  rw [Finset.sum_comm]
  rfl

theorem dk_hi (d : Fin 64) : (val_main_v202 (F := Ideal) x0 x1 x2 x3 x4) (ix4 n (hi j) g d) = ((∑ l, (x.band n).dkc (mem g l) j d : ℝ) : EReal) := by
  pointwise [val_main_v202, val_main_v201, val_main_v198]
  simp only [ds_hi H, qn_at H, ← EReal.coe_mul, ← coe_sum]
  rw [Finset.sum_comm]
  rfl

/-! ## The sinks -/

theorem sinks_at (h : Fin 8) : (val_main_v194 (F := Ideal) x0 x1 x2 x3 x4) (ix1 h) = ((∑ n : Fin 32, (x.band n).dsk h : ℝ) : EReal) := by
  obtain ⟨μ, hμ⟩ := shift H
  pointwise [val_main_v194, val_main_v193, val_main_v186, val_main_v185, val_main_v184, val_main_v173, val_main_v172, val_main_cst_33, val_main_cst_36, val_main_cst_38]
  simp only [sink_grad H μ hμ, none_sink H, Finset.sum_const, Finset.card_univ, Fintype.card_fin, one_smul, ← coe_sum, smul_zero, add_zero, mem_split]
  refine congrArg _ (Finset.sum_congr rfl fun n _ => Finset.sum_congr rfl fun i _ => ?_)
  rw [zero_sub, neg_mul, mul_comm]
end

end Cert.SwaRefIdeal.Grad
end
-- ==== Proof.SwaBand.lean ====
/- The attention's gradient over the real numbers: the whole band's rows against the blocks', and the sums over all the rows. -/
module

public import proofs.«01_k».proof.Proof.SwaMath

@[expose] public section

noncomputable section

namespace Cert.SwaMath

/-! ## The first block reads nothing before it -/

namespace Blk
variable (b : Blk) (kp vp : Fin 2 → Fin 128 → Fin 64 → ℝ) (hf : b.first)

/-- The block with other keys and values before it. -/
def before : Blk := { b with kp := kp, vp := vp }

include hf

theorem ep_first (h : Fin 8) (i j : Fin 128) : b.ep h i j = 0 := by
  unfold ep
  rw [if_neg fun ho => ho.1 hf]

theorem pp_first (h : Fin 8) (i j : Fin 128) : b.pp h i j = 0 := b.pp_masked fun ho => ho.1 hf

theorem dsp_first (h : Fin 8) (i j : Fin 128) : b.dsp h i j = 0 := by
  unfold dsp
  rw [pp_first b hf, zero_mul, zero_mul]

theorem dkp_first (h : Fin 8) (j : Fin 128) (d : Fin 64) : b.dkp h j d = 0 := by
  unfold dkp
  simp only [dsp_first b hf, zero_mul, Finset.sum_const_zero]

theorem before_den : (b.before kp vp).den = b.den := by
  funext h i
  unfold den
  simp only [ep_first b hf, ep_first (b.before kp vp) hf]
  rfl

theorem before_pc : (b.before kp vp).pc = b.pc := by
  funext h i j
  unfold pc
  rw [before_den b kp vp hf]
  rfl

theorem before_ps : (b.before kp vp).ps = b.ps := by
  funext h i
  unfold ps
  rw [before_den b kp vp hf]
  rfl

theorem before_del : (b.before kp vp).del = b.del := by
  funext h i
  unfold del
  simp only [pp_first b hf, pp_first (b.before kp vp) hf, mul_zero, before_pc b kp vp hf]
  rfl

theorem before_dsc : (b.before kp vp).dsc = b.dsc := by
  funext h i j
  unfold dsc
  rw [before_pc b kp vp hf, before_del b kp vp hf]
  rfl

theorem before_dqn : (b.before kp vp).dqn = b.dqn := by
  funext h i d
  unfold dqn
  simp only [dsp_first b hf, dsp_first (b.before kp vp) hf, zero_mul, before_dsc b kp vp hf]
  rfl

theorem before_dkc : (b.before kp vp).dkc = b.dkc := by
  funext h j d
  unfold dkc
  rw [before_dsc b kp vp hf]
  rfl

theorem before_dvc : (b.before kp vp).dvc = b.dvc := by
  funext h j d
  unfold dvc
  rw [before_pc b kp vp hf]
  rfl

theorem before_dsk : (b.before kp vp).dsk = b.dsk := by
  funext h
  unfold dsk
  rw [before_ps b kp vp hf, before_del b kp vp hf]

end Blk

variable (x : In) (n : ℕ)

theorem band_eq (h : n ≠ 0) : x.band n = x.blk n := by
  unfold In.band
  simp only [if_neg h]

/-- What a band comes to does not depend on what stands before the first block. -/
theorem band_alike {α : Sort*} (f : Blk → α) (hf : ∀ (b : Blk) (kp vp : Fin 2 → Fin 128 → Fin 64 → ℝ), b.first → f (b.before kp vp) = f b) :
    f (x.band n) = f (x.blk n) := by
  by_cases h : n = 0
  · exact hf (x.blk n) _ _ h
  · rw [band_eq x n h]

theorem band_dqn : (x.band n).dqn = (x.blk n).dqn := band_alike x n Blk.dqn fun b kp vp h => b.before_dqn kp vp h
theorem band_dkc : (x.band n).dkc = (x.blk n).dkc := band_alike x n Blk.dkc fun b kp vp h => b.before_dkc kp vp h
theorem band_dvc : (x.band n).dvc = (x.blk n).dvc := band_alike x n Blk.dvc fun b kp vp h => b.before_dvc kp vp h
theorem band_dsk : (x.band n).dsk = (x.blk n).dsk := band_alike x n Blk.dsk fun b kp vp h => b.before_dsk kp vp h

/-! ## The keys' gradient from a row's own block and from the block after it -/

/-- The gradient by the normed keys of the block `n`. -/
def In.dkn (g : Fin 2) (j : Fin 128) (d : Fin 64) : ℝ :=
  (∑ l, (x.blk n).dkc (mem g l) j d) + if n = 31 then 0 else ∑ l, (x.blk (n + 1)).dkp (mem g l) j d

theorem dk_total (g : Fin 2) (j : Fin 128) (d : Fin 64) :
    (x.blk n).dkOwn g j d + x.passK n g j d = rmsb (x.krow (row n j) g) x.kw (x.dkn n g j) d := by
  unfold Blk.dkOwn In.passK In.dkn
  rw [rmsb_sum]
  split
  · simp only [add_zero]
    rfl
  · unfold Blk.dkPass
    rw [rmsb_sum]
    exact rmsb_add _ _ _ _ _

/-! ## Sums over the heads and over the rows -/

theorem sum_heads {M : Type*} [AddCommMonoid M] (f : Fin 8 → M) : ∑ h, f h = ∑ g, ∑ l, f (mem g l) := by
  rw [Fin.sum_univ_eight, Fin.sum_univ_two, Fin.sum_univ_four, Fin.sum_univ_four, ← add_assoc, ← add_assoc, ← add_assoc]
  rfl

theorem sum_rows {M : Type*} [AddCommMonoid M] (f : Fin 4096 → M) : ∑ r, f r = ∑ n : Fin 32, ∑ i, f (row n i) := by
  refine ((finProdFinEquiv (m := 32) (n := 128)).sum_comp f).symm.trans ?_
  rw [Fintype.sum_prod_type]
  refine Finset.sum_congr rfl fun n _ => Finset.sum_congr rfl fun i _ => congrArg f (Fin.ext ?_)
  show i.val + 128 * n.val = (128 * n.val + i.val) % 4096
  omega

theorem dqw_total (d : Fin 64) : x.dqw d = ∑ n : Fin 32, ∑ i, ∑ h, hat (x.qrow (row n i) h) d * (x.blk n).dqn h i d := by
  unfold In.dqw
  rw [Finset.sum_range]
  refine Finset.sum_congr rfl fun n _ => ?_
  rw [Finset.sum_comm]
  rfl

theorem dsk_total (h : Fin 8) : x.dsk h = ∑ n : Fin 32, (x.band n).dsk h := by
  unfold In.dsk
  rw [Finset.sum_range]
  exact Finset.sum_congr rfl fun n _ => by rw [band_dsk]

/-- What a block adds to the keys' scale from its own rows, and from the rows before it. -/
def In.own (d : Fin 64) : ℝ := ∑ j, ∑ g, ∑ l, hat (x.krow (row n j) g) d * (x.blk n).dkc (mem g l) j d
def In.past (d : Fin 64) : ℝ := ∑ j, ∑ g, ∑ l, hat (x.krow (row (n - 1) j) g) d * (x.blk n).dkp (mem g l) j d

theorem dkw_parts (d : Fin 64) : (x.blk n).dkw d = x.own n d + x.past n d := by
  unfold Blk.dkw In.own In.past
  rw [Finset.sum_comm, Finset.sum_comm (s := (Finset.univ : Finset (Fin 8)))]
  simp only [sum_heads, grp_mem]
  rfl

theorem past_first (d : Fin 64) : x.past 0 d = 0 := by
  unfold In.past
  simp only [Blk.dkp_first (x.blk 0) (rfl : (0 : ℕ) = 0), mul_zero, Finset.sum_const_zero]

theorem dkn_parts (d : Fin 64) : ∑ j, ∑ g, hat (x.krow (row n j) g) d * x.dkn n g j d = x.own n d + if n = 31 then 0 else x.past (n + 1) d := by
  unfold In.dkn In.own In.past
  split
  · simp only [add_zero, Finset.mul_sum]
  · simp only [mul_add, Finset.mul_sum, Finset.sum_add_distrib]
    rfl

theorem dkw_total (d : Fin 64) : x.dkw d = ∑ n : Fin 32, ∑ j, ∑ g, hat (x.krow (row n j) g) d * x.dkn n g j d := by
  simp only [dkn_parts]
  rw [← Finset.sum_range fun n => x.own n d + if n = 31 then 0 else x.past (n + 1) d]
  unfold In.dkw
  simp only [dkw_parts, Finset.sum_add_distrib]
  refine congrArg _ ?_
  rw [Finset.sum_range_succ', Finset.sum_range_succ (fun n => if n = 31 then (0 : ℝ) else x.past (n + 1) d), past_first, if_pos rfl]
  congr 1

end Cert.SwaMath

end
-- ==== Proof.SwaRefRows.lean ====
/- The attention's gradient in the reference: the rows and the sums over all of them. -/
module

public import proofs.«01_k».proof.Proof.SwaRefGrads
public import proofs.«01_k».proof.Proof.SwaBand
public import proofs.«01_k».proof.Proof.SwaMath
public import proofs.«01_k».proof.Proof.Gen.SwaRefIdeal.Read
public import Idealize.ShloMosaic.Lib.Pointwise
public import Idealize.ShloMosaic.Lib.WordCmp
public import Idealize.ShloMosaic.Lib.Pipeline.ValueKit

@[expose] public section

noncomputable section

namespace Cert.SwaRefIdeal.Grad

open Idealize.ShloMosaic Idealize.ShloMosaic.TcCoe
open Cert.SwaRefIdeal.Read Cert.Reals Cert.SwaMath

variable {x0 : FVec Ideal S4096x2832 .f32} {x1 x2 : FVec Ideal S1x64 .f32} {x3 : FVec Ideal S8 .f32} {x4 : FVec Ideal S4096x1024 .f32} {x5 : FVec Ideal S4096x3072 .bf16}

variable {x : In} (H : Args x x0 x1 x2 x3 x4)

/-! ## The keys' and values' gradients: a block's own share and that of the block after it -/

section
include H
variable (n : Fin 32) (j : Fin 128) (g : Fin 2) (d : Fin 64)

theorem dvs_at : (val_main_v208 (F := Ideal) x0 x1 x2 x3 x4) (ix4 n j g d) = (((x.blk n).dvOwn g j d + x.passV n g j d : ℝ) : EReal) := by
  pointwise [val_main_v208, val_main_v207, val_main_v206, val_main_v205, val_main_v204, val_main_v203, val_main_cst_40]
  refine (congrArg₂ (fun a b : EReal => a + b) (dv_hi H g n j d) (?_ : _ = ((x.passV n g j d : ℝ) : EReal))).trans ?_
  · unfold In.passV
    by_cases hn : n.val = 31
    · rw [if_pos hn]
      exact dif_neg (by omega)
    · rw [if_neg hn]
      refine (dif_pos (by omega)).trans ((dv_lo H g ⟨1 + n.val, by omega⟩ j d).trans ?_)
      rw [band_eq x (1 + n.val) (by omega), add_comm 1 n.val]
  · unfold Blk.dvOwn
    rw [band_dvc]
    exact (EReal.coe_add _ _).symm

theorem dks_at : (val_main_v215 (F := Ideal) x0 x1 x2 x3 x4) (ix4 n j g d) = ((x.dkn n g j d : ℝ) : EReal) := by
  pointwise [val_main_v215, val_main_v214, val_main_v213, val_main_v212, val_main_v211, val_main_v210, val_main_cst_41]
  refine (congrArg₂ (fun a b : EReal => a + b) (dk_hi H g n j d)
    (?_ : _ = (((if n.val = 31 then 0 else ∑ l, (x.blk (n.val + 1)).dkp (mem g l) j d : ℝ) : ℝ) : EReal))).trans ?_
  · by_cases hn : n.val = 31
    · rw [if_pos hn]
      exact dif_neg (by omega)
    · rw [if_neg hn]
      refine (dif_pos (by omega)).trans ((dk_lo H g ⟨1 + n.val, by omega⟩ j d).trans ?_)
      rw [band_eq x (1 + n.val) (by omega), add_comm 1 n.val]
  · unfold In.dkn
    rw [band_dkc]
    exact (EReal.coe_add _ _).symm

/-! ## The rows -/

theorem dqn_row (h : Fin 8) : (val_main_v217 (F := Ideal) x0 x1 x2 x3 x4) (ix3 (row n j) h d) = (((x.blk n).dqn h j d : ℝ) : EReal) := by
  rw [← band_dqn]
  refine Eq.trans ?_ ((dq_at H ⟨h.val / 4, by omega⟩ ⟨h.val % 4, by omega⟩ n j d).trans (by rw [mem_split]))
  pointwise [val_main_v217]
  refine congrArg (val_main_v200 (F := Ideal) x0 x1 x2 x3 x4) ?_
  unfold row
  blk_ext
  all_goals omega

theorem dk_row : (val_main_v216 (F := Ideal) x0 x1 x2 x3 x4) (ix3 (row n j) g d) = ((x.dkn n g j d : ℝ) : EReal) := by
  refine Eq.trans ?_ (dks_at H n j g d)
  pointwise [val_main_v216]
  refine congrArg (val_main_v215 (F := Ideal) x0 x1 x2 x3 x4) ?_
  unfold row
  blk_ext
  all_goals omega

theorem dv_row : (val_main_v209 (F := Ideal) x0 x1 x2 x3 x4) (ix3 (row n j) g d) = (((x.blk n).dvOwn g j d + x.passV n g j d : ℝ) : EReal) := by
  refine Eq.trans ?_ (dvs_at H n j g d)
  pointwise [val_main_v209]
  refine congrArg (val_main_v208 (F := Ideal) x0 x1 x2 x3 x4) ?_
  unfold row
  blk_ext
  all_goals omega

/-! ## Back through the norms -/

theorem dq_row (h : Fin 8) : (val_main_v261 (F := Ideal) x0 x1 x2 x3 x4) (ix3 (row n j) h d) = (((x.blk n).dq h j d : ℝ) : EReal) := by
  pointwise [val_main_v261, val_main_v260, val_main_v259, val_main_v258, val_main_v257, val_main_v256, val_main_v255, val_main_v254, val_main_v253, val_main_v252, val_main_v251, val_main_v250, val_main_v249, val_main_v248, val_main_v245, val_main_v244, val_main_v17, val_main_cst_49, val_main_cst_50, val_main_cst_51]
  simp only [dqn_row H, q_at H, rs_q H, rs'_q H, H.qw, bits_64, ← EReal.coe_mul, ← coe_sum, div_64, Finset.sum_const, Finset.card_univ, Fintype.card_fin, one_smul, ← EReal.coe_add]
  rfl

theorem dkn_row : (val_main_v239 (F := Ideal) x0 x1 x2 x3 x4) (ix3 (row n j) g d) = (((x.blk n).dkOwn g j d + x.passK n g j d : ℝ) : EReal) := by
  rw [dk_total]
  pointwise [val_main_v239, val_main_v238, val_main_v237, val_main_v236, val_main_v235, val_main_v234, val_main_v233, val_main_v232, val_main_v231, val_main_v230, val_main_v229, val_main_v228, val_main_v227, val_main_v226, val_main_v223, val_main_v222, val_main_v34, val_main_cst_44, val_main_cst_45, val_main_cst_46]
  simp only [dk_row H, k_at H, rs_k H, rs'_k H, H.kw, bits_64, ← EReal.coe_mul, ← coe_sum, div_64, Finset.sum_const, Finset.card_univ, Fintype.card_fin, one_smul, ← EReal.coe_add]
  rfl
end

/-! ## The results -/

section
include H

theorem term_qw (n : Fin 32) (i : Fin 128) (h : Fin 8) (d : Fin 64) :
    (val_main_v241 (F := Ideal) x0 x1 x2 x3 x4) (ix3 (row n i) h d) = ((hat (x.qrow (row n i) h) d * (x.blk n).dqn h i d : ℝ) : EReal) := by
  pointwise [val_main_v241]
  rw [hat_q H, dqn_row H, ← EReal.coe_mul]

theorem term_kw (n : Fin 32) (i : Fin 128) (g : Fin 2) (d : Fin 64) :
    (val_main_v219 (F := Ideal) x0 x1 x2 x3 x4) (ix3 (row n i) g d) = ((hat (x.krow (row n i) g) d * x.dkn n g i d : ℝ) : EReal) := by
  pointwise [val_main_v219]
  rw [hat_k H, dk_row H, ← EReal.coe_mul]

theorem sum_qw (d : Fin 64) : (val_main_v242 (F := Ideal) x0 x1 x2 x3 x4) (ix1 d) = ((x.dqw d : ℝ) : EReal) := by
  pointwise [val_main_v242, val_main_cst_47]
  refine (host_sum_leading _ _ _ d).trans ?_
  rw [zero_add, sum_rows, dqw_total]
  simp only [term_qw H, ← coe_sum]

theorem sum_kw (d : Fin 64) : (val_main_v220 (F := Ideal) x0 x1 x2 x3 x4) (ix1 d) = ((x.dkw d : ℝ) : EReal) := by
  pointwise [val_main_v220, val_main_cst_42]
  refine (host_sum_leading _ _ _ d).trans ?_
  rw [zero_add, sum_rows, dkw_total]
  simp only [term_kw H, ← coe_sum]

/-- The gradient of the queries' scale. -/
theorem res_qw (z : Fin 1) (d : Fin 64) : (val_main_v247 (F := Ideal) x0 x1 x2 x3 x4) (ix2 z d) = ((x.dqw d : ℝ) : EReal) := by
  pointwise [val_main_v247, val_main_v246, val_main_cst_48]
  refine (host_sum_leading _ _ _ d).trans ?_
  pointwise [val_main_v243]
  simp only [sum_qw H, Finset.sum_const, Finset.card_univ, Fintype.card_fin, one_smul, zero_add]

/-- The gradient of the keys' scale. -/
theorem res_kw (z : Fin 1) (d : Fin 64) : (val_main_v225 (F := Ideal) x0 x1 x2 x3 x4) (ix2 z d) = ((x.dkw d : ℝ) : EReal) := by
  pointwise [val_main_v225, val_main_v224, val_main_cst_43]
  refine (host_sum_leading _ _ _ d).trans ?_
  pointwise [val_main_v221]
  simp only [sum_kw H, Finset.sum_const, Finset.card_univ, Fintype.card_fin, one_smul, zero_add]

/-- The gradient of the sinks. -/
theorem res_sk (h : Fin 8) : (val_main_v194 (F := Ideal) x0 x1 x2 x3 x4) (ix1 h) = ((x.dsk h : ℝ) : EReal) := by
  rw [dsk_total]
  exact sinks_at H h

theorem lane_q (n : Fin 32) (i : Fin 128) (c : Fin 512) : (val_main_v262 (F := Ideal) x0 x1 x2 x3 x4) (ix2 (row n i) c) = (((x.blk n).dq ⟨c.val / 64, by omega⟩ i ⟨c.val % 64, by omega⟩ : ℝ) : EReal) := by
  refine Eq.trans ?_ (dq_row H n i ⟨c.val % 64, by omega⟩ ⟨c.val / 64, by omega⟩)
  pointwise [val_main_v262]

theorem lane_k (n : Fin 32) (i : Fin 128) (c : Fin 128) : (val_main_v240 (F := Ideal) x0 x1 x2 x3 x4) (ix2 (row n i) c)
    = (((x.blk n).dkOwn ⟨c.val / 64, by omega⟩ i ⟨c.val % 64, by omega⟩ + x.passK n ⟨c.val / 64, by omega⟩ i ⟨c.val % 64, by omega⟩ : ℝ) : EReal) := by
  refine Eq.trans ?_ (dkn_row H n i ⟨c.val / 64, by omega⟩ ⟨c.val % 64, by omega⟩)
  pointwise [val_main_v240]

theorem lane_v (n : Fin 32) (i : Fin 128) (c : Fin 128) : (val_main_v218 (F := Ideal) x0 x1 x2 x3 x4) (ix2 (row n i) c)
    = (((x.blk n).dvOwn ⟨c.val / 64, by omega⟩ i ⟨c.val % 64, by omega⟩ + x.passV n ⟨c.val / 64, by omega⟩ i ⟨c.val % 64, by omega⟩ : ℝ) : EReal) := by
  refine Eq.trans ?_ (dv_row H n i ⟨c.val / 64, by omega⟩ ⟨c.val % 64, by omega⟩)
  pointwise [val_main_v218]

/-- The rows of the gradient: the other half's lanes as they came, then this half's. -/
theorem res_rows (n : Fin 32) (i : Fin 128) (q : Fin 3072) : (val_main_v267 (F := Ideal) x0 x1 x2 x3 x4 x5) (ix2 (row n i) q) = if h : q.val < 2048 then x5 (ix2 (row n i) q)
    else ((x.out n i ⟨q.val - 2048, by omega⟩ : ℝ) : EReal) := by
  pointwise [val_main_v267]
  split
  · pointwise [val_main_v266]
  · pointwise [val_main_v265, val_main_v264]
    unfold In.out Blk.out
    simp only [lane_q H, lane_k H, lane_v H]
    split
    · rfl
    · split
      · rfl
      · split
        · rfl
        · pointwise [val_main_v263, val_main_cst_52]
          rfl
end

end Cert.SwaRefIdeal.Grad
end
-- ==== Proof.SwaClaims.lean ====
/- The claims about the attention's gradient. -/
module

public import proofs.«01_k».proof.Defs
public import proofs.«01_k».proof.Proof.SwaArray
public import proofs.«01_k».proof.Proof.SwaRefRows
public import proofs.«01_k».proof.Proof.Gen.Pre_swa_finite
public import proofs.«01_k».proof.Proof.Gen.Swa
public import proofs.«01_k».proof.Proof.Gen.SwaIdeal
public import proofs.«01_k».proof.Proof.Gen.SwaRefIdeal.Read
public import Idealize.ShloMosaic.Adequacy
public import Idealize.ShloMosaic.Lib.KernelVsHost

@[expose] public section

noncomputable section

namespace Cert.Proof.SwaClaims

open Idealize.ShloMosaic Idealize.ShloMosaic.TcCoe Idealize.ShloMosaic.Tactic Idealize.SL.Sem
open Cert.SwaIdeal Cert.SwaIdeal.Gen Cert.SwaIdeal.Grad Cert.Reals Cert.SwaMath

/-! ## The frames -/

/-- The words, with the mask's constant left as the word it is. -/
abbrev wordNamed : Named Bits := ⟨fun _ _ w => FloatOps.ofBits w⟩

/-- The program as printed leaves its arguments as they were, and no counter raised. -/
theorem frame_p : Cert.quiescent_Swa := fun m ρ _ => by
  have h := @Cert.SwaIdeal.Grad.frame Bits _ wordNamed m ρ
  refine cast ?_ h
  sl_kernel_rfl

theorem frame_pi : Cert.quiescent_SwaIdeal := fun m ρ _ => Cert.SwaIdeal.Grad.frame m ρ
theorem frame_pi_pre : Cert.quiescent_SwaIdeal_pre_swa_finite := fun m ρ _ => Cert.SwaIdeal.Grad.frame m ρ

/-- The reference leaves its arguments as they were; it has no semaphore. -/
theorem frame_ref : Cert.quiescent_SwaRefIdeal := fun m ρ _ =>
  (θ_run Cert.SwaRefIdeal.defs _ _).mono (fun r h => ⟨fun c => (h c).2.2.2.2, sem_eq_zero_of_no_sems (by decide) r.2⟩) (Cert.SwaRefIdeal.Value.run m ρ)
theorem frame_ref_pre : Cert.quiescent_SwaRefIdeal_pre_swa_finite := fun m ρ _ => frame_ref m ρ trivial

/-- The mask's constant stands for minus infinity, and nothing else changes. -/
theorem preserves : Cert.preserves_Swa_SwaIdeal := IdealRules.named_const.statement Cert.SwaIdeal.κ "mask" .f32 0xF149F2CA#32 ⊥ rfl

/-! ## The values -/

variable (m : (ℓ : Loc nD τ sig) → Buf (Elt Ideal) ℓ)

/-- The real numbers that the arguments hold. -/
def input (c : Dev nD) : In where
  p r q := EReal.toReal (A0 m c (ix2 r q))
  qw d := EReal.toReal (A1 m c (ix2 0 d))
  kw d := EReal.toReal (A2 m c (ix2 0 d))
  sk h := EReal.toReal (A3 m c (ix1 h))
  dm r q := EReal.toReal (A4 m c (ix2 r q))

theorem back {v : EReal} (h : IsReal v) : v = ((EReal.toReal v : ℝ) : EReal) := by
  obtain ⟨r, rfl⟩ := h
  rfl

/-- The precondition says that every entry of the five arguments is a real number. -/
theorem reads (h : Cert.Pre_SwaIdeal_swa_finite m) (c : Dev nD) : Reads m c (input m c) where
  p r q := back (IsReal.of_cmp (congrFun (h c).1 (ix2 r q)))
  qw z d := by
    obtain rfl : z = 0 := Subsingleton.elim _ _
    exact back (IsReal.of_cmp (congrFun (h c).2.1 (ix2 0 d)))
  kw z d := by
    obtain rfl : z = 0 := Subsingleton.elim _ _
    exact back (IsReal.of_cmp (congrFun (h c).2.2.1 (ix2 0 d)))
  sk i := back (IsReal.of_cmp (congrFun (h c).2.2.2.1 (ix1 i)))
  dm r q := back (IsReal.of_cmp (congrFun (h c).2.2.2.2 (ix2 r q)))

section
open Cert.SwaRefIdeal.Read Cert.SwaRefIdeal.Grad
variable {m} {c : Dev nD} {x : In} (hx : Reads m c x)
include hx

theorem args : Args x (A0 m c) (A1 m c) (A2 m c) (A3 m c) (A4 m c) := ⟨hx.p, hx.qw, hx.kw, hx.sk, hx.dm⟩

theorem eq_rows : val_main_v267 (F := Ideal) (A0 m c) (A1 m c) (A2 m c) (A3 m c) (A4 m c) (A5 m c) = DP m c x := by
  funext y
  have hy : ∃ r q, y = ix2 (n0 := 4096) (n1 := 3072) r q := ⟨y 0, y 1, by funext b; match b with | ⟨0, _⟩ => rfl | ⟨1, _⟩ => rfl⟩
  obtain ⟨r, q, rfl⟩ := hy
  have hr : r = row (r.val / 128) ⟨r.val % 128, Nat.mod_lt _ (by norm_num)⟩ := Fin.ext (by simp only [row]; omega)
  refine (congrArg (fun r => val_main_v267 (F := Ideal) (A0 m c) (A1 m c) (A2 m c) (A3 m c) (A4 m c) (A5 m c) (ix2 r q)) hr).trans ?_
  refine (res_rows (args hx) ⟨r.val / 128, by omega⟩ ⟨r.val % 128, Nat.mod_lt _ (by norm_num)⟩ q).trans ?_
  unfold DP
  split
  · rename_i h
    refine Eq.trans ?_ (dif_pos h).symm
    exact congrArg (fun r => A5 m c (ix2 r q)) hr.symm
  · rename_i h
    refine Eq.trans ?_ (dif_neg h).symm
    rfl

theorem eq_qw : val_main_v247 (F := Ideal) (A0 m c) (A1 m c) (A2 m c) (A3 m c) (A4 m c) = DQW x := by
  funext y
  have hy : ∃ z d, y = ix2 (n0 := 1) (n1 := 64) z d := ⟨y 0, y 1, by funext b; match b with | ⟨0, _⟩ => rfl | ⟨1, _⟩ => rfl⟩
  obtain ⟨z, d, rfl⟩ := hy
  exact res_qw (args hx) z d

theorem eq_kw : val_main_v225 (F := Ideal) (A0 m c) (A1 m c) (A2 m c) (A3 m c) (A4 m c) = DKW x := by
  funext y
  have hy : ∃ z d, y = ix2 (n0 := 1) (n1 := 64) z d := ⟨y 0, y 1, by funext b; match b with | ⟨0, _⟩ => rfl | ⟨1, _⟩ => rfl⟩
  obtain ⟨z, d, rfl⟩ := hy
  exact res_kw (args hx) z d

theorem eq_sk : val_main_v194 (F := Ideal) (A0 m c) (A1 m c) (A2 m c) (A3 m c) (A4 m c) =
    Pipeline.afterTail₀ cfgs (dats m) 0 (V0 m) [hostOps1] c main_v25 := by
  funext y
  have hy : ∃ h, y = ix1 (n0 := 8) h := ⟨y 0, by funext b; match b with | ⟨0, _⟩ => rfl⟩
  obtain ⟨h, rfl⟩ := hy
  exact (res_sk (args hx) h).trans (res_dsk m hx h).symm

/-- Arguments that are the kernel's give the reference's results over them. -/
theorem eq_all {x0 : FVec Ideal S4096x2832 .f32} {x1 x2 : FVec Ideal S1x64 .f32} {x3 : FVec Ideal S8 .f32} {x4 : FVec Ideal S4096x1024 .f32}
    {x5 : FVec Ideal S4096x3072 .bf16} (ha : x0 = A0 m c ∧ x1 = A1 m c ∧ x2 = A2 m c ∧ x3 = A3 m c ∧ x4 = A4 m c ∧ x5 = A5 m c) :
    val_main_v267 (F := Ideal) x0 x1 x2 x3 x4 x5 = DP m c x ∧ val_main_v247 (F := Ideal) x0 x1 x2 x3 x4 = DQW x ∧ val_main_v225 (F := Ideal) x0 x1 x2 x3 x4 = DKW x
      ∧ val_main_v194 (F := Ideal) x0 x1 x2 x3 x4 = Pipeline.afterTail₀ cfgs (dats m) 0 (V0 m) [hostOps1] c main_v25 := by
  obtain ⟨rfl, rfl, rfl, rfl, rfl, rfl⟩ := ha
  exact ⟨eq_rows hx, eq_qw hx, eq_kw hx, eq_sk hx⟩

end

/-- What the kernel leaves, where the arguments hold the real numbers `X`. -/
theorem ran (ρ : Dev nD → PrngReg) (X : Dev nD → In) (hX : ∀ c, Reads m c (X c)) :
    θ_run (defs (F := Ideal)) (onTc (τ := τ) (main (F := Ideal))) ⟨m, fun _ => 0, ρ⟩ (fun r => ∀ c : Dev nD,
      r.2.mem ((c.tc : Thread nD τ).loc main_v23_0) = DP m c (X c)
      ∧ r.2.mem ((c.tc : Thread nD τ).loc main_v23_1) = DQW (X c)
      ∧ r.2.mem ((c.tc : Thread nD τ).loc main_v23_2) = DKW (X c)
      ∧ r.2.mem ((c.tc : Thread nD τ).loc main_v25) = Pipeline.afterTail₀ cfgs (dats m) 0 (V0 m) [hostOps1] c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m ρ) (Cert.SwaIdeal.Grad.frame m ρ)) fun r h c =>
    ⟨((h.1 c).1 10).trans (final10 m (hX c)), ((h.1 c).1 11).trans (final11 m (hX c)), ((h.1 c).1 12).trans (final12 m (hX c)),
      (h.1 c).2 main_v25 (Pipeline.mem_restRefs_of main_v25 (by decide) (by decide)), h.2.1 c⟩

/-- The kernel and the derivative of the attention leave the same arrays, where the five arguments it reads in numbers are finite. -/
theorem algebraic : Cert.algebraic_SwaIdeal_SwaRefIdeal_pre_swa_finite := fun m g m' g' hpre hagree => by
  refine ⟨fun c => DP m c (input m c), fun c => DQW (input m c), fun c => DKW (input m c),
    fun c => Pipeline.afterTail₀ cfgs (dats m) 0 (V0 m) [hostOps1] c main_v25, ran m g (input m) (reads m hpre), ?_⟩
  refine θ_run_mono (Cert.SwaRefIdeal.Value.run m' g') fun r h c => ?_
  have e := eq_all (reads m hpre c) (hagree c)
  exact ⟨(h c).1.trans ((Cert.SwaRefIdeal.Read.val_main_v267_eq _).trans e.1), (h c).2.1.trans ((Cert.SwaRefIdeal.Read.val_main_v247_eq _).trans e.2.1),
    (h c).2.2.1.trans ((Cert.SwaRefIdeal.Read.val_main_v225_eq _).trans e.2.2.1), (h c).2.2.2.1.trans ((Cert.SwaRefIdeal.Read.val_main_v194_eq _).trans e.2.2.2),
    (h c).2.2.2.2⟩

end Cert.Proof.SwaClaims

end
-- ==== Proof.LossBlock.lean ====
/- The loss and its gradients: what one point of the kernel leaves. -/
module

public import proofs.«01_k».proof.Defs
public import proofs.«01_k».proof.Proof.Gen.LossIdeal.Frame
public import proofs.«01_k».proof.Proof.Reals
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.LossIdeal.Grad

open Idealize.ShloMosaic Idealize.ShloMosaic.TcCoe Idealize.SL.Sem
open Idealize.ShloMosaic.Pipeline (Dat)
open Cert.LossIdeal Cert.LossIdeal.Gen Cert.Reals

variable (m : (ℓ : Loc nD τ sig) → Buf (Elt Ideal) ℓ)

/-! ## The host's numbers and the kernel's payloads -/

theorem bits_1024th : Ideal.ofBits .f32 0x3A800000#32 = ((1 / 1024 : ℝ) : EReal) := by simp [Ideal.ofBits, Ideal.ieee]; rw [← EReal.coe_mul]; congr 1; norm_num
theorem bits_1024 : Ideal.ofBits .f32 0x44800000#32 = ((1024 : ℝ) : EReal) := by simp [Ideal.ofBits, Ideal.ieee]; rw [← EReal.coe_mul]; congr 1; norm_num
theorem bits_half : Ideal.ofBits .f32 0x3F000000#32 = ((1 / 2 : ℝ) : EReal) := by simp [Ideal.ofBits, Ideal.ieee]; rw [← EReal.coe_mul]; congr 1; norm_num

/-- The part of the product that a point computes. -/
theorem pay3_at (x : FVec Ideal S512x1408 .bf16) (w : FVec Ideal S1408x1024 .bf16) (r : Fin 512) (n : Fin 1024) :
    k0_pay3 (F := Ideal) x w (ix2 r n) = ∑ k : Fin 1408, x (ix2 r k) * w (ix2 k n) := by
  pointwise [k0_pay3]

theorem pay4_at (x : FVec Ideal S512x1408 .bf16) (w : FVec Ideal S1408x1024 .bf16) (r : Fin 512) (n : Fin 1024) :
    k0_pay4 (F := Ideal) x w (ix2 r n) = ∑ k : Fin 1408, x (ix2 r k) * w (ix2 k n) := by
  pointwise [k0_pay4, k0_pay3]

theorem pay5_at (x : FVec Ideal S512x1408 .bf16) (w : FVec Ideal S1408x1024 .bf16) (a : FVec Ideal S512x1024 .f32) (r : Fin 512) (n : Fin 1024) :
    k0_pay5 (F := Ideal) x w a (ix2 r n) = a (ix2 r n) + ∑ k : Fin 1408, x (ix2 r k) * w (ix2 k n) := by
  pointwise [k0_pay5, k0_pay3]

/-- The error of one element: the residual, its gated product and the target. -/
def er (f y t g : EReal) : EReal := y + g * f - t

theorem pay9_at (f y t : FVec Ideal S256x1024 .f32) (g : FVec Ideal S1x1024 .f32) (r : Fin 256) (n : Fin 1024) :
    k0_pay9 (F := Ideal) f y t g (ix2 r n) = er (f (ix2 r n)) (y (ix2 r n)) (t (ix2 r n)) (g (ix2 0 n)) * ((1 / 1024 : ℝ) : EReal) := by
  unfold er
  rw [← bits_1024th]
  pointwise [k0_pay9, k0_pay8]

theorem pay11_at (f y t : FVec Ideal S256x1024 .f32) (g : FVec Ideal S1x1024 .f32) (r : Fin 256) (n : Fin 1024) :
    k0_pay11 (F := Ideal) f y t g (ix2 r n) = g (ix2 0 n) * (er (f (ix2 r n)) (y (ix2 r n)) (t (ix2 r n)) (g (ix2 0 n)) * ((1 / 1024 : ℝ) : EReal)) := by
  unfold er
  rw [← bits_1024th]
  pointwise [k0_pay11, k0_pay9, k0_pay8]

theorem pay12_at (f y t : FVec Ideal S256x1024 .f32) (g a : FVec Ideal S1x1024 .f32) (n : Fin 1024) :
    k0_pay12 (F := Ideal) f y t g a (ix2 0 n) = a (ix2 0 n) + ∑ r : Fin 256, er (f (ix2 r n)) (y (ix2 r n)) (t (ix2 r n)) (g (ix2 0 n)) * ((1 / 1024 : ℝ) : EReal) * f (ix2 r n) := by
  unfold er
  rw [← bits_1024th]
  pointwise [k0_pay12, k0_pay9, k0_pay8]

theorem pay15_eq (f y t : FVec Ideal S256x1024 .f32) (g : FVec Ideal S1x1024 .f32) : k0_pay15 (F := Ideal) f y t g = k0_pay9 f y t g := rfl
theorem pay18_eq (f y t : FVec Ideal S256x1024 .f32) (g : FVec Ideal S1x1024 .f32) : k0_pay18 (F := Ideal) f y t g = k0_pay11 f y t g := rfl
theorem pay17_eq (f y t : FVec Ideal S256x1024 .f32) (g : FVec Ideal S1x1024 .f32) : k0_pay17 (F := Ideal) f y t g = k0_pay10 f y t g := rfl

theorem pay6_at (f y t : FVec Ideal S256x1024 .f32) (g a : FVec Ideal S1x1024 .f32) (n : Fin 1024) :
    k0_pay6 (F := Ideal) (k0_pay16 f y t g) (k0_pay19 a) (ix2 0 n) = a (ix2 0 n) + ∑ r : Fin 256, er (f (ix2 r n)) (y (ix2 r n)) (t (ix2 r n)) (g (ix2 0 n)) * ((1 / 1024 : ℝ) : EReal) * f (ix2 r n) := by
  unfold er
  rw [← bits_1024th]
  pointwise [k0_pay6, k0_pay16, k0_pay19, k0_pay15, k0_pay14]

/-- The factor of the squares' sum. -/
def lc : EReal := ((1 / 2048 : ℝ) : EReal)

theorem lc_eq (s : EReal) : Ideal.div (Ideal.ofBits .f32 0x3F000000#32 * s) (Ideal.ofBits .f32 0x44800000#32) = lc * s := by
  rw [bits_half, bits_1024, Ideal.div_coe (by norm_num), mul_right_comm, ← EReal.coe_mul]
  unfold lc
  congr 2
  norm_num

theorem pay10_at (f y t : FVec Ideal S256x1024 .f32) (g : FVec Ideal S1x1024 .f32) (l : Fin 128) :
    k0_pay10 (F := Ideal) f y t g (ix2 0 l) = lc * ∑ r : Fin 256, ∑ n : Fin 1024, er (f (ix2 r n)) (y (ix2 r n)) (t (ix2 r n)) (g (ix2 0 n)) * er (f (ix2 r n)) (y (ix2 r n)) (t (ix2 r n)) (g (ix2 0 n)) := by
  unfold er
  rw [← lc_eq]
  pointwise [k0_pay10, k0_pay8]

theorem pay13_at (b a : FVec Ideal S1x128 .f32) (l : Fin 128) : k0_pay13 (F := Ideal) b a (ix2 0 l) = a (ix2 0 l) + b (ix2 0 l) := by
  pointwise [k0_pay13]

theorem pay7_at (b a : FVec Ideal S1x128 .f32) (l : Fin 128) : k0_pay7 (F := Ideal) b a (ix2 0 l) = a (ix2 0 l) + b (ix2 0 l) := by
  pointwise [k0_pay7]

/-! ## One point -/

abbrev X (c : Dev nD) (t : Fin cfg0.N) : FVec Ideal S512x1408 .bf16 := iblk m c 0 t
abbrev W (c : Dev nD) (t : Fin cfg0.N) : FVec Ideal S2816x1024 .bf16 := iblk m c 1 t
abbrev Y (c : Dev nD) (t : Fin cfg0.N) : FVec Ideal S512x1024 .f32 := iblk m c 2 t
abbrev T (c : Dev nD) (t : Fin cfg0.N) : FVec Ideal S512x1024 .f32 := iblk m c 3 t
abbrev G (c : Dev nD) (t : Fin cfg0.N) : FVec Ideal S1x1024 .f32 := iblk m c 4 t

theorem off_eq : ∀ t : Fin cfg0.N, k0_off1 (grid0.coords t) = ![1408 * (t.val % 2), 0] :=
  (by decide +kernel : ∀ t : Fin grid0.N, k0_off1 (grid0.coords t) = ![1408 * (t.val % 2), 0])

/-- The part of the product that point `t` adds. -/
def part (c : Dev nD) (t : Fin cfg0.N) (r : Fin 512) (n : Fin 1024) : EReal :=
  ∑ k : Fin 1408, X m c t (ix2 r k) * W m c t (ix2 ⟨1408 * (t.val % 2) + k.val, by omega⟩ n)

theorem ld_w (t : Fin cfg0.N) (Z : S2816x1024.Idx → Elt Ideal .bf16) (k : Fin 1408) (n : Fin 1024) :
    View.ld Z (Rect.unit (s := S2816x1024) (k0_off1 (grid0.coords t)) ![1408, 1024] (k0_off1_inb (grid0.coords t))) (ix2 k n) = Z (ix2 ⟨1408 * (t.val % 2) + k.val, by omega⟩ n) := by
  show Z _ = Z _
  congr 1
  funext b
  apply Fin.ext
  match b with
  | ⟨0, _⟩ => show k0_off1 (grid0.coords t) 0 + 1 * k.val = _; rw [off_eq]; show 1408 * (t.val % 2) + 1 * k.val = 1408 * (t.val % 2) + k.val; omega
  | ⟨1, _⟩ => show k0_off1 (grid0.coords t) 1 + 1 * n.val = _; rw [off_eq]; show 0 + 1 * n.val = n.val; omega

theorem scratch_A (c : Dev nD) (t : Fin cfg0.N) (h0 : t.val % 16 = 0) (r : Fin 512) (n : Fin 1024) :
    (outsAt0 m c t.val t.isLt).2.2.2.2 (ix2 r n) = part m c t r n := by
  rw [outsAt0_A m c t (by omega) (by omega) (by omega) (by omega)]
  frame_out
  rw [pay4_at]
  exact Finset.sum_congr rfl fun k _ => by rw [ld_w]

theorem scratch_C (c : Dev nD) (t : Fin cfg0.N) (h0 : ¬ t.val % 16 = 0) (h1 : t.val % 2 = 0) (r : Fin 512) (n : Fin 1024) :
    (outsAt0 m c t.val t.isLt).2.2.2.2 (ix2 r n) = part m c t r n := by
  rw [outsAt0_C m c t (by omega) (by omega) (by omega) (by omega)]
  frame_out
  rw [pay4_at]
  exact Finset.sum_congr rfl fun k _ => by rw [ld_w]

/-- What the point before left. -/
abbrev P (c : Dev nD) (t : Fin cfg0.N) := outsAt0 m c (t.val - 1) (Nat.lt_of_le_of_lt (Nat.sub_le _ _) t.isLt)

/-- The whole product of a block, at its second point. -/
abbrev Fs (c : Dev nD) (t : Fin cfg0.N) : FVec Ideal S512x1024 .f32 :=
  k0_pay5 (F := Ideal) (X m c t) (View.ld (W m c t) (Rect.unit (s := S2816x1024) (k0_off1 (grid0.coords t)) ![1408, 1024] (k0_off1_inb (grid0.coords t)))) (P m c t).2.2.2.2

theorem Fs_at (c : Dev nD) (t : Fin cfg0.N) (r : Fin 512) (n : Fin 1024) : Fs m c t (ix2 r n) = (P m c t).2.2.2.2 (ix2 r n) + part m c t r n := by
  unfold Fs
  rw [pay5_at]
  exact congrArg _ (Finset.sum_congr rfl fun k _ => by rw [ld_w])

/-- A load from a buffer that one store filled reads that store. -/
theorem buf_read {sp : Space} (v : View sig .tc sp S512x1024 .f32) (Z : S512x1024.Idx → Elt Ideal .f32) (r : Rect S512x1024) :
    v.readCov (Val := Elt Ideal) [⟨Rect.unit (s := S512x1024) ![0, 0] ![512, 1024] inb_S512x1024_S512x1024_0_0, Z⟩] r.toLoadRect = View.ld Z r := by
  rw [View.readCov_eq_canon']
  have h : View.canon (Val := Elt Ideal) [⟨Rect.unit (s := S512x1024) ![0, 0] ![512, 1024] inb_S512x1024_S512x1024_0_0, Z⟩] = Z := by
    funext y
    have h := View.canon_cons_emb (Val := Elt Ideal) (Rect.unit (s := S512x1024) ![0, 0] ![512, 1024] inb_S512x1024_S512x1024_0_0) Z [] y
    have e : (Rect.unit (s := S512x1024) ![0, 0] ![512, 1024] inb_S512x1024_S512x1024_0_0).emb y = y := by blk_ext
    rw [e] at h
    exact h
  rw [h]

theorem ld_lo (Z : S512x1024.Idx → Elt Ideal .f32) (r : Fin 256) (n : Fin 1024) :
    View.ld Z (Rect.unit ![0, 0] ![256, 1024] inb_S512x1024_S256x1024_0_0) (ix2 r n) = Z (ix2 ⟨r.val, by omega⟩ n) := by
  pointwise

theorem ld_hi (Z : S512x1024.Idx → Elt Ideal .f32) (r : Fin 256) (n : Fin 1024) :
    View.ld Z (Rect.unit ![256, 0] ![256, 1024] inb_S512x1024_S256x1024_256_0) (ix2 r n) = Z (ix2 ⟨256 + r.val, by omega⟩ n) := by
  pointwise

theorem scratch_read (Z : FVec Ideal S512x1024 .f32) : View.read (Elt Ideal) (View.whole cc0_scratch0) ((Memref.isWhole_whole cc0_scratch0).unread Z) = Z :=
  by show View.read (Elt Ideal) (Memref.whole cc0_scratch0).view ((Memref.isWhole_whole cc0_scratch0).unread Z) = Z; exact Memref.IsWhole.read_unread (Val := Elt Ideal) (Memref.isWhole_whole cc0_scratch0) Z

/-- The error of a block's element. -/
def er0 (c : Dev nD) (t : Fin cfg0.N) (r : Fin 512) (n : Fin 1024) : EReal := er (Fs m c t (ix2 r n)) (Y m c t (ix2 r n)) (T m c t (ix2 r n)) (G m c t (ix2 0 n))

theorem scratch_B (c : Dev nD) (t : Fin cfg0.N) (h1 : t.val % 2 = 1) : (outsAt0 m c t.val t.isLt).2.2.2.2 = Fs m c t := by
  rw [outsAt0_B m c t (by omega) (by omega) h1 h1]
  frame_out
  rw [scratch_read]

theorem dy_B (c : Dev nD) (t : Fin cfg0.N) (h1 : t.val % 2 = 1) (r : Fin 512) (n : Fin 1024) :
    (outsAt0 m c t.val t.isLt).1 (ix2 r n) = er0 m c t r n * ((1 / 1024 : ℝ) : EReal) := by
  rw [outsAt0_B m c t (by omega) (by omega) h1 h1]
  frame_out
  rw [scratch_read, buf_read, buf_read]
  canon_tiles x h
  · obtain ⟨a, b, rfl⟩ : ∃ a b, x = ix2 (n0 := 256) (n1 := 1024) a b := ⟨x 0, x 1, by funext b; match b with | ⟨0, _⟩ => rfl | ⟨1, _⟩ => rfl⟩
    have hr : r = ⟨256 + a.val, by omega⟩ := Fin.ext h0
    have hn : n = b := Fin.ext h1
    subst hn
    rw [hr]
    rw [pay15_eq, pay9_at]
    rw [ld_hi, ld_hi, ld_hi]
    rfl
  · obtain ⟨a, b, rfl⟩ : ∃ a b, x = ix2 (n0 := 256) (n1 := 1024) a b := ⟨x 0, x 1, by funext b; match b with | ⟨0, _⟩ => rfl | ⟨1, _⟩ => rfl⟩
    have hr : r = ⟨a.val, by omega⟩ := Fin.ext h0
    have hn : n = b := Fin.ext h1
    subst hn
    rw [hr]
    rw [pay9_at]
    rw [ld_lo, ld_lo, ld_lo]
    rfl

theorem dffn_B (c : Dev nD) (t : Fin cfg0.N) (h1 : t.val % 2 = 1) (r : Fin 512) (n : Fin 1024) :
    (outsAt0 m c t.val t.isLt).2.1 (ix2 r n) = G m c t (ix2 0 n) * (er0 m c t r n * ((1 / 1024 : ℝ) : EReal)) := by
  rw [outsAt0_B m c t (by omega) (by omega) h1 h1]
  frame_out
  rw [scratch_read, buf_read, buf_read]
  canon_tiles x h
  · obtain ⟨a, b, rfl⟩ : ∃ a b, x = ix2 (n0 := 256) (n1 := 1024) a b := ⟨x 0, x 1, by funext b; match b with | ⟨0, _⟩ => rfl | ⟨1, _⟩ => rfl⟩
    have hr : r = ⟨256 + a.val, by omega⟩ := Fin.ext h0
    have hn : n = b := Fin.ext h1
    subst hn
    rw [hr]
    rw [pay18_eq, pay11_at]
    rw [ld_hi, ld_hi, ld_hi]
    rfl
  · obtain ⟨a, b, rfl⟩ : ∃ a b, x = ix2 (n0 := 256) (n1 := 1024) a b := ⟨x 0, x 1, by funext b; match b with | ⟨0, _⟩ => rfl | ⟨1, _⟩ => rfl⟩
    have hr : r = ⟨a.val, by omega⟩ := Fin.ext h0
    have hn : n = b := Fin.ext h1
    subst hn
    rw [hr]
    rw [pay11_at]
    rw [ld_lo, ld_lo, ld_lo]
    rfl

/-- One row's share of the multiplier's gradient, and of the squared error. -/
def dgs (c : Dev nD) (t : Fin cfg0.N) (n : Fin 1024) (r : Fin 512) : EReal := er0 m c t r n * ((1 / 1024 : ℝ) : EReal) * Fs m c t (ix2 r n)
def sqs (c : Dev nD) (t : Fin cfg0.N) (r : Fin 512) : EReal := ∑ n : Fin 1024, er0 m c t r n * er0 m c t r n

theorem dg_B (c : Dev nD) (t : Fin cfg0.N) (h1 : t.val % 2 = 1) (n : Fin 1024) :
    (outsAt0 m c t.val t.isLt).2.2.1 (ix2 0 n) = (P m c t).2.2.1 (ix2 0 n) + (∑ r : Fin 256, dgs m c t n ⟨r.val, by omega⟩)
      + ∑ r : Fin 256, dgs m c t n ⟨256 + r.val, by omega⟩ := by
  rw [outsAt0_B m c t (by omega) (by omega) h1 h1]
  frame_out
  rw [scratch_read, buf_read, buf_read, pay6_at, pay12_at]
  refine congrArg₂ (· + ·) (congrArg _ (Finset.sum_congr rfl fun r _ => ?_)) (Finset.sum_congr rfl fun r _ => ?_)
  · rw [ld_lo, ld_lo, ld_lo]
    rfl
  · rw [ld_hi, ld_hi, ld_hi]
    rfl

theorem loss_B (c : Dev nD) (t : Fin cfg0.N) (h1 : t.val % 2 = 1) (l : Fin 128) :
    (outsAt0 m c t.val t.isLt).2.2.2.1 (ix2 0 l) = (P m c t).2.2.2.1 (ix2 0 l) + lc * (∑ r : Fin 256, sqs m c t ⟨r.val, by omega⟩)
      + lc * ∑ r : Fin 256, sqs m c t ⟨256 + r.val, by omega⟩ := by
  rw [outsAt0_B m c t (by omega) (by omega) h1 h1]
  frame_out
  rw [scratch_read, buf_read, buf_read, pay7_at, pay13_at, pay17_eq, pay10_at, pay10_at]
  refine congrArg₂ (· + ·) (congrArg _ (congrArg _ (Finset.sum_congr rfl fun r _ => Finset.sum_congr rfl fun n _ => ?_))) (congrArg _ (Finset.sum_congr rfl fun r _ => Finset.sum_congr rfl fun n _ => ?_))
  · rw [ld_lo, ld_lo, ld_lo]
    rfl
  · rw [ld_hi, ld_hi, ld_hi]
    rfl

theorem dg_C (c : Dev nD) (t : Fin cfg0.N) (h0 : ¬ t.val % 16 = 0) (h1 : t.val % 2 = 0) : (outsAt0 m c t.val t.isLt).2.2.1 = (P m c t).2.2.1 := by
  rw [outsAt0_C m c t (by omega) (by omega) (by omega) (by omega)]
  rfl

theorem loss_C (c : Dev nD) (t : Fin cfg0.N) (h0 : ¬ t.val % 16 = 0) (h1 : t.val % 2 = 0) : (outsAt0 m c t.val t.isLt).2.2.2.1 = (P m c t).2.2.2.1 := by
  rw [outsAt0_C m c t (by omega) (by omega) (by omega) (by omega)]
  rfl

theorem dg_A (c : Dev nD) (t : Fin cfg0.N) (h0 : t.val % 16 = 0) (n : Fin 1024) : (outsAt0 m c t.val t.isLt).2.2.1 (ix2 0 n) = 0 := by
  rw [outsAt0_A m c t (by omega) (by omega) (by omega) (by omega)]
  frame_out
  pointwise [k0_pay1]

theorem loss_A (c : Dev nD) (t : Fin cfg0.N) (h0 : t.val % 16 = 0) (l : Fin 128) : (outsAt0 m c t.val t.isLt).2.2.2.1 (ix2 0 l) = 0 := by
  rw [outsAt0_A m c t (by omega) (by omega) (by omega) (by omega)]
  frame_out
  pointwise [k0_pay2]

end Cert.LossIdeal.Grad
end
-- ==== Proof.LossArray.lean ====
/- The loss and its gradients: the arrays that the kernel leaves. -/
module

public import proofs.«01_k».proof.Defs
public import proofs.«01_k».proof.Proof.LossBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.LossIdeal.Grad

open Idealize.ShloMosaic Idealize.ShloMosaic.TcCoe Idealize.SL.Sem
open Idealize.ShloMosaic.Pipeline (Dat)
open Cert.LossIdeal Cert.LossIdeal.Gen Cert.Reals

variable (m : (ℓ : Loc nD τ sig) → Buf (Elt Ideal) ℓ)

abbrev A0 (c : Dev nD) : FVec Ideal S4096x2816 .bf16 := m ((c.tc : Thread nD τ).loc main_arg0)
abbrev A1 (c : Dev nD) : FVec Ideal S2816x1024 .bf16 := m ((c.tc : Thread nD τ).loc main_arg1)
abbrev A2 (c : Dev nD) : FVec Ideal S4096x1024 .f32 := m ((c.tc : Thread nD τ).loc main_arg2)
abbrev A3 (c : Dev nD) : FVec Ideal S4096x1024 .f32 := m ((c.tc : Thread nD τ).loc main_arg3)
abbrev A4 (c : Dev nD) : FVec Ideal S1x1024 .f32 := m ((c.tc : Thread nD τ).loc main_arg4)

theorem idx : ∀ t : Fin cfg0.N, win0_0.index t = ![t.val / 2, t.val % 2] ∧ win0_1.index t = ![0, 0] ∧ win0_2.index t = ![t.val / 2, 0] ∧ win0_3.index t = ![t.val / 2, 0] ∧ win0_4.index t = ![0, 0] ∧ win0_5.index t = ![t.val / 2, 0] ∧ win0_6.index t = ![t.val / 2, 0] :=
  (by decide +kernel : ∀ t : Fin grid0.N, win0_0.index t = ![t.val / 2, t.val % 2] ∧ win0_1.index t = ![0, 0] ∧ win0_2.index t = ![t.val / 2, 0] ∧ win0_3.index t = ![t.val / 2, 0] ∧ win0_4.index t = ![0, 0] ∧ win0_5.index t = ![t.val / 2, 0] ∧ win0_6.index t = ![t.val / 2, 0])

/-- The row at which a block's row stands. -/
def row (t : Fin cfg0.N) (r : Fin 512) : Fin 4096 := ⟨512 * (t.val / 2) + r.val, by have : t.val < 16 := lt_of_lt_of_eq t.isLt (show cfg0.N = 16 from N_0); omega⟩

theorem blk_x (c : Dev nD) (t : Fin cfg0.N) (r : Fin 512) (k : Fin 1408) : X m c t (ix2 r k) = A0 m c (ix2 (row t r) ⟨1408 * (t.val % 2) + k.val, by omega⟩) := by
  rw [show A0 m c = V m c main_arg0 from (V_main_arg0 m c).symm]
  unfold row
  blk_ext [X, iblk, idx t]
theorem blk_w (c : Dev nD) (t : Fin cfg0.N) (k : Fin 2816) (n : Fin 1024) : W m c t (ix2 k n) = A1 m c (ix2 k n) := by
  rw [show A1 m c = V m c main_arg1 from (V_main_arg1 m c).symm]
  blk_ext [W, iblk, idx t]
theorem blk_y (c : Dev nD) (t : Fin cfg0.N) (r : Fin 512) (n : Fin 1024) : Y m c t (ix2 r n) = A2 m c (ix2 (row t r) n) := by
  rw [show A2 m c = V m c main_arg2 from (V_main_arg2 m c).symm]
  unfold row
  blk_ext [Y, iblk, idx t]
theorem blk_t (c : Dev nD) (t : Fin cfg0.N) (r : Fin 512) (n : Fin 1024) : T m c t (ix2 r n) = A3 m c (ix2 (row t r) n) := by
  rw [show A3 m c = V m c main_arg3 from (V_main_arg3 m c).symm]
  unfold row
  blk_ext [T, iblk, idx t]
theorem blk_g (c : Dev nD) (t : Fin cfg0.N) (n : Fin 1024) : G m c t (ix2 0 n) = A4 m c (ix2 0 n) := by
  rw [show A4 m c = V m c main_arg4 from (V_main_arg4 m c).symm]
  blk_ext [G, iblk, idx t]

/-! ## The gradients in plain sums -/

def ffn (c : Dev nD) (i : Fin 4096) (n : Fin 1024) : EReal := ∑ k : Fin 2816, A0 m c (ix2 i k) * A1 m c (ix2 k n)
def err (c : Dev nD) (i : Fin 4096) (n : Fin 1024) : EReal := er (ffn m c i n) (A2 m c (ix2 i n)) (A3 m c (ix2 i n)) (A4 m c (ix2 0 n))
def dy (c : Dev nD) (i : Fin 4096) (n : Fin 1024) : EReal := err m c i n * ((1 / 1024 : ℝ) : EReal)

/-- One row's share of the multiplier's gradient, and of the squared error; nothing beyond the last row. -/
def dgr (c : Dev nD) (n : Fin 1024) (i : ℕ) : EReal := if h : i < 4096 then dy m c ⟨i, h⟩ n * ffn m c ⟨i, h⟩ n else 0
def sqr (c : Dev nD) (i : ℕ) : EReal := if h : i < 4096 then ∑ n : Fin 1024, err m c ⟨i, h⟩ n * err m c ⟨i, h⟩ n else 0

def DY (c : Dev nD) : FVec Ideal S4096x1024 .f32 := fun y => dy m c (y 0) (y 1)
def DF (c : Dev nD) : FVec Ideal S4096x1024 .bf16 := fun y => A4 m c (ix2 0 (y 1)) * dy m c (y 0) (y 1)
def DG (c : Dev nD) : FVec Ideal S1x1024 .f32 := fun y => ∑ i : Fin 4096, dy m c i (y 1) * ffn m c i (y 1)
def LS (c : Dev nD) : FVec Ideal S1x128 .f32 := fun _ => lc * ∑ i : Fin 4096, ∑ n : Fin 1024, err m c i n * err m c i n

/-! ## The points in order -/

theorem part_at (c : Dev nD) (t : Fin cfg0.N) (r : Fin 512) (n : Fin 1024) :
    part m c t r n = ∑ k : Fin 1408, A0 m c (ix2 (row t r) ⟨1408 * (t.val % 2) + k.val, by omega⟩) * A1 m c (ix2 ⟨1408 * (t.val % 2) + k.val, by omega⟩ n) :=
  Finset.sum_congr rfl fun k _ => by rw [blk_x, blk_w]

/-- A sum over the whole contraction is the sum of its two halves. -/
theorem sum_halves (f : Fin 2816 → EReal) : ∑ k : Fin 2816, f k = (∑ k : Fin 1408, f ⟨k.val, by omega⟩) + ∑ k : Fin 1408, f ⟨1408 + k.val, by omega⟩ :=
  Fin.sum_univ_add (a := 1408) (b := 1408) f

theorem Fs_eq (c : Dev nD) (t : Fin cfg0.N) (h1 : t.val % 2 = 1) (r : Fin 512) (n : Fin 1024) : Fs m c t (ix2 r n) = ffn m c (row t r) n := by
  have hN : t.val < 16 := lt_of_lt_of_eq t.isLt (show cfg0.N = 16 from N_0)
  have hp : (P m c t).2.2.2.2 (ix2 r n) = part m c ⟨t.val - 1, Nat.lt_of_le_of_lt (Nat.sub_le _ _) t.isLt⟩ r n := by
    by_cases h0 : (t.val - 1) % 16 = 0
    · exact scratch_A m c ⟨t.val - 1, _⟩ h0 r n
    · exact scratch_C m c ⟨t.val - 1, _⟩ h0 (by show (t.val - 1) % 2 = 0; omega) r n
  rw [Fs_at, hp, part_at, part_at]
  unfold ffn
  rw [sum_halves]
  have hr : row ⟨t.val - 1, Nat.lt_of_le_of_lt (Nat.sub_le _ _) t.isLt⟩ r = row t r := Fin.ext (by unfold row; show 512 * ((t.val - 1) / 2) + r.val = 512 * (t.val / 2) + r.val; omega)
  rw [hr]
  have h0 : (t.val - 1) % 2 = 0 := by omega
  refine congrArg₂ (· + ·) (Finset.sum_congr rfl fun k _ => ?_) (Finset.sum_congr rfl fun k _ => ?_)
  · simp only [h0, Nat.mul_zero, Nat.zero_add]
  · simp only [h1, Nat.mul_one]

theorem er_eq (c : Dev nD) (t : Fin cfg0.N) (h1 : t.val % 2 = 1) (r : Fin 512) (n : Fin 1024) : er0 m c t r n = err m c (row t r) n := by
  unfold er0 err
  rw [Fs_eq m c t h1, blk_y, blk_t, blk_g]

theorem dgs_eq (c : Dev nD) (t : Fin cfg0.N) (h1 : t.val % 2 = 1) (r : Fin 512) (n : Fin 1024) : dgs m c t n r = dgr m c n (512 * (t.val / 2) + r.val) := by
  have hN : t.val < 16 := lt_of_lt_of_eq t.isLt (show cfg0.N = 16 from N_0)
  unfold dgs dgr
  rw [dif_pos (by omega), er_eq m c t h1, Fs_eq m c t h1]
  rfl

theorem sqs_eq (c : Dev nD) (t : Fin cfg0.N) (h1 : t.val % 2 = 1) (r : Fin 512) : sqs m c t r = sqr m c (512 * (t.val / 2) + r.val) := by
  have hN : t.val < 16 := lt_of_lt_of_eq t.isLt (show cfg0.N = 16 from N_0)
  unfold sqs sqr
  rw [dif_pos (by omega)]
  exact Finset.sum_congr rfl fun n _ => by rw [er_eq m c t h1]; rfl

/-- A sum over the first rows, and the next 512 of them in two halves. -/
theorem next_rows (f : ℕ → EReal) (b : ℕ) : (∑ i ∈ Finset.range b, f i) + (∑ r : Fin 256, f (b + r.val)) + (∑ r : Fin 256, f (b + (256 + r.val))) = ∑ i ∈ Finset.range (b + 512), f i := by
  rw [show b + 512 = b + 256 + 256 from rfl, Finset.sum_range_add, Finset.sum_range_add, Finset.sum_range, Finset.sum_range, Finset.sum_range]
  simp only [Nat.add_assoc]

/-- A finite factor that is not negative distributes. -/
theorem lc_add (x y : EReal) : lc * (x + y) = lc * x + lc * y :=
  EReal.left_distrib_of_nonneg_of_ne_top (EReal.coe_nonneg.mpr (by norm_num)) (EReal.coe_ne_top _) x y

/-- After each point the two sums cover the rows of the blocks that are complete. -/
theorem sums_at (c : Dev nD) : ∀ (t : ℕ) (ht : t < cfg0.N),
    (∀ n : Fin 1024, (outsAt0 m c t ht).2.2.1 (ix2 0 n) = ∑ i ∈ Finset.range (512 * ((t + 1) / 2)), dgr m c n i)
    ∧ (∀ l : Fin 128, (outsAt0 m c t ht).2.2.2.1 (ix2 0 l) = lc * ∑ i ∈ Finset.range (512 * ((t + 1) / 2)), sqr m c i) := by
  intro t
  induction t with
  | zero =>
    intro ht
    refine ⟨fun n => (dg_A m c ⟨0, ht⟩ rfl n).trans ?_, fun l => (loss_A m c ⟨0, ht⟩ rfl l).trans ?_⟩
    · rw [show 512 * ((0 + 1) / 2) = 0 from rfl, Finset.sum_range_zero]
    · rw [show 512 * ((0 + 1) / 2) = 0 from rfl, Finset.sum_range_zero, mul_zero]
  | succ t ih =>
    intro ht
    have hN : t + 1 < 16 := lt_of_lt_of_eq ht (show cfg0.N = 16 from N_0)
    obtain ⟨ih1, ih2⟩ := ih (Nat.lt_of_succ_lt ht)
    by_cases h1 : (t + 1) % 2 = 1
    · have hb : 512 * ((t + 1 + 1) / 2) = 512 * ((t + 1) / 2) + 512 := by omega
      rw [hb]
      refine ⟨fun n => (dg_B m c ⟨t + 1, ht⟩ h1 n).trans ?_, fun l => (loss_B m c ⟨t + 1, ht⟩ h1 l).trans ?_⟩
      · rw [← next_rows]
        refine congrArg₂ (· + ·) (congrArg₂ (· + ·) (ih1 n) (Finset.sum_congr rfl fun r _ => ?_)) (Finset.sum_congr rfl fun r _ => ?_)
        · exact dgs_eq m c ⟨t + 1, ht⟩ h1 _ n
        · exact dgs_eq m c ⟨t + 1, ht⟩ h1 _ n
      · rw [← next_rows, lc_add, lc_add]
        refine congrArg₂ (· + ·) (congrArg₂ (· + ·) (ih2 l) (congrArg _ (Finset.sum_congr rfl fun r _ => ?_))) (congrArg _ (Finset.sum_congr rfl fun r _ => ?_))
        · exact sqs_eq m c ⟨t + 1, ht⟩ h1 _
        · exact sqs_eq m c ⟨t + 1, ht⟩ h1 _
    · have hb : 512 * ((t + 1 + 1) / 2) = 512 * ((t + 1) / 2) := by omega
      rw [hb]
      have h0 : ¬ (t + 1) % 16 = 0 := by omega
      have h2 : (t + 1) % 2 = 0 := by omega
      exact ⟨fun n => (congrFun (dg_C m c ⟨t + 1, ht⟩ h0 h2) _).trans (ih1 n), fun l => (congrFun (loss_C m c ⟨t + 1, ht⟩ h0 h2) _).trans (ih2 l)⟩

/-! ## The arrays -/

theorem flush5 : ∀ t : Fin cfg0.N, (cfg0.win 5).flush t = true → t.val % 2 = 1 := (by decide +kernel : ∀ t : Fin grid0.N, win0_5.flush t = true → t.val % 2 = 1)
theorem flush6 : ∀ t : Fin cfg0.N, (cfg0.win 6).flush t = true → t.val % 2 = 1 := (by decide +kernel : ∀ t : Fin grid0.N, win0_6.flush t = true → t.val % 2 = 1)

theorem final5 (c : Dev nD) : (dats m 0 c).arrAt 5 cfg0.N = DY m c := by
  refine (dats m 0 c).arrAt_eq_of_covers 5 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  have h1 := flush5 t hf
  blk_simp
  rw [after0_5]
  refine (dy_B m c t h1 r n).trans ?_
  rw [er_eq m c t h1]
  exact (congrArg (DY m c) (show _ = ix2 (row t r) n by unfold row; blk_ext [idx t])).symm

theorem final6 (c : Dev nD) : (dats m 0 c).arrAt 6 cfg0.N = DF m c := by
  refine (dats m 0 c).arrAt_eq_of_covers 6 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  have h1 := flush6 t hf
  blk_simp
  rw [after0_6]
  refine (dffn_B m c t h1 r n).trans ?_
  rw [er_eq m c t h1, blk_g]
  exact (congrArg (DF m c) (show _ = ix2 (row t r) n by unfold row; blk_ext [idx t])).symm

theorem last7 (c : Dev nD) (t : Fin cfg0.N) (ht : t.val = 15) (n : Fin 1024) : (dats m 0 c).after 7 t (ix2 0 n) = DG m c (ix2 0 n) := by
  rw [after0_7]
  refine ((sums_at m c t.val t.isLt).1 n).trans ?_
  rw [ht, show 512 * ((15 + 1) / 2) = 4096 from rfl, Finset.sum_range]
  exact Finset.sum_congr rfl fun i _ => dif_pos i.isLt

theorem final7 (c : Dev nD) : (dats m 0 c).arrAt 7 cfg0.N = DG m c := by
  refine (dats m 0 c).arrAt_eq_of_after_last 7 ⟨15, by decide⟩ (by decide +kernel) _ fun j => ?_
  have hy : ∃ z n, j = ix2 (n0 := 1) (n1 := 1024) z n := ⟨j 0, j 1, by funext b; match b with | ⟨0, _⟩ => rfl | ⟨1, _⟩ => rfl⟩
  obtain ⟨z, n, rfl⟩ := hy
  obtain rfl : z = 0 := Subsingleton.elim _ _
  blk_simp
  exact last7 m c ⟨15, by decide⟩ rfl n

theorem last8 (c : Dev nD) (t : Fin cfg0.N) (ht : t.val = 15) (l : Fin 128) : (dats m 0 c).after 8 t (ix2 0 l) = LS m c (ix2 0 l) := by
  rw [after0_8]
  refine ((sums_at m c t.val t.isLt).2 l).trans ?_
  rw [ht, show 512 * ((15 + 1) / 2) = 4096 from rfl, Finset.sum_range]
  exact congrArg _ (Finset.sum_congr rfl fun i _ => dif_pos i.isLt)

theorem final8 (c : Dev nD) : (dats m 0 c).arrAt 8 cfg0.N = LS m c := by
  refine (dats m 0 c).arrAt_eq_of_after_last 8 ⟨15, by decide⟩ (by decide +kernel) _ fun j => ?_
  have hy : ∃ z l, j = ix2 (n0 := 1) (n1 := 128) z l := ⟨j 0, j 1, by funext b; match b with | ⟨0, _⟩ => rfl | ⟨1, _⟩ => rfl⟩
  obtain ⟨z, l, rfl⟩ := hy
  obtain rfl : z = 0 := Subsingleton.elim _ _
  blk_simp
  exact last8 m c ⟨15, by decide⟩ rfl l

theorem at_exit (c : Dev nD) : Pipeline.withArrays (cfgs 0).spec c (V0 m c) (fun w => (dats m 0 c).arrAt w (cfgs 0).N) (Proc.tc.devRef main_v0_3) = LS m c :=
  (Pipeline.withArrays_arr spec0 (by decide) c (V0 m c) (fun w => (dats m 0 c).arrAt w (cfgs 0).N) 8).trans (final8 m c)

theorem tail2 (c : Dev nD) : Pipeline.afterTail₀ cfgs (dats m) 0 (V0 m) [hostOps1] c main_v2 =
    shapeCast S_ (extractStridedSlice S1x1 ![0, 0] (LS m c) slices_S1x128_S1x1_0_0) shapeCasts_S1x1_S_ := by
  unfold Pipeline.afterTail₀
  simp only [List.flatten_cons, List.flatten_nil, List.append_nil]
  after_results
  rw [at_exit]
  rfl

end Cert.LossIdeal.Grad
end
-- ==== Proof.LossClaims.lean ====
/- The claims about the loss and its gradients. -/
module

public import proofs.«01_k».proof.Defs
public import proofs.«01_k».proof.Proof.LossArray
public import proofs.«01_k».proof.Proof.Gen.Loss.Frame
public import proofs.«01_k».proof.Proof.Gen.LossRefIdeal.Read
public import Idealize.ShloMosaic.Adequacy
public import Idealize.ShloMosaic.Lib.KernelVsHost

@[expose] public section

noncomputable section

namespace Cert.Proof.LossClaims

open Idealize.ShloMosaic Idealize.ShloMosaic.TcCoe Idealize.SL.Sem
open Cert.LossIdeal Cert.LossIdeal.Grad Cert.Reals

/-- The reference leaves its arguments as they were; it has no semaphore. -/
theorem frame_ref : Cert.quiescent_LossRefIdeal := fun m ρ _ =>
  (θ_run Cert.LossRefIdeal.defs _ _).mono (fun r h => ⟨fun c => (h c).2.2.2.2, sem_eq_zero_of_no_sems (by decide) r.2⟩) (Cert.LossRefIdeal.Value.run m ρ)

section
open Cert.LossRefIdeal.Read

variable (x0 : FVec Ideal S4096x2816 .bf16) (x1 : FVec Ideal S2816x1024 .bf16) (x2 x3 : FVec Ideal S4096x1024 .f32) (x4 : FVec Ideal S1x1024 .f32)

/-- The reference's product and error. -/
def rffn (i : Fin 4096) (n : Fin 1024) : EReal := ∑ k : Fin 2816, x0 (ix2 i k) * x1 (ix2 k n)
def rerr (i : Fin 4096) (n : Fin 1024) : EReal := er (rffn x0 x1 i n) (x2 (ix2 i n)) (x3 (ix2 i n)) (x4 (ix2 0 n))

theorem at_v2 (i : Fin 4096) (n : Fin 1024) : val_main_v2 (F := Ideal) x0 x1 (ix2 i n) = rffn x0 x1 i n := by
  unfold rffn
  pointwise [val_main_v2, val_main_v1, val_main_v0]

theorem at_v6 (i : Fin 4096) (n : Fin 1024) : val_main_v6 (F := Ideal) x0 x1 x2 x3 x4 (ix2 i n) = rerr x0 x1 x2 x3 x4 i n := by
  unfold rerr er rffn
  pointwise [val_main_v6, val_main_v5, val_main_v4, val_main_v3, val_main_v2, val_main_v1, val_main_v0]

theorem bits_two : Ideal.ofBits .f32 0x40000000#32 = ((2 : ℝ) : EReal) := by simp [Ideal.ofBits, Ideal.ieee]; rw [← EReal.coe_mul]; congr 1; norm_num

/-- A finite factor that is not negative distributes over a sum. -/
theorem scale_sum {a : ℝ} (ha : 0 ≤ a) {ι : Type*} (s : Finset ι) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.mpr ha) (EReal.coe_ne_top a), ih]

theorem at_v20 (i : Fin 4096) (n : Fin 1024) : val_main_v20 (F := Ideal) x0 x1 x2 x3 x4 (ix2 i n) = rerr x0 x1 x2 x3 x4 i n * ((1 / 1024 : ℝ) : EReal) := by
  rw [← at_v6]
  pointwise [val_main_v20, val_main_v19, val_main_v18, val_main_v17, val_main_cst_6, val_main_v16, val_main_v15, val_main_cst_5, val_main_cst_4, val_main_v9, val_main_v8, val_main_cst]
  rw [show Ideal.ofBits .f32 1056964608#32 = ((1 / 2 : ℝ) : EReal) from bits_half, show Ideal.ofBits .f32 1149239296#32 = ((1024 : ℝ) : EReal) from bits_1024,
    show Ideal.ofBits .f32 1073741824#32 = ((2 : ℝ) : EReal) from bits_two, div_real (by norm_num), ← mul_assoc, ← EReal.coe_mul, mul_comm]
  congr 2
  norm_num

theorem at_v14 (y : S_.Idx) : val_main_v14 (F := Ideal) x0 x1 x2 x3 x4 y = lc * ∑ i : Fin 4096, ∑ n : Fin 1024, rerr x0 x1 x2 x3 x4 i n * rerr x0 x1 x2 x3 x4 i n := by
  simp only [← at_v6]
  pointwise [val_main_v14, val_main_cst_3, val_main_v13, val_main_cst_2, val_main_v12, val_main_v11, val_main_cst_1, val_main_v10, val_main_cst_0, val_main_v7]
  unfold lc
  rw [show Ideal.ofBits .f32 1056964608#32 = ((1 / 2 : ℝ) : EReal) from bits_half, show Ideal.ofBits .f32 1149239296#32 = ((1024 : ℝ) : EReal) from bits_1024,
    scale_sum (by norm_num), scale_sum (by norm_num)]
  refine Finset.sum_congr rfl fun i _ => ?_
  rw [Ideal.div_coe (by norm_num), mul_comm (∑ _, _) _, ← mul_assoc, ← EReal.coe_mul]
  congr 2
  norm_num

theorem at_v26 (i : Fin 4096) (n : Fin 1024) : val_main_v26 (F := Ideal) x0 x1 x2 x3 x4 (ix2 i n) = x4 (ix2 0 n) * (rerr x0 x1 x2 x3 x4 i n * ((1 / 1024 : ℝ) : EReal)) := by
  rw [← at_v20]
  pointwise [val_main_v26, val_main_v22, val_main_v21]

theorem at_v25 (n : Fin 1024) : val_main_v25 (F := Ideal) x0 x1 x2 x3 x4 (ix2 0 n) = ∑ i : Fin 4096, rerr x0 x1 x2 x3 x4 i n * ((1 / 1024 : ℝ) : EReal) * rffn x0 x1 i n := by
  simp only [← at_v20, ← at_v2]
  pointwise [val_main_v25, val_main_v24, val_main_cst_7, val_main_v23]

end

variable (m : (ℓ : Loc nD τ sig) → Buf (Elt Ideal) ℓ)

theorem eq_dy (c : Dev nD) : Cert.LossRefIdeal.Read.val_main_v20 (F := Ideal) (A0 m c) (A1 m c) (A2 m c) (A3 m c) (A4 m c) = DY m c := by
  funext y
  obtain ⟨i, n, rfl⟩ : ∃ i n, y = ix2 (n0 := 4096) (n1 := 1024) i n := ⟨y 0, y 1, by funext b; match b with | ⟨0, _⟩ => rfl | ⟨1, _⟩ => rfl⟩
  exact at_v20 _ _ _ _ _ i n

theorem eq_df (c : Dev nD) : Cert.LossRefIdeal.Read.val_main_v26 (F := Ideal) (A0 m c) (A1 m c) (A2 m c) (A3 m c) (A4 m c) = DF m c := by
  funext y
  obtain ⟨i, n, rfl⟩ : ∃ i n, y = ix2 (n0 := 4096) (n1 := 1024) i n := ⟨y 0, y 1, by funext b; match b with | ⟨0, _⟩ => rfl | ⟨1, _⟩ => rfl⟩
  exact at_v26 _ _ _ _ _ i n

theorem eq_dg (c : Dev nD) : Cert.LossRefIdeal.Read.val_main_v25 (F := Ideal) (A0 m c) (A1 m c) (A2 m c) (A3 m c) (A4 m c) = DG m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v25 _ _ _ _ _ n

theorem eq_loss (c : Dev nD) : Cert.LossRefIdeal.Read.val_main_v14 (F := Ideal) (A0 m c) (A1 m c) (A2 m c) (A3 m c) (A4 m c) = Pipeline.afterTail₀ cfgs (Gen.dats m) 0 (Gen.V0 m) [Gen.hostOps1] c main_v2 := by
  rw [tail2]
  funext y
  refine (at_v14 _ _ _ _ _ y).trans ?_
  pointwise
  rfl

/-- The kernel and the derivative of the loss leave the same arrays, at every argument. -/
theorem algebraic : Cert.algebraic_LossIdeal_LossRefIdeal := by
  pair_intro
  · run_from Cert.LossIdeal.Gen.run_main m g
  · run_from Cert.LossRefIdeal.Value.run m' g'
    · exact (eq_dy m c).trans (final5 m c).symm
    · exact (eq_df m c).trans (final6 m c).symm
    · exact (eq_dg m c).trans (final7 m c).symm
    · exact eq_loss m c

end Cert.Proof.LossClaims

end
-- ==== Proof.RowNorm.lean ====
/- One row of a normed and modulated array, and the gradient that comes back through it. -/
module

public import Idealize.ShloMosaic.Lib.Pointwise
public import Idealize.ShloMosaic.Lib.Claim

@[expose] public section

noncomputable section

namespace Cert.RowNorm

open Idealize.ShloMosaic Idealize.ShloMosaic.TcCoe

variable (x d w s : Fin 1024 → EReal)

/-- The mean square with the small number added, and one over its root. -/
def q : EReal := Ideal.div (∑ k : Fin 1024, x k * x k) (Ideal.ofBits .f32 0x44800000#32) + Ideal.ofBits .f32 0x358637BD#32
def irt : EReal := Ideal.rsqrt (q x)

/-- The normed row; the cotangent times the modulation; that times the weight. -/
def yn (n : Fin 1024) : EReal := x n * irt x
def g (n : Fin 1024) : EReal := d n * (Ideal.ofBits .f32 0x3F800000#32 + s n)
def u (n : Fin 1024) : EReal := g d s n * w n

/-- What comes back through the mean square, and the whole gradient of the row. -/
def tr : EReal := Ideal.div ((∑ k : Fin 1024, x k * u d w s k) * (Ideal.ofBits .f32 0xBF000000#32 * Ideal.div (irt x) (q x))) (Ideal.ofBits .f32 0x44800000#32)
def dx (n : Fin 1024) : EReal := u d w s n * irt x + x n * tr x d w s + tr x d w s * x n

end Cert.RowNorm
end
-- ==== Proof.InProjBlock.lean ====
/- The first norm's gradient: what one point of the kernel leaves. -/
module

public import proofs.«01_k».proof.Defs
public import proofs.«01_k».proof.Proof.Gen.InProjIdeal.Frame
public import proofs.«01_k».proof.Proof.Reals
public import proofs.«01_k».proof.Proof.RowNorm
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.InProjIdeal.Grad

open Idealize.ShloMosaic Idealize.ShloMosaic.TcCoe Idealize.SL.Sem
open Idealize.ShloMosaic.Pipeline (Dat)
open Cert.InProjIdeal Cert.InProjIdeal.Gen Cert.Reals

variable (m : (ℓ : Loc nD τ sig) → Buf (Elt Ideal) ℓ)

open Cert.RowNorm

/-! ## The kernel's payloads, row by row -/

theorem pay4_at (x : FVec Ideal S512x1024 .bf16) (w : FVec Ideal S1024x1024 .bf16) (r : Fin 512) (n : Fin 1024) :
    k0_pay4 (F := Ideal) x w (ix2 r n) = ∑ k : Fin 1024, x (ix2 r k) * w (ix2 k n) := by
  pointwise [k0_pay4]

theorem pay5_at (x : FVec Ideal S512x1024 .bf16) (w : FVec Ideal S1024x1024 .bf16) (r : Fin 512) (n : Fin 1024) :
    k0_pay5 (F := Ideal) x w (ix2 r n) = ∑ k : Fin 1024, x (ix2 r k) * w (ix2 k n) := by
  pointwise [k0_pay5, k0_pay4]

theorem pay6_at (x : FVec Ideal S512x1024 .bf16) (w : FVec Ideal S1024x1024 .bf16) (z : FVec Ideal S512x1024 .f32) (r : Fin 512) (n : Fin 1024) :
    k0_pay6 (F := Ideal) x w z (ix2 r n) = z (ix2 r n) + ∑ k : Fin 1024, x (ix2 r k) * w (ix2 k n) := by
  pointwise [k0_pay6, k0_pay4]

theorem pay10_at (x : FVec Ideal S256x1024 .f32) (r : Fin 256) : k0_pay10 (F := Ideal) x (ix2 r 0) = q fun k => x (ix2 r k) := by
  unfold q
  pointwise [k0_pay10]

theorem pay11_at (x : FVec Ideal S256x1024 .f32) (r : Fin 256) : k0_pay11 (F := Ideal) x (ix2 r 0) = irt fun k => x (ix2 r k) := by
  unfold irt
  rw [← pay10_at]
  pointwise [k0_pay11]

theorem pay12_at (x : FVec Ideal S256x1024 .f32) (r : Fin 256) (n : Fin 1024) : k0_pay12 (F := Ideal) x (ix2 r n) = yn (fun k => x (ix2 r k)) n := by
  unfold yn
  rw [← pay11_at]
  pointwise [k0_pay12]

theorem pay14_at (d : FVec Ideal S256x1024 .f32) (n : Fin 1024) : k0_pay14 (F := Ideal) d (ix2 0 n) = ∑ r : Fin 256, d (ix2 r n) := by
  pointwise [k0_pay14]

theorem pay15_at (d x : FVec Ideal S256x1024 .f32) (w : FVec Ideal S1x1024 .f32) (n : Fin 1024) :
    k0_pay15 (F := Ideal) d x w (ix2 0 n) = ∑ r : Fin 256, yn (fun k => x (ix2 r k)) n * w (ix2 0 n) * d (ix2 r n) := by
  simp only [← pay12_at]
  pointwise [k0_pay15, k0_pay13]

theorem pay16_at (d : FVec Ideal S256x1024 .f32) (s : FVec Ideal S1x1024 .f32) (r : Fin 256) (n : Fin 1024) :
    k0_pay16 (F := Ideal) d s (ix2 r n) = g (fun k => d (ix2 r k)) (fun k => s (ix2 0 k)) n := by
  unfold g
  pointwise [k0_pay16, k0_pay13]

theorem pay17_at (d x : FVec Ideal S256x1024 .f32) (s : FVec Ideal S1x1024 .f32) (n : Fin 1024) :
    k0_pay17 (F := Ideal) d x s (ix2 0 n) = ∑ r : Fin 256, yn (fun k => x (ix2 r k)) n * g (fun k => d (ix2 r k)) (fun k => s (ix2 0 k)) n := by
  simp only [← pay12_at, ← pay16_at]
  pointwise [k0_pay17]

theorem pay18_at (d : FVec Ideal S256x1024 .f32) (w s : FVec Ideal S1x1024 .f32) (r : Fin 256) (n : Fin 1024) :
    k0_pay18 (F := Ideal) d w s (ix2 r n) = u (fun k => d (ix2 r k)) (fun k => w (ix2 0 k)) (fun k => s (ix2 0 k)) n := by
  unfold u
  rw [← pay16_at]
  pointwise [k0_pay18]

theorem pay21_at (d x e : FVec Ideal S256x1024 .f32) (w s : FVec Ideal S1x1024 .f32) (r : Fin 256) (n : Fin 1024) :
    k0_pay21 (F := Ideal) x e (k0_pay19 d x w s) (k0_pay20 d x w s) (ix2 r n) = dx (fun k => x (ix2 r k)) (fun k => d (ix2 r k)) (fun k => w (ix2 0 k)) (fun k => s (ix2 0 k)) n + e (ix2 r n) := by
  unfold dx tr
  simp only [← pay18_at, ← pay11_at, ← pay10_at]
  pointwise [k0_pay21, k0_pay19, k0_pay20]
  simp only [Fin.sum_univ_one]

theorem pay22_at (a b : FVec Ideal S1x1024 .f32) (n : Fin 1024) : k0_pay22 (F := Ideal) b a (ix2 0 n) = a (ix2 0 n) + b (ix2 0 n) := by
  pointwise [k0_pay22]
theorem pay23_at (a b : FVec Ideal S1x1024 .f32) (n : Fin 1024) : k0_pay23 (F := Ideal) b a (ix2 0 n) = a (ix2 0 n) + b (ix2 0 n) := by
  pointwise [k0_pay23]
theorem pay24_at (a b : FVec Ideal S1x1024 .f32) (n : Fin 1024) : k0_pay24 (F := Ideal) b a (ix2 0 n) = a (ix2 0 n) + b (ix2 0 n) := by
  pointwise [k0_pay24]
theorem pay7_eq (a b : FVec Ideal S1x1024 .f32) : k0_pay7 (F := Ideal) b a = k0_pay22 b a := rfl
theorem pay8_eq (a b : FVec Ideal S1x1024 .f32) : k0_pay8 (F := Ideal) b a = k0_pay23 b a := rfl
theorem pay9_eq (a b : FVec Ideal S1x1024 .f32) : k0_pay9 (F := Ideal) b a = k0_pay24 b a := rfl

/-! The second half of a block's rows goes through the same lines. -/

theorem pay30_eq (d : FVec Ideal S256x1024 .f32) : k0_pay30 (F := Ideal) d = k0_pay14 d := rfl
theorem pay31_eq (d x : FVec Ideal S256x1024 .f32) (w : FVec Ideal S1x1024 .f32) : k0_pay31 (F := Ideal) d x w (k0_pay25 x) = k0_pay15 d x w := rfl
theorem pay33_eq (d x : FVec Ideal S256x1024 .f32) (s : FVec Ideal S1x1024 .f32) : k0_pay33 (F := Ideal) d x s (k0_pay25 x) = k0_pay17 d x s := rfl
theorem pay34_eq (d x e : FVec Ideal S256x1024 .f32) (w s : FVec Ideal S1x1024 .f32) : k0_pay34 (F := Ideal) d x e w s (k0_pay25 x) = k0_pay21 x e (k0_pay19 d x w s) (k0_pay20 d x w s) := rfl

/-! ## One point -/

abbrev P0 (c : Dev nD) (t : Fin cfg0.N) : FVec Ideal S512x1024 .bf16 := iblk m c 0 t
abbrev W0 (c : Dev nD) (t : Fin cfg0.N) : FVec Ideal S3072x1024 .bf16 := iblk m c 1 t
abbrev X (c : Dev nD) (t : Fin cfg0.N) : FVec Ideal S512x1024 .f32 := iblk m c 2 t
abbrev E (c : Dev nD) (t : Fin cfg0.N) : FVec Ideal S512x1024 .f32 := iblk m c 3 t
abbrev Nw (c : Dev nD) (t : Fin cfg0.N) : FVec Ideal S1x1024 .f32 := iblk m c 4 t
abbrev Sc (c : Dev nD) (t : Fin cfg0.N) : FVec Ideal S1x1024 .f32 := iblk m c 5 t

theorem off_eq : ∀ t : Fin cfg0.N, k0_off1 (grid0.coords t) = ![1024 * (t.val % 3), 0] :=
  (by decide +kernel : ∀ t : Fin grid0.N, k0_off1 (grid0.coords t) = ![1024 * (t.val % 3), 0])

/-- The part of the product that point `t` adds. -/
def part (c : Dev nD) (t : Fin cfg0.N) (r : Fin 512) (n : Fin 1024) : EReal :=
  ∑ k : Fin 1024, P0 m c t (ix2 r k) * W0 m c t (ix2 ⟨1024 * (t.val % 3) + k.val, by omega⟩ n)

theorem ld_w (t : Fin cfg0.N) (Z : S3072x1024.Idx → Elt Ideal .bf16) (k : Fin 1024) (n : Fin 1024) :
    View.ld Z (Rect.unit (s := S3072x1024) (k0_off1 (grid0.coords t)) ![1024, 1024] (k0_off1_inb (grid0.coords t))) (ix2 k n) = Z (ix2 ⟨1024 * (t.val % 3) + k.val, by omega⟩ n) := by
  show Z _ = Z _
  congr 1
  funext b
  apply Fin.ext
  match b with
  | ⟨0, _⟩ => show k0_off1 (grid0.coords t) 0 + 1 * k.val = _; rw [off_eq]; show 1024 * (t.val % 3) + 1 * k.val = 1024 * (t.val % 3) + k.val; omega
  | ⟨1, _⟩ => show k0_off1 (grid0.coords t) 1 + 1 * n.val = _; rw [off_eq]; show 0 + 1 * n.val = n.val; omega

theorem scratch_A (c : Dev nD) (t : Fin cfg0.N) (h0 : t.val % 24 = 0) (r : Fin 512) (n : Fin 1024) :
    (outsAt0 m c t.val t.isLt).2.2.2.2 (ix2 r n) = part m c t r n := by
  rw [outsAt0_A m c t (by omega) (by omega) (by omega) (by omega)]
  frame_out
  rw [pay5_at]
  exact Finset.sum_congr rfl fun k _ => by rw [ld_w]

theorem scratch_D (c : Dev nD) (t : Fin cfg0.N) (h0 : ¬ t.val % 24 = 0) (h1 : t.val % 3 = 0) (r : Fin 512) (n : Fin 1024) :
    (outsAt0 m c t.val t.isLt).2.2.2.2 (ix2 r n) = part m c t r n := by
  rw [outsAt0_D m c t (by omega) (by omega) (by omega) (by omega)]
  frame_out
  rw [pay5_at]
  exact Finset.sum_congr rfl fun k _ => by rw [ld_w]

/-- What the point before left. -/
abbrev P (c : Dev nD) (t : Fin cfg0.N) := outsAt0 m c (t.val - 1) (Nat.lt_of_le_of_lt (Nat.sub_le _ _) t.isLt)

/-- The product of a block so far, after its second and third point. -/
abbrev Fs (c : Dev nD) (t : Fin cfg0.N) : FVec Ideal S512x1024 .f32 :=
  k0_pay6 (F := Ideal) (P0 m c t) (View.ld (W0 m c t) (Rect.unit (s := S3072x1024) (k0_off1 (grid0.coords t)) ![1024, 1024] (k0_off1_inb (grid0.coords t)))) (P m c t).2.2.2.2

theorem Fs_at (c : Dev nD) (t : Fin cfg0.N) (r : Fin 512) (n : Fin 1024) : Fs m c t (ix2 r n) = (P m c t).2.2.2.2 (ix2 r n) + part m c t r n := by
  unfold Fs
  rw [pay6_at]
  exact congrArg _ (Finset.sum_congr rfl fun k _ => by rw [ld_w])

/-- A load from a buffer that one store filled reads that store. -/
theorem buf_read {sp : Space} (v : View sig .tc sp S512x1024 .f32) (Z : S512x1024.Idx → Elt Ideal .f32) (r : Rect S512x1024) :
    v.readCov (Val := Elt Ideal) [⟨Rect.unit (s := S512x1024) ![0, 0] ![512, 1024] inb_S512x1024_S512x1024_0_0, Z⟩] r.toLoadRect = View.ld Z r := by
  rw [View.readCov_eq_canon']
  have h : View.canon (Val := Elt Ideal) [⟨Rect.unit (s := S512x1024) ![0, 0] ![512, 1024] inb_S512x1024_S512x1024_0_0, Z⟩] = Z := by
    funext y
    have h := View.canon_cons_emb (Val := Elt Ideal) (Rect.unit (s := S512x1024) ![0, 0] ![512, 1024] inb_S512x1024_S512x1024_0_0) Z [] y
    have e : (Rect.unit (s := S512x1024) ![0, 0] ![512, 1024] inb_S512x1024_S512x1024_0_0).emb y = y := by blk_ext
    rw [e] at h
    exact h
  rw [h]

theorem ld_lo (Z : S512x1024.Idx → Elt Ideal .f32) (r : Fin 256) (n : Fin 1024) :
    View.ld Z (Rect.unit ![0, 0] ![256, 1024] inb_S512x1024_S256x1024_0_0) (ix2 r n) = Z (ix2 ⟨r.val, by omega⟩ n) := by
  pointwise

theorem ld_hi (Z : S512x1024.Idx → Elt Ideal .f32) (r : Fin 256) (n : Fin 1024) :
    View.ld Z (Rect.unit ![256, 0] ![256, 1024] inb_S512x1024_S256x1024_256_0) (ix2 r n) = Z (ix2 ⟨256 + r.val, by omega⟩ n) := by
  pointwise

/-- The same, a whole row at a time. -/
theorem row_lo (Z : S512x1024.Idx → Elt Ideal .f32) (r : Fin 256) :
    (fun n : Fin 1024 => View.ld Z (Rect.unit ![0, 0] ![256, 1024] inb_S512x1024_S256x1024_0_0) (ix2 r n)) = fun n => Z (ix2 ⟨r.val, by omega⟩ n) :=
  funext fun n => ld_lo Z r n

theorem row_hi (Z : S512x1024.Idx → Elt Ideal .f32) (r : Fin 256) :
    (fun n : Fin 1024 => View.ld Z (Rect.unit ![256, 0] ![256, 1024] inb_S512x1024_S256x1024_256_0) (ix2 r n)) = fun n => Z (ix2 ⟨256 + r.val, by omega⟩ n) :=
  funext fun n => ld_hi Z r n

theorem scratch_read (Z : FVec Ideal S512x1024 .f32) : View.read (Elt Ideal) (View.whole cc0_scratch0) ((Memref.isWhole_whole cc0_scratch0).unread Z) = Z :=
  by show View.read (Elt Ideal) (Memref.whole cc0_scratch0).view ((Memref.isWhole_whole cc0_scratch0).unread Z) = Z; exact Memref.IsWhole.read_unread (Val := Elt Ideal) (Memref.isWhole_whole cc0_scratch0) Z

theorem scratch_B (c : Dev nD) (t : Fin cfg0.N) (h1 : t.val % 3 = 1) : (outsAt0 m c t.val t.isLt).2.2.2.2 = Fs m c t := by
  rw [outsAt0_B m c t (by omega) (by omega) (by omega) (by omega)]
  frame_out
  rw [scratch_read]

/-- A block's rows: of the input, of its cotangent, of the weight and of the scale. -/
def xr (c : Dev nD) (t : Fin cfg0.N) (r : Fin 512) : Fin 1024 → EReal := fun k => X m c t (ix2 r k)
def dr (c : Dev nD) (t : Fin cfg0.N) (r : Fin 512) : Fin 1024 → EReal := fun k => Fs m c t (ix2 r k)
def wr (c : Dev nD) (t : Fin cfg0.N) : Fin 1024 → EReal := fun k => Nw m c t (ix2 0 k)
def sr (c : Dev nD) (t : Fin cfg0.N) : Fin 1024 → EReal := fun k => Sc m c t (ix2 0 k)

theorem dx_C (c : Dev nD) (t : Fin cfg0.N) (h1 : t.val % 3 = 2) (r : Fin 512) (n : Fin 1024) :
    (outsAt0 m c t.val t.isLt).1 (ix2 r n) = dx (xr m c t r) (dr m c t r) (wr m c t) (sr m c t) n + E m c t (ix2 r n) := by
  rw [outsAt0_C m c t (by omega) (by omega) (by omega) (by omega)]
  frame_out
  rw [scratch_read, buf_read, buf_read]
  canon_tiles x h
  · obtain ⟨a, b, rfl⟩ : ∃ a b, x = ix2 (n0 := 256) (n1 := 1024) a b := ⟨x 0, x 1, by funext b; match b with | ⟨0, _⟩ => rfl | ⟨1, _⟩ => rfl⟩
    have hr : r = ⟨256 + a.val, by omega⟩ := Fin.ext h0
    have hn : n = b := Fin.ext h1
    subst hn
    rw [hr]
    rw [pay34_eq, pay21_at]
    rw [row_hi, row_hi, ld_hi]
    rfl
  · obtain ⟨a, b, rfl⟩ : ∃ a b, x = ix2 (n0 := 256) (n1 := 1024) a b := ⟨x 0, x 1, by funext b; match b with | ⟨0, _⟩ => rfl | ⟨1, _⟩ => rfl⟩
    have hr : r = ⟨a.val, by omega⟩ := Fin.ext h0
    have hn : n = b := Fin.ext h1
    subst hn
    rw [hr]
    rw [pay21_at]
    rw [row_lo, row_lo, ld_lo]
    rfl

/-- One row's share of the three sums. -/
def ws (c : Dev nD) (t : Fin cfg0.N) (n : Fin 1024) (r : Fin 512) : EReal := yn (xr m c t r) n * g (dr m c t r) (sr m c t) n
def ss (c : Dev nD) (t : Fin cfg0.N) (n : Fin 1024) (r : Fin 512) : EReal := yn (xr m c t r) n * wr m c t n * dr m c t r n

theorem sums_C (c : Dev nD) (t : Fin cfg0.N) (h1 : t.val % 3 = 2) (n : Fin 1024) :
    (outsAt0 m c t.val t.isLt).2.1 (ix2 0 n) = (P m c t).2.1 (ix2 0 n) + (∑ r : Fin 256, ws m c t n ⟨r.val, by omega⟩) + ∑ r : Fin 256, ws m c t n ⟨256 + r.val, by omega⟩ := by
  rw [outsAt0_C m c t (by omega) (by omega) (by omega) (by omega)]
  frame_out
  rw [scratch_read, buf_read, buf_read, pay7_eq, pay33_eq, pay22_at, pay22_at, pay17_at, pay17_at]
  refine congrArg₂ (· + ·) (congrArg _ (Finset.sum_congr rfl fun r _ => ?_)) (Finset.sum_congr rfl fun r _ => ?_)
  · rw [row_lo, row_lo]
    rfl
  · rw [row_hi, row_hi]
    rfl

theorem sums2_C (c : Dev nD) (t : Fin cfg0.N) (h1 : t.val % 3 = 2) (n : Fin 1024) :
    (outsAt0 m c t.val t.isLt).2.2.1 (ix2 0 n) = (P m c t).2.2.1 (ix2 0 n) + (∑ r : Fin 256, ss m c t n ⟨r.val, by omega⟩) + ∑ r : Fin 256, ss m c t n ⟨256 + r.val, by omega⟩ := by
  rw [outsAt0_C m c t (by omega) (by omega) (by omega) (by omega)]
  frame_out
  rw [scratch_read, buf_read, buf_read, pay8_eq, pay31_eq, pay23_at, pay23_at, pay15_at, pay15_at]
  refine congrArg₂ (· + ·) (congrArg _ (Finset.sum_congr rfl fun r _ => ?_)) (Finset.sum_congr rfl fun r _ => ?_)
  · rw [row_lo, ld_lo]
    rfl
  · rw [row_hi, ld_hi]
    rfl

theorem sums3_C (c : Dev nD) (t : Fin cfg0.N) (h1 : t.val % 3 = 2) (n : Fin 1024) :
    (outsAt0 m c t.val t.isLt).2.2.2.1 (ix2 0 n) = (P m c t).2.2.2.1 (ix2 0 n) + (∑ r : Fin 256, dr m c t ⟨r.val, by omega⟩ n) + ∑ r : Fin 256, dr m c t ⟨256 + r.val, by omega⟩ n := by
  rw [outsAt0_C m c t (by omega) (by omega) (by omega) (by omega)]
  frame_out
  rw [scratch_read, buf_read, buf_read, pay9_eq, pay30_eq, pay24_at, pay24_at, pay14_at, pay14_at]
  refine congrArg₂ (· + ·) (congrArg _ (Finset.sum_congr rfl fun r _ => ?_)) (Finset.sum_congr rfl fun r _ => ?_)
  · rw [ld_lo]
    rfl
  · rw [ld_hi]
    rfl

/-- The three sums: kept at a block's first two points, empty at the first point of all. -/
theorem sums_B (c : Dev nD) (t : Fin cfg0.N) (h1 : t.val % 3 = 1) :
    (outsAt0 m c t.val t.isLt).2.1 = (P m c t).2.1 ∧ (outsAt0 m c t.val t.isLt).2.2.1 = (P m c t).2.2.1 ∧ (outsAt0 m c t.val t.isLt).2.2.2.1 = (P m c t).2.2.2.1 := by
  rw [outsAt0_B m c t (by omega) (by omega) (by omega) (by omega)]
  exact ⟨rfl, rfl, rfl⟩

theorem sums_D (c : Dev nD) (t : Fin cfg0.N) (h0 : ¬ t.val % 24 = 0) (h1 : t.val % 3 = 0) :
    (outsAt0 m c t.val t.isLt).2.1 = (P m c t).2.1 ∧ (outsAt0 m c t.val t.isLt).2.2.1 = (P m c t).2.2.1 ∧ (outsAt0 m c t.val t.isLt).2.2.2.1 = (P m c t).2.2.2.1 := by
  rw [outsAt0_D m c t (by omega) (by omega) (by omega) (by omega)]
  exact ⟨rfl, rfl, rfl⟩

theorem sum_A (c : Dev nD) (t : Fin cfg0.N) (h0 : t.val % 24 = 0) (n : Fin 1024) : (outsAt0 m c t.val t.isLt).2.1 (ix2 0 n) = 0 := by
  rw [outsAt0_A m c t (by omega) (by omega) (by omega) (by omega)]
  frame_out
  pointwise [k0_pay1]

theorem sum2_A (c : Dev nD) (t : Fin cfg0.N) (h0 : t.val % 24 = 0) (n : Fin 1024) : (outsAt0 m c t.val t.isLt).2.2.1 (ix2 0 n) = 0 := by
  rw [outsAt0_A m c t (by omega) (by omega) (by omega) (by omega)]
  frame_out
  pointwise [k0_pay2]

theorem sum3_A (c : Dev nD) (t : Fin cfg0.N) (h0 : t.val % 24 = 0) (n : Fin 1024) : (outsAt0 m c t.val t.isLt).2.2.2.1 (ix2 0 n) = 0 := by
  rw [outsAt0_A m c t (by omega) (by omega) (by omega) (by omega)]
  frame_out
  pointwise [k0_pay3]

end Cert.InProjIdeal.Grad
end
-- ==== Proof.InProjArray.lean ====
/- The first norm's gradient: the arrays that the kernel leaves. -/
module

public import proofs.«01_k».proof.Defs
public import proofs.«01_k».proof.Proof.InProjBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.InProjIdeal.Grad

open Idealize.ShloMosaic Idealize.ShloMosaic.TcCoe Idealize.SL.Sem
open Idealize.ShloMosaic.Pipeline (Dat)
open Cert.InProjIdeal Cert.InProjIdeal.Gen Cert.Reals

variable (m : (ℓ : Loc nD τ sig) → Buf (Elt Ideal) ℓ)

open Cert.RowNorm

abbrev A0 (c : Dev nD) : FVec Ideal S4096x1024 .f32 := m ((c.tc : Thread nD τ).loc main_arg0)
abbrev A1 (c : Dev nD) : FVec Ideal S1x1024 .f32 := m ((c.tc : Thread nD τ).loc main_arg1)
abbrev A2 (c : Dev nD) : FVec Ideal S1x1024 .f32 := m ((c.tc : Thread nD τ).loc main_arg2)
abbrev A3 (c : Dev nD) : FVec Ideal S1x1024 .f32 := m ((c.tc : Thread nD τ).loc main_arg3)
abbrev A4 (c : Dev nD) : FVec Ideal S1024x2832 .bf16 := m ((c.tc : Thread nD τ).loc main_arg4)
abbrev A5 (c : Dev nD) : FVec Ideal S4096x1024 .f32 := m ((c.tc : Thread nD τ).loc main_arg5)
abbrev A6 (c : Dev nD) : FVec Ideal S4096x2832 .bf16 := m ((c.tc : Thread nD τ).loc main_arg6)

/-! ## The packed operands -/

theorem V_p (c : Dev nD) : V m c main_v4 = concatenate S4096x3072 1 [⟨S4096x2048, extractStridedSlice S4096x2048 ![0, 0] (A6 m c) slices_S4096x2832_S4096x2048_0_0⟩,
    ⟨S4096x768, extractStridedSlice S4096x768 ![0, 2064] (A6 m c) slices_S4096x2832_S4096x768_0_2064⟩,
    ⟨S4096x16, extractStridedSlice S4096x16 ![0, 2048] (A6 m c) slices_S4096x2832_S4096x16_0_2048⟩,
    ⟨S4096x240, broadcastInDim S4096x240 ![] bcast_S_S4096x240 (constant (F := Ideal) S_ .bf16 0x0000#16)⟩] concatenates_S4096x2048_S4096x768_S4096x16_S4096x240_S4096x3072_d1 := by
  unfold V
  simp only [List.flatten_cons, List.flatten_nil, List.append_nil]
  after_results
  rfl

theorem V_w (c : Dev nD) : V m c main_v10 = transpose S3072x1024 [1, 0] (concatenate S1024x3072 1 [⟨S1024x2048, extractStridedSlice S1024x2048 ![0, 0] (A4 m c) slices_S1024x2832_S1024x2048_0_0⟩,
    ⟨S1024x768, extractStridedSlice S1024x768 ![0, 2064] (A4 m c) slices_S1024x2832_S1024x768_0_2064⟩,
    ⟨S1024x16, extractStridedSlice S1024x16 ![0, 2048] (A4 m c) slices_S1024x2832_S1024x16_0_2048⟩,
    ⟨S1024x240, broadcastInDim S1024x240 ![] bcast_S_S1024x240 (constant (F := Ideal) S_ .bf16 0x0000#16)⟩] concatenates_S1024x2048_S1024x768_S1024x16_S1024x240_S1024x3072_d1) transposes_S1024x3072_S3072x1024_1_0 := by
  unfold V
  simp only [List.flatten_cons, List.flatten_nil, List.append_nil]
  after_results
  rfl

/-- A row of the projection in the packed order of its columns. -/
def col (f : Fin 2832 → EReal) (k : Fin 3072) : EReal :=
  if h : k.val < 2048 then f ⟨k.val, by omega⟩ else if h : k.val - 2048 < 768 then f ⟨2064 + (k.val - 2048), by omega⟩
  else if h : k.val - 2048 - 768 < 16 then f ⟨2048 + (k.val - 2048 - 768), by omega⟩ else 0

theorem col_a (f : Fin 2832 → EReal) (k : Fin 2048) : col f ⟨k.val, by omega⟩ = f ⟨k.val, by omega⟩ := dif_pos k.isLt

theorem col_b (f : Fin 2832 → EReal) (k : Fin 768) : col f ⟨2048 + k.val, by omega⟩ = f ⟨2048 + (16 + k.val), by omega⟩ := by
  unfold col
  refine (dif_neg (by show ¬ 2048 + k.val < 2048; omega)).trans ((dif_pos (by show 2048 + k.val - 2048 < 768; omega)).trans ?_)
  exact congrArg f (Fin.ext (by show 2064 + (2048 + k.val - 2048) = 2048 + (16 + k.val); omega))

theorem col_c (f : Fin 2832 → EReal) (k : Fin 16) : col f ⟨2048 + (768 + k.val), by omega⟩ = f ⟨2048 + k.val, by omega⟩ := by
  unfold col
  refine (dif_neg (by show ¬ 2048 + (768 + k.val) < 2048; omega)).trans ((dif_neg (by show ¬ 2048 + (768 + k.val) - 2048 < 768; omega)).trans ((dif_pos (by show 2048 + (768 + k.val) - 2048 - 768 < 16; omega)).trans ?_))
  exact congrArg f (Fin.ext (by show 2048 + (2048 + (768 + k.val) - 2048 - 768) = 2048 + k.val; omega))

theorem col_d (f : Fin 2832 → EReal) (k : Fin 240) : col f ⟨2048 + (768 + (16 + k.val)), by omega⟩ = 0 := by
  unfold col
  exact (dif_neg (by show ¬ 2048 + (768 + (16 + k.val)) < 2048; omega)).trans ((dif_neg (by show ¬ 2048 + (768 + (16 + k.val)) - 2048 < 768; omega)).trans (dif_neg (by show ¬ 2048 + (768 + (16 + k.val)) - 2048 - 768 < 16; omega)))

theorem in_p (c : Dev nD) (i : Fin 4096) (k : Fin 3072) : (show FVec Ideal S4096x3072 .bf16 from V m c main_v4) (ix2 i k) = col (fun j => A6 m c (ix2 i j)) k := by
  unfold col
  dsimp only
  rw [V_p]
  pointwise

theorem in_w (c : Dev nD) (k : Fin 3072) (n : Fin 1024) : (show FVec Ideal S3072x1024 .bf16 from V m c main_v10) (ix2 k n) = col (fun j => A4 m c (ix2 n j)) k := by
  unfold col
  dsimp only
  rw [V_w]
  pointwise

/-- The packed columns carry the same product: they are a permutation, and zeros. -/
theorem sum_col (f g : Fin 2832 → EReal) : ∑ k : Fin 3072, col f k * col g k = ∑ j : Fin 2832, f j * g j := by
  have e1 : ∀ F : Fin 3072 → EReal, ∑ k, F k = (∑ k : Fin 2048, F ⟨k.val, by omega⟩) + ((∑ k : Fin 768, F ⟨2048 + k.val, by omega⟩) + ((∑ k : Fin 16, F ⟨2048 + (768 + k.val), by omega⟩) + ∑ k : Fin 240, F ⟨2048 + (768 + (16 + k.val)), by omega⟩)) := fun F => by
    refine (Fin.sum_univ_add (a := 2048) (b := 1024) F).trans (congrArg _ ?_)
    refine (Fin.sum_univ_add (a := 768) (b := 256) _).trans (congrArg _ ?_)
    exact Fin.sum_univ_add (a := 16) (b := 240) _
  have e2 : ∀ F : Fin 2832 → EReal, ∑ k, F k = (∑ k : Fin 2048, F ⟨k.val, by omega⟩) + ((∑ k : Fin 16, F ⟨2048 + k.val, by omega⟩) + ∑ k : Fin 768, F ⟨2048 + (16 + k.val), by omega⟩) := fun F => by
    refine (Fin.sum_univ_add (a := 2048) (b := 784) F).trans (congrArg _ ?_)
    exact Fin.sum_univ_add (a := 16) (b := 768) _
  rw [e1, e2]
  have h4 : ∑ k : Fin 240, col f ⟨2048 + (768 + (16 + k.val)), by omega⟩ * col g ⟨2048 + (768 + (16 + k.val)), by omega⟩ = 0 :=
    Finset.sum_eq_zero fun k _ => by rw [col_d, zero_mul]
  rw [h4, add_zero, add_comm (∑ k : Fin 768, _)]
  exact congrArg₂ (· + ·) (Finset.sum_congr rfl fun k _ => by rw [col_a, col_a])
    (congrArg₂ (· + ·) (Finset.sum_congr rfl fun k _ => by rw [col_c, col_c]) (Finset.sum_congr rfl fun k _ => by rw [col_b, col_b]))

theorem sum_thirds (f : Fin 3072 → EReal) : ∑ k : Fin 3072, f k = (∑ k : Fin 1024, f ⟨k.val, by omega⟩) + (∑ k : Fin 1024, f ⟨1024 + k.val, by omega⟩) + ∑ k : Fin 1024, f ⟨2048 + k.val, by omega⟩ := by
  refine (Fin.sum_univ_add (a := 2048) (b := 1024) f).trans (congrArg (· + _) ?_)
  exact Fin.sum_univ_add (a := 1024) (b := 1024) _

/-! ## The blocks -/

theorem idx : ∀ t : Fin cfg0.N, win0_0.index t = ![t.val / 3, t.val % 3] ∧ win0_1.index t = ![0, 0] ∧ win0_2.index t = ![t.val / 3, 0] ∧ win0_3.index t = ![t.val / 3, 0] ∧ win0_4.index t = ![0, 0] ∧ win0_5.index t = ![0, 0] ∧ win0_7.index t = ![t.val / 3, 0] :=
  (by decide +kernel : ∀ t : Fin grid0.N, win0_0.index t = ![t.val / 3, t.val % 3] ∧ win0_1.index t = ![0, 0] ∧ win0_2.index t = ![t.val / 3, 0] ∧ win0_3.index t = ![t.val / 3, 0] ∧ win0_4.index t = ![0, 0] ∧ win0_5.index t = ![0, 0] ∧ win0_7.index t = ![t.val / 3, 0])

/-- The row at which a block's row stands. -/
def row (t : Fin cfg0.N) (r : Fin 512) : Fin 4096 := ⟨512 * (t.val / 3) + r.val, by have : t.val < 24 := lt_of_lt_of_eq t.isLt (show cfg0.N = 24 from N_0); omega⟩

theorem blk_p (c : Dev nD) (t : Fin cfg0.N) (r : Fin 512) (k : Fin 1024) : P0 m c t (ix2 r k) = col (fun j => A6 m c (ix2 (row t r) j)) ⟨1024 * (t.val % 3) + k.val, by omega⟩ := by
  rw [← in_p]
  unfold row
  blk_ext [P0, iblk, idx t]
theorem blk_w (c : Dev nD) (t : Fin cfg0.N) (k : Fin 3072) (n : Fin 1024) : W0 m c t (ix2 k n) = col (fun j => A4 m c (ix2 n j)) k := by
  rw [← in_w]
  blk_ext [W0, iblk, idx t]
theorem blk_x (c : Dev nD) (t : Fin cfg0.N) (r : Fin 512) (n : Fin 1024) : X m c t (ix2 r n) = A0 m c (ix2 (row t r) n) := by
  rw [show A0 m c = V m c main_arg0 from (V_main_arg0 m c).symm]
  unfold row
  blk_ext [X, iblk, idx t]
theorem blk_e (c : Dev nD) (t : Fin cfg0.N) (r : Fin 512) (n : Fin 1024) : E m c t (ix2 r n) = A5 m c (ix2 (row t r) n) := by
  rw [show A5 m c = V m c main_arg5 from (V_main_arg5 m c).symm]
  unfold row
  blk_ext [E, iblk, idx t]
theorem blk_nw (c : Dev nD) (t : Fin cfg0.N) (n : Fin 1024) : Nw m c t (ix2 0 n) = A1 m c (ix2 0 n) := by
  rw [show A1 m c = V m c main_arg1 from (V_main_arg1 m c).symm]
  blk_ext [Nw, iblk, idx t]
theorem blk_sc (c : Dev nD) (t : Fin cfg0.N) (n : Fin 1024) : Sc m c t (ix2 0 n) = A2 m c (ix2 0 n) := by
  rw [show A2 m c = V m c main_arg2 from (V_main_arg2 m c).symm]
  blk_ext [Sc, iblk, idx t]

/-! ## The gradients in plain sums -/

/-- Rows of the input and of the normed input's gradient; the weight and the scale. -/
def xs (c : Dev nD) (i : Fin 4096) : Fin 1024 → EReal := fun n => A0 m c (ix2 i n)
def dh (c : Dev nD) (i : Fin 4096) : Fin 1024 → EReal := fun n => ∑ j : Fin 2832, A6 m c (ix2 i j) * A4 m c (ix2 n j)
def nw (c : Dev nD) : Fin 1024 → EReal := fun n => A1 m c (ix2 0 n)
def sc (c : Dev nD) : Fin 1024 → EReal := fun n => A2 m c (ix2 0 n)

/-- One row's share of the three sums; nothing beyond the last row. -/
def wg (c : Dev nD) (n : Fin 1024) (i : ℕ) : EReal := if h : i < 4096 then yn (xs m c ⟨i, h⟩) n * g (dh m c ⟨i, h⟩) (sc m c) n else 0
def sg (c : Dev nD) (n : Fin 1024) (i : ℕ) : EReal := if h : i < 4096 then yn (xs m c ⟨i, h⟩) n * nw m c n * dh m c ⟨i, h⟩ n else 0
def hg (c : Dev nD) (n : Fin 1024) (i : ℕ) : EReal := if h : i < 4096 then dh m c ⟨i, h⟩ n else 0

def DX (c : Dev nD) : FVec Ideal S4096x1024 .f32 := fun y => dx (xs m c (y 0)) (dh m c (y 0)) (nw m c) (sc m c) (y 1) + A5 m c (ix2 (y 0) (y 1))
def DW (c : Dev nD) : FVec Ideal S1x1024 .f32 := fun y => ∑ i : Fin 4096, yn (xs m c i) (y 1) * g (dh m c i) (sc m c) (y 1)
def DS (c : Dev nD) : FVec Ideal S1x1024 .f32 := fun y => ∑ i : Fin 4096, yn (xs m c i) (y 1) * nw m c (y 1) * dh m c i (y 1)
def DB (c : Dev nD) : FVec Ideal S1x1024 .f32 := fun y => ∑ i : Fin 4096, dh m c i (y 1)

/-! ## The points in order -/

theorem part_at (c : Dev nD) (t : Fin cfg0.N) (r : Fin 512) (n : Fin 1024) :
    part m c t r n = ∑ k : Fin 1024, col (fun j => A6 m c (ix2 (row t r) j)) ⟨1024 * (t.val % 3) + k.val, by omega⟩ * col (fun j => A4 m c (ix2 n j)) ⟨1024 * (t.val % 3) + k.val, by omega⟩ :=
  Finset.sum_congr rfl fun k _ => by rw [blk_p, blk_w]

theorem first_at (c : Dev nD) (t : Fin cfg0.N) (h0 : t.val % 3 = 0) (r : Fin 512) (n : Fin 1024) : (outsAt0 m c t.val t.isLt).2.2.2.2 (ix2 r n) = part m c t r n := by
  by_cases h : t.val % 24 = 0
  · exact scratch_A m c t h r n
  · exact scratch_D m c t h h0 r n

theorem second_at (c : Dev nD) (t : Fin cfg0.N) (h1 : t.val % 3 = 1) (r : Fin 512) (n : Fin 1024) :
    (outsAt0 m c t.val t.isLt).2.2.2.2 (ix2 r n) = part m c ⟨t.val - 1, Nat.lt_of_le_of_lt (Nat.sub_le _ _) t.isLt⟩ r n + part m c t r n := by
  rw [scratch_B m c t h1, Fs_at]
  exact congrArg (· + _) (first_at m c ⟨t.val - 1, _⟩ (by show (t.val - 1) % 3 = 0; omega) r n)

theorem Fs_eq (c : Dev nD) (t : Fin cfg0.N) (h1 : t.val % 3 = 2) (r : Fin 512) (n : Fin 1024) : Fs m c t (ix2 r n) = dh m c (row t r) n := by
  have hN : t.val < 24 := lt_of_lt_of_eq t.isLt (show cfg0.N = 24 from N_0)
  have hp : (P m c t).2.2.2.2 (ix2 r n) = part m c ⟨t.val - 1 - 1, by omega⟩ r n + part m c ⟨t.val - 1, by omega⟩ r n :=
    second_at m c ⟨t.val - 1, by omega⟩ (by show (t.val - 1) % 3 = 1; omega) r n
  rw [Fs_at, hp, part_at, part_at, part_at]
  unfold dh
  rw [← sum_col, sum_thirds]
  have hr1 : row ⟨t.val - 1, by omega⟩ r = row t r := Fin.ext (by unfold row; show 512 * ((t.val - 1) / 3) + r.val = 512 * (t.val / 3) + r.val; omega)
  have hr2 : row ⟨t.val - 1 - 1, by omega⟩ r = row t r := Fin.ext (by unfold row; show 512 * ((t.val - 1 - 1) / 3) + r.val = 512 * (t.val / 3) + r.val; omega)
  rw [hr1, hr2]
  have e0 : (t.val - 1 - 1) % 3 = 0 := by omega
  have e1 : (t.val - 1) % 3 = 1 := by omega
  refine congrArg₂ (· + ·) (congrArg₂ (· + ·) (Finset.sum_congr rfl fun k _ => ?_) (Finset.sum_congr rfl fun k _ => ?_)) (Finset.sum_congr rfl fun k _ => ?_)
  · simp only [e0, Nat.mul_zero, Nat.zero_add]
  · simp only [e1, Nat.mul_one]
  · simp only [h1, Nat.reduceMul]

theorem xr_eq (c : Dev nD) (t : Fin cfg0.N) (r : Fin 512) : xr m c t r = xs m c (row t r) := funext fun n => blk_x m c t r n
theorem dr_eq (c : Dev nD) (t : Fin cfg0.N) (h1 : t.val % 3 = 2) (r : Fin 512) : dr m c t r = dh m c (row t r) := funext fun n => Fs_eq m c t h1 r n
theorem wr_eq (c : Dev nD) (t : Fin cfg0.N) : wr m c t = nw m c := funext fun n => blk_nw m c t n
theorem sr_eq (c : Dev nD) (t : Fin cfg0.N) : sr m c t = sc m c := funext fun n => blk_sc m c t n

theorem ws_eq (c : Dev nD) (t : Fin cfg0.N) (h1 : t.val % 3 = 2) (r : Fin 512) (n : Fin 1024) : ws m c t n r = wg m c n (512 * (t.val / 3) + r.val) := by
  have hN : t.val < 24 := lt_of_lt_of_eq t.isLt (show cfg0.N = 24 from N_0)
  unfold ws wg
  rw [dif_pos (by omega), xr_eq, dr_eq m c t h1, sr_eq]
  rfl

theorem ss_eq (c : Dev nD) (t : Fin cfg0.N) (h1 : t.val % 3 = 2) (r : Fin 512) (n : Fin 1024) : ss m c t n r = sg m c n (512 * (t.val / 3) + r.val) := by
  have hN : t.val < 24 := lt_of_lt_of_eq t.isLt (show cfg0.N = 24 from N_0)
  unfold ss sg
  rw [dif_pos (by omega), xr_eq, dr_eq m c t h1, wr_eq]
  rfl

theorem hs_eq (c : Dev nD) (t : Fin cfg0.N) (h1 : t.val % 3 = 2) (r : Fin 512) (n : Fin 1024) : dr m c t r n = hg m c n (512 * (t.val / 3) + r.val) := by
  have hN : t.val < 24 := lt_of_lt_of_eq t.isLt (show cfg0.N = 24 from N_0)
  unfold hg
  rw [dif_pos (by omega), dr_eq m c t h1]
  rfl

/-- A sum over the first rows, and the next 512 of them in two halves. -/
theorem next_rows (f : ℕ → EReal) (b : ℕ) : (∑ i ∈ Finset.range b, f i) + (∑ r : Fin 256, f (b + r.val)) + (∑ r : Fin 256, f (b + (256 + r.val))) = ∑ i ∈ Finset.range (b + 512), f i := by
  rw [show b + 512 = b + 256 + 256 from rfl, Finset.sum_range_add, Finset.sum_range_add, Finset.sum_range, Finset.sum_range, Finset.sum_range]
  simp only [Nat.add_assoc]

/-- After each point the three sums cover the rows of the blocks that are complete. -/
theorem sums_at (c : Dev nD) (n : Fin 1024) : ∀ (t : ℕ) (ht : t < cfg0.N),
    (outsAt0 m c t ht).2.1 (ix2 0 n) = ∑ i ∈ Finset.range (512 * ((t + 1) / 3)), wg m c n i
    ∧ (outsAt0 m c t ht).2.2.1 (ix2 0 n) = ∑ i ∈ Finset.range (512 * ((t + 1) / 3)), sg m c n i
    ∧ (outsAt0 m c t ht).2.2.2.1 (ix2 0 n) = ∑ i ∈ Finset.range (512 * ((t + 1) / 3)), hg m c n i := by
  intro t
  induction t with
  | zero => exact fun ht => ⟨sum_A m c ⟨0, ht⟩ rfl n, sum2_A m c ⟨0, ht⟩ rfl n, sum3_A m c ⟨0, ht⟩ rfl n⟩
  | succ t ih =>
    intro ht
    have hN : t + 1 < 24 := lt_of_lt_of_eq ht (show cfg0.N = 24 from N_0)
    obtain ⟨ih1, ih2, ih3⟩ := ih (Nat.lt_of_succ_lt ht)
    by_cases h2 : (t + 1) % 3 = 2
    · have hb : 512 * ((t + 1 + 1) / 3) = 512 * ((t + 1) / 3) + 512 := by omega
      rw [hb]
      refine ⟨(sums_C m c ⟨t + 1, ht⟩ h2 n).trans ?_, (sums2_C m c ⟨t + 1, ht⟩ h2 n).trans ?_, (sums3_C m c ⟨t + 1, ht⟩ h2 n).trans ?_⟩
      · rw [← next_rows]
        exact congrArg₂ (· + ·) (congrArg₂ (· + ·) ih1 (Finset.sum_congr rfl fun r _ => ws_eq m c ⟨t + 1, ht⟩ h2 _ n)) (Finset.sum_congr rfl fun r _ => ws_eq m c ⟨t + 1, ht⟩ h2 _ n)
      · rw [← next_rows]
        exact congrArg₂ (· + ·) (congrArg₂ (· + ·) ih2 (Finset.sum_congr rfl fun r _ => ss_eq m c ⟨t + 1, ht⟩ h2 _ n)) (Finset.sum_congr rfl fun r _ => ss_eq m c ⟨t + 1, ht⟩ h2 _ n)
      · rw [← next_rows]
        exact congrArg₂ (· + ·) (congrArg₂ (· + ·) ih3 (Finset.sum_congr rfl fun r _ => hs_eq m c ⟨t + 1, ht⟩ h2 _ n)) (Finset.sum_congr rfl fun r _ => hs_eq m c ⟨t + 1, ht⟩ h2 _ n)
    · have hb : 512 * ((t + 1 + 1) / 3) = 512 * ((t + 1) / 3) := by omega
      rw [hb]
      have k : (outsAt0 m c (t + 1) ht).2.1 = (outsAt0 m c t (Nat.lt_of_succ_lt ht)).2.1 ∧ (outsAt0 m c (t + 1) ht).2.2.1 = (outsAt0 m c t (Nat.lt_of_succ_lt ht)).2.2.1 ∧ (outsAt0 m c (t + 1) ht).2.2.2.1 = (outsAt0 m c t (Nat.lt_of_succ_lt ht)).2.2.2.1 := by
        by_cases h1 : (t + 1) % 3 = 1
        · exact sums_B m c ⟨t + 1, ht⟩ h1
        · exact sums_D m c ⟨t + 1, ht⟩ (by show ¬ (t + 1) % 24 = 0; omega) (by show (t + 1) % 3 = 0; omega)
      exact ⟨(congrFun k.1 _).trans ih1, (congrFun k.2.1 _).trans ih2, (congrFun k.2.2 _).trans ih3⟩

/-! ## The arrays -/

theorem flush7 : ∀ t : Fin cfg0.N, (cfg0.win 7).flush t = true → t.val % 3 = 2 := (by decide +kernel : ∀ t : Fin grid0.N, win0_7.flush t = true → t.val % 3 = 2)

theorem final7 (c : Dev nD) : (dats m 0 c).arrAt 7 cfg0.N = DX m c := by
  refine (dats m 0 c).arrAt_eq_of_covers 7 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  have h1 := flush7 t hf
  blk_simp
  rw [after0_7]
  refine (dx_C m c t h1 r n).trans ?_
  rw [xr_eq, dr_eq m c t h1, wr_eq, sr_eq, blk_e]
  exact (congrArg (DX m c) (show _ = ix2 (row t r) n by unfold row; blk_ext [idx t])).symm

theorem last8 (c : Dev nD) (t : Fin cfg0.N) (ht : t.val = 23) (n : Fin 1024) : (dats m 0 c).after 8 t (ix2 0 n) = DW m c (ix2 0 n) := by
  rw [after0_8]
  refine ((sums_at m c n t.val t.isLt).1).trans ?_
  rw [ht, show 512 * ((23 + 1) / 3) = 4096 from rfl, Finset.sum_range]
  exact Finset.sum_congr rfl fun i _ => dif_pos i.isLt

theorem last9 (c : Dev nD) (t : Fin cfg0.N) (ht : t.val = 23) (n : Fin 1024) : (dats m 0 c).after 9 t (ix2 0 n) = DS m c (ix2 0 n) := by
  rw [after0_9]
  refine ((sums_at m c n t.val t.isLt).2.1).trans ?_
  rw [ht, show 512 * ((23 + 1) / 3) = 4096 from rfl, Finset.sum_range]
  exact Finset.sum_congr rfl fun i _ => dif_pos i.isLt

theorem last10 (c : Dev nD) (t : Fin cfg0.N) (ht : t.val = 23) (n : Fin 1024) : (dats m 0 c).after 10 t (ix2 0 n) = DB m c (ix2 0 n) := by
  rw [after0_10]
  refine ((sums_at m c n t.val t.isLt).2.2).trans ?_
  rw [ht, show 512 * ((23 + 1) / 3) = 4096 from rfl, Finset.sum_range]
  exact Finset.sum_congr rfl fun i _ => dif_pos i.isLt

theorem final8 (c : Dev nD) : (dats m 0 c).arrAt 8 cfg0.N = DW m c := by
  refine (dats m 0 c).arrAt_eq_of_after_last 8 ⟨23, by decide⟩ (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last8 m c ⟨23, by decide⟩ rfl n

theorem final9 (c : Dev nD) : (dats m 0 c).arrAt 9 cfg0.N = DS m c := by
  refine (dats m 0 c).arrAt_eq_of_after_last 9 ⟨23, by decide⟩ (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last9 m c ⟨23, by decide⟩ rfl n

theorem final10 (c : Dev nD) : (dats m 0 c).arrAt 10 cfg0.N = DB m c := by
  refine (dats m 0 c).arrAt_eq_of_after_last 10 ⟨23, by decide⟩ (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last10 m c ⟨23, by decide⟩ rfl n

end Cert.InProjIdeal.Grad
end
-- ==== Proof.InProjClaims.lean ====
/- The claims about the first norm's gradient. -/
module

public import proofs.«01_k».proof.Defs
public import proofs.«01_k».proof.Proof.InProjArray
public import proofs.«01_k».proof.Proof.Gen.InProj.Frame
public import proofs.«01_k».proof.Proof.Gen.InProjRefIdeal.Read
public import Idealize.ShloMosaic.Adequacy
public import Idealize.ShloMosaic.Lib.KernelVsHost

@[expose] public section

noncomputable section

namespace Cert.Proof.InProjClaims

open Idealize.ShloMosaic Idealize.ShloMosaic.TcCoe Idealize.SL.Sem
open Cert.InProjIdeal Cert.InProjIdeal.Grad Cert.RowNorm

/-- The reference leaves its arguments as they were; it has no semaphore. -/
theorem frame_ref : Cert.quiescent_InProjRefIdeal := fun m ρ _ =>
  (θ_run Cert.InProjRefIdeal.defs _ _).mono (fun r h => ⟨fun c => (h c).2.2.2.2, sem_eq_zero_of_no_sems (by decide) r.2⟩) (Cert.InProjRefIdeal.Value.run m ρ)

section
open Cert.InProjRefIdeal.Read

variable (x0 : FVec Ideal S4096x1024 .f32) (x1 x2 : FVec Ideal S1x1024 .f32) (x4 : FVec Ideal S1024x2832 .bf16) (x5 : FVec Ideal S4096x1024 .f32) (x6 : FVec Ideal S4096x2832 .bf16)

theorem at_v6 (i : Fin 4096) : val_main_v6 (F := Ideal) x0 (ix2 i 0) = q fun k => x0 (ix2 i k) := by
  unfold q
  pointwise [val_main_v6, val_main_v5, val_main_cst_1, val_main_v4, val_main_v3, val_main_cst_0, val_main_v2, val_main_v1, val_main_cst, val_main_v0]

theorem at_v7 (i : Fin 4096) : val_main_v7 (F := Ideal) x0 (ix2 i 0) = irt fun k => x0 (ix2 i k) := by
  unfold irt
  rw [← at_v6]
  pointwise [val_main_v7]

theorem at_v12 (i : Fin 4096) (n : Fin 1024) : val_main_v12 (F := Ideal) x0 (ix2 i n) = yn (fun k => x0 (ix2 i k)) n := by
  unfold yn
  rw [← at_v7]
  pointwise [val_main_v12, val_main_v11]

/-- The cotangent of the normed and modulated input. -/
def rdh (i : Fin 4096) (n : Fin 1024) : EReal := ∑ j : Fin 2832, x6 (ix2 i j) * x4 (ix2 n j)

theorem at_v24 (i : Fin 4096) (n : Fin 1024) : val_main_v24 (F := Ideal) x4 x6 (ix2 i n) = rdh x4 x6 i n := by
  unfold rdh
  pointwise [val_main_v24, val_main_v23, val_main_v21]

theorem at_v26 (n : Fin 1024) : val_main_v26 (F := Ideal) x4 x6 (ix2 0 n) = ∑ i : Fin 4096, rdh x4 x6 i n := by
  simp only [← at_v24]
  pointwise [val_main_v26, val_main_v25, val_main_cst_4]

theorem at_v29 (n : Fin 1024) : val_main_v29 (F := Ideal) x0 x1 x4 x6 (ix2 0 n) = ∑ i : Fin 4096, yn (fun k => x0 (ix2 i k)) n * x1 (ix2 0 n) * rdh x4 x6 i n := by
  simp only [← at_v24, ← at_v12]
  pointwise [val_main_v29, val_main_v28, val_main_cst_5, val_main_v27, val_main_v14, val_main_v13]

theorem at_v31 (i : Fin 4096) (n : Fin 1024) : val_main_v31 (F := Ideal) x2 x4 x6 (ix2 i n) = g (rdh x4 x6 i) (fun k => x2 (ix2 0 k)) n := by
  unfold g
  rw [← at_v24]
  pointwise [val_main_v31, val_main_v30, val_main_v16, val_main_v15, val_main_cst_3]

theorem at_v34 (n : Fin 1024) : val_main_v34 (F := Ideal) x0 x2 x4 x6 (ix2 0 n) = ∑ i : Fin 4096, yn (fun k => x0 (ix2 i k)) n * g (rdh x4 x6 i) (fun k => x2 (ix2 0 k)) n := by
  simp only [← at_v31, ← at_v12]
  pointwise [val_main_v34, val_main_v33, val_main_cst_6, val_main_v32]

theorem at_v36 (i : Fin 4096) (n : Fin 1024) : val_main_v36 (F := Ideal) x1 x2 x4 x6 (ix2 i n) = u (rdh x4 x6 i) (fun k => x1 (ix2 0 k)) (fun k => x2 (ix2 0 k)) n := by
  unfold u
  rw [← at_v31]
  pointwise [val_main_v36, val_main_v35]

theorem at_v47 (i : Fin 4096) (n : Fin 1024) : val_main_v47 (F := Ideal) x0 x1 x2 x4 x6 (ix2 i n) = tr (fun k => x0 (ix2 i k)) (rdh x4 x6 i) (fun k => x1 (ix2 0 k)) (fun k => x2 (ix2 0 k)) := by
  unfold tr
  simp only [← at_v36, ← at_v7, ← at_v6]
  pointwise [val_main_v47, val_main_v46, val_main_cst_9, val_main_v45, val_main_v44, val_main_cst_8, val_main_v43, val_main_v39, val_main_v38, val_main_cst_7, val_main_v37, val_main_v10, val_main_v9, val_main_cst_2, val_main_v8]
  simp only [Fin.sum_univ_one]

theorem at_v51 (i : Fin 4096) (n : Fin 1024) : val_main_v51 (F := Ideal) x0 x1 x2 x4 x5 x6 (ix2 i n) = dx (fun k => x0 (ix2 i k)) (rdh x4 x6 i) (fun k => x1 (ix2 0 k)) (fun k => x2 (ix2 0 k)) n + x5 (ix2 i n) := by
  unfold dx
  rw [← at_v47 x0 x1 x2 x4 x6 i n, ← at_v36, ← at_v7]
  pointwise [val_main_v51, val_main_v50, val_main_v49, val_main_v48, val_main_v42, val_main_v41, val_main_v40]
  abel

end

variable (m : (ℓ : Loc nD τ sig) → Buf (Elt Ideal) ℓ)

theorem eq_dx (c : Dev nD) : Cert.InProjRefIdeal.Read.val_main_v51 (F := Ideal) (A0 m c) (A1 m c) (A2 m c) (A4 m c) (A5 m c) (A6 m c) = DX m c := by
  funext y
  obtain ⟨i, n, rfl⟩ : ∃ i n, y = ix2 (n0 := 4096) (n1 := 1024) i n := ⟨y 0, y 1, by funext b; match b with | ⟨0, _⟩ => rfl | ⟨1, _⟩ => rfl⟩
  exact at_v51 _ _ _ _ _ _ i n

theorem eq_dw (c : Dev nD) : Cert.InProjRefIdeal.Read.val_main_v34 (F := Ideal) (A0 m c) (A2 m c) (A4 m c) (A6 m c) = DW m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v34 _ _ _ _ n

theorem eq_ds (c : Dev nD) : Cert.InProjRefIdeal.Read.val_main_v29 (F := Ideal) (A0 m c) (A1 m c) (A4 m c) (A6 m c) = DS m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v29 _ _ _ _ n

theorem eq_db (c : Dev nD) : Cert.InProjRefIdeal.Read.val_main_v26 (F := Ideal) (A4 m c) (A6 m c) = DB m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v26 _ _ n

/-- Arguments that are the kernel's give the reference's results over them. -/
theorem eq_all (c : Dev nD) {x0 : FVec Ideal S4096x1024 .f32} {x1 x2 x3 : FVec Ideal S1x1024 .f32} {x4 : FVec Ideal S1024x2832 .bf16} {x5 : FVec Ideal S4096x1024 .f32} {x6 : FVec Ideal S4096x2832 .bf16}
    (ha : x0 = A0 m c ∧ x1 = A1 m c ∧ x2 = A2 m c ∧ x3 = A3 m c ∧ x4 = A4 m c ∧ x5 = A5 m c ∧ x6 = A6 m c) :
    Cert.InProjRefIdeal.Read.val_main_v51 (F := Ideal) x0 x1 x2 x4 x5 x6 = DX m c ∧ Cert.InProjRefIdeal.Read.val_main_v34 (F := Ideal) x0 x2 x4 x6 = DW m c
      ∧ Cert.InProjRefIdeal.Read.val_main_v29 (F := Ideal) x0 x1 x4 x6 = DS m c ∧ Cert.InProjRefIdeal.Read.val_main_v26 (F := Ideal) x4 x6 = DB m c := by
  obtain ⟨rfl, rfl, rfl, rfl, rfl, rfl, rfl⟩ := ha
  exact ⟨eq_dx m c, eq_dw m c, eq_ds m c, eq_db m c⟩

/-- What the kernel leaves. -/
theorem ran (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11_0) = DX m c
      ∧ r.2.mem ((c.tc : Thread nD τ).loc main_v11_1) = DW m c
      ∧ r.2.mem ((c.tc : Thread nD τ).loc main_v11_2) = DS m c
      ∧ r.2.mem ((c.tc : Thread nD τ).loc main_v11_3) = DB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (Gen.run_main m ρ) (Gen.frame m ρ)) fun r h c =>
    ⟨((h.1 c).1 7).trans (final7 m c), ((h.1 c).1 8).trans (final8 m c), ((h.1 c).1 9).trans (final9 m c), ((h.1 c).1 10).trans (final10 m c), h.2.1 c⟩

/-- The kernel and the derivative of the norm leave the same arrays, at every argument. -/
theorem algebraic : Cert.algebraic_InProjIdeal_InProjRefIdeal := fun m g m' g' _ hagree => by
  refine ⟨DX m, DW m, DS m, DB m, ran m g, ?_⟩
  refine θ_run_mono (Cert.InProjRefIdeal.Value.run m' g') fun r h c => ?_
  have e := eq_all m c (hagree c)
  exact ⟨(h c).1.trans ((Cert.InProjRefIdeal.Read.val_main_v51_eq _ _).trans e.1), (h c).2.1.trans e.2.1, (h c).2.2.1.trans e.2.2.1, (h c).2.2.2.1.trans e.2.2.2, (h c).2.2.2.2⟩

end Cert.Proof.InProjClaims

end
-- ==== Proof.ResidBlock.lean ====
/- The residual's and the second norm's gradient: what one point of the kernel leaves. -/
module

public import proofs.«01_k».proof.Defs
public import proofs.«01_k».proof.Proof.Gen.ResidIdeal.Frame
public import proofs.«01_k».proof.Proof.Reals
public import proofs.«01_k».proof.Proof.RowNorm
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ResidIdeal.Grad

open Idealize.ShloMosaic Idealize.ShloMosaic.TcCoe Idealize.SL.Sem
open Idealize.ShloMosaic.Pipeline (Dat)
open Cert.ResidIdeal Cert.ResidIdeal.Gen Cert.Reals

variable (m : (ℓ : Loc nD τ sig) → Buf (Elt Ideal) ℓ)

open Cert.RowNorm

/-! ## The kernel's payloads, row by row -/

theorem pay5_at (x : FVec Ideal S512x1408 .bf16) (w : FVec Ideal S1408x1024 .bf16) (r : Fin 512) (n : Fin 1024) :
    k0_pay5 (F := Ideal) x w (ix2 r n) = ∑ k : Fin 1408, x (ix2 r k) * w (ix2 k n) := by
  pointwise [k0_pay5]

theorem pay6_at (x : FVec Ideal S512x1408 .bf16) (w : FVec Ideal S1408x1024 .bf16) (r : Fin 512) (n : Fin 1024) :
    k0_pay6 (F := Ideal) x w (ix2 r n) = ∑ k : Fin 1408, x (ix2 r k) * w (ix2 k n) := by
  pointwise [k0_pay6, k0_pay5]

theorem pay7_at (x : FVec Ideal S512x1408 .bf16) (w : FVec Ideal S1408x1024 .bf16) (z : FVec Ideal S512x1024 .f32) (r : Fin 512) (n : Fin 1024) :
    k0_pay7 (F := Ideal) x w z (ix2 r n) = z (ix2 r n) + ∑ k : Fin 1408, x (ix2 r k) * w (ix2 k n) := by
  pointwise [k0_pay7, k0_pay5]

/-- A row of the residual sum; and its whole gradient. -/
def res (x g a : Fin 1024 → EReal) (n : Fin 1024) : EReal := x n + g n * a n
def tot (e x d w s : Fin 1024 → EReal) (n : Fin 1024) : EReal := e n + dx x d w s n

section
variable (d x a e : FVec Ideal S256x1024 .f32) (b w s : FVec Ideal S1x1024 .f32)

/-- Row `r` of the residual sum. -/
abbrev rs (r : Fin 256) : Fin 1024 → EReal := res (fun k => x (ix2 r k)) (fun k => b (ix2 0 k)) (fun k => a (ix2 r k))

theorem pay11_at (r : Fin 256) (n : Fin 1024) : k0_pay11 (F := Ideal) x a b (ix2 r n) = rs x a b r n := by
  unfold rs res
  pointwise [k0_pay11]

theorem pay12_at (r : Fin 256) : k0_pay12 (F := Ideal) x a b (ix2 r 0) = q (rs x a b r) := by
  unfold q
  simp only [← pay11_at]
  pointwise [k0_pay12]

theorem pay13_at (r : Fin 256) : k0_pay13 (F := Ideal) x a b (ix2 r 0) = irt (rs x a b r) := by
  unfold irt
  rw [← pay12_at]
  pointwise [k0_pay13]

theorem pay15_at (r : Fin 256) (n : Fin 1024) : k0_pay15 (F := Ideal) x a b (ix2 r n) = yn (rs x a b r) n := by
  unfold yn
  rw [← pay13_at, ← pay11_at]
  pointwise [k0_pay15]

theorem pay17_at (n : Fin 1024) : k0_pay17 (F := Ideal) d (ix2 0 n) = ∑ r : Fin 256, d (ix2 r n) := by
  pointwise [k0_pay17]

theorem pay18_at (n : Fin 1024) : k0_pay18 (F := Ideal) d x a b w (ix2 0 n) = ∑ r : Fin 256, yn (rs x a b r) n * w (ix2 0 n) * d (ix2 r n) := by
  simp only [← pay15_at]
  pointwise [k0_pay18, k0_pay16]

theorem pay19_at (r : Fin 256) (n : Fin 1024) : k0_pay19 (F := Ideal) d s (ix2 r n) = g (fun k => d (ix2 r k)) (fun k => s (ix2 0 k)) n := by
  unfold g
  pointwise [k0_pay19, k0_pay16]

theorem pay20_at (n : Fin 1024) : k0_pay20 (F := Ideal) d x a b s (ix2 0 n) = ∑ r : Fin 256, yn (rs x a b r) n * g (fun k => d (ix2 r k)) (fun k => s (ix2 0 k)) n := by
  simp only [← pay15_at, ← pay19_at]
  pointwise [k0_pay20]

/-- The gradient of the residual sum, as one array. -/
abbrev gr : FVec Ideal S256x1024 .f32 := k0_pay21 (F := Ideal) e w (k0_pay11 x a b) (k0_pay13 x a b) (k0_pay14 x a b) (k0_pay19 d s)

theorem gr_at (r : Fin 256) (n : Fin 1024) : gr d x a e b w s (ix2 r n) = tot (fun k => e (ix2 r k)) (rs x a b r) (fun k => d (ix2 r k)) (fun k => w (ix2 0 k)) (fun k => s (ix2 0 k)) n := by
  unfold gr tot dx tr u
  simp only [← pay19_at, ← pay13_at, ← pay12_at, ← pay11_at]
  pointwise [k0_pay21, k0_pay14]
  simp only [Fin.sum_univ_one, add_assoc]

theorem pay23_at (r : Fin 256) (n : Fin 1024) : k0_pay23 (F := Ideal) e b w (k0_pay11 x a b) (k0_pay13 x a b) (k0_pay14 x a b) (k0_pay19 d s) (ix2 r n) = b (ix2 0 n) * gr d x a e b w s (ix2 r n) := by
  pointwise [k0_pay23, k0_pay22]

theorem pay24_at (z : FVec Ideal S1x1024 .f32) (n : Fin 1024) : k0_pay24 (F := Ideal) a e w (k0_pay11 x a b) (k0_pay13 x a b) (k0_pay14 x a b) (k0_pay19 d s) z (ix2 0 n) = z (ix2 0 n) + ∑ r : Fin 256, gr d x a e b w s (ix2 r n) * a (ix2 r n) := by
  pointwise [k0_pay24, k0_pay22]

/-! The second half of a block's rows goes through the same lines. -/

theorem pay36_eq : k0_pay36 (F := Ideal) d = k0_pay17 d := rfl
theorem pay37_eq : k0_pay37 (F := Ideal) (k0_pay33 x a b w) (k0_pay35 d) = k0_pay18 d x a b w := rfl
theorem pay39_eq : k0_pay39 (F := Ideal) (k0_pay32 x a b) (k0_pay34 s) (k0_pay35 d) = k0_pay20 d x a b s := rfl
theorem pay40_eq : k0_pay40 (F := Ideal) e w (k0_pay28 x a b) (k0_pay30 x a b) (k0_pay31 x a b) (k0_pay34 s) (k0_pay35 d) = gr d x a e b w s := rfl
theorem pay42_eq : k0_pay42 (F := Ideal) e b w (k0_pay28 x a b) (k0_pay30 x a b) (k0_pay31 x a b) (k0_pay34 s) (k0_pay35 d) = k0_pay23 e b w (k0_pay11 x a b) (k0_pay13 x a b) (k0_pay14 x a b) (k0_pay19 d s) := rfl
theorem pay43_eq (z : FVec Ideal S1x1024 .f32) : k0_pay43 (F := Ideal) a e w (k0_pay28 x a b) (k0_pay30 x a b) (k0_pay31 x a b) (k0_pay34 s) (k0_pay35 d) z = k0_pay24 a e w (k0_pay11 x a b) (k0_pay13 x a b) (k0_pay14 x a b) (k0_pay19 d s) z := rfl

end

theorem pay25_at (a b : FVec Ideal S1x1024 .f32) (n : Fin 1024) : k0_pay25 (F := Ideal) b a (ix2 0 n) = a (ix2 0 n) + b (ix2 0 n) := by
  pointwise [k0_pay25]
theorem pay26_at (a b : FVec Ideal S1x1024 .f32) (n : Fin 1024) : k0_pay26 (F := Ideal) b a (ix2 0 n) = a (ix2 0 n) + b (ix2 0 n) := by
  pointwise [k0_pay26]
theorem pay27_at (a b : FVec Ideal S1x1024 .f32) (n : Fin 1024) : k0_pay27 (F := Ideal) b a (ix2 0 n) = a (ix2 0 n) + b (ix2 0 n) := by
  pointwise [k0_pay27]
theorem pay8_eq (a b : FVec Ideal S1x1024 .f32) : k0_pay8 (F := Ideal) b a = k0_pay25 b a := rfl
theorem pay9_eq (a b : FVec Ideal S1x1024 .f32) : k0_pay9 (F := Ideal) b a = k0_pay26 b a := rfl
theorem pay10_eq (a b : FVec Ideal S1x1024 .f32) : k0_pay10 (F := Ideal) b a = k0_pay27 b a := rfl

/-! ## One point -/

abbrev P0 (c : Dev nD) (t : Fin cfg0.N) : FVec Ideal S512x1408 .bf16 := iblk m c 0 t
abbrev W0 (c : Dev nD) (t : Fin cfg0.N) : FVec Ideal S5632x1024 .bf16 := iblk m c 1 t
abbrev X (c : Dev nD) (t : Fin cfg0.N) : FVec Ideal S512x1024 .f32 := iblk m c 2 t
abbrev M (c : Dev nD) (t : Fin cfg0.N) : FVec Ideal S512x1024 .f32 := iblk m c 3 t
abbrev E (c : Dev nD) (t : Fin cfg0.N) : FVec Ideal S512x1024 .f32 := iblk m c 4 t
abbrev Ga (c : Dev nD) (t : Fin cfg0.N) : FVec Ideal S1x1024 .f32 := iblk m c 5 t
abbrev Nw (c : Dev nD) (t : Fin cfg0.N) : FVec Ideal S1x1024 .f32 := iblk m c 6 t
abbrev Sc (c : Dev nD) (t : Fin cfg0.N) : FVec Ideal S1x1024 .f32 := iblk m c 7 t

theorem off_eq : ∀ t : Fin cfg0.N, k0_off1 (grid0.coords t) = ![1408 * (t.val % 4), 0] :=
  (by decide +kernel : ∀ t : Fin grid0.N, k0_off1 (grid0.coords t) = ![1408 * (t.val % 4), 0])

/-- The part of the product that point `t` adds. -/
def part (c : Dev nD) (t : Fin cfg0.N) (r : Fin 512) (n : Fin 1024) : EReal :=
  ∑ k : Fin 1408, P0 m c t (ix2 r k) * W0 m c t (ix2 ⟨1408 * (t.val % 4) + k.val, by omega⟩ n)

theorem ld_w (t : Fin cfg0.N) (Z : S5632x1024.Idx → Elt Ideal .bf16) (k : Fin 1408) (n : Fin 1024) :
    View.ld Z (Rect.unit (s := S5632x1024) (k0_off1 (grid0.coords t)) ![1408, 1024] (k0_off1_inb (grid0.coords t))) (ix2 k n) = Z (ix2 ⟨1408 * (t.val % 4) + k.val, by omega⟩ n) := by
  show Z _ = Z _
  congr 1
  funext b
  apply Fin.ext
  match b with
  | ⟨0, _⟩ => show k0_off1 (grid0.coords t) 0 + 1 * k.val = _; rw [off_eq]; show 1408 * (t.val % 4) + 1 * k.val = 1408 * (t.val % 4) + k.val; omega
  | ⟨1, _⟩ => show k0_off1 (grid0.coords t) 1 + 1 * n.val = _; rw [off_eq]; show 0 + 1 * n.val = n.val; omega

theorem scratch_A (c : Dev nD) (t : Fin cfg0.N) (h0 : t.val % 32 = 0) (r : Fin 512) (n : Fin 1024) :
    (outsAt0 m c t.val t.isLt).2.2.2.2.2.2 (ix2 r n) = part m c t r n := by
  rw [outsAt0_A m c t (by omega) (by omega) (by omega) (by omega)]
  frame_out
  rw [pay6_at]
  exact Finset.sum_congr rfl fun k _ => by rw [ld_w]

theorem scratch_D (c : Dev nD) (t : Fin cfg0.N) (h0 : ¬ t.val % 32 = 0) (h1 : t.val % 4 = 0) (r : Fin 512) (n : Fin 1024) :
    (outsAt0 m c t.val t.isLt).2.2.2.2.2.2 (ix2 r n) = part m c t r n := by
  rw [outsAt0_D m c t (by omega) (by omega) (by omega) (by omega)]
  frame_out
  rw [pay6_at]
  exact Finset.sum_congr rfl fun k _ => by rw [ld_w]

/-- What the point before left. -/
abbrev P (c : Dev nD) (t : Fin cfg0.N) := outsAt0 m c (t.val - 1) (Nat.lt_of_le_of_lt (Nat.sub_le _ _) t.isLt)

/-- The product of a block so far, after its later points. -/
abbrev Fs (c : Dev nD) (t : Fin cfg0.N) : FVec Ideal S512x1024 .f32 :=
  k0_pay7 (F := Ideal) (P0 m c t) (View.ld (W0 m c t) (Rect.unit (s := S5632x1024) (k0_off1 (grid0.coords t)) ![1408, 1024] (k0_off1_inb (grid0.coords t)))) (P m c t).2.2.2.2.2.2

theorem Fs_at (c : Dev nD) (t : Fin cfg0.N) (r : Fin 512) (n : Fin 1024) : Fs m c t (ix2 r n) = (P m c t).2.2.2.2.2.2 (ix2 r n) + part m c t r n := by
  unfold Fs
  rw [pay7_at]
  exact congrArg _ (Finset.sum_congr rfl fun k _ => by rw [ld_w])

/-- A load from a buffer that one store filled reads that store. -/
theorem buf_read {sp : Space} (v : View sig .tc sp S512x1024 .f32) (Z : S512x1024.Idx → Elt Ideal .f32) (r : Rect S512x1024) :
    v.readCov (Val := Elt Ideal) [⟨Rect.unit (s := S512x1024) ![0, 0] ![512, 1024] inb_S512x1024_S512x1024_0_0, Z⟩] r.toLoadRect = View.ld Z r := by
  rw [View.readCov_eq_canon']
  have h : View.canon (Val := Elt Ideal) [⟨Rect.unit (s := S512x1024) ![0, 0] ![512, 1024] inb_S512x1024_S512x1024_0_0, Z⟩] = Z := by
    funext y
    have h := View.canon_cons_emb (Val := Elt Ideal) (Rect.unit (s := S512x1024) ![0, 0] ![512, 1024] inb_S512x1024_S512x1024_0_0) Z [] y
    have e : (Rect.unit (s := S512x1024) ![0, 0] ![512, 1024] inb_S512x1024_S512x1024_0_0).emb y = y := by blk_ext
    rw [e] at h
    exact h
  rw [h]

theorem ld_lo (Z : S512x1024.Idx → Elt Ideal .f32) (r : Fin 256) (n : Fin 1024) :
    View.ld Z (Rect.unit ![0, 0] ![256, 1024] inb_S512x1024_S256x1024_0_0) (ix2 r n) = Z (ix2 ⟨r.val, by omega⟩ n) := by
  pointwise

theorem ld_hi (Z : S512x1024.Idx → Elt Ideal .f32) (r : Fin 256) (n : Fin 1024) :
    View.ld Z (Rect.unit ![256, 0] ![256, 1024] inb_S512x1024_S256x1024_256_0) (ix2 r n) = Z (ix2 ⟨256 + r.val, by omega⟩ n) := by
  pointwise

/-- The same, a whole row at a time. -/
theorem row_lo (Z : S512x1024.Idx → Elt Ideal .f32) (r : Fin 256) :
    (fun n : Fin 1024 => View.ld Z (Rect.unit ![0, 0] ![256, 1024] inb_S512x1024_S256x1024_0_0) (ix2 r n)) = fun n => Z (ix2 ⟨r.val, by omega⟩ n) :=
  funext fun n => ld_lo Z r n

theorem row_hi (Z : S512x1024.Idx → Elt Ideal .f32) (r : Fin 256) :
    (fun n : Fin 1024 => View.ld Z (Rect.unit ![256, 0] ![256, 1024] inb_S512x1024_S256x1024_256_0) (ix2 r n)) = fun n => Z (ix2 ⟨256 + r.val, by omega⟩ n) :=
  funext fun n => ld_hi Z r n

theorem scratch_read (Z : FVec Ideal S512x1024 .f32) : View.read (Elt Ideal) (View.whole cc0_scratch0) ((Memref.isWhole_whole cc0_scratch0).unread Z) = Z :=
  by show View.read (Elt Ideal) (Memref.whole cc0_scratch0).view ((Memref.isWhole_whole cc0_scratch0).unread Z) = Z; exact Memref.IsWhole.read_unread (Val := Elt Ideal) (Memref.isWhole_whole cc0_scratch0) Z

theorem scratch_B (c : Dev nD) (t : Fin cfg0.N) (h1 : t.val % 4 = 1 ∨ t.val % 4 = 2) : (outsAt0 m c t.val t.isLt).2.2.2.2.2.2 = Fs m c t := by
  rw [outsAt0_B m c t (by omega) (by omega) (by omega) (by omega)]
  frame_out
  rw [scratch_read]

/-- A block's rows: of the residual sum, of the cotangents, of the other branch; the weight, the scale and the multiplier. -/
def xr (c : Dev nD) (t : Fin cfg0.N) (r : Fin 512) : Fin 1024 → EReal := res (fun k => X m c t (ix2 r k)) (fun k => Ga m c t (ix2 0 k)) (fun k => M m c t (ix2 r k))
def dr (c : Dev nD) (t : Fin cfg0.N) (r : Fin 512) : Fin 1024 → EReal := fun k => Fs m c t (ix2 r k)
def er (c : Dev nD) (t : Fin cfg0.N) (r : Fin 512) : Fin 1024 → EReal := fun k => E m c t (ix2 r k)
def wr (c : Dev nD) (t : Fin cfg0.N) : Fin 1024 → EReal := fun k => Nw m c t (ix2 0 k)
def sr (c : Dev nD) (t : Fin cfg0.N) : Fin 1024 → EReal := fun k => Sc m c t (ix2 0 k)
def tt (c : Dev nD) (t : Fin cfg0.N) (r : Fin 512) : Fin 1024 → EReal := tot (er m c t r) (xr m c t r) (dr m c t r) (wr m c t) (sr m c t)

theorem dx_C (c : Dev nD) (t : Fin cfg0.N) (h1 : t.val % 4 = 3) (r : Fin 512) (n : Fin 1024) :
    (outsAt0 m c t.val t.isLt).1 (ix2 r n) = tt m c t r n := by
  rw [outsAt0_C m c t (by omega) (by omega) (by omega) (by omega)]
  frame_out
  rw [scratch_read, buf_read, buf_read]
  canon_tiles x h
  · obtain ⟨a, b, rfl⟩ : ∃ a b, x = ix2 (n0 := 256) (n1 := 1024) a b := ⟨x 0, x 1, by funext b; match b with | ⟨0, _⟩ => rfl | ⟨1, _⟩ => rfl⟩
    have hr : r = ⟨256 + a.val, by omega⟩ := Fin.ext h0
    have hn : n = b := Fin.ext h1
    subst hn
    rw [hr, pay40_eq, gr_at]
    unfold rs
    rw [row_hi, row_hi, row_hi, row_hi]
    rfl
  · obtain ⟨a, b, rfl⟩ : ∃ a b, x = ix2 (n0 := 256) (n1 := 1024) a b := ⟨x 0, x 1, by funext b; match b with | ⟨0, _⟩ => rfl | ⟨1, _⟩ => rfl⟩
    have hr : r = ⟨a.val, by omega⟩ := Fin.ext h0
    have hn : n = b := Fin.ext h1
    subst hn
    rw [hr]
    refine (gr_at _ _ _ _ _ _ _ a n).trans ?_
    unfold rs
    rw [row_lo, row_lo, row_lo, row_lo]
    rfl

theorem dm_C (c : Dev nD) (t : Fin cfg0.N) (h1 : t.val % 4 = 3) (r : Fin 512) (n : Fin 1024) :
    (outsAt0 m c t.val t.isLt).2.1 (ix2 r n) = Ga m c t (ix2 0 n) * tt m c t r n := by
  rw [outsAt0_C m c t (by omega) (by omega) (by omega) (by omega)]
  frame_out
  rw [scratch_read, buf_read, buf_read]
  canon_tiles x h
  · obtain ⟨a, b, rfl⟩ : ∃ a b, x = ix2 (n0 := 256) (n1 := 1024) a b := ⟨x 0, x 1, by funext b; match b with | ⟨0, _⟩ => rfl | ⟨1, _⟩ => rfl⟩
    have hr : r = ⟨256 + a.val, by omega⟩ := Fin.ext h0
    have hn : n = b := Fin.ext h1
    subst hn
    rw [hr, pay42_eq, pay23_at, gr_at]
    unfold rs
    rw [row_hi, row_hi, row_hi, row_hi]
    rfl
  · obtain ⟨a, b, rfl⟩ : ∃ a b, x = ix2 (n0 := 256) (n1 := 1024) a b := ⟨x 0, x 1, by funext b; match b with | ⟨0, _⟩ => rfl | ⟨1, _⟩ => rfl⟩
    have hr : r = ⟨a.val, by omega⟩ := Fin.ext h0
    have hn : n = b := Fin.ext h1
    subst hn
    rw [hr, pay23_at, gr_at]
    unfold rs
    rw [row_lo, row_lo, row_lo, row_lo]
    rfl

/-- One row's share of the four sums. -/
def gs (c : Dev nD) (t : Fin cfg0.N) (n : Fin 1024) (r : Fin 512) : EReal := tt m c t r n * M m c t (ix2 r n)
def ws (c : Dev nD) (t : Fin cfg0.N) (n : Fin 1024) (r : Fin 512) : EReal := yn (xr m c t r) n * g (dr m c t r) (sr m c t) n
def ss (c : Dev nD) (t : Fin cfg0.N) (n : Fin 1024) (r : Fin 512) : EReal := yn (xr m c t r) n * wr m c t n * dr m c t r n

theorem sums0_C (c : Dev nD) (t : Fin cfg0.N) (h1 : t.val % 4 = 3) (n : Fin 1024) :
    (outsAt0 m c t.val t.isLt).2.2.1 (ix2 0 n) = (P m c t).2.2.1 (ix2 0 n) + (∑ r : Fin 256, gs m c t n ⟨r.val, by omega⟩) + ∑ r : Fin 256, gs m c t n ⟨256 + r.val, by omega⟩ := by
  rw [outsAt0_C m c t (by omega) (by omega) (by omega) (by omega)]
  frame_out
  rw [scratch_read, buf_read, buf_read, pay43_eq, pay24_at, pay24_at]
  refine congrArg₂ (· + ·) (congrArg _ (Finset.sum_congr rfl fun r _ => ?_)) (Finset.sum_congr rfl fun r _ => ?_)
  · rw [gr_at, ld_lo]
    unfold rs
    rw [row_lo, row_lo, row_lo, row_lo]
    rfl
  · rw [gr_at, ld_hi]
    unfold rs
    rw [row_hi, row_hi, row_hi, row_hi]
    rfl

theorem sums_C (c : Dev nD) (t : Fin cfg0.N) (h1 : t.val % 4 = 3) (n : Fin 1024) :
    (outsAt0 m c t.val t.isLt).2.2.2.1 (ix2 0 n) = (P m c t).2.2.2.1 (ix2 0 n) + (∑ r : Fin 256, ws m c t n ⟨r.val, by omega⟩) + ∑ r : Fin 256, ws m c t n ⟨256 + r.val, by omega⟩ := by
  rw [outsAt0_C m c t (by omega) (by omega) (by omega) (by omega)]
  frame_out
  rw [scratch_read, buf_read, buf_read, pay8_eq, pay39_eq, pay25_at, pay25_at, pay20_at, pay20_at]
  refine congrArg₂ (· + ·) (congrArg _ (Finset.sum_congr rfl fun r _ => ?_)) (Finset.sum_congr rfl fun r _ => ?_)
  · unfold rs
    rw [row_lo, row_lo, row_lo]
    rfl
  · unfold rs
    rw [row_hi, row_hi, row_hi]
    rfl

theorem sums2_C (c : Dev nD) (t : Fin cfg0.N) (h1 : t.val % 4 = 3) (n : Fin 1024) :
    (outsAt0 m c t.val t.isLt).2.2.2.2.1 (ix2 0 n) = (P m c t).2.2.2.2.1 (ix2 0 n) + (∑ r : Fin 256, ss m c t n ⟨r.val, by omega⟩) + ∑ r : Fin 256, ss m c t n ⟨256 + r.val, by omega⟩ := by
  rw [outsAt0_C m c t (by omega) (by omega) (by omega) (by omega)]
  frame_out
  rw [scratch_read, buf_read, buf_read, pay9_eq, pay37_eq, pay26_at, pay26_at, pay18_at, pay18_at]
  refine congrArg₂ (· + ·) (congrArg _ (Finset.sum_congr rfl fun r _ => ?_)) (Finset.sum_congr rfl fun r _ => ?_)
  · unfold rs
    rw [row_lo, row_lo, ld_lo]
    rfl
  · unfold rs
    rw [row_hi, row_hi, ld_hi]
    rfl

theorem sums3_C (c : Dev nD) (t : Fin cfg0.N) (h1 : t.val % 4 = 3) (n : Fin 1024) :
    (outsAt0 m c t.val t.isLt).2.2.2.2.2.1 (ix2 0 n) = (P m c t).2.2.2.2.2.1 (ix2 0 n) + (∑ r : Fin 256, dr m c t ⟨r.val, by omega⟩ n) + ∑ r : Fin 256, dr m c t ⟨256 + r.val, by omega⟩ n := by
  rw [outsAt0_C m c t (by omega) (by omega) (by omega) (by omega)]
  frame_out
  rw [scratch_read, buf_read, buf_read, pay10_eq, pay36_eq, pay27_at, pay27_at, pay17_at, pay17_at]
  refine congrArg₂ (· + ·) (congrArg _ (Finset.sum_congr rfl fun r _ => ?_)) (Finset.sum_congr rfl fun r _ => ?_)
  · rw [ld_lo]
    rfl
  · rw [ld_hi]
    rfl

/-- The four sums: kept at a block's first three points, empty at the first point of all. -/
theorem sums_B (c : Dev nD) (t : Fin cfg0.N) (h1 : t.val % 4 = 1 ∨ t.val % 4 = 2) :
    (outsAt0 m c t.val t.isLt).2.2.1 = (P m c t).2.2.1 ∧ (outsAt0 m c t.val t.isLt).2.2.2.1 = (P m c t).2.2.2.1 ∧ (outsAt0 m c t.val t.isLt).2.2.2.2.1 = (P m c t).2.2.2.2.1 ∧ (outsAt0 m c t.val t.isLt).2.2.2.2.2.1 = (P m c t).2.2.2.2.2.1 := by
  rw [outsAt0_B m c t (by omega) (by omega) (by omega) (by omega)]
  exact ⟨rfl, rfl, rfl, rfl⟩

theorem sums_D (c : Dev nD) (t : Fin cfg0.N) (h0 : ¬ t.val % 32 = 0) (h1 : t.val % 4 = 0) :
    (outsAt0 m c t.val t.isLt).2.2.1 = (P m c t).2.2.1 ∧ (outsAt0 m c t.val t.isLt).2.2.2.1 = (P m c t).2.2.2.1 ∧ (outsAt0 m c t.val t.isLt).2.2.2.2.1 = (P m c t).2.2.2.2.1 ∧ (outsAt0 m c t.val t.isLt).2.2.2.2.2.1 = (P m c t).2.2.2.2.2.1 := by
  rw [outsAt0_D m c t (by omega) (by omega) (by omega) (by omega)]
  exact ⟨rfl, rfl, rfl, rfl⟩

theorem sums_A (c : Dev nD) (t : Fin cfg0.N) (h0 : t.val % 32 = 0) (n : Fin 1024) :
    (outsAt0 m c t.val t.isLt).2.2.1 (ix2 0 n) = 0 ∧ (outsAt0 m c t.val t.isLt).2.2.2.1 (ix2 0 n) = 0 ∧ (outsAt0 m c t.val t.isLt).2.2.2.2.1 (ix2 0 n) = 0 ∧ (outsAt0 m c t.val t.isLt).2.2.2.2.2.1 (ix2 0 n) = 0 := by
  rw [outsAt0_A m c t (by omega) (by omega) (by omega) (by omega)]
  refine ⟨?_, ?_, ?_, ?_⟩
  · frame_out
    pointwise [k0_pay1]
  · frame_out
    pointwise [k0_pay2]
  · frame_out
    pointwise [k0_pay3]
  · frame_out
    pointwise [k0_pay4]

end Cert.ResidIdeal.Grad
end
-- ==== Proof.ResidArray.lean ====
/- The residual and the second norm: the arrays that the kernel leaves. -/
module

public import proofs.«01_k».proof.Defs
public import proofs.«01_k».proof.Proof.ResidBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ResidIdeal.Grad

open Idealize.ShloMosaic Idealize.ShloMosaic.TcCoe Idealize.SL.Sem
open Idealize.ShloMosaic.Pipeline (Dat)
open Cert.ResidIdeal Cert.ResidIdeal.Gen Cert.Reals

variable (m : (ℓ : Loc nD τ sig) → Buf (Elt Ideal) ℓ)

open Cert.RowNorm

abbrev A0 (c : Dev nD) : FVec Ideal S4096x1024 .f32 := m ((c.tc : Thread nD τ).loc main_arg0)
abbrev A1 (c : Dev nD) : FVec Ideal S4096x1024 .f32 := m ((c.tc : Thread nD τ).loc main_arg1)
abbrev A2 (c : Dev nD) : FVec Ideal S1x1024 .f32 := m ((c.tc : Thread nD τ).loc main_arg2)
abbrev A3 (c : Dev nD) : FVec Ideal S1x1024 .f32 := m ((c.tc : Thread nD τ).loc main_arg3)
abbrev A4 (c : Dev nD) : FVec Ideal S1x1024 .f32 := m ((c.tc : Thread nD τ).loc main_arg4)
abbrev A5 (c : Dev nD) : FVec Ideal S1x1024 .f32 := m ((c.tc : Thread nD τ).loc main_arg5)
abbrev A6 (c : Dev nD) : FVec Ideal S1024x2816 .bf16 := m ((c.tc : Thread nD τ).loc main_arg6)
abbrev A7 (c : Dev nD) : FVec Ideal S1024x2816 .bf16 := m ((c.tc : Thread nD τ).loc main_arg7)
abbrev A8 (c : Dev nD) : FVec Ideal S4096x1024 .f32 := m ((c.tc : Thread nD τ).loc main_arg8)
abbrev A9 (c : Dev nD) : FVec Ideal S4096x2816 .bf16 := m ((c.tc : Thread nD τ).loc main_arg9)
abbrev A10 (c : Dev nD) : FVec Ideal S4096x2816 .bf16 := m ((c.tc : Thread nD τ).loc main_arg10)

/-! ## The interleaved operands -/

theorem V_p (c : Dev nD) : V m c main_v3 = shapeCast S4096x5632 (concatenate S4096x11x2x256 2
    [⟨S4096x11x1x256, shapeCast S4096x11x1x256 (A9 m c) shapeCasts_S4096x2816_S4096x11x1x256⟩,
     ⟨S4096x11x1x256, shapeCast S4096x11x1x256 (A10 m c) shapeCasts_S4096x2816_S4096x11x1x256⟩]
    concatenates_S4096x11x1x256_S4096x11x1x256_S4096x11x2x256_d2) shapeCasts_S4096x11x2x256_S4096x5632 := by
  unfold V
  after_results
  rfl

theorem V_w (c : Dev nD) : V m c main_v9 = shapeCast S5632x1024 (concatenate S11x2x256x1024 1
    [⟨S11x1x256x1024, shapeCast S11x1x256x1024 (transpose S2816x1024 [1, 0] (A6 m c) transposes_S1024x2816_S2816x1024_1_0) shapeCasts_S2816x1024_S11x1x256x1024⟩,
     ⟨S11x1x256x1024, shapeCast S11x1x256x1024 (transpose S2816x1024 [1, 0] (A7 m c) transposes_S1024x2816_S2816x1024_1_0) shapeCasts_S2816x1024_S11x1x256x1024⟩]
    concatenates_S11x1x256x1024_S11x1x256x1024_S11x2x256x1024_d1) shapeCasts_S11x2x256x1024_S5632x1024 := by
  unfold V
  simp only [List.flatten_cons, List.flatten_nil, List.append_nil]
  after_results
  rfl

/-- The interleaved arrays, as the host leaves them. -/
abbrev DAB (c : Dev nD) : FVec Ideal S4096x5632 .bf16 := V m c main_v3
abbrev WAB (c : Dev nD) : FVec Ideal S5632x1024 .bf16 := V m c main_v9

theorem p_lo (c : Dev nD) (i : Fin 4096) (j : Fin 11) (l : Fin 256) : DAB m c (ix2 i ⟨512 * j.val + l.val, by omega⟩) = A9 m c (ix2 i ⟨256 * j.val + l.val, by omega⟩) := by
  unfold DAB
  rw [V_p]
  pointwise
  refine (dif_pos (by omega)).trans ?_
  simp only [Nat.mul_comm j.val 256]

theorem p_hi (c : Dev nD) (i : Fin 4096) (j : Fin 11) (l : Fin 256) : DAB m c (ix2 i ⟨512 * j.val + (256 + l.val), by omega⟩) = A10 m c (ix2 i ⟨256 * j.val + l.val, by omega⟩) := by
  unfold DAB
  rw [V_p]
  pointwise
  refine (dif_neg (by omega)).trans ?_
  simp only [Nat.mul_comm j.val 256]

theorem w_lo (c : Dev nD) (n : Fin 1024) (j : Fin 11) (l : Fin 256) : WAB m c (ix2 ⟨512 * j.val + l.val, by omega⟩ n) = A6 m c (ix2 n ⟨256 * j.val + l.val, by omega⟩) := by
  unfold WAB
  rw [V_w]
  pointwise
  refine (dif_pos (by omega)).trans ?_
  simp only [Nat.mul_comm j.val 256]

theorem w_hi (c : Dev nD) (n : Fin 1024) (j : Fin 11) (l : Fin 256) : WAB m c (ix2 ⟨512 * j.val + (256 + l.val), by omega⟩ n) = A7 m c (ix2 n ⟨256 * j.val + l.val, by omega⟩) := by
  unfold WAB
  rw [V_w]
  pointwise
  refine (dif_neg (by omega)).trans ?_
  simp only [Nat.mul_comm j.val 256]

/-- A sum in blocks. -/
theorem sum_blocks (b : ℕ) (F : Fin (11 * b) → EReal) : ∑ k, F k = ∑ j : Fin 11, ∑ l : Fin b, F (finProdFinEquiv (j, l)) :=
  (finProdFinEquiv.sum_comp F).symm.trans (Fintype.sum_prod_type _)

/-- The interleaved columns carry the two products. -/
theorem sum_both (c : Dev nD) (i : Fin 4096) (n : Fin 1024) : ∑ k : Fin 5632, DAB m c (ix2 i k) * WAB m c (ix2 k n)
    = (∑ j : Fin 2816, A9 m c (ix2 i j) * A6 m c (ix2 n j)) + ∑ j : Fin 2816, A10 m c (ix2 i j) * A7 m c (ix2 n j) := by
  refine (sum_blocks 512 _).trans ?_
  refine Eq.trans ?_ (congrArg₂ (· + ·) (sum_blocks 256 _) (sum_blocks 256 _)).symm
  rw [← Finset.sum_add_distrib]
  refine Finset.sum_congr rfl fun j _ => ?_
  refine (Fin.sum_univ_add (a := 256) (b := 256) _).trans (congrArg₂ (· + ·) (Finset.sum_congr rfl fun l _ => ?_) (Finset.sum_congr rfl fun l _ => ?_))
  · have e : (finProdFinEquiv (j, Fin.castAdd 256 l) : Fin (11 * 512)) = ⟨512 * j.val + l.val, by omega⟩ := Fin.ext (by show l.val + 512 * j.val = 512 * j.val + l.val; omega)
    have e' : (finProdFinEquiv (j, l) : Fin (11 * 256)) = ⟨256 * j.val + l.val, by omega⟩ := Fin.ext (by show l.val + 256 * j.val = 256 * j.val + l.val; omega)
    rw [e, e']
    exact congrArg₂ (· * ·) (p_lo m c i j l) (w_lo m c n j l)
  · have e : (finProdFinEquiv (j, Fin.natAdd 256 l) : Fin (11 * 512)) = ⟨512 * j.val + (256 + l.val), by omega⟩ := Fin.ext (by show (256 + l.val) + 512 * j.val = 512 * j.val + (256 + l.val); omega)
    have e' : (finProdFinEquiv (j, l) : Fin (11 * 256)) = ⟨256 * j.val + l.val, by omega⟩ := Fin.ext (by show l.val + 256 * j.val = 256 * j.val + l.val; omega)
    rw [e, e']
    exact congrArg₂ (· * ·) (p_hi m c i j l) (w_hi m c n j l)

theorem sum_quarters (f : Fin 5632 → EReal) : ∑ k : Fin 5632, f k = (∑ k : Fin 1408, f ⟨k.val, by omega⟩) + (∑ k : Fin 1408, f ⟨1408 + k.val, by omega⟩) + (∑ k : Fin 1408, f ⟨2816 + k.val, by omega⟩) + ∑ k : Fin 1408, f ⟨4224 + k.val, by omega⟩ := by
  refine (Fin.sum_univ_add (a := 4224) (b := 1408) f).trans (congrArg (· + _) ?_)
  refine (Fin.sum_univ_add (a := 2816) (b := 1408) _).trans (congrArg (· + _) ?_)
  exact Fin.sum_univ_add (a := 1408) (b := 1408) _

/-! ## The blocks -/

theorem idx : ∀ t : Fin cfg0.N, win0_0.index t = ![t.val / 4, t.val % 4] ∧ win0_1.index t = ![0, 0] ∧ win0_2.index t = ![t.val / 4, 0] ∧ win0_3.index t = ![t.val / 4, 0] ∧ win0_4.index t = ![t.val / 4, 0] ∧ win0_5.index t = ![0, 0] ∧ win0_6.index t = ![0, 0] ∧ win0_7.index t = ![0, 0] ∧ win0_9.index t = ![t.val / 4, 0] ∧ win0_10.index t = ![t.val / 4, 0] :=
  (by decide +kernel : ∀ t : Fin grid0.N, win0_0.index t = ![t.val / 4, t.val % 4] ∧ win0_1.index t = ![0, 0] ∧ win0_2.index t = ![t.val / 4, 0] ∧ win0_3.index t = ![t.val / 4, 0] ∧ win0_4.index t = ![t.val / 4, 0] ∧ win0_5.index t = ![0, 0] ∧ win0_6.index t = ![0, 0] ∧ win0_7.index t = ![0, 0] ∧ win0_9.index t = ![t.val / 4, 0] ∧ win0_10.index t = ![t.val / 4, 0])

/-- The row at which a block's row stands. -/
def row (t : Fin cfg0.N) (r : Fin 512) : Fin 4096 := ⟨512 * (t.val / 4) + r.val, by have : t.val < 32 := lt_of_lt_of_eq t.isLt (show cfg0.N = 32 from N_0); omega⟩

theorem blk_p (c : Dev nD) (t : Fin cfg0.N) (r : Fin 512) (k : Fin 1408) : P0 m c t (ix2 r k) = DAB m c (ix2 (row t r) ⟨1408 * (t.val % 4) + k.val, by omega⟩) := by
  unfold row
  blk_ext [P0, iblk, idx t]
theorem blk_w (c : Dev nD) (t : Fin cfg0.N) (k : Fin 5632) (n : Fin 1024) : W0 m c t (ix2 k n) = WAB m c (ix2 k n) := by
  blk_ext [W0, iblk, idx t]
theorem blk_x (c : Dev nD) (t : Fin cfg0.N) (r : Fin 512) (n : Fin 1024) : X m c t (ix2 r n) = A0 m c (ix2 (row t r) n) := by
  rw [show A0 m c = V m c main_arg0 from (V_main_arg0 m c).symm]
  unfold row
  blk_ext [X, iblk, idx t]
theorem blk_m (c : Dev nD) (t : Fin cfg0.N) (r : Fin 512) (n : Fin 1024) : M m c t (ix2 r n) = A1 m c (ix2 (row t r) n) := by
  rw [show A1 m c = V m c main_arg1 from (V_main_arg1 m c).symm]
  unfold row
  blk_ext [M, iblk, idx t]
theorem blk_e (c : Dev nD) (t : Fin cfg0.N) (r : Fin 512) (n : Fin 1024) : E m c t (ix2 r n) = A8 m c (ix2 (row t r) n) := by
  rw [show A8 m c = V m c main_arg8 from (V_main_arg8 m c).symm]
  unfold row
  blk_ext [E, iblk, idx t]
theorem blk_ga (c : Dev nD) (t : Fin cfg0.N) (n : Fin 1024) : Ga m c t (ix2 0 n) = A2 m c (ix2 0 n) := by
  rw [show A2 m c = V m c main_arg2 from (V_main_arg2 m c).symm]
  blk_ext [Ga, iblk, idx t]
theorem blk_nw (c : Dev nD) (t : Fin cfg0.N) (n : Fin 1024) : Nw m c t (ix2 0 n) = A3 m c (ix2 0 n) := by
  rw [show A3 m c = V m c main_arg3 from (V_main_arg3 m c).symm]
  blk_ext [Nw, iblk, idx t]
theorem blk_sc (c : Dev nD) (t : Fin cfg0.N) (n : Fin 1024) : Sc m c t (ix2 0 n) = A4 m c (ix2 0 n) := by
  rw [show A4 m c = V m c main_arg4 from (V_main_arg4 m c).symm]
  blk_ext [Sc, iblk, idx t]

/-! ## The gradients in plain sums -/

/-- Rows of the residual sum, of its outer cotangent and of the normed sum's gradient; the weight, the scale and the multiplier. -/
def xs (c : Dev nD) (i : Fin 4096) : Fin 1024 → EReal := res (fun n => A0 m c (ix2 i n)) (fun n => A2 m c (ix2 0 n)) fun n => A1 m c (ix2 i n)
def es (c : Dev nD) (i : Fin 4096) : Fin 1024 → EReal := fun n => A8 m c (ix2 i n)
def dh (c : Dev nD) (i : Fin 4096) : Fin 1024 → EReal := fun n => (∑ j : Fin 2816, A9 m c (ix2 i j) * A6 m c (ix2 n j)) + ∑ j : Fin 2816, A10 m c (ix2 i j) * A7 m c (ix2 n j)
def nw (c : Dev nD) : Fin 1024 → EReal := fun n => A3 m c (ix2 0 n)
def sc (c : Dev nD) : Fin 1024 → EReal := fun n => A4 m c (ix2 0 n)
def ts (c : Dev nD) (i : Fin 4096) : Fin 1024 → EReal := tot (es m c i) (xs m c i) (dh m c i) (nw m c) (sc m c)

/-- One row's share of the four sums; nothing beyond the last row. -/
def gg (c : Dev nD) (n : Fin 1024) (i : ℕ) : EReal := if h : i < 4096 then ts m c ⟨i, h⟩ n * A1 m c (ix2 ⟨i, h⟩ n) else 0
def wg (c : Dev nD) (n : Fin 1024) (i : ℕ) : EReal := if h : i < 4096 then yn (xs m c ⟨i, h⟩) n * g (dh m c ⟨i, h⟩) (sc m c) n else 0
def sg (c : Dev nD) (n : Fin 1024) (i : ℕ) : EReal := if h : i < 4096 then yn (xs m c ⟨i, h⟩) n * nw m c n * dh m c ⟨i, h⟩ n else 0
def hg (c : Dev nD) (n : Fin 1024) (i : ℕ) : EReal := if h : i < 4096 then dh m c ⟨i, h⟩ n else 0

def DX (c : Dev nD) : FVec Ideal S4096x1024 .f32 := fun y => ts m c (y 0) (y 1)
def DM (c : Dev nD) : FVec Ideal S4096x1024 .bf16 := fun y => A2 m c (ix2 0 (y 1)) * ts m c (y 0) (y 1)
def DG (c : Dev nD) : FVec Ideal S1x1024 .f32 := fun y => ∑ i : Fin 4096, ts m c i (y 1) * A1 m c (ix2 i (y 1))
def DW (c : Dev nD) : FVec Ideal S1x1024 .f32 := fun y => ∑ i : Fin 4096, yn (xs m c i) (y 1) * g (dh m c i) (sc m c) (y 1)
def DS (c : Dev nD) : FVec Ideal S1x1024 .f32 := fun y => ∑ i : Fin 4096, yn (xs m c i) (y 1) * nw m c (y 1) * dh m c i (y 1)
def DB (c : Dev nD) : FVec Ideal S1x1024 .f32 := fun y => ∑ i : Fin 4096, dh m c i (y 1)

/-! ## The points in order -/

theorem part_at (c : Dev nD) (t : Fin cfg0.N) (r : Fin 512) (n : Fin 1024) :
    part m c t r n = ∑ k : Fin 1408, DAB m c (ix2 (row t r) ⟨1408 * (t.val % 4) + k.val, by omega⟩) * WAB m c (ix2 ⟨1408 * (t.val % 4) + k.val, by omega⟩ n) :=
  Finset.sum_congr rfl fun k _ => by rw [blk_p, blk_w]

theorem first_at (c : Dev nD) (t : Fin cfg0.N) (h0 : t.val % 4 = 0) (r : Fin 512) (n : Fin 1024) : (outsAt0 m c t.val t.isLt).2.2.2.2.2.2 (ix2 r n) = part m c t r n := by
  by_cases h : t.val % 32 = 0
  · exact scratch_A m c t h r n
  · exact scratch_D m c t h h0 r n

theorem second_at (c : Dev nD) (t : Fin cfg0.N) (h1 : t.val % 4 = 1) (r : Fin 512) (n : Fin 1024) :
    (outsAt0 m c t.val t.isLt).2.2.2.2.2.2 (ix2 r n) = part m c ⟨t.val - 1, Nat.lt_of_le_of_lt (Nat.sub_le _ _) t.isLt⟩ r n + part m c t r n := by
  rw [scratch_B m c t (.inl h1), Fs_at]
  exact congrArg (· + _) (first_at m c ⟨t.val - 1, _⟩ (by show (t.val - 1) % 4 = 0; omega) r n)

theorem third_at (c : Dev nD) (t : Fin cfg0.N) (h1 : t.val % 4 = 2) (r : Fin 512) (n : Fin 1024) :
    (outsAt0 m c t.val t.isLt).2.2.2.2.2.2 (ix2 r n) = part m c ⟨t.val - 1 - 1, by omega⟩ r n + part m c ⟨t.val - 1, by omega⟩ r n + part m c t r n := by
  rw [scratch_B m c t (.inr h1), Fs_at]
  exact congrArg (· + _) (second_at m c ⟨t.val - 1, by omega⟩ (by show (t.val - 1) % 4 = 1; omega) r n)

theorem Fs_eq (c : Dev nD) (t : Fin cfg0.N) (h1 : t.val % 4 = 3) (r : Fin 512) (n : Fin 1024) : Fs m c t (ix2 r n) = dh m c (row t r) n := by
  have hN : t.val < 32 := lt_of_lt_of_eq t.isLt (show cfg0.N = 32 from N_0)
  have hp : (P m c t).2.2.2.2.2.2 (ix2 r n) = part m c ⟨t.val - 1 - 1 - 1, by omega⟩ r n + part m c ⟨t.val - 1 - 1, by omega⟩ r n + part m c ⟨t.val - 1, by omega⟩ r n :=
    third_at m c ⟨t.val - 1, by omega⟩ (by show (t.val - 1) % 4 = 2; omega) r n
  rw [Fs_at, hp, part_at, part_at, part_at, part_at]
  unfold dh
  rw [← sum_both, sum_quarters]
  have hr1 : row ⟨t.val - 1, by omega⟩ r = row t r := Fin.ext (by unfold row; show 512 * ((t.val - 1) / 4) + r.val = 512 * (t.val / 4) + r.val; omega)
  have hr2 : row ⟨t.val - 1 - 1, by omega⟩ r = row t r := Fin.ext (by unfold row; show 512 * ((t.val - 1 - 1) / 4) + r.val = 512 * (t.val / 4) + r.val; omega)
  have hr3 : row ⟨t.val - 1 - 1 - 1, by omega⟩ r = row t r := Fin.ext (by unfold row; show 512 * ((t.val - 1 - 1 - 1) / 4) + r.val = 512 * (t.val / 4) + r.val; omega)
  rw [hr1, hr2, hr3]
  have e0 : (t.val - 1 - 1 - 1) % 4 = 0 := by omega
  have e1 : (t.val - 1 - 1) % 4 = 1 := by omega
  have e2 : (t.val - 1) % 4 = 2 := by omega
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)
  · simp only [e0, Nat.mul_zero, Nat.zero_add]
  · simp only [e1, Nat.mul_one]
  · simp only [e2, Nat.reduceMul]
  · simp only [h1, Nat.reduceMul]

theorem xr_eq (c : Dev nD) (t : Fin cfg0.N) (r : Fin 512) : xr m c t r = xs m c (row t r) := by
  unfold xr xs
  simp only [blk_x, blk_ga, blk_m]
theorem er_eq (c : Dev nD) (t : Fin cfg0.N) (r : Fin 512) : er m c t r = es m c (row t r) := funext fun n => blk_e m c t r n
theorem dr_eq (c : Dev nD) (t : Fin cfg0.N) (h1 : t.val % 4 = 3) (r : Fin 512) : dr m c t r = dh m c (row t r) := funext fun n => Fs_eq m c t h1 r n
theorem wr_eq (c : Dev nD) (t : Fin cfg0.N) : wr m c t = nw m c := funext fun n => blk_nw m c t n
theorem sr_eq (c : Dev nD) (t : Fin cfg0.N) : sr m c t = sc m c := funext fun n => blk_sc m c t n
theorem tt_eq (c : Dev nD) (t : Fin cfg0.N) (h1 : t.val % 4 = 3) (r : Fin 512) : tt m c t r = ts m c (row t r) := by
  unfold tt ts
  rw [er_eq, xr_eq, dr_eq m c t h1, wr_eq, sr_eq]

theorem gs_eq (c : Dev nD) (t : Fin cfg0.N) (h1 : t.val % 4 = 3) (r : Fin 512) (n : Fin 1024) : gs m c t n r = gg m c n (512 * (t.val / 4) + r.val) := by
  have hN : t.val < 32 := lt_of_lt_of_eq t.isLt (show cfg0.N = 32 from N_0)
  unfold gs gg
  rw [dif_pos (by omega), tt_eq m c t h1, blk_m]
  rfl

theorem ws_eq (c : Dev nD) (t : Fin cfg0.N) (h1 : t.val % 4 = 3) (r : Fin 512) (n : Fin 1024) : ws m c t n r = wg m c n (512 * (t.val / 4) + r.val) := by
  have hN : t.val < 32 := lt_of_lt_of_eq t.isLt (show cfg0.N = 32 from N_0)
  unfold ws wg
  rw [dif_pos (by omega), xr_eq, dr_eq m c t h1, sr_eq]
  rfl

theorem ss_eq (c : Dev nD) (t : Fin cfg0.N) (h1 : t.val % 4 = 3) (r : Fin 512) (n : Fin 1024) : ss m c t n r = sg m c n (512 * (t.val / 4) + r.val) := by
  have hN : t.val < 32 := lt_of_lt_of_eq t.isLt (show cfg0.N = 32 from N_0)
  unfold ss sg
  rw [dif_pos (by omega), xr_eq, dr_eq m c t h1, wr_eq]
  rfl

theorem hs_eq (c : Dev nD) (t : Fin cfg0.N) (h1 : t.val % 4 = 3) (r : Fin 512) (n : Fin 1024) : dr m c t r n = hg m c n (512 * (t.val / 4) + r.val) := by
  have hN : t.val < 32 := lt_of_lt_of_eq t.isLt (show cfg0.N = 32 from N_0)
  unfold hg
  rw [dif_pos (by omega), dr_eq m c t h1]
  rfl

/-- A sum over the first rows, and the next 512 of them in two halves. -/
theorem next_rows (f : ℕ → EReal) (b : ℕ) : (∑ i ∈ Finset.range b, f i) + (∑ r : Fin 256, f (b + r.val)) + (∑ r : Fin 256, f (b + (256 + r.val))) = ∑ i ∈ Finset.range (b + 512), f i := by
  rw [show b + 512 = b + 256 + 256 from rfl, Finset.sum_range_add, Finset.sum_range_add, Finset.sum_range, Finset.sum_range, Finset.sum_range]
  simp only [Nat.add_assoc]

/-- After each point the four sums cover the rows of the blocks that are complete. -/
theorem sums_at (c : Dev nD) (n : Fin 1024) : ∀ (t : ℕ) (ht : t < cfg0.N),
    (outsAt0 m c t ht).2.2.1 (ix2 0 n) = ∑ i ∈ Finset.range (512 * ((t + 1) / 4)), gg m c n i
    ∧ (outsAt0 m c t ht).2.2.2.1 (ix2 0 n) = ∑ i ∈ Finset.range (512 * ((t + 1) / 4)), wg m c n i
    ∧ (outsAt0 m c t ht).2.2.2.2.1 (ix2 0 n) = ∑ i ∈ Finset.range (512 * ((t + 1) / 4)), sg m c n i
    ∧ (outsAt0 m c t ht).2.2.2.2.2.1 (ix2 0 n) = ∑ i ∈ Finset.range (512 * ((t + 1) / 4)), hg m c n i := by
  intro t
  induction t with
  | zero => exact fun ht => sums_A m c ⟨0, ht⟩ rfl n
  | succ t ih =>
    intro ht
    have hN : t + 1 < 32 := lt_of_lt_of_eq ht (show cfg0.N = 32 from N_0)
    obtain ⟨ih1, ih2, ih3, ih4⟩ := ih (Nat.lt_of_succ_lt ht)
    by_cases h2 : (t + 1) % 4 = 3
    · have hb : 512 * ((t + 1 + 1) / 4) = 512 * ((t + 1) / 4) + 512 := by omega
      rw [hb]
      refine ⟨(sums0_C m c ⟨t + 1, ht⟩ h2 n).trans ?_, (sums_C m c ⟨t + 1, ht⟩ h2 n).trans ?_, (sums2_C m c ⟨t + 1, ht⟩ h2 n).trans ?_, (sums3_C m c ⟨t + 1, ht⟩ h2 n).trans ?_⟩
      · rw [← next_rows]
        exact congrArg₂ (· + ·) (congrArg₂ (· + ·) ih1 (Finset.sum_congr rfl fun r _ => gs_eq m c ⟨t + 1, ht⟩ h2 _ n)) (Finset.sum_congr rfl fun r _ => gs_eq m c ⟨t + 1, ht⟩ h2 _ n)
      · rw [← next_rows]
        exact congrArg₂ (· + ·) (congrArg₂ (· + ·) ih2 (Finset.sum_congr rfl fun r _ => ws_eq m c ⟨t + 1, ht⟩ h2 _ n)) (Finset.sum_congr rfl fun r _ => ws_eq m c ⟨t + 1, ht⟩ h2 _ n)
      · rw [← next_rows]
        exact congrArg₂ (· + ·) (congrArg₂ (· + ·) ih3 (Finset.sum_congr rfl fun r _ => ss_eq m c ⟨t + 1, ht⟩ h2 _ n)) (Finset.sum_congr rfl fun r _ => ss_eq m c ⟨t + 1, ht⟩ h2 _ n)
      · rw [← next_rows]
        exact congrArg₂ (· + ·) (congrArg₂ (· + ·) ih4 (Finset.sum_congr rfl fun r _ => hs_eq m c ⟨t + 1, ht⟩ h2 _ n)) (Finset.sum_congr rfl fun r _ => hs_eq m c ⟨t + 1, ht⟩ h2 _ n)
    · have hb : 512 * ((t + 1 + 1) / 4) = 512 * ((t + 1) / 4) := by omega
      rw [hb]
      have k : (outsAt0 m c (t + 1) ht).2.2.1 = (outsAt0 m c t (Nat.lt_of_succ_lt ht)).2.2.1 ∧ (outsAt0 m c (t + 1) ht).2.2.2.1 = (outsAt0 m c t (Nat.lt_of_succ_lt ht)).2.2.2.1 ∧ (outsAt0 m c (t + 1) ht).2.2.2.2.1 = (outsAt0 m c t (Nat.lt_of_succ_lt ht)).2.2.2.2.1 ∧ (outsAt0 m c (t + 1) ht).2.2.2.2.2.1 = (outsAt0 m c t (Nat.lt_of_succ_lt ht)).2.2.2.2.2.1 := by
        by_cases h1 : (t + 1) % 4 = 0
        · exact sums_D m c ⟨t + 1, ht⟩ (by show ¬ (t + 1) % 32 = 0; omega) h1
        · exact sums_B m c ⟨t + 1, ht⟩ (by show (t + 1) % 4 = 1 ∨ (t + 1) % 4 = 2; omega)
      exact ⟨(congrFun k.1 _).trans ih1, (congrFun k.2.1 _).trans ih2, (congrFun k.2.2.1 _).trans ih3, (congrFun k.2.2.2 _).trans ih4⟩

/-! ## The arrays -/

/-- The last point. -/
def last : Fin cfg0.N := ⟨31, lt_of_lt_of_eq (by decide : 31 < 32) (show cfg0.N = 32 from N_0).symm⟩

theorem flush9 : ∀ t : Fin cfg0.N, (cfg0.win 9).flush t = true → t.val % 4 = 3 := (by decide +kernel : ∀ t : Fin grid0.N, win0_9.flush t = true → t.val % 4 = 3)

theorem final9 (c : Dev nD) : (dats m 0 c).arrAt 9 cfg0.N = DX m c := by
  refine (dats m 0 c).arrAt_eq_of_covers 9 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  have h1 := flush9 t hf
  blk_simp
  rw [after0_9]
  refine (dx_C m c t h1 r n).trans ?_
  rw [tt_eq m c t h1]
  exact (congrArg (DX m c) (show _ = ix2 (row t r) n by unfold row; blk_ext [idx t])).symm

theorem flush10 : ∀ t : Fin cfg0.N, (cfg0.win 10).flush t = true → t.val % 4 = 3 := (by decide +kernel : ∀ t : Fin grid0.N, win0_10.flush t = true → t.val % 4 = 3)

theorem final10 (c : Dev nD) : (dats m 0 c).arrAt 10 cfg0.N = DM m c := by
  refine (dats m 0 c).arrAt_eq_of_covers 10 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  have h1 := flush10 t hf
  blk_simp
  rw [after0_10]
  refine (dm_C m c t h1 r n).trans ?_
  rw [tt_eq m c t h1, blk_ga]
  exact (congrArg (DM m c) (show _ = ix2 (row t r) n by unfold row; blk_ext [idx t])).symm

theorem last11 (c : Dev nD) (t : Fin cfg0.N) (ht : t.val = 31) (n : Fin 1024) : (dats m 0 c).after 11 t (ix2 0 n) = DG m c (ix2 0 n) := by
  rw [after0_11]
  refine ((sums_at m c n t.val t.isLt).1).trans ?_
  rw [ht, show 512 * ((31 + 1) / 4) = 4096 from rfl, Finset.sum_range]
  exact Finset.sum_congr rfl fun i _ => dif_pos i.isLt

theorem final11 (c : Dev nD) : (dats m 0 c).arrAt 11 cfg0.N = DG m c := by
  refine (dats m 0 c).arrAt_eq_of_after_last 11 last (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last11 m c last rfl n

theorem last12 (c : Dev nD) (t : Fin cfg0.N) (ht : t.val = 31) (n : Fin 1024) : (dats m 0 c).after 12 t (ix2 0 n) = DW m c (ix2 0 n) := by
  rw [after0_12]
  refine ((sums_at m c n t.val t.isLt).2.1).trans ?_
  rw [ht, show 512 * ((31 + 1) / 4) = 4096 from rfl, Finset.sum_range]
  exact Finset.sum_congr rfl fun i _ => dif_pos i.isLt

theorem final12 (c : Dev nD) : (dats m 0 c).arrAt 12 cfg0.N = DW m c := by
  refine (dats m 0 c).arrAt_eq_of_after_last 12 last (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last12 m c last rfl n

theorem last13 (c : Dev nD) (t : Fin cfg0.N) (ht : t.val = 31) (n : Fin 1024) : (dats m 0 c).after 13 t (ix2 0 n) = DS m c (ix2 0 n) := by
  rw [after0_13]
  refine ((sums_at m c n t.val t.isLt).2.2.1).trans ?_
  rw [ht, show 512 * ((31 + 1) / 4) = 4096 from rfl, Finset.sum_range]
  exact Finset.sum_congr rfl fun i _ => dif_pos i.isLt

theorem final13 (c : Dev nD) : (dats m 0 c).arrAt 13 cfg0.N = DS m c := by
  refine (dats m 0 c).arrAt_eq_of_after_last 13 last (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last13 m c last rfl n

theorem last14 (c : Dev nD) (t : Fin cfg0.N) (ht : t.val = 31) (n : Fin 1024) : (dats m 0 c).after 14 t (ix2 0 n) = DB m c (ix2 0 n) := by
  rw [after0_14]
  refine ((sums_at m c n t.val t.isLt).2.2.2).trans ?_
  rw [ht, show 512 * ((31 + 1) / 4) = 4096 from rfl, Finset.sum_range]
  exact Finset.sum_congr rfl fun i _ => dif_pos i.isLt

theorem final14 (c : Dev nD) : (dats m 0 c).arrAt 14 cfg0.N = DB m c := by
  refine (dats m 0 c).arrAt_eq_of_after_last 14 last (by decide +kernel) _ fun j => ?_
  obtain ⟨z, n, rfl⟩ : ∃ z n, j = ix2 (n0 := 1) (n1 := 1024) z n := ⟨j 0, j 1, by funext b; match b with | ⟨0, _⟩ => rfl | ⟨1, _⟩ => rfl⟩
  obtain rfl : z = 0 := Subsingleton.elim _ _
  blk_simp
  exact last14 m c last rfl n

end Cert.ResidIdeal.Grad
end
-- ==== Proof.ResidClaims.lean ====
/- The claims about the gradient of the residual and the second norm. -/
module

public import proofs.«01_k».proof.Defs
public import proofs.«01_k».proof.Proof.ResidArray
public import proofs.«01_k».proof.Proof.Gen.Resid.Frame
public import proofs.«01_k».proof.Proof.Gen.ResidRefIdeal.Read
public import Idealize.ShloMosaic.Adequacy
public import Idealize.ShloMosaic.Lib.KernelVsHost

@[expose] public section

noncomputable section

namespace Cert.Proof.ResidClaims

open Idealize.ShloMosaic Idealize.ShloMosaic.TcCoe Idealize.SL.Sem
open Cert.ResidIdeal Cert.ResidIdeal.Grad Cert.RowNorm

/-- The reference leaves its arguments as they were; it has no semaphore. -/
theorem frame_ref : Cert.quiescent_ResidRefIdeal := fun m ρ _ =>
  (θ_run Cert.ResidRefIdeal.defs _ _).mono (fun r h => ⟨fun c => (h c).2.2.2.2.2.2, sem_eq_zero_of_no_sems (by decide) r.2⟩) (Cert.ResidRefIdeal.Value.run m ρ)

section
open Cert.ResidRefIdeal.Read

variable (x0 x1 : FVec Ideal S4096x1024 .f32) (x2 x3 x4 : FVec Ideal S1x1024 .f32) (x6 x7 : FVec Ideal S1024x2816 .bf16) (x8 : FVec Ideal S4096x1024 .f32) (x9 x10 : FVec Ideal S4096x2816 .bf16)

/-- Row `i` of the residual sum. -/
abbrev rx (i : Fin 4096) : Fin 1024 → EReal := res (fun k => x0 (ix2 i k)) (fun k => x2 (ix2 0 k)) fun k => x1 (ix2 i k)

theorem at_v4 (i : Fin 4096) (n : Fin 1024) : val_main_v4 (F := Ideal) x0 x1 x2 (ix2 i n) = rx x0 x1 x2 i n := by
  unfold rx res
  pointwise [val_main_v4, val_main_v3, val_main_v2]

theorem at_v11 (i : Fin 4096) : val_main_v11 (F := Ideal) x0 x1 x2 (ix2 i 0) = q (rx x0 x1 x2 i) := by
  unfold q
  simp only [← at_v4]
  pointwise [val_main_v11, val_main_v10, val_main_cst_1, val_main_v9, val_main_v8, val_main_cst_0, val_main_v7, val_main_v6, val_main_cst, val_main_v5]

theorem at_v12 (i : Fin 4096) : val_main_v12 (F := Ideal) x0 x1 x2 (ix2 i 0) = irt (rx x0 x1 x2 i) := by
  unfold irt
  rw [← at_v11]
  pointwise [val_main_v12]

theorem at_v17 (i : Fin 4096) (n : Fin 1024) : val_main_v17 (F := Ideal) x0 x1 x2 (ix2 i n) = yn (rx x0 x1 x2 i) n := by
  unfold yn
  rw [← at_v12, ← at_v4]
  pointwise [val_main_v17, val_main_v16]

/-- The cotangent of the normed and modulated sum: the gate's product and the multiplier's. -/
def rdh (i : Fin 4096) (n : Fin 1024) : EReal := (∑ j : Fin 2816, x9 (ix2 i j) * x6 (ix2 n j)) + ∑ j : Fin 2816, x10 (ix2 i j) * x7 (ix2 n j)

theorem at_v32 (i : Fin 4096) (n : Fin 1024) : val_main_v32 (F := Ideal) x6 x7 x9 x10 (ix2 i n) = rdh x6 x7 x9 x10 i n := by
  unfold rdh
  rw [add_comm]
  pointwise [val_main_v32, val_main_v30, val_main_v31, val_main_v28, val_main_v26, val_main_v1, val_main_v0]

theorem at_v34 (n : Fin 1024) : val_main_v34 (F := Ideal) x6 x7 x9 x10 (ix2 0 n) = ∑ i : Fin 4096, rdh x6 x7 x9 x10 i n := by
  simp only [← at_v32]
  pointwise [val_main_v34, val_main_v33, val_main_cst_4]

theorem at_v37 (n : Fin 1024) : val_main_v37 (F := Ideal) x0 x1 x2 x3 x6 x7 x9 x10 (ix2 0 n) = ∑ i : Fin 4096, yn (rx x0 x1 x2 i) n * x3 (ix2 0 n) * rdh x6 x7 x9 x10 i n := by
  simp only [← at_v32, ← at_v17]
  pointwise [val_main_v37, val_main_v36, val_main_cst_5, val_main_v35, val_main_v19, val_main_v18]

theorem at_v39 (i : Fin 4096) (n : Fin 1024) : val_main_v39 (F := Ideal) x4 x6 x7 x9 x10 (ix2 i n) = g (rdh x6 x7 x9 x10 i) (fun k => x4 (ix2 0 k)) n := by
  unfold g
  rw [← at_v32]
  pointwise [val_main_v39, val_main_v38, val_main_v21, val_main_v20, val_main_cst_3]

theorem at_v42 (n : Fin 1024) : val_main_v42 (F := Ideal) x0 x1 x2 x4 x6 x7 x9 x10 (ix2 0 n) = ∑ i : Fin 4096, yn (rx x0 x1 x2 i) n * g (rdh x6 x7 x9 x10 i) (fun k => x4 (ix2 0 k)) n := by
  simp only [← at_v39, ← at_v17]
  pointwise [val_main_v42, val_main_v41, val_main_cst_6, val_main_v40]

theorem at_v44 (i : Fin 4096) (n : Fin 1024) : val_main_v44 (F := Ideal) x3 x4 x6 x7 x9 x10 (ix2 i n) = u (rdh x6 x7 x9 x10 i) (fun k => x3 (ix2 0 k)) (fun k => x4 (ix2 0 k)) n := by
  unfold u
  rw [← at_v39]
  pointwise [val_main_v44, val_main_v43]

theorem at_v55 (i : Fin 4096) (n : Fin 1024) : val_main_v55 (F := Ideal) x0 x1 x2 x3 x4 x6 x7 x9 x10 (ix2 i n) = tr (rx x0 x1 x2 i) (rdh x6 x7 x9 x10 i) (fun k => x3 (ix2 0 k)) (fun k => x4 (ix2 0 k)) := by
  unfold tr
  simp only [← at_v44, ← at_v12, ← at_v11, ← at_v4]
  pointwise [val_main_v55, val_main_v54, val_main_cst_9, val_main_v53, val_main_v52, val_main_cst_8, val_main_v51, val_main_v47, val_main_v46, val_main_cst_7, val_main_v45, val_main_v15, val_main_v14, val_main_cst_2, val_main_v13]
  simp only [Fin.sum_univ_one]

/-- The gradient of row `i` of the residual sum. -/
abbrev rt (i : Fin 4096) : Fin 1024 → EReal := tot (fun k => x8 (ix2 i k)) (rx x0 x1 x2 i) (rdh x6 x7 x9 x10 i) (fun k => x3 (ix2 0 k)) (fun k => x4 (ix2 0 k))

theorem at_v59 (i : Fin 4096) (n : Fin 1024) : val_main_v59 (F := Ideal) x0 x1 x2 x3 x4 x6 x7 x8 x9 x10 (ix2 i n) = rt x0 x1 x2 x3 x4 x6 x7 x8 x9 x10 i n := by
  unfold rt tot dx
  rw [← at_v55 x0 x1 x2 x3 x4 x6 x7 x9 x10 i n, ← at_v44, ← at_v12, ← at_v4]
  pointwise [val_main_v59, val_main_v58, val_main_v57, val_main_v56, val_main_v50, val_main_v49, val_main_v48]
  simp only [add_assoc]

theorem at_v66 (i : Fin 4096) (n : Fin 1024) : val_main_v66 (F := Ideal) x0 x1 x2 x3 x4 x6 x7 x8 x9 x10 (ix2 i n) = x2 (ix2 0 n) * rt x0 x1 x2 x3 x4 x6 x7 x8 x9 x10 i n := by
  rw [← at_v59]
  pointwise [val_main_v66, val_main_v62, val_main_v61, val_main_v60]

theorem at_v65 (n : Fin 1024) : val_main_v65 (F := Ideal) x0 x1 x2 x3 x4 x6 x7 x8 x9 x10 (ix2 0 n) = ∑ i : Fin 4096, rt x0 x1 x2 x3 x4 x6 x7 x8 x9 x10 i n * x1 (ix2 i n) := by
  simp only [← at_v59]
  pointwise [val_main_v65, val_main_v64, val_main_cst_10, val_main_v63, val_main_v60]

end

variable (m : (ℓ : Loc nD τ sig) → Buf (Elt Ideal) ℓ)

theorem eq_dx (c : Dev nD) : Cert.ResidRefIdeal.Read.val_main_v59 (F := Ideal) (A0 m c) (A1 m c) (A2 m c) (A3 m c) (A4 m c) (A6 m c) (A7 m c) (A8 m c) (A9 m c) (A10 m c) = DX m c := by
  funext y
  obtain ⟨i, n, rfl⟩ : ∃ i n, y = ix2 (n0 := 4096) (n1 := 1024) i n := ⟨y 0, y 1, by funext b; match b with | ⟨0, _⟩ => rfl | ⟨1, _⟩ => rfl⟩
  exact at_v59 _ _ _ _ _ _ _ _ _ _ i n

theorem eq_dm (c : Dev nD) : Cert.ResidRefIdeal.Read.val_main_v66 (F := Ideal) (A0 m c) (A1 m c) (A2 m c) (A3 m c) (A4 m c) (A6 m c) (A7 m c) (A8 m c) (A9 m c) (A10 m c) = DM m c := by
  funext y
  obtain ⟨i, n, rfl⟩ : ∃ i n, y = ix2 (n0 := 4096) (n1 := 1024) i n := ⟨y 0, y 1, by funext b; match b with | ⟨0, _⟩ => rfl | ⟨1, _⟩ => rfl⟩
  exact at_v66 _ _ _ _ _ _ _ _ _ _ i n

theorem eq_dg (c : Dev nD) : Cert.ResidRefIdeal.Read.val_main_v65 (F := Ideal) (A0 m c) (A1 m c) (A2 m c) (A3 m c) (A4 m c) (A6 m c) (A7 m c) (A8 m c) (A9 m c) (A10 m c) = DG m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v65 _ _ _ _ _ _ _ _ _ _ n

theorem eq_dw (c : Dev nD) : Cert.ResidRefIdeal.Read.val_main_v42 (F := Ideal) (A0 m c) (A1 m c) (A2 m c) (A4 m c) (A6 m c) (A7 m c) (A9 m c) (A10 m c) = DW m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v42 _ _ _ _ _ _ _ _ n

theorem eq_ds (c : Dev nD) : Cert.ResidRefIdeal.Read.val_main_v37 (F := Ideal) (A0 m c) (A1 m c) (A2 m c) (A3 m c) (A6 m c) (A7 m c) (A9 m c) (A10 m c) = DS m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v37 _ _ _ _ _ _ _ _ n

theorem eq_db (c : Dev nD) : Cert.ResidRefIdeal.Read.val_main_v34 (F := Ideal) (A6 m c) (A7 m c) (A9 m c) (A10 m c) = DB m c := by
  funext y
  obtain ⟨z, n, rfl⟩ : ∃ z n, y = ix2 (n0 := 1) (n1 := 1024) z n := ⟨y 0, y 1, by funext b; match b with | ⟨0, _⟩ => rfl | ⟨1, _⟩ => rfl⟩
  obtain rfl : z = 0 := Subsingleton.elim _ _
  exact at_v34 _ _ _ _ n

/-- Arguments that are the kernel's give the reference's results over them. -/
theorem eq_all (c : Dev nD) {x0 x1 : FVec Ideal S4096x1024 .f32} {x2 x3 x4 x5 : FVec Ideal S1x1024 .f32} {x6 x7 : FVec Ideal S1024x2816 .bf16} {x8 : FVec Ideal S4096x1024 .f32} {x9 x10 : FVec Ideal S4096x2816 .bf16}
    (ha : x0 = A0 m c ∧ x1 = A1 m c ∧ x2 = A2 m c ∧ x3 = A3 m c ∧ x4 = A4 m c ∧ x5 = A5 m c ∧ x6 = A6 m c ∧ x7 = A7 m c ∧ x8 = A8 m c ∧ x9 = A9 m c ∧ x10 = A10 m c) :
    Cert.ResidRefIdeal.Read.val_main_v59 (F := Ideal) x0 x1 x2 x3 x4 x6 x7 x8 x9 x10 = DX m c
      ∧ Cert.ResidRefIdeal.Read.val_main_v66 (F := Ideal) x0 x1 x2 x3 x4 x6 x7 x8 x9 x10 = DM m c
      ∧ Cert.ResidRefIdeal.Read.val_main_v65 (F := Ideal) x0 x1 x2 x3 x4 x6 x7 x8 x9 x10 = DG m c
      ∧ Cert.ResidRefIdeal.Read.val_main_v42 (F := Ideal) x0 x1 x2 x4 x6 x7 x9 x10 = DW m c
      ∧ Cert.ResidRefIdeal.Read.val_main_v37 (F := Ideal) x0 x1 x2 x3 x6 x7 x9 x10 = DS m c
      ∧ Cert.ResidRefIdeal.Read.val_main_v34 (F := Ideal) x6 x7 x9 x10 = DB m c := by
  obtain ⟨rfl, rfl, rfl, rfl, rfl, rfl, rfl, rfl, rfl, rfl, rfl⟩ := ha
  exact ⟨eq_dx m c, eq_dm m c, eq_dg m c, eq_dw m c, eq_ds m c, eq_db m c⟩

/-- What the kernel leaves. -/
theorem ran (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = DX m c
      ∧ r.2.mem ((c.tc : Thread nD τ).loc main_v10_1) = DM m c
      ∧ r.2.mem ((c.tc : Thread nD τ).loc main_v10_2) = DG m c
      ∧ r.2.mem ((c.tc : Thread nD τ).loc main_v10_3) = DW m c
      ∧ r.2.mem ((c.tc : Thread nD τ).loc main_v10_4) = DS m c
      ∧ r.2.mem ((c.tc : Thread nD τ).loc main_v10_5) = DB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (Gen.run_main m ρ) (Gen.frame m ρ)) fun r h c =>
    ⟨((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2.1 c⟩

/-- The kernel and the derivative of the residual and its norm leave the same arrays, at every argument. -/
theorem algebraic : Cert.algebraic_ResidIdeal_ResidRefIdeal := fun m g m' g' _ hagree => by
  refine ⟨DX m, DM m, DG m, DW m, DS m, DB m, ran m g, ?_⟩
  refine θ_run_mono (Cert.ResidRefIdeal.Value.run m' g') fun r h c => ?_
  have e := eq_all m c (hagree c)
  exact ⟨(h c).1.trans ((Cert.ResidRefIdeal.Read.val_main_v59_eq _ _).trans e.1), (h c).2.1.trans ((Cert.ResidRefIdeal.Read.val_main_v66_eq _ _).trans e.2.1), (h c).2.2.1.trans ((Cert.ResidRefIdeal.Read.val_main_v65_eq _ _).trans e.2.2.1), (h c).2.2.2.1.trans e.2.2.2.1, (h c).2.2.2.2.1.trans e.2.2.2.2.1, (h c).2.2.2.2.2.1.trans e.2.2.2.2.2, (h c).2.2.2.2.2.2⟩

end Cert.Proof.ResidClaims

end
-- ==== Proof.SwaFwdPoint.lean ====
/- The attention, forward: what a point leaves. -/
module

public import proofs.«01_k».proof.Defs
public import proofs.«01_k».proof.Proof.SwaShares
public import proofs.«01_k».proof.Proof.Gen.SwaFwdIdeal.Frame
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaFwdIdeal.Grad

open Idealize.ShloMosaic Idealize.ShloMosaic.TcCoe Idealize.SL.Sem
open Idealize.ShloMosaic.Pipeline (Dat)
open Cert.SwaFwdIdeal Cert.SwaFwdIdeal.Gen Cert.Reals

variable (m : (ℓ : Loc nD τ sig) → Buf (Elt Ideal) ℓ)

open Cert.SwaMath

/-! ## One point, in the words of the gradient's point

The two kernels compute a row's shares by the same operations, so that what is proved of the gradient's
operands is used here again; the cotangent of those operands is left at zero, since nothing reads it. -/

abbrev Ops := Cert.SwaIdeal.Grad.Ops
abbrev plane0 (x : FVec Ideal S2x128x64 .f32) : FVec Ideal S1x128x64 .f32 :=
  View.ld (Val := Elt Ideal) (e' := .f32) x (Rect.unit (s := S2x128x64) ![0, 0, 0] ![1, 128, 64] inb_S2x128x64_S1x128x64_0_0_0)
abbrev plane1 (x : FVec Ideal S2x128x64 .f32) : FVec Ideal S1x128x64 .f32 :=
  View.ld (Val := Elt Ideal) (e' := .f32) x (Rect.unit (s := S2x128x64) ![1, 0, 0] ![1, 128, 64] inb_S2x128x64_S1x128x64_1_0_0)

section
variable (o : Ops)

abbrev fQ : FVec Ideal S8x128x64 .f32 := k0_pay2 o.q
abbrev fKP : FVec Ideal S8x128x64 .f32 := k0_pay3 (plane0 o.kp) (plane0 o.kp) (plane0 o.kp) (plane0 o.kp) (plane1 o.kp) (plane1 o.kp) (plane1 o.kp) (plane1 o.kp)
abbrev fKC : FVec Ideal S8x128x64 .f32 := k0_pay6 (k0_pay4 (plane0 o.kc)) (k0_pay5 (plane0 o.kc)) (plane0 o.kc) (plane0 o.kc) (plane1 o.kc) (plane1 o.kc) (plane1 o.kc) (plane1 o.kc)
abbrev fVP : FVec Ideal S8x128x64 .f32 := k0_pay12 (k0_pay7 (plane0 o.vp)) (k0_pay8 (plane0 o.vp)) (k0_pay9 (plane0 o.vp)) (k0_pay10 (plane0 o.vp)) (k0_pay11 (plane1 o.vp)) (plane1 o.vp) (plane1 o.vp) (plane1 o.vp)
abbrev fVC : FVec Ideal S8x128x64 .f32 := k0_pay13 (plane0 o.vc) (plane0 o.vc) (plane0 o.vc) (plane0 o.vc) (plane1 o.vc) (plane1 o.vc) (plane1 o.vc) (plane1 o.vc)
abbrev fSK : FVec Ideal S8x128x1 .f32 := k0_pay14 o.sk
abbrev fSL : FVec Ideal S8x128x1 .f32 := k0_pay15 o.sl
abbrev fKPN : FVec Ideal S8x128x64 .f32 := k0_pay20 (fKP o) o.kw
abbrev fKCN : FVec Ideal S8x128x64 .f32 := k0_pay21 (fKC o) o.kw
abbrev fMX : FVec Ideal S8x128x1 .f32 :=
  k0_pay26 (fQ o) o.qw (fSK o) (fSL o) k0_pay16 (k0_pay17 o.z) k0_pay18 k0_pay19 (fKPN o) (fKCN o) (k0_pay22 (fQ o))
abbrev fEC : FVec Ideal S8x128x128 .f32 :=
  k0_pay27 (fQ o) o.qw (fSK o) (fSL o) k0_pay16 (k0_pay17 o.z) k0_pay18 k0_pay19 (fKPN o) (fKCN o) (k0_pay22 (fQ o))
abbrev fEP : FVec Ideal S8x128x128 .f32 :=
  k0_pay28 (fQ o) o.qw (fSK o) (fSL o) k0_pay16 (k0_pay17 o.z) k0_pay18 k0_pay19 (fKPN o) (fKCN o) (k0_pay22 (fQ o))
/-- The rows of the point's result. -/
abbrev fOUT : FVec Ideal S8x128x64 .f32 := k0_pay1 (fVP o) (fVC o) (fSK o) (fMX o) (fEC o) (fEP o)

theorem e_Q : fQ o = o.Q := rfl
theorem e_KP : fKP o = o.KP := rfl
theorem e_KC : fKC o = o.KC := rfl
theorem e_VP : fVP o = o.VP := rfl
theorem e_VC : fVC o = o.VC := rfl
theorem e_SK : fSK o = o.SK := rfl
theorem e_SL : fSL o = o.SL := rfl
theorem e_KPN : fKPN o = o.KPN := rfl
theorem e_KCN : fKCN o = o.KCN := rfl
theorem e_QN (q : FVec Ideal S8x128x64 .f32) (w : FVec Ideal S1x64 .f32) : k0_pay23 q w (k0_pay22 q) = Cert.SwaIdeal.Gen.k0_pay41 q w := rfl
theorem e_S : k0_pay24 (fQ o) o.qw (fSL o) k0_pay16 k0_pay18 (fKCN o) (k0_pay22 (fQ o)) = o.S := rfl
theorem e_SP : k0_pay25 (fQ o) o.qw (fSL o) (k0_pay17 o.z) k0_pay19 (fKPN o) (k0_pay22 (fQ o)) =
    Cert.SwaIdeal.Gen.k0_pay45 o.SL (Cert.SwaIdeal.Gen.k0_pay20 o.z) o.R Cert.SwaIdeal.Grad.Ops.D3 := rfl
end

/-! ## What the point `t` reads and leaves -/

/-- The blocks that the point `t` reads. -/
abbrev ops (c : Dev nD) (t : Fin cfg0.N) : Ops where
  q := X0_0 m c t
  kp := iblk m c 1 t
  kc := iblk m c 2 t
  vp := iblk m c 3 t
  vc := iblk m c 4 t
  qw := iblk m c 5 t
  kw := iblk m c 6 t
  sk := iblk m c 7 t
  sl := iblk m c 8 t
  g := fun _ => 0
  z := Scalar.extui (Scalar.cmpi .eq (BitVec.ofNat 32 ((grid0.coords t) 0).val) 0#32)

theorem out_point (c : Dev nD) (t : Fin cfg0.N) : outsAt0 m c t = fOUT (ops m c t) := by
  unfold outsAt0 out0_A_9
  frame_out <;> rfl

end Cert.SwaFwdIdeal.Grad
end
-- ==== Proof.SwaFwdHost.lean ====
/- The attention's forward call: what the host's lines give the points to read. -/
module

public import proofs.«01_k».proof.Defs
public import proofs.«01_k».proof.Proof.SwaFwdPoint
public import proofs.«01_k».proof.Proof.SwaShares
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaFwdIdeal.Grad

open Idealize.ShloMosaic Idealize.ShloMosaic.TcCoe Idealize.SL.Sem
open Idealize.ShloMosaic.Pipeline (Dat)
open Cert.SwaFwdIdeal Cert.SwaFwdIdeal.Gen Cert.Reals

variable (m : (ℓ : Loc nD τ sig) → Buf (Elt Ideal) ℓ)

open Cert.SwaMath

/-! ## The arguments and the host's lines -/

abbrev A0 (c : Dev nD) : FVec Ideal S4096x2832 .f32 := m ((c.tc : Thread nD τ).loc main_arg0)
abbrev A1 (c : Dev nD) : FVec Ideal S1x64 .f32 := m ((c.tc : Thread nD τ).loc main_arg1)
abbrev A2 (c : Dev nD) : FVec Ideal S1x64 .f32 := m ((c.tc : Thread nD τ).loc main_arg2)
abbrev A3 (c : Dev nD) : FVec Ideal S8 .f32 := m ((c.tc : Thread nD τ).loc main_arg3)
abbrev A4 (c : Dev nD) : FVec Ideal S4096x1024 .f32 := m ((c.tc : Thread nD τ).loc main_arg4)

/-- The arguments hold the real numbers `x`. -/
structure Reads (c : Dev nD) (x : In) : Prop where
  p : ∀ r q, A0 m c (ix2 r q) = ((x.p r q : ℝ) : EReal)
  qw : ∀ z d, A1 m c (ix2 z d) = ((x.qw d : ℝ) : EReal)
  kw : ∀ z d, A2 m c (ix2 z d) = ((x.kw d : ℝ) : EReal)
  sk : ∀ h, A3 m c (ix1 h) = ((x.sk h : ℝ) : EReal)
  dm : ∀ r q, x.dm r q = 0

/-- The heads of the projections, one after another. -/
theorem V_heads (c : Dev nD) : (show FVec Ideal S20x4096x64 .f32 from V m c main_v7) = transpose S20x4096x64 [1, 0, 2] (shapeCast S4096x20x64
    (extractStridedSlice S4096x1280 ![0, 1536] (concatenate S4096x3072 1 [⟨S4096x2048, extractStridedSlice S4096x2048 ![0, 0] (A0 m c) slices_S4096x2832_S4096x2048_0_0⟩,
      ⟨S4096x768, extractStridedSlice S4096x768 ![0, 2064] (A0 m c) slices_S4096x2832_S4096x768_0_2064⟩,
      ⟨S4096x16, extractStridedSlice S4096x16 ![0, 2048] (A0 m c) slices_S4096x2832_S4096x16_0_2048⟩,
      ⟨S4096x240, broadcastInDim S4096x240 ![] bcast_S_S4096x240 (constant (F := Ideal) S_ .f32 0x00000000#32)⟩] concatenates_S4096x2048_S4096x768_S4096x16_S4096x240_S4096x3072_d1)
      slices_S4096x3072_S4096x1280_0_1536) shapeCasts_S4096x1280_S4096x20x64) transposes_S4096x20x64_S20x4096x64_1_0_2 := by
  unfold V V0
  simp only [List.flatten_cons, List.flatten_nil, List.append_nil]
  after_results
  rfl

theorem in_heads (c : Dev nD) (k : Fin 12) (r : Fin 4096) (d : Fin 64) :
    (show FVec Ideal S20x4096x64 .f32 from V m c main_v7) (ix3 ⟨8 + k.val, by omega⟩ r d) = A0 m c (ix2 r ⟨2064 + (64 * k.val + d.val), by omega⟩) := by
  rw [V_heads]
  pointwise
  refine (dif_neg (by omega)).trans ((dif_pos (by omega)).trans ?_)
  refine congrArg (A0 m c) ?_
  blk_ext

theorem V_slopes (c : Dev nD) : (show FVec Ideal S8x128x1 .f32 from V m c main_v18) = broadcastInDim S8x128x1 ![0, 1, 2] bcast_S8x1x1_S8x128x1_0_1_2
    (shapeCast S8x1x1 (Host.powf (broadcastInDim S8 ![] bcast_S_S8 (constant (F := Ideal) S_ .f32 0x40000000#32)) (Host.divf (mulf (broadcastInDim S8 ![] bcast_S_S8 (constant S_ .f32 0xC1000000#32))
      (addf (sitofp .f32 (iotaInDim S8 32 0)) (broadcastInDim S8 ![] bcast_S_S8 (constant S_ .f32 0x3F800000#32)))) (broadcastInDim S8 ![] bcast_S_S8 (constant S_ .f32 0x41000000#32)))) shapeCasts_S8_S8x1x1) := by
  unfold V V0
  simp only [List.flatten_cons, List.flatten_nil, List.append_nil]
  after_results
  rfl

theorem in_slopes (c : Dev nD) (h : Fin 8) (i : Fin 128) (z : Fin 1) : (show FVec Ideal S8x128x1 .f32 from V m c main_v18) (ix3 h i z) = ((slope h : ℝ) : EReal) := by
  rw [V_slopes]
  pointwise
  exact slope_eq h

theorem V_sinks (c : Dev nD) : (show FVec Ideal S8x128x1 .f32 from V m c main_v20) = broadcastInDim S8x128x1 ![0, 1, 2] bcast_S8x1x1_S8x128x1_0_1_2
    (shapeCast S8x1x1 (A3 m c) shapeCasts_S8_S8x1x1) := by
  unfold V V0
  simp only [List.flatten_cons, List.flatten_nil, List.append_nil]
  after_results
  rfl

theorem in_sinks (c : Dev nD) (h : Fin 8) (i : Fin 128) (z : Fin 1) : (show FVec Ideal S8x128x1 .f32 from V m c main_v20) (ix3 h i z) = A3 m c (ix1 h) := by
  rw [V_sinks]
  pointwise

/-- The rows that the call finds in its result: the other half's heads as they came. -/
theorem V_mix (c : Dev nD) : (show FVec Ideal S16x4096x64 .f32 from V m c main_v23) = transpose S16x4096x64 [1, 0, 2] (shapeCast S4096x16x64 (A4 m c)
    shapeCasts_S4096x1024_S4096x16x64) transposes_S4096x16x64_S16x4096x64_1_0_2 := by
  unfold V V0
  simp only [List.flatten_cons, List.flatten_nil, List.append_nil]
  after_results
  rfl

theorem in_mix (c : Dev nD) (h : Fin 16) (r : Fin 4096) (d : Fin 64) :
    (show FVec Ideal S16x4096x64 .f32 from V m c main_v23) (ix3 h r d) = A4 m c (ix2 r ⟨64 * h.val + d.val, by omega⟩) := by
  rw [V_mix]
  pointwise
  refine congrArg (A4 m c) ?_
  blk_ext

/-! ## The blocks of a point -/

theorem idx : ∀ t : Fin cfg0.N, win0_0.index t = ![1, t.val, 0] ∧ win0_1.index t = ![8, t.val - 1, 0] ∧ win0_2.index t = ![8, t.val, 0]
    ∧ win0_3.index t = ![9, t.val - 1, 0] ∧ win0_4.index t = ![9, t.val, 0] ∧ win0_5.index t = ![0, 0] ∧ win0_6.index t = ![0, 0]
    ∧ win0_7.index t = ![0, 0, 0] ∧ win0_8.index t = ![0, 0, 0] ∧ win0_9.index t = ![1, t.val, 0] :=
  (by decide +kernel : ∀ t : Fin grid0.N, win0_0.index t = ![1, t.val, 0] ∧ win0_1.index t = ![8, t.val - 1, 0] ∧ win0_2.index t = ![8, t.val, 0]
    ∧ win0_3.index t = ![9, t.val - 1, 0] ∧ win0_4.index t = ![9, t.val, 0] ∧ win0_5.index t = ![0, 0] ∧ win0_6.index t = ![0, 0]
    ∧ win0_7.index t = ![0, 0, 0] ∧ win0_8.index t = ![0, 0, 0] ∧ win0_9.index t = ![1, t.val, 0])

/-- Whether a point is that of the first block. -/
theorem first_word : ∀ t : Fin cfg0.N, (Scalar.extui (Scalar.cmpi .eq (BitVec.ofNat 32 ((grid0.coords t) 0).val) 0#32) : BitVec 32) = if t.val = 0 then 1#32 else 0#32 :=
  (by decide +kernel : ∀ t : Fin grid0.N, (Scalar.extui (Scalar.cmpi .eq (BitVec.ofNat 32 ((grid0.coords t) 0).val) 0#32) : BitVec 32) = if t.val = 0 then 1#32 else 0#32)

/-- The block of the queries, all of whose cells are loaded. -/
theorem at_q (c : Dev nD) (t : Fin cfg0.N) (h : Fin 8) (i : Fin 128) (d : Fin 64) : (ops m c t).q (ix3 h i d)
    = (show FVec Ideal S20x4096x64 .f32 from V m c main_v7) (ix3 ⟨8 + h.val, by omega⟩ (row t.val i) d) := by
  refine (dif_pos (moved0_0 t _)).trans ?_
  unfold row
  blk_ext [iblk, idx t]

theorem at_kp (c : Dev nD) (t : Fin cfg0.N) (g : Fin 2) (i : Fin 128) (d : Fin 64) : (show FVec Ideal S2x128x64 .f32 from iblk m c 1 t) (ix3 g i d)
    = (show FVec Ideal S20x4096x64 .f32 from V m c main_v7) (ix3 ⟨8 + (8 + g.val), by omega⟩ (row (t.val - 1) i) d) := by
  blk_ext [iblk, idx t]
  simp only [row]
  omega

theorem at_kc (c : Dev nD) (t : Fin cfg0.N) (g : Fin 2) (i : Fin 128) (d : Fin 64) : (show FVec Ideal S2x128x64 .f32 from iblk m c 2 t) (ix3 g i d)
    = (show FVec Ideal S20x4096x64 .f32 from V m c main_v7) (ix3 ⟨8 + (8 + g.val), by omega⟩ (row t.val i) d) := by
  blk_ext [iblk, idx t]
  simp only [row]
  omega

theorem at_vp (c : Dev nD) (t : Fin cfg0.N) (g : Fin 2) (i : Fin 128) (d : Fin 64) : (show FVec Ideal S2x128x64 .f32 from iblk m c 3 t) (ix3 g i d)
    = (show FVec Ideal S20x4096x64 .f32 from V m c main_v7) (ix3 ⟨8 + (10 + g.val), by omega⟩ (row (t.val - 1) i) d) := by
  blk_ext [iblk, idx t]
  simp only [row]
  omega

theorem at_vc (c : Dev nD) (t : Fin cfg0.N) (g : Fin 2) (i : Fin 128) (d : Fin 64) : (show FVec Ideal S2x128x64 .f32 from iblk m c 4 t) (ix3 g i d)
    = (show FVec Ideal S20x4096x64 .f32 from V m c main_v7) (ix3 ⟨8 + (10 + g.val), by omega⟩ (row t.val i) d) := by
  blk_ext [iblk, idx t]
  simp only [row]
  omega

theorem at_qw (c : Dev nD) (t : Fin cfg0.N) (z : Fin 1) (d : Fin 64) : (show FVec Ideal S1x64 .f32 from iblk m c 5 t) (ix2 z d) = (show FVec Ideal S1x64 .f32 from V m c main_arg1) (ix2 z d) := by
  blk_ext [iblk, idx t]

theorem at_kw (c : Dev nD) (t : Fin cfg0.N) (z : Fin 1) (d : Fin 64) : (show FVec Ideal S1x64 .f32 from iblk m c 6 t) (ix2 z d) = (show FVec Ideal S1x64 .f32 from V m c main_arg2) (ix2 z d) := by
  blk_ext [iblk, idx t]

theorem at_sk (c : Dev nD) (t : Fin cfg0.N) (h : Fin 8) (i : Fin 128) (z : Fin 1) : (show FVec Ideal S8x128x1 .f32 from iblk m c 7 t) (ix3 h i z) = (show FVec Ideal S8x128x1 .f32 from V m c main_v20) (ix3 h i z) := by
  blk_ext [iblk, idx t]

theorem at_sl (c : Dev nD) (t : Fin cfg0.N) (h : Fin 8) (i : Fin 128) (z : Fin 1) : (show FVec Ideal S8x128x1 .f32 from iblk m c 8 t) (ix3 h i z) = (show FVec Ideal S8x128x1 .f32 from V m c main_v18) (ix3 h i z) := by
  blk_ext [iblk, idx t]

theorem real_k (c : Dev nD) (x : In) (hx : Reads m c x) (g : Fin 2) (r : Fin 4096) (d : Fin 64) :
    (show FVec Ideal S20x4096x64 .f32 from V m c main_v7) (ix3 ⟨8 + (8 + g.val), by omega⟩ r d) = ((x.p r ⟨2576 + (64 * g.val + d.val), by omega⟩ : ℝ) : EReal) := by
  have h := (in_heads m c ⟨8 + g.val, by omega⟩ r d).trans (hx.p _ _)
  have e : (⟨2064 + (64 * (8 + g.val) + d.val), by omega⟩ : Fin 2832) = ⟨2576 + (64 * g.val + d.val), by omega⟩ := Fin.ext (by show 2064 + (64 * (8 + g.val) + d.val) = 2576 + (64 * g.val + d.val); omega)
  exact h.trans (congrArg (fun q => ((x.p r q : ℝ) : EReal)) e)

theorem real_v (c : Dev nD) (x : In) (hx : Reads m c x) (g : Fin 2) (r : Fin 4096) (d : Fin 64) :
    (show FVec Ideal S20x4096x64 .f32 from V m c main_v7) (ix3 ⟨8 + (10 + g.val), by omega⟩ r d) = ((x.p r ⟨2704 + (64 * g.val + d.val), by omega⟩ : ℝ) : EReal) := by
  have h := (in_heads m c ⟨10 + g.val, by omega⟩ r d).trans (hx.p _ _)
  have e : (⟨2064 + (64 * (10 + g.val) + d.val), by omega⟩ : Fin 2832) = ⟨2704 + (64 * g.val + d.val), by omega⟩ := Fin.ext (by show 2064 + (64 * (10 + g.val) + d.val) = 2704 + (64 * g.val + d.val); omega)
  exact h.trans (congrArg (fun q => ((x.p r q : ℝ) : EReal)) e)

theorem holds_q (c : Dev nD) (x : In) (hx : Reads m c x) (t : Fin cfg0.N) (h : Fin 8) (i : Fin 128) (d : Fin 64) :
    (ops m c t).q (ix3 h i d) = (((x.blk t.val).q h i d : ℝ) : EReal) := (at_q m c t h i d).trans ((in_heads m c ⟨h.val, by omega⟩ _ d).trans (hx.p _ _))

theorem holds_g (c : Dev nD) (x : In) (hx : Reads m c x) (t : Fin cfg0.N) (h : Fin 8) (i : Fin 128) (d : Fin 64) :
    (ops m c t).g (ix3 h i d) = (((x.blk t.val).g h i d : ℝ) : EReal) :=
  EReal.coe_zero.symm.trans (congrArg (fun r : ℝ => (r : EReal)) (hx.dm _ _).symm)

theorem holds_kp (c : Dev nD) (x : In) (hx : Reads m c x) (t : Fin cfg0.N) (g : Fin 2) (i : Fin 128) (d : Fin 64) :
    (ops m c t).kp (ix3 g i d) = (((x.blk t.val).kp g i d : ℝ) : EReal) := (at_kp m c t g i d).trans (real_k m c x hx g _ d)

theorem holds_kc (c : Dev nD) (x : In) (hx : Reads m c x) (t : Fin cfg0.N) (g : Fin 2) (i : Fin 128) (d : Fin 64) :
    (ops m c t).kc (ix3 g i d) = (((x.blk t.val).kc g i d : ℝ) : EReal) := (at_kc m c t g i d).trans (real_k m c x hx g _ d)

theorem holds_vp (c : Dev nD) (x : In) (hx : Reads m c x) (t : Fin cfg0.N) (g : Fin 2) (i : Fin 128) (d : Fin 64) :
    (ops m c t).vp (ix3 g i d) = (((x.blk t.val).vp g i d : ℝ) : EReal) := (at_vp m c t g i d).trans (real_v m c x hx g _ d)

theorem holds_vc (c : Dev nD) (x : In) (hx : Reads m c x) (t : Fin cfg0.N) (g : Fin 2) (i : Fin 128) (d : Fin 64) :
    (ops m c t).vc (ix3 g i d) = (((x.blk t.val).vc g i d : ℝ) : EReal) := (at_vc m c t g i d).trans (real_v m c x hx g _ d)

theorem holds_qw (c : Dev nD) (x : In) (hx : Reads m c x) (t : Fin cfg0.N) (z : Fin 1) (d : Fin 64) :
    (ops m c t).qw (ix2 z d) = (((x.blk t.val).qw d : ℝ) : EReal) := (at_qw m c t z d).trans ((congrFun (V_main_arg1 m c) (ix2 z d)).trans (hx.qw z d))

theorem holds_kw (c : Dev nD) (x : In) (hx : Reads m c x) (t : Fin cfg0.N) (z : Fin 1) (d : Fin 64) :
    (ops m c t).kw (ix2 z d) = (((x.blk t.val).kw d : ℝ) : EReal) := (at_kw m c t z d).trans ((congrFun (V_main_arg2 m c) (ix2 z d)).trans (hx.kw z d))

theorem holds_sk (c : Dev nD) (x : In) (hx : Reads m c x) (t : Fin cfg0.N) (h : Fin 8) (i : Fin 128) (z : Fin 1) :
    (ops m c t).sk (ix3 h i z) = (((x.blk t.val).sk h : ℝ) : EReal) := (at_sk m c t h i z).trans ((in_sinks m c h i z).trans (hx.sk h))

theorem holds_sl (c : Dev nD) (x : In) (t : Fin cfg0.N) (h : Fin 8) (i : Fin 128) (z : Fin 1) :
    (ops m c t).sl (ix3 h i z) = (((x.blk t.val).sl h : ℝ) : EReal) := (at_sl m c t h i z).trans (in_slopes m c h i z)

theorem holds_first (c : Dev nD) (x : In) (t : Fin cfg0.N) :
    (x.blk t.val).first ∧ (ops m c t).z = 1#32 ∨ ¬(x.blk t.val).first ∧ (ops m c t).z = 0#32 := by
  have hz := first_word t
  by_cases h : t.val = 0
  · exact .inl ⟨h, hz.trans (if_pos h)⟩
  · exact .inr ⟨h, hz.trans (if_neg h)⟩

theorem holds (c : Dev nD) (x : In) (hx : Reads m c x) (t : Fin cfg0.N) : Cert.SwaIdeal.Grad.Holds (ops m c t) (x.blk t.val) :=
  ⟨holds_q m c x hx t, holds_kp m c x hx t, holds_kc m c x hx t, holds_vp m c x hx t, holds_vc m c x hx t, holds_qw m c x hx t, holds_kw m c x hx t, holds_sk m c x hx t, holds_sl m c x t, holds_g m c x hx t, holds_first m c x t⟩

end Cert.SwaFwdIdeal.Grad
end
-- ==== Proof.SwaFwdMath.lean ====
/- The attention's rows over the real numbers: the shares' sums of the values. -/
module

public import proofs.«01_k».proof.Proof.SwaBand

@[expose] public section

noncomputable section

namespace Cert.SwaMath

namespace Blk
variable (b : Blk)

/-- A head's row of the result. -/
def mix (h : Fin 8) (i : Fin 128) (d : Fin 64) : ℝ := (∑ j, b.pc h i j * b.vc (grp h) j d) + ∑ j, b.pp h i j * b.vp (grp h) j d

theorem before_mix (kp vp : Fin 2 → Fin 128 → Fin 64 → ℝ) (hf : b.first) : (b.before kp vp).mix = b.mix := by
  funext h i d
  unfold mix
  rw [before_pc b kp vp hf]
  simp only [pp_first b hf, pp_first (b.before kp vp) hf, zero_mul]
  rfl

end Blk

theorem band_mix (x : In) (n : ℕ) : (x.band n).mix = (x.blk n).mix := band_alike x n Blk.mix fun b kp vp h => b.before_mix kp vp h

/-- A row of the result, head after head. -/
def In.mixed (x : In) (r : Fin 4096) (q : Fin 512) : ℝ := (x.blk (r.val / 128)).mix ⟨q.val / 64, by omega⟩ ⟨r.val % 128, by omega⟩ ⟨q.val % 64, by omega⟩

end Cert.SwaMath
end
-- ==== Proof.SwaFwdValue.lean ====
/- The attention's forward call: what one point's result comes to, in real numbers. -/
module

public import proofs.«01_k».proof.Defs
public import proofs.«01_k».proof.Proof.SwaFwdPoint
public import proofs.«01_k».proof.Proof.SwaFwdMath
public import proofs.«01_k».proof.Proof.SwaShares
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaFwdIdeal.Grad

open Idealize.ShloMosaic Idealize.ShloMosaic.TcCoe Idealize.SL.Sem
open Idealize.ShloMosaic.Pipeline (Dat)
open Cert.SwaFwdIdeal Cert.SwaFwdIdeal.Gen Cert.Reals

variable (m : (ℓ : Loc nD τ sig) → Buf (Elt Ideal) ℓ)

open Cert.SwaMath

/-! ## What a point's result comes to -/

section
variable (o : Ops)

theorem e_MX : fMX o = o.MX := rfl
theorem e_EC : fEC o = Cert.SwaIdeal.Gen.k0_pay47 o.SK o.SL (Cert.SwaIdeal.Gen.k0_pay20 o.z) o.S o.R Cert.SwaIdeal.Grad.Ops.D3 := rfl
theorem e_EP : fEP o = Cert.SwaIdeal.Gen.k0_pay48 o.SK o.SL (Cert.SwaIdeal.Gen.k0_pay20 o.z) o.S o.R Cert.SwaIdeal.Grad.Ops.D3 := rfl

/-- The shares' products with the values, this block's and the one's before it. -/
theorem e_OUT : fOUT o = addf
    (matmul dot_S8x128x128_S8x128x64_S8x128x64_2_1_1_2_0_0 none (truncf .bf16 o.PC bitsLt_bf16_f32) (truncf .bf16 o.VC bitsLt_bf16_f32) (constant S8x128x64 .f32 0x00000000#32))
    (matmul dot_S8x128x128_S8x128x64_S8x128x64_2_1_1_2_0_0 none (truncf .bf16 o.PP bitsLt_bf16_f32) (truncf .bf16 o.VP bitsLt_bf16_f32) (constant S8x128x64 .f32 0x00000000#32)) := rfl

variable {o} {b : Blk} (H : Cert.SwaIdeal.Grad.Holds o b)
include H

theorem OUT_at (h : Fin 8) (i : Fin 128) (d : Fin 64) : fOUT o (ix3 h i d) = ((b.mix h i d : ℝ) : EReal) := by
  rw [e_OUT]
  pointwise
  simp only [Cert.SwaIdeal.Grad.PC_at H, Cert.SwaIdeal.Grad.PP_at H, Cert.SwaIdeal.Grad.VC_at H, Cert.SwaIdeal.Grad.VP_at H, ← EReal.coe_mul, ← coe_sum, ← EReal.coe_add]
  rfl
end

end Cert.SwaFwdIdeal.Grad
end
-- ==== Proof.SwaFwdArray.lean ====
/- The attention's forward call: the array that it leaves. -/
module

public import proofs.«01_k».proof.Defs
public import proofs.«01_k».proof.Proof.SwaFwdHost
public import proofs.«01_k».proof.Proof.SwaFwdValue
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.SwaFwdIdeal.Grad

open Idealize.ShloMosaic Idealize.ShloMosaic.TcCoe Idealize.SL.Sem
open Idealize.ShloMosaic.Pipeline (Dat)
open Cert.SwaFwdIdeal Cert.SwaFwdIdeal.Gen Cert.Reals

variable (m : (ℓ : Loc nD τ sig) → Buf (Elt Ideal) ℓ)

open Cert.SwaMath

section
variable {c : Dev nD} {x : In} (hx : Reads m c x)

/-- The array that the call leaves: the other half's heads as they came, then this half's. -/
def HEADS (c : Dev nD) (x : In) : FVec Ideal S16x4096x64 .f32 := fun y =>
  if h : (y 0).val < 8 then A4 m c (ix2 (y 1) ⟨64 * (y 0).val + (y 2).val, by have : (y 2).val < 64 := (y 2).isLt; omega⟩)
  else (((x.blk ((y 1).val / 128)).mix ⟨(y 0).val - 8, by have : (y 0).val < 16 := (y 0).isLt; omega⟩ ⟨(y 1).val % 128, Nat.mod_lt _ (by norm_num)⟩ (y 2) : ℝ) : EReal)

/-- The result: the other half's columns as they came, then this half's. -/
def MIX (c : Dev nD) (x : In) : FVec Ideal S4096x1024 .f32 := fun y =>
  if h : (y 1).val < 512 then A4 m c y
  else ((x.mixed (y 0) ⟨(y 1).val - 512, by have : (y 1).val < 1024 := (y 1).isLt; omega⟩ : ℝ) : EReal)

include hx

theorem final9 : (dats m 0 c).arrAt 9 cfg0.N = HEADS m c x := by
  refine (dats m 0 c).arrAt_eq_of_coversWhere_of_agree 9 (HEADS m c x) (fun β => 1 ≤ β 0) (by decide +kernel) (fun t hf y => ?_) (fun j hj => ?_)
  · have hy : ∃ h i d, y = ix3 (n0 := 8) (n1 := 128) (n2 := 64) h i d := ⟨y 0, y 1, y 2, by funext b; match b with | ⟨0, _⟩ => rfl | ⟨1, _⟩ => rfl | ⟨2, _⟩ => rfl⟩
    obtain ⟨h, i, d, rfl⟩ := hy
    have hN : t.val < 32 := t.isLt
    blk_simp
    rw [after0_9, out_point]
    refine (OUT_at (holds m c x hx t) h i d).trans ?_
    have e : (((cfg0.win 9).blk t).view.emb (ix3 h i d)) = ix3 (n0 := 16) (n1 := 4096) (n2 := 64) ⟨8 + h.val, by omega⟩ ⟨128 * t.val + i.val, by omega⟩ d := by
      blk_ext [idx t]
    rw [e]
    unfold HEADS
    have h0 : (128 * t.val + i.val) / 128 = t.val := by omega
    have h1 : (⟨(128 * t.val + i.val) % 128, Nat.mod_lt _ (by norm_num)⟩ : Fin 128) = i := Fin.ext (by show (128 * t.val + i.val) % 128 = i.val; omega)
    have h2 : (⟨8 + h.val - 8, by omega⟩ : Fin 8) = h := Fin.ext (by show 8 + h.val - 8 = h.val; omega)
    refine Eq.symm ((dif_neg (by show ¬8 + h.val < 8; omega)).trans ?_)
    show (((x.blk ((128 * t.val + i.val) / 128)).mix ⟨8 + h.val - 8, _⟩ ⟨(128 * t.val + i.val) % 128, _⟩ d : ℝ) : EReal) = _
    rw [h0, h1, h2]
  · have hj' := hj
    blk_simp [Pipeline.Window.cell_apply] at hj'
    have hi : ∃ h r d, j = ix3 (n0 := 16) (n1 := 4096) (n2 := 64) h r d := ⟨j 0, j 1, j 2, by funext b; match b with | ⟨0, _⟩ => rfl | ⟨1, _⟩ => rfl | ⟨2, _⟩ => rfl⟩
    obtain ⟨h, r, d, rfl⟩ := hi
    have hq : h.val < 8 := by
      have h' : ¬ 1 ≤ h.val / 8 := hj'
      omega
    unfold HEADS
    refine Eq.trans ?_ (dif_pos (show h.val < 8 from hq)).symm
    rw [A_eq]
    exact in_mix m c h r d

theorem at_exit : Pipeline.withArrays (cfgs 0).spec c (V0 m c) (fun w => (dats m 0 c).arrAt w (cfgs 0).N) (Proc.tc.devRef main_v23) = HEADS m c x :=
  ((dats m 0 c).withArrays_arrAt (by decide) (V0 m c) (fun w => A_eq m c w) 9).trans (final9 m hx)

theorem tail25 : Pipeline.afterTail₀ cfgs (dats m) 0 (V0 m) [hostOps1] c main_v25 =
    shapeCast S4096x1024 (transpose S4096x16x64 [1, 0, 2] (HEADS m c x) transposes_S16x4096x64_S4096x16x64_1_0_2) shapeCasts_S4096x16x64_S4096x1024 := by
  unfold Pipeline.afterTail₀
  simp only [List.flatten_cons, List.flatten_nil, List.append_nil]
  after_results
  rw [at_exit m hx]
  rfl

theorem res : (show FVec Ideal S4096x1024 .f32 from Pipeline.afterTail₀ cfgs (dats m) 0 (V0 m) [hostOps1] c main_v25) = MIX m c x := by
  rw [tail25 m hx]
  funext y
  have hy : ∃ r q, y = ix2 (n0 := 4096) (n1 := 1024) r q := ⟨y 0, y 1, by funext b; match b with | ⟨0, _⟩ => rfl | ⟨1, _⟩ => rfl⟩
  obtain ⟨r, q, rfl⟩ := hy
  have e : (shapeCast S4096x1024 (transpose S4096x16x64 [1, 0, 2] (HEADS m c x) transposes_S16x4096x64_S4096x16x64_1_0_2) shapeCasts_S4096x16x64_S4096x1024) (ix2 r q)
      = HEADS m c x (ix3 ⟨q.val / 64, by omega⟩ r ⟨q.val % 64, by omega⟩) := by
    pointwise
  refine e.trans ?_
  unfold HEADS MIX
  by_cases h : q.val < 512
  · refine (dif_pos (show q.val / 64 < 8 by omega)).trans (Eq.trans ?_ (dif_pos (show q.val < 512 from h)).symm)
    refine congrArg (A4 m c) ?_
    have hq : (⟨64 * (q.val / 64) + q.val % 64, by omega⟩ : Fin 1024) = q := Fin.ext (by show 64 * (q.val / 64) + q.val % 64 = q.val; omega)
    exact congrArg (ix2 r) hq
  · refine (dif_neg (show ¬ q.val / 64 < 8 by omega)).trans (Eq.trans ?_ (dif_neg (show ¬ q.val < 512 from h)).symm)
    unfold In.mixed
    have h1 : (⟨q.val / 64 - 8, by omega⟩ : Fin 8) = ⟨(q.val - 512) / 64, by omega⟩ := Fin.ext (by show q.val / 64 - 8 = (q.val - 512) / 64; omega)
    have h2 : (⟨q.val % 64, by omega⟩ : Fin 64) = ⟨(q.val - 512) % 64, by omega⟩ := Fin.ext (by show q.val % 64 = (q.val - 512) % 64; omega)
    show (((x.blk (r.val / 128)).mix ⟨q.val / 64 - 8, _⟩ ⟨r.val % 128, _⟩ ⟨q.val % 64, _⟩ : ℝ) : EReal) = (((x.blk (r.val / 128)).mix ⟨(q.val - 512) / 64, _⟩ ⟨r.val % 128, _⟩ ⟨(q.val - 512) % 64, _⟩ : ℝ) : EReal)
    rw [h1, h2]
end

end Cert.SwaFwdIdeal.Grad
end
-- ==== Proof.SwaFwdRef.lean ====
/- The attention's rows in the reference. -/
module

public import proofs.«01_k».proof.Proof.SwaRefShares
public import proofs.«01_k».proof.Proof.SwaFwdMath
public import proofs.«01_k».proof.Proof.Gen.SwaFwdRefIdeal.Read
public import Idealize.ShloMosaic.Lib.Pointwise
public import Idealize.ShloMosaic.Lib.WordCmp
public import Idealize.ShloMosaic.Lib.Pipeline.ValueKit

@[expose] public section

noncomputable section

namespace Cert.SwaFwdRefIdeal.Grad

open Idealize.ShloMosaic Idealize.ShloMosaic.TcCoe
open Cert.SwaFwdRefIdeal.Read Cert.Reals Cert.SwaMath

variable (x0 : FVec Ideal S4096x2832 .f32) (x1 x2 : FVec Ideal S1x64 .f32) (x3 : FVec Ideal S8 .f32) (x4 x4' : FVec Ideal S4096x1024 .f32)

/-! ## The shares and the values, as the gradient's reference computes them -/

theorem e_v : val_main_v42 (F := Ideal) x0 = Cert.SwaRefIdeal.Read.val_main_v50 (F := Ideal) x0 := rfl
theorem e_q : val_main_v32 (F := Ideal) x0 x1 = Cert.SwaRefIdeal.Read.val_main_v38 (F := Ideal) x0 x1 := rfl
theorem e_k : val_main_v37 (F := Ideal) x0 x2 = Cert.SwaRefIdeal.Read.val_main_v44 (F := Ideal) x0 x2 := rfl
theorem e_s : val_main_v46 (F := Ideal) x0 x1 x2 = Cert.SwaRefIdeal.Read.val_main_v54 (F := Ideal) x0 x1 x2 := rfl
theorem e_m : val_main_v101 (F := Ideal) x0 x1 x2 = Cert.SwaRefIdeal.Read.val_main_v109_0 (F := Ideal) x0 x1 x2 := rfl
theorem e_p : val_main_v118 (F := Ideal) x0 x1 x2 x3 = Cert.SwaRefIdeal.Read.val_main_v149 (F := Ideal) x0 x1 x2 x3 := rfl

variable {x0 x1 x2 x3 x4'} {x : In} (H : Cert.SwaRefIdeal.Grad.Args x x0 x1 x2 x3 x4')

section
include H

theorem mix_at (n : Fin 32) (g : Fin 2) (l : Fin 4) (i : Fin 128) (d : Fin 64) : (val_main_v119 (F := Ideal) x0 x1 x2 x3) (ix5 n g d l i) = (((x.blk n).mix (mem g l) i d : ℝ) : EReal) := by
  rw [← band_mix]
  pointwise [val_main_v119]
  rw [e_v, e_p, Cert.SwaRefIdeal.Grad.sum_halves]
  simp only [Cert.SwaRefIdeal.Grad.p_lo H, Cert.SwaRefIdeal.Grad.p_hi H, Cert.SwaRefIdeal.Grad.v_lo H, Cert.SwaRefIdeal.Grad.v_hi H, ← EReal.coe_mul, ← coe_sum, ← EReal.coe_add]
  unfold Blk.mix
  rw [grp_mem, add_comm]
  simp only [mul_comm]

theorem lane_at (n : Fin 32) (i : Fin 128) (q : Fin 512) : (val_main_v121 (F := Ideal) x0 x1 x2 x3) (ix2 (row n i) q) = (((x.blk n).mix ⟨q.val / 64, by omega⟩ i ⟨q.val % 64, by omega⟩ : ℝ) : EReal) := by
  have e : mem ⟨q.val / 64 / 4, by omega⟩ ⟨q.val / 64 % 4, by omega⟩ = ⟨q.val / 64, by omega⟩ := Fin.ext (by show 4 * (q.val / 64 / 4) + q.val / 64 % 4 = q.val / 64; omega)
  rw [← e]
  refine Eq.trans ?_ (mix_at H n ⟨q.val / 64 / 4, by omega⟩ ⟨q.val / 64 % 4, by omega⟩ i ⟨q.val % 64, by omega⟩)
  pointwise [val_main_v121, val_main_v120]
  refine congrArg (val_main_v119 (F := Ideal) x0 x1 x2 x3) ?_
  unfold row
  blk_ext

/-- The result's rows: the other half's columns as they came, then this half's. -/
theorem res_rows (n : Fin 32) (i : Fin 128) (q : Fin 1024) : (val_main_v123 (F := Ideal) x0 x1 x2 x3 x4) (ix2 (row n i) q) = if h : q.val < 512 then x4 (ix2 (row n i) q)
    else (((x.blk n).mix ⟨(q.val - 512) / 64, by omega⟩ i ⟨(q.val - 512) % 64, by omega⟩ : ℝ) : EReal) := by
  pointwise [val_main_v123]
  split
  · pointwise [val_main_v122]
  · exact lane_at H n i ⟨q.val - 512, by omega⟩
end

end Cert.SwaFwdRefIdeal.Grad
end
-- ==== Proof.SwaFwdClaims.lean ====
/- The claims about the attention's forward call. -/
module

public import proofs.«01_k».proof.Defs
public import proofs.«01_k».proof.Proof.SwaFwdArray
public import proofs.«01_k».proof.Proof.SwaFwdRef
public import proofs.«01_k».proof.Proof.Gen.Pre_swaf_finite
public import proofs.«01_k».proof.Proof.Gen.SwaFwd
public import proofs.«01_k».proof.Proof.Gen.SwaFwdIdeal
public import proofs.«01_k».proof.Proof.Gen.SwaFwdIdeal.Frame
public import proofs.«01_k».proof.Proof.Gen.SwaFwdRefIdeal.Read
public import Idealize.ShloMosaic.Adequacy
public import Idealize.ShloMosaic.Lib.KernelVsHost

@[expose] public section

noncomputable section

namespace Cert.Proof.SwaFwdClaims

open Idealize.ShloMosaic Idealize.ShloMosaic.TcCoe Idealize.ShloMosaic.Tactic Idealize.SL.Sem
open Cert.SwaFwdIdeal Cert.SwaFwdIdeal.Gen Cert.SwaFwdIdeal.Grad Cert.Reals Cert.SwaMath

/-! ## The frames -/

/-- The reference leaves its arguments as they were; it has no semaphore. -/
theorem frame_ref : Cert.quiescent_SwaFwdRefIdeal := fun m ρ _ =>
  (θ_run Cert.SwaFwdRefIdeal.defs _ _).mono (fun r h => ⟨fun c => (h c).2, sem_eq_zero_of_no_sems (by decide) r.2⟩) (Cert.SwaFwdRefIdeal.Value.run m ρ)
theorem frame_ref_pre : Cert.quiescent_SwaFwdRefIdeal_pre_swaf_finite := fun m ρ _ => frame_ref m ρ trivial

/-- The mask's constant stands for minus infinity, and nothing else changes. -/
theorem preserves : Cert.preserves_SwaFwd_SwaFwdIdeal := IdealRules.named_const.statement Cert.SwaFwdIdeal.κ "mask" .f32 0xF149F2CA#32 ⊥ rfl

/-! ## The values -/

variable (m : (ℓ : Loc nD τ sig) → Buf (Elt Ideal) ℓ)

/-- The real numbers that the arguments hold; of the cotangent that they have no use for, zeros. -/
def input (c : Dev nD) : In where
  p r q := EReal.toReal (A0 m c (ix2 r q))
  qw d := EReal.toReal (A1 m c (ix2 0 d))
  kw d := EReal.toReal (A2 m c (ix2 0 d))
  sk h := EReal.toReal (A3 m c (ix1 h))
  dm _ _ := 0

theorem back {v : EReal} (h : IsReal v) : v = ((EReal.toReal v : ℝ) : EReal) := by
  obtain ⟨r, rfl⟩ := h
  rfl

/-- The precondition says that every entry of the four arguments is a real number. -/
theorem reads (h : Cert.Pre_SwaFwdIdeal_swaf_finite m) (c : Dev nD) : Reads m c (input m c) where
  p r q := back (IsReal.of_cmp (congrFun (h c).1 (ix2 r q)))
  qw z d := by
    obtain rfl : z = 0 := Subsingleton.elim _ _
    exact back (IsReal.of_cmp (congrFun (h c).2.1 (ix2 0 d)))
  kw z d := by
    obtain rfl : z = 0 := Subsingleton.elim _ _
    exact back (IsReal.of_cmp (congrFun (h c).2.2.1 (ix2 0 d)))
  sk i := back (IsReal.of_cmp (congrFun (h c).2.2.2 (ix1 i)))
  dm _ _ := rfl

section
open Cert.SwaFwdRefIdeal.Read Cert.SwaFwdRefIdeal.Grad
variable {m} {c : Dev nD} {x : In} (hx : Reads m c x)
include hx

theorem args : Cert.SwaRefIdeal.Grad.Args x (A0 m c) (A1 m c) (A2 m c) (A3 m c) (fun _ => 0) :=
  ⟨hx.p, hx.qw, hx.kw, hx.sk, fun r q => EReal.coe_zero.symm.trans (congrArg (fun v : ℝ => (v : EReal)) (hx.dm r q).symm)⟩

theorem eq_rows : val_main_v123 (F := Ideal) (A0 m c) (A1 m c) (A2 m c) (A3 m c) (A4 m c) = MIX m c x := by
  funext y
  have hy : ∃ r q, y = ix2 (n0 := 4096) (n1 := 1024) r q := ⟨y 0, y 1, by funext b; match b with | ⟨0, _⟩ => rfl | ⟨1, _⟩ => rfl⟩
  obtain ⟨r, q, rfl⟩ := hy
  have hr : r = row (r.val / 128) ⟨r.val % 128, Nat.mod_lt _ (by norm_num)⟩ := Fin.ext (by simp only [row]; omega)
  refine (congrArg (fun r => val_main_v123 (F := Ideal) (A0 m c) (A1 m c) (A2 m c) (A3 m c) (A4 m c) (ix2 r q)) hr).trans ?_
  refine (res_rows (A4 m c) (args hx) ⟨r.val / 128, by omega⟩ ⟨r.val % 128, Nat.mod_lt _ (by norm_num)⟩ q).trans ?_
  unfold MIX
  split
  · rename_i h
    refine Eq.trans ?_ (dif_pos h).symm
    exact congrArg (fun r => A4 m c (ix2 r q)) hr.symm
  · rename_i h
    refine Eq.trans ?_ (dif_neg h).symm
    rfl

/-- Arguments that are the kernel's give the reference's result over them. -/
theorem eq_all {x0 : FVec Ideal S4096x2832 .f32} {x1 x2 : FVec Ideal S1x64 .f32} {x3 : FVec Ideal S8 .f32} {x4 : FVec Ideal S4096x1024 .f32}
    (ha : x0 = A0 m c ∧ x1 = A1 m c ∧ x2 = A2 m c ∧ x3 = A3 m c ∧ x4 = A4 m c) : val_main_v123 (F := Ideal) x0 x1 x2 x3 x4 = MIX m c x := by
  obtain ⟨rfl, rfl, rfl, rfl, rfl⟩ := ha
  exact eq_rows hx

end

/-- What the kernel leaves, where the arguments hold the real numbers `X`. -/
theorem ran (ρ : Dev nD → PrngReg) (X : Dev nD → In) (hX : ∀ c, Reads m c (X c)) :
    θ_run (defs (F := Ideal)) (onTc (τ := τ) (main (F := Ideal))) ⟨m, fun _ => 0, ρ⟩ (fun r => ∀ c : Dev nD,
      r.2.mem ((c.tc : Thread nD τ).loc main_v25) = MIX m c (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (Cert.SwaFwdIdeal.Gen.frame m ρ)) fun r h c =>
    ⟨((h.1 c).2 main_v25 (Pipeline.mem_restRefs_of main_v25 (by decide) (by decide))).trans (res m (hX c)), h.2.1 c⟩

/-- The kernel and the attention leave the same array, where the four arguments it reads in numbers are finite. -/
theorem algebraic : Cert.algebraic_SwaFwdIdeal_SwaFwdRefIdeal_pre_swaf_finite := fun m g m' g' hpre hagree => by
  refine ⟨fun c => MIX m c (input m c), ran m g (input m) (reads m hpre), ?_⟩
  refine θ_run_mono (Cert.SwaFwdRefIdeal.Value.run m' g') fun r h c => ?_
  exact ⟨(h c).1.trans ((Cert.SwaFwdRefIdeal.Read.val_main_v123_eq _ c).trans (eq_all (reads m hpre c) (hagree c))), (h c).2⟩

end Cert.Proof.SwaFwdClaims

end
-- ==== Proof.UpActArray.lean ====
/- The feed-forward gate, forward: the arrays that the kernel leaves. -/
module

public import proofs.«01_k».proof.Defs
public import proofs.«01_k».proof.Proof.Gen.UpActIdeal.Frame
public import proofs.«01_k».proof.Proof.Reals
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.UpActIdeal.Grad

open Idealize.ShloMosaic Idealize.ShloMosaic.TcCoe Idealize.SL.Sem
open Idealize.ShloMosaic.Pipeline (Dat)
open Cert.UpActIdeal Cert.UpActIdeal.Gen Cert.Reals

variable (m : (ℓ : Loc nD τ sig) → Buf (Elt Ideal) ℓ)

/-! ## One point -/

theorem pay1_at (x : FVec Ideal S2048x1024 .bf16) (w : FVec Ideal S512x1024 .bf16) (r : Fin 2048) (q : Fin 512) :
    k0_pay1 (F := Ideal) x w (ix2 r q) = ∑ k : Fin 1024, x (ix2 r k) * w (ix2 q k) := by
  pointwise [k0_pay1]

theorem pay2_at (x : FVec Ideal S2048x1024 .bf16) (w : FVec Ideal S512x1024 .bf16) (r : Fin 2048) (l : Fin 256) :
    k0_pay2 (F := Ideal) x w (ix2 r l) = k0_pay1 (F := Ideal) x w (ix2 r ⟨l.val, by omega⟩) * sigm (k0_pay1 (F := Ideal) x w (ix2 r ⟨l.val, by omega⟩)) * k0_pay1 (F := Ideal) x w (ix2 r ⟨256 + l.val, by omega⟩) := by
  unfold k0_pay2 sigm
  generalize k0_pay1 (F := Ideal) x w = y
  pointwise

abbrev X (c : Dev nD) (t : Fin cfg0.N) : FVec Ideal S2048x1024 .bf16 := iblk m c 0 t
abbrev W (c : Dev nD) (t : Fin cfg0.N) : FVec Ideal S512x1024 .bf16 := iblk m c 1 t

theorem left_pair (c : Dev nD) (t : Fin cfg0.N) : out0_2 (iblk m c 0 t) (iblk m c 1 t) = k0_pay1 (F := Ideal) (X m c t) (W m c t) := by
  unfold out0_2
  frame_out

theorem left_gate (c : Dev nD) (t : Fin cfg0.N) : out0_3 (iblk m c 0 t) (iblk m c 1 t) = k0_pay2 (F := Ideal) (X m c t) (W m c t) := by
  unfold out0_3
  frame_out

/-! ## The arguments and the host's lines -/

abbrev A0 (c : Dev nD) : FVec Ideal S4096x1024 .bf16 := m ((c.tc : Thread nD τ).loc main_arg0)
abbrev A1 (c : Dev nD) : FVec Ideal S1024x2816 .bf16 := m ((c.tc : Thread nD τ).loc main_arg1)
abbrev A2 (c : Dev nD) : FVec Ideal S1024x2816 .bf16 := m ((c.tc : Thread nD τ).loc main_arg2)
abbrev WAB (c : Dev nD) : FVec Ideal S5632x1024 .bf16 := V m c main_v5

theorem V_w (c : Dev nD) : WAB m c = shapeCast S5632x1024 (concatenate S11x2x256x1024 1
    [⟨S11x1x256x1024, shapeCast S11x1x256x1024 (transpose S2816x1024 [1, 0] (A1 m c) transposes_S1024x2816_S2816x1024_1_0) shapeCasts_S2816x1024_S11x1x256x1024⟩,
     ⟨S11x1x256x1024, shapeCast S11x1x256x1024 (transpose S2816x1024 [1, 0] (A2 m c) transposes_S1024x2816_S2816x1024_1_0) shapeCasts_S2816x1024_S11x1x256x1024⟩]
    concatenates_S11x1x256x1024_S11x1x256x1024_S11x2x256x1024_d1) shapeCasts_S11x2x256x1024_S5632x1024 := by
  unfold WAB V V0
  simp only [List.flatten_cons, List.flatten_nil, List.append_nil]
  after_results
  rfl

theorem w_lo (c : Dev nD) (n : Fin 1024) (j : Fin 11) (l : Fin 256) : WAB m c (ix2 ⟨512 * j.val + l.val, by omega⟩ n) = A1 m c (ix2 n ⟨256 * j.val + l.val, by omega⟩) := by
  rw [V_w]
  pointwise
  refine (dif_pos (by omega)).trans ?_
  simp only [Nat.mul_comm j.val 256]

theorem w_hi (c : Dev nD) (n : Fin 1024) (j : Fin 11) (l : Fin 256) : WAB m c (ix2 ⟨512 * j.val + (256 + l.val), by omega⟩ n) = A2 m c (ix2 n ⟨256 * j.val + l.val, by omega⟩) := by
  rw [V_w]
  pointwise
  refine (dif_neg (by omega)).trans ?_
  simp only [Nat.mul_comm j.val 256]

/-- A pre-activation. -/
def up (h : FVec Ideal S4096x1024 .bf16) (w : FVec Ideal S1024x2816 .bf16) (i : Fin 4096) (n : Fin 2816) : EReal := ∑ k : Fin 1024, h (ix2 i k) * w (ix2 k n)

theorem idx : ∀ t : Fin cfg0.N, win0_0.index t = ![t.val / 11, 0] ∧ win0_1.index t = ![t.val % 11, 0] ∧ win0_2.index t = ![t.val / 11, t.val % 11] ∧ win0_3.index t = ![t.val / 11, t.val % 11] :=
  (by decide +kernel : ∀ t : Fin grid0.N, win0_0.index t = ![t.val / 11, 0] ∧ win0_1.index t = ![t.val % 11, 0] ∧ win0_2.index t = ![t.val / 11, t.val % 11] ∧ win0_3.index t = ![t.val / 11, t.val % 11])

/-- The row and the column of the pair at which a block's element stands. -/
def row (t : Fin cfg0.N) (r : Fin 2048) : Fin 4096 := ⟨2048 * (t.val / 11) + r.val, by have : t.val < 22 := lt_of_lt_of_eq t.isLt (show cfg0.N = 22 from N_0); omega⟩
def lane (t : Fin cfg0.N) (q : Fin 512) : Fin 5632 := ⟨512 * (t.val % 11) + q.val, by omega⟩

theorem blk_x (c : Dev nD) (t : Fin cfg0.N) (r : Fin 2048) (k : Fin 1024) : X m c t (ix2 r k) = A0 m c (ix2 (row t r) k) := by
  rw [show A0 m c = V m c main_arg0 from (V_main_arg0 m c).symm]
  unfold row
  blk_ext [X, iblk, idx t]

theorem blk_w (c : Dev nD) (t : Fin cfg0.N) (q : Fin 512) (k : Fin 1024) : W m c t (ix2 q k) = WAB m c (ix2 (lane t q) k) := by
  unfold lane
  blk_ext [W, iblk, idx t]

/-- What a point computes of the gate's and of the multiplier's pre-activation. -/
theorem prod_lo (c : Dev nD) (t : Fin cfg0.N) (r : Fin 2048) (l : Fin 256) : k0_pay1 (F := Ideal) (X m c t) (W m c t) (ix2 r ⟨l.val, by omega⟩) = up (A0 m c) (A1 m c) (row t r) ⟨256 * (t.val % 11) + l.val, by omega⟩ := by
  rw [pay1_at]
  exact Finset.sum_congr rfl fun k _ => by rw [blk_x, blk_w]; exact congrArg _ (w_lo m c k ⟨t.val % 11, Nat.mod_lt _ (by decide)⟩ l)

theorem prod_hi (c : Dev nD) (t : Fin cfg0.N) (r : Fin 2048) (l : Fin 256) : k0_pay1 (F := Ideal) (X m c t) (W m c t) (ix2 r ⟨256 + l.val, by omega⟩) = up (A0 m c) (A2 m c) (row t r) ⟨256 * (t.val % 11) + l.val, by omega⟩ := by
  rw [pay1_at]
  exact Finset.sum_congr rfl fun k _ => by rw [blk_x, blk_w]; exact congrArg _ (w_hi m c k ⟨t.val % 11, Nat.mod_lt _ (by decide)⟩ l)

/-! ## The arrays that the kernel leaves -/

/-- The pair, interleaved in blocks of 256 columns. -/
def PAIR (c : Dev nD) : FVec Ideal S4096x5632 .f32 := fun y =>
  if (y 1).val % 512 < 256 then up (A0 m c) (A1 m c) (y 0) ⟨256 * ((y 1).val / 512) + (y 1).val % 256, by have : (y 1).val < 5632 := (y 1).isLt; omega⟩
  else up (A0 m c) (A2 m c) (y 0) ⟨256 * ((y 1).val / 512) + (y 1).val % 256, by have : (y 1).val < 5632 := (y 1).isLt; omega⟩

theorem pair_lo (c : Dev nD) (i : Fin 4096) (j : Fin 11) (l : Fin 256) (q : Fin 5632) (h : q.val = 512 * j.val + l.val) : PAIR m c (ix2 i q) = up (A0 m c) (A1 m c) i ⟨256 * j.val + l.val, by omega⟩ := by
  unfold PAIR
  have hq : ((ix2 i q : S4096x5632.Idx) 1).val = q.val := rfl
  rw [if_pos (by omega)]
  exact congrArg₂ (up (A0 m c) (A1 m c)) rfl (Fin.ext (by show 256 * (q.val / 512) + q.val % 256 = 256 * j.val + l.val; omega))

theorem pair_hi (c : Dev nD) (i : Fin 4096) (j : Fin 11) (l : Fin 256) (q : Fin 5632) (h : q.val = 512 * j.val + (256 + l.val)) : PAIR m c (ix2 i q) = up (A0 m c) (A2 m c) i ⟨256 * j.val + l.val, by omega⟩ := by
  unfold PAIR
  have hq : ((ix2 i q : S4096x5632.Idx) 1).val = q.val := rfl
  rw [if_neg (by omega)]
  exact congrArg₂ (up (A0 m c) (A2 m c)) rfl (Fin.ext (by show 256 * (q.val / 512) + q.val % 256 = 256 * j.val + l.val; omega))

/-- The gated activation. -/
def gated (c : Dev nD) (i : Fin 4096) (n : Fin 2816) : EReal := up (A0 m c) (A1 m c) i n * sigm (up (A0 m c) (A1 m c) i n) * up (A0 m c) (A2 m c) i n
def GATED (c : Dev nD) : FVec Ideal S4096x2816 .bf16 := fun y => gated m c (y 0) (y 1)

theorem final_pair (c : Dev nD) : (dats m 0 c).arrAt 2 cfg0.N = PAIR m c := by
  refine (dats m 0 c).arrAt_eq_of_covers 2 _ (by decide +kernel) fun t hf y => ?_
  have hy : ∃ j l, y = ix2 (n0 := 2048) (n1 := 512) j l := ⟨y 0, y 1, by funext b; match b with | ⟨0, _⟩ => rfl | ⟨1, _⟩ => rfl⟩
  obtain ⟨r, q, rfl⟩ := hy
  blk_simp
  rw [after0_2, left_pair]
  have hj : t.val % 11 < 11 := Nat.mod_lt _ (by decide)
  have hout : PAIR m c (((cfg0.win 2).blk t).view.emb (ix2 r q)) = PAIR m c (ix2 (row t r) (lane t q)) :=
    congrArg _ (by unfold row lane; blk_ext [idx t])
  refine Eq.trans ?_ hout.symm
  by_cases hq : q.val < 256
  · exact (prod_lo m c t r ⟨q.val, hq⟩).trans (pair_lo m c (row t r) ⟨t.val % 11, hj⟩ ⟨q.val, hq⟩ (lane t q) rfl).symm
  · have hl : q.val - 256 < 256 := by omega
    have hqe : q = ⟨256 + (q.val - 256), by omega⟩ := Fin.ext (by show q.val = 256 + (q.val - 256); omega)
    exact (congrArg (fun z => k0_pay1 (F := Ideal) (X m c t) (W m c t) (ix2 r z)) hqe).trans ((prod_hi m c t r ⟨q.val - 256, hl⟩).trans
      (pair_hi m c (row t r) ⟨t.val % 11, hj⟩ ⟨q.val - 256, hl⟩ (lane t q) (by show 512 * (t.val % 11) + q.val = 512 * (t.val % 11) + (256 + (q.val - 256)); omega)).symm)

theorem final_gate (c : Dev nD) : (dats m 0 c).arrAt 3 cfg0.N = GATED m c := by
  refine (dats m 0 c).arrAt_eq_of_covers 3 _ (by decide +kernel) fun t hf y => ?_
  have hy : ∃ j l, y = ix2 (n0 := 2048) (n1 := 256) j l := ⟨y 0, y 1, by funext b; match b with | ⟨0, _⟩ => rfl | ⟨1, _⟩ => rfl⟩
  obtain ⟨r, l, rfl⟩ := hy
  blk_simp
  rw [after0_3, left_gate]
  have hout : GATED m c (((cfg0.win 3).blk t).view.emb (ix2 r l)) = GATED m c (ix2 (row t r) ⟨256 * (t.val % 11) + l.val, by omega⟩) :=
    congrArg _ (by unfold row; blk_ext [idx t])
  refine Eq.trans ?_ hout.symm
  refine (pay2_at _ _ r l).trans ?_
  rw [prod_lo, prod_hi]
  rfl

theorem at_exit (c : Dev nD) : Pipeline.withArrays (cfgs 0).spec c (V0 m c) (fun w => (dats m 0 c).arrAt w (cfgs 0).N) (Proc.tc.devRef main_v6_0) = PAIR m c :=
  (Pipeline.withArrays_arr spec0 (by decide) c (V0 m c) (fun w => (dats m 0 c).arrAt w (cfgs 0).N) 2).trans (final_pair m c)

theorem tail10 (c : Dev nD) : Pipeline.afterTail₀ cfgs (dats m) 0 (V0 m) [hostOps1] c main_v10 =
    shapeCast S4096x2816 (shapeCast S4096x11x256 (extractStridedSlice S4096x11x1x256 ![0, 0, 0, 0] (shapeCast S4096x11x2x256 (PAIR m c) shapeCasts_S4096x5632_S4096x11x2x256) slices_S4096x11x2x256_S4096x11x1x256_0_0_0_0) shapeCasts_S4096x11x1x256_S4096x11x256) shapeCasts_S4096x11x256_S4096x2816 := by
  unfold Pipeline.afterTail₀
  simp only [List.flatten_cons, List.flatten_nil, List.append_nil]
  after_results
  rw [at_exit]
  rfl

theorem tail13 (c : Dev nD) : Pipeline.afterTail₀ cfgs (dats m) 0 (V0 m) [hostOps1] c main_v13 =
    shapeCast S4096x2816 (shapeCast S4096x11x256 (extractStridedSlice S4096x11x1x256 ![0, 0, 1, 0] (shapeCast S4096x11x2x256 (PAIR m c) shapeCasts_S4096x5632_S4096x11x2x256) slices_S4096x11x2x256_S4096x11x1x256_0_0_1_0) shapeCasts_S4096x11x1x256_S4096x11x256) shapeCasts_S4096x11x256_S4096x2816 := by
  unfold Pipeline.afterTail₀
  simp only [List.flatten_cons, List.flatten_nil, List.append_nil]
  after_results
  rw [at_exit]
  rfl

/-- The first result: the gate's pre-activation. -/
theorem res_gate (c : Dev nD) (i : Fin 4096) (n : Fin 2816) : (show FVec Ideal S4096x2816 .f32 from Pipeline.afterTail₀ cfgs (dats m) 0 (V0 m) [hostOps1] c main_v10) (ix2 i n) = up (A0 m c) (A1 m c) i n := by
  rw [tail10]
  obtain ⟨n, hn⟩ := n
  have e := pair_lo m c i ⟨n / 256, by omega⟩ ⟨n % 256, by omega⟩ ⟨512 * (n / 256) + n % 256, by omega⟩ rfl
  have h : 256 * (n / 256) + n % 256 = n := by omega
  simp only [h] at e
  rw [← e]
  dsimp only
  pointwise
  simp only [Nat.mul_comm]

/-- The second: the multiplier's. -/
theorem res_mult (c : Dev nD) (i : Fin 4096) (n : Fin 2816) : (show FVec Ideal S4096x2816 .f32 from Pipeline.afterTail₀ cfgs (dats m) 0 (V0 m) [hostOps1] c main_v13) (ix2 i n) = up (A0 m c) (A2 m c) i n := by
  rw [tail13]
  obtain ⟨n, hn⟩ := n
  have e := pair_hi m c i ⟨n / 256, by omega⟩ ⟨n % 256, by omega⟩ ⟨512 * (n / 256) + (256 + n % 256), by omega⟩ rfl
  have h : 256 * (n / 256) + n % 256 = n := by omega
  simp only [h] at e
  rw [← e]
  dsimp only
  pointwise
  simp only [Nat.mul_comm (n / 256) 512, Nat.add_assoc]

end Cert.UpActIdeal.Grad
end
-- ==== Proof.UpActClaims.lean ====
/- The claims about the feed-forward gate, forward. -/
module

public import proofs.«01_k».proof.Defs
public import proofs.«01_k».proof.Proof.UpActArray
public import proofs.«01_k».proof.Proof.Gen.UpAct.Frame
public import proofs.«01_k».proof.Proof.Gen.UpActRefIdeal.Read
public import Idealize.ShloMosaic.Adequacy
public import Idealize.ShloMosaic.Lib.KernelVsHost

@[expose] public section

noncomputable section

namespace Cert.Proof.UpActClaims

open Idealize.ShloMosaic Idealize.ShloMosaic.TcCoe Idealize.SL.Sem
open Cert.UpActIdeal Cert.UpActIdeal.Grad Cert.Reals

/-- The reference leaves its arguments as they were; it has no semaphore. -/
theorem frame_ref : Cert.quiescent_UpActRefIdeal := fun m ρ _ =>
  (θ_run Cert.UpActRefIdeal.defs _ _).mono (fun r h => ⟨fun c => (h c).2.2.2, sem_eq_zero_of_no_sems (by decide) r.2⟩) (Cert.UpActRefIdeal.Value.run m ρ)

section
open Cert.UpActRefIdeal.Read

variable (x0 : FVec Ideal S4096x1024 .bf16) (x1 x2 : FVec Ideal S1024x2816 .bf16)

theorem ref_gate (i : Fin 4096) (n : Fin 2816) : val_main_v2 (F := Ideal) x0 x1 (ix2 i n) = up x0 x1 i n := by
  unfold up
  pointwise [val_main_v2, val_main_v1, val_main_v0]

theorem ref_mult (i : Fin 4096) (n : Fin 2816) : val_main_v4 (F := Ideal) x0 x2 (ix2 i n) = up x0 x2 i n := by
  unfold up
  pointwise [val_main_v4, val_main_v3, val_main_v0]

theorem ref_act (i : Fin 4096) (n : Fin 2816) : val_main_v7 (F := Ideal) x0 x1 x2 (ix2 i n) = up x0 x1 i n * sigm (up x0 x1 i n) * up x0 x2 i n := by
  unfold up sigm
  simp only [zero_sub]
  pointwise [val_main_v7, val_main_v6, val_main_v5, val_main_call0_v5, val_main_call0_v4, val_main_call0_cst_0, val_main_call0_v3, val_main_call0_v2, val_main_call0_cst, val_main_call0_v1, val_main_call0_v0,
    val_main_v4, val_main_v3, val_main_v2, val_main_v1, val_main_v0]

end

variable (m : (ℓ : Loc nD τ sig) → Buf (Elt Ideal) ℓ)

theorem eq_gate (c : Dev nD) : Cert.UpActRefIdeal.Read.val_main_v2 (F := Ideal) (A0 m c) (A1 m c) = Pipeline.afterTail₀ cfgs (Gen.dats m) 0 (Gen.V0 m) [Gen.hostOps1] c main_v10 := by
  funext y
  have hy : ∃ i n, y = ix2 (n0 := 4096) (n1 := 2816) i n := ⟨y 0, y 1, by funext b; match b with | ⟨0, _⟩ => rfl | ⟨1, _⟩ => rfl⟩
  obtain ⟨i, n, rfl⟩ := hy
  exact (ref_gate _ _ i n).trans (res_gate m c i n).symm

theorem eq_mult (c : Dev nD) : Cert.UpActRefIdeal.Read.val_main_v4 (F := Ideal) (A0 m c) (A2 m c) = Pipeline.afterTail₀ cfgs (Gen.dats m) 0 (Gen.V0 m) [Gen.hostOps1] c main_v13 := by
  funext y
  have hy : ∃ i n, y = ix2 (n0 := 4096) (n1 := 2816) i n := ⟨y 0, y 1, by funext b; match b with | ⟨0, _⟩ => rfl | ⟨1, _⟩ => rfl⟩
  obtain ⟨i, n, rfl⟩ := hy
  exact (ref_mult _ _ i n).trans (res_mult m c i n).symm

theorem eq_act (c : Dev nD) : Cert.UpActRefIdeal.Read.val_main_v7 (F := Ideal) (A0 m c) (A1 m c) (A2 m c) = (Gen.dats m 0 c).arrAt 3 cfg0.N := by
  rw [final_gate]
  funext y
  have hy : ∃ i n, y = ix2 (n0 := 4096) (n1 := 2816) i n := ⟨y 0, y 1, by funext b; match b with | ⟨0, _⟩ => rfl | ⟨1, _⟩ => rfl⟩
  obtain ⟨i, n, rfl⟩ := hy
  exact ref_act _ _ _ i n

/-- The kernel and the gated activation leave the same arrays. -/
theorem algebraic : Cert.algebraic_UpActIdeal_UpActRefIdeal := by
  pair_intro
  · run_from Cert.UpActIdeal.Gen.run_main m g
    · exact Gen.W_main_arg1 m (Gen.dats m) c
    · exact Gen.W_main_arg2 m (Gen.dats m) c
  · run_from Cert.UpActRefIdeal.Value.run m' g'
    · exact eq_gate m c
    · exact eq_mult m c
    · exact eq_act m c

end Cert.Proof.UpActClaims

end
-- ==== Proof.ConvFwdBlock.lean ====
/- The short convolution, forward: what one grid point stores. -/
module

public import proofs.«01_k».proof.Defs
public import proofs.«01_k».proof.Proof.Gen.ConvFwdIdeal.Frame
public import proofs.«01_k».proof.Proof.ConvBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ConvFwdIdeal.Grad

open Idealize.ShloMosaic Idealize.ShloMosaic.TcCoe Idealize.SL.Sem
open Idealize.ShloMosaic.Pipeline (Dat)
open Cert.ConvFwdIdeal Cert.ConvFwdIdeal.Gen Cert.Reals

variable (m : (ℓ : Loc nD τ sig) → Buf (Elt Ideal) ℓ)

open Cert.ConvIdeal.Grad (lag pre rot_lag)

/-! ## One column in plain sums -/

/-- The activated column: the causal convolution of the column, times its own logistic. -/
def act (x : Fin 4096 → EReal) (a b c e : EReal) (r : Fin 4096) : EReal := pre x a b c e r * sigm (pre x a b c e r)

theorem act_at (x : FVec Ideal S4096x128 .f32) (w0 w1 w2 w3 : FVec Ideal S1x128 .f32) (r : Fin 4096) (l : Fin 128) :
    k0_pay1 (F := Ideal) (k0_pay4 x) (k0_pay5 x w0 w1) (k0_pay6 x w2) w3 (ix2 r l)
      = act (fun r => x (ix2 r l)) (w0 (ix2 0 l)) (w1 (ix2 0 l)) (w2 (ix2 0 l)) (w3 (ix2 0 l)) r := by
  pointwise [k0_pay1, k0_pay6, k0_pay5, k0_pay4]
  have h3 := rot_lag x (w0 (ix2 0 l)) r l 3 (by omega) (by omega) (Nat.mod_lt _ (by omega))
  have h2 := rot_lag x (w1 (ix2 0 l)) r l 2 (by omega) (by omega) (Nat.mod_lt _ (by omega))
  have h1 := rot_lag x (w2 (ix2 0 l)) r l 1 (by omega) (by omega) (Nat.mod_lt _ (by omega))
  rw [h1, h2, h3]
  rfl

theorem head0_at (v3 v29 v40 : FVec Ideal S4096x128 .f32) (w3 : FVec Ideal S1x128 .f32) (z : Fin 1) (r : Fin 4096) (d : Fin 64) :
    k0_pay2 (F := Ideal) v3 v29 v40 w3 (ix3 z r d) = k0_pay1 (F := Ideal) v3 v29 v40 w3 (ix2 r ⟨d.val, by omega⟩) := by
  unfold k0_pay2
  generalize k0_pay1 (F := Ideal) v3 v29 v40 w3 = D
  pointwise

theorem head1_at (v3 v29 v40 : FVec Ideal S4096x128 .f32) (w3 : FVec Ideal S1x128 .f32) (z : Fin 1) (r : Fin 4096) (d : Fin 64) :
    k0_pay3 (F := Ideal) v3 v29 v40 w3 (ix3 z r d) = k0_pay1 (F := Ideal) v3 v29 v40 w3 (ix2 r ⟨64 + d.val, by omega⟩) := by
  unfold k0_pay3
  generalize k0_pay1 (F := Ideal) v3 v29 v40 w3 = D
  pointwise
  refine congrArg D ?_
  blk_ext

/-! ## What a point stores -/

/-- The two blocks that a point reads. -/
abbrev X (c : Dev nD) (t : Fin cfg0.N) : FVec Ideal S4096x128 .f32 := iblk m c 0 t
abbrev W (c : Dev nD) (t : Fin cfg0.N) : FVec Ideal S4x128 .f32 := iblk m c 1 t

/-- A block's activated column. -/
def bact (c : Dev nD) (t : Fin cfg0.N) (l : Fin 128) : Fin 4096 → EReal :=
  act (fun r => X m c t (ix2 r l)) (W m c t (ix2 0 l)) (W m c t (ix2 1 l)) (W m c t (ix2 2 l)) (W m c t (ix2 3 l))

theorem stored (c : Dev nD) (t : Fin cfg0.N) (r : Fin 4096) (l : Fin 128) (w0 w1 w2 w3 : FVec Ideal S1x128 .f32)
    (h0 : w0 (ix2 0 l) = W m c t (ix2 0 l)) (h1 : w1 (ix2 0 l) = W m c t (ix2 1 l)) (h2 : w2 (ix2 0 l) = W m c t (ix2 2 l)) (h3 : w3 (ix2 0 l) = W m c t (ix2 3 l)) :
    k0_pay1 (F := Ideal) (k0_pay4 (X m c t)) (k0_pay5 (X m c t) w0 w1) (k0_pay6 (X m c t) w2) w3 (ix2 r l) = bact m c t l r := by
  rw [act_at, h0, h1, h2, h3]
  rfl

theorem row_at (Z : S4x128.Idx → Elt Ideal .f32) (o : ℕ) (ho : o < 4) (inb) (l : Fin 128) :
    View.ld Z (Rect.unit (s := S4x128) ![o, 0] S1x128.size inb) (ix2 0 l) = Z (ix2 ⟨o, ho⟩ l) :=
  View.ld_unit_apply_of Z _ _ _ _ _ fun a => by
    match a with
    | ⟨0, _⟩ => rfl
    | ⟨1, _⟩ => exact (Nat.zero_add _).symm

theorem ld_x (x : S4096x128.Idx → Elt Ideal .f32) : View.ld x r0_0 = x := View.ld_unit_lit (S := S4096x128) (off := ![0, 0]) inb_S4096x128_S4096x128_0_0 x (by decide)

theorem point (c : Dev nD) (t : Fin cfg0.N) (h : Fin 2) (r : Fin 4096) (d : Fin 64) : out0_2 (F := Ideal) (X m c t) (W m c t) (ix3 h r d) = bact m c t ⟨64 * h.val + d.val, by omega⟩ r := by
  unfold_out out0_2
  canon_tiles x h
  · rw [show x = ix3 0 r d by have h1l : r.val = (x 1).val := h1; have h2l : d.val = (x 2).val := h2; blk_ext, head1_at]
    have hh : (⟨64 * h.val + d.val, by omega⟩ : Fin 128) = ⟨64 + d.val, by omega⟩ := Fin.ext (by have : h.val = 1 + (x 0).val := h0; show 64 * h.val + d.val = 64 + d.val; omega)
    rw [hh]
    rw [ld_x]
    refine stored m c t r _ _ _ _ _ ?_ ?_ ?_ ?_
    · exact row_at (W m c t) 0 _ _ _
    · exact row_at (W m c t) 1 _ _ _
    · exact row_at (W m c t) 2 _ _ _
    · exact row_at (W m c t) 3 _ _ _
  · rw [show x = ix3 0 r d by have h1l : r.val = (x 1).val := h1; have h2l : d.val = (x 2).val := h2; blk_ext, head0_at]
    have hh : (⟨64 * h.val + d.val, by omega⟩ : Fin 128) = ⟨d.val, by omega⟩ := Fin.ext (by have : h.val = (x 0).val := h0; show 64 * h.val + d.val = d.val; omega)
    rw [hh]
    rw [ld_x]
    refine stored m c t r _ _ _ _ _ ?_ ?_ ?_ ?_
    · exact row_at (W m c t) 0 _ _ _
    · exact row_at (W m c t) 1 _ _ _
    · exact row_at (W m c t) 2 _ _ _
    · exact row_at (W m c t) 3 _ _ _

end Cert.ConvFwdIdeal.Grad
end
-- ==== Proof.ConvFwdArray.lean ====
/- The short convolution, forward: the array that the call leaves. -/
module

public import proofs.«01_k».proof.Defs
public import proofs.«01_k».proof.Proof.ConvFwdBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ConvFwdIdeal.Grad

open Idealize.ShloMosaic Idealize.ShloMosaic.TcCoe Idealize.SL.Sem
open Idealize.ShloMosaic.Pipeline (Dat)
open Cert.ConvFwdIdeal Cert.ConvFwdIdeal.Gen Cert.Reals

variable (m : (ℓ : Loc nD τ sig) → Buf (Elt Ideal) ℓ)

/-! ## Blocks of the host's arrays -/

theorem idx : ∀ t : Fin cfg0.N, win0_0.index t = ![0, t.val] ∧ win0_1.index t = ![0, t.val] ∧ win0_2.index t = ![t.val, 0, 0] :=
  (by decide +kernel : ∀ t : Fin grid0.N, win0_0.index t = ![0, t.val] ∧ win0_1.index t = ![0, t.val] ∧ win0_2.index t = ![t.val, 0, 0])

/-- The arguments on device `c`. -/
abbrev A0 (c : Dev nD) : FVec Ideal S4096x2832 .f32 := m ((c.tc : Thread nD τ).loc main_arg0)
abbrev A1 (c : Dev nD) : FVec Ideal S4x1x1536 .f32 := m ((c.tc : Thread nD τ).loc main_arg1)

theorem V_main_v4 (c : Dev nD) : V m c main_v4 = concatenate S4096x3072 1 [⟨S4096x2048, extractStridedSlice S4096x2048 ![0, 0] (A0 m c) slices_S4096x2832_S4096x2048_0_0⟩,
    ⟨S4096x768, extractStridedSlice S4096x768 ![0, 2064] (A0 m c) slices_S4096x2832_S4096x768_0_2064⟩, ⟨S4096x16, extractStridedSlice S4096x16 ![0, 2048] (A0 m c) slices_S4096x2832_S4096x16_0_2048⟩,
    ⟨S4096x240, broadcastInDim S4096x240 ![] bcast_S_S4096x240 (constant (F := Ideal) S_ .f32 0x00000000#32)⟩] concatenates_S4096x2048_S4096x768_S4096x16_S4096x240_S4096x3072_d1 := by
  unfold V V0
  simp only [List.flatten_cons, List.flatten_nil, List.append_nil]
  after_results
  rfl

theorem V_main_v5 (c : Dev nD) : V m c main_v5 = shapeCast S4x1536 (A1 m c) shapeCasts_S4x1x1536_S4x1536 := by
  unfold V V0
  simp only [List.flatten_cons, List.flatten_nil, List.append_nil]
  after_results
  rfl

theorem in_x (c : Dev nD) (r : Fin 4096) (q : Fin 1536) : (show FVec Ideal S4096x3072 .f32 from V m c main_v4) (ix2 r ⟨q.val, by omega⟩) = A0 m c (ix2 r ⟨q.val, by omega⟩) := by
  rw [V_main_v4]
  pointwise
  rw [dif_pos (by omega)]

theorem in_w (c : Dev nD) (j : Fin 4) (q : Fin 1536) : (show FVec Ideal S4x1536 .f32 from V m c main_v5) (ix2 j q) = A1 m c (ix3 j 0 q) := by
  rw [V_main_v5]
  pointwise

/-- The column of the whole array at which a block's column stands. -/
def col (t : Fin cfg0.N) (l : Fin 128) : Fin 1536 := ⟨128 * t.val + l.val, by have : t.val < 12 := t.isLt; omega⟩

theorem blk_x (c : Dev nD) (t : Fin cfg0.N) (r : Fin 4096) (l : Fin 128) : X m c t (ix2 r l) = A0 m c (ix2 r ⟨(col t l).val, by omega⟩) := by
  rw [← in_x]
  unfold col
  blk_ext [X, W, iblk, idx t]

theorem blk_w (c : Dev nD) (t : Fin cfg0.N) (j : Fin 4) (l : Fin 128) : W m c t (ix2 j l) = A1 m c (ix3 j 0 (col t l)) := by
  rw [← in_w]
  unfold col
  blk_ext [X, W, iblk, idx t]

/-- Column `q` of the result. -/
def wact (x0 : FVec Ideal S4096x2832 .f32) (x1 : FVec Ideal S4x1x1536 .f32) (q : Fin 1536) : Fin 4096 → EReal :=
  act (fun r => x0 (ix2 r ⟨q.val, by omega⟩)) (x1 (ix3 0 0 q)) (x1 (ix3 1 0 q)) (x1 (ix3 2 0 q)) (x1 (ix3 3 0 q))

theorem blk_act (c : Dev nD) (t : Fin cfg0.N) (l : Fin 128) : bact m c t l = wact (A0 m c) (A1 m c) (col t l) := by
  unfold bact wact
  rw [blk_w, blk_w, blk_w, blk_w]
  exact congrArg (fun f => act f _ _ _ _) (funext fun r => blk_x m c t r l)

/-! ## The result -/

/-- What the call leaves, head after head. -/
def HEADS (c : Dev nD) : FVec Ideal S24x4096x64 .f32 := fun y =>
  wact (A0 m c) (A1 m c) ⟨64 * (y 0).val + (y 2).val, by have : (y 0).val < 24 := (y 0).isLt; have : (y 2).val < 64 := (y 2).isLt; omega⟩ (y 1)

theorem final2 (c : Dev nD) : (dats m 0 c).arrAt 2 cfg0.N = HEADS m c := by
  refine (dats m 0 c).arrAt_eq_of_covers 2 _ (by decide +kernel) fun t hf y => ?_
  have hy : ∃ h r d, y = ix3 (n0 := 2) (n1 := 4096) (n2 := 64) h r d := ⟨y 0, y 1, y 2, by funext b; match b with | ⟨0, _⟩ => rfl | ⟨1, _⟩ => rfl | ⟨2, _⟩ => rfl⟩
  obtain ⟨h, r, d, rfl⟩ := hy
  have ht : t.val < 12 := t.isLt
  blk_simp
  rw [after0_2]
  refine (point m c t h r d).trans ?_
  rw [blk_act]
  have hout : HEADS m c (((cfg0.win 2).blk t).view.emb (ix3 h r d)) = HEADS m c (ix3 ⟨2 * t.val + h.val, by omega⟩ r d) :=
    congrArg _ (by blk_ext [idx t])
  refine Eq.trans ?_ hout.symm
  unfold HEADS col
  exact congrArg (fun q => wact (A0 m c) (A1 m c) q r) (Fin.ext (by show 128 * t.val + (64 * h.val + d.val) = 64 * (2 * t.val + h.val) + d.val; omega))

theorem at_exit (c : Dev nD) : Pipeline.withArrays (cfgs 0).spec c (V0 m c) (fun w => (dats m 0 c).arrAt w (cfgs 0).N) (Proc.tc.devRef main_v6) = HEADS m c :=
  ((dats m 0 c).withArrays_arrAt (by decide) (V0 m c) (fun w => A_eq m c w) 2).trans (final2 m c)

theorem tail8 (c : Dev nD) : Pipeline.afterTail₀ cfgs (dats m) 0 (V0 m) [hostOps1] c main_v8 =
    shapeCast S4096x1536 (transpose S4096x24x64 [1, 0, 2] (HEADS m c) transposes_S24x4096x64_S4096x24x64_1_0_2) shapeCasts_S4096x24x64_S4096x1536 := by
  unfold Pipeline.afterTail₀
  simp only [List.flatten_cons, List.flatten_nil, List.append_nil]
  after_results
  rw [at_exit]
  rfl

theorem res (c : Dev nD) (r : Fin 4096) (q : Fin 1536) : (show FVec Ideal S4096x1536 .f32 from Pipeline.afterTail₀ cfgs (dats m) 0 (V0 m) [hostOps1] c main_v8) (ix2 r q) = wact (A0 m c) (A1 m c) q r := by
  rw [tail8]
  have e : (shapeCast S4096x1536 (transpose S4096x24x64 [1, 0, 2] (HEADS m c) transposes_S24x4096x64_S4096x24x64_1_0_2) shapeCasts_S4096x24x64_S4096x1536) (ix2 r q)
      = HEADS m c (ix3 ⟨q.val / 64, by omega⟩ r ⟨q.val % 64, by omega⟩) := by
    pointwise
  refine e.trans ?_
  unfold HEADS
  exact congrArg (fun q => wact (A0 m c) (A1 m c) q r) (Fin.ext (by show 64 * (q.val / 64) + q.val % 64 = q.val; omega))

end Cert.ConvFwdIdeal.Grad
end
-- ==== Proof.ConvFwdClaims.lean ====
/- The claims about the short convolution, forward. -/
module

public import proofs.«01_k».proof.Defs
public import proofs.«01_k».proof.Proof.ConvFwdArray
public import proofs.«01_k».proof.Proof.ConvHost
public import proofs.«01_k».proof.Proof.Gen.ConvFwd
public import proofs.«01_k».proof.Proof.Gen.ConvFwdIdeal
public import proofs.«01_k».proof.Proof.Gen.ConvFwdRefIdeal.Read
public import Idealize.ShloMosaic.Adequacy
public import Idealize.ShloMosaic.Lib.Pointwise
public import Idealize.ShloMosaic.Lib.Claim
public import Idealize.ShloMosaic.Lib.KernelVsHost

@[expose] public section

set_option maxRecDepth 16384

noncomputable section

namespace Cert.Proof.ConvFwdClaims

open Idealize.ShloMosaic Idealize.ShloMosaic.TcCoe Idealize.SL.Sem
open Cert.ConvFwdIdeal Cert.ConvFwdIdeal.Grad Cert.Reals
open Cert.ConvIdeal.Grad (pre lag_shift)

/-- The reference leaves its arguments as they were; it has no semaphore. -/
theorem frame_ref : Cert.quiescent_ConvFwdRefIdeal := fun m ρ _ =>
  (θ_run Cert.ConvFwdRefIdeal.defs _ _).mono (fun r h => ⟨fun c => (h c).2, sem_eq_zero_of_no_sems (by decide) r.2⟩) (Cert.ConvFwdRefIdeal.Value.run m ρ)

section
open Cert.ConvFwdRefIdeal.Read

variable (x0 : FVec Ideal S4096x2832 .f32) (x1 : FVec Ideal S4x1x1536 .f32)

theorem ref_pre (r : Fin 4096) (q : Fin 1536) : val_main_v27 (F := Ideal) x0 x1 (ix2 r q)
    = pre (fun r => x0 (ix2 r ⟨q.val, by omega⟩)) (x1 (ix3 0 0 q)) (x1 (ix3 1 0 q)) (x1 (ix3 2 0 q)) (x1 (ix3 3 0 q)) r := by
  pointwise [val_main_v0, val_main_cst, val_main_v1, val_main_v2, val_main_v3, val_main_v4, val_main_v5, val_main_v6, val_main_v7, val_main_cst_0, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  unfold pre
  rw [← lag_shift (fun r => x0 (ix2 r ⟨q.val, by omega⟩)) 2 1 r rfl, ← lag_shift (fun r => x0 (ix2 r ⟨q.val, by omega⟩)) 1 2 r rfl]
  rfl

theorem ref_act (r : Fin 4096) (q : Fin 1536) : val_main_v28 (F := Ideal) x0 x1 (ix2 r q) = wact x0 x1 q r := by
  unfold wact act
  rw [← ref_pre]
  unfold sigm
  simp only [zero_sub]
  pointwise [val_main_v28, val_main_call0_v5, val_main_call0_v4, val_main_call0_cst_0, val_main_call0_v3, val_main_call0_v2, val_main_call0_cst, val_main_call0_v1, val_main_call0_v0]

end

variable (m : (ℓ : Loc nD τ sig) → Buf (Elt Ideal) ℓ)

theorem eq_act (c : Dev nD) : Cert.ConvFwdRefIdeal.Read.val_main_v28 (F := Ideal) (A0 m c) (A1 m c) = Pipeline.afterTail₀ cfgs (Gen.dats m) 0 (Gen.V0 m) [Gen.hostOps1] c main_v8 := by
  funext y
  have hy : ∃ r q, y = ix2 (n0 := 4096) (n1 := 1536) r q := ⟨y 0, y 1, by funext b; match b with | ⟨0, _⟩ => rfl | ⟨1, _⟩ => rfl⟩
  obtain ⟨r, q, rfl⟩ := hy
  exact (ref_act _ _ r q).trans (res m c r q).symm

/-- The kernel and the activated convolution leave the same array. -/
theorem algebraic : Cert.algebraic_ConvFwdIdeal_ConvFwdRefIdeal := by
  pair_intro
  · run_from Cert.ConvFwdIdeal.Gen.run_main m g
    · exact Gen.W_main_arg0 m (Gen.dats m) c
    · exact Gen.W_main_arg1 m (Gen.dats m) c
  · run_from Cert.ConvFwdRefIdeal.Value.run m' g'
    refine (Cert.ConvFwdRefIdeal.Read.val_main_v28_eq m' c).trans ?_
    rw [(hagree c).1, (hagree c).2]
    exact eq_act m c

end Cert.Proof.ConvFwdClaims

end
-- ==== Proof.ResidFwdBlock.lean ====
/- The gated residual and the second norm, forward: what one point of the kernel leaves. -/
module

public import proofs.«01_k».proof.Defs
public import proofs.«01_k».proof.Proof.Gen.ResidFwdIdeal.Frame
public import proofs.«01_k».proof.Proof.Reals
public import proofs.«01_k».proof.Proof.RowNorm
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ResidFwdIdeal.Grad

open Idealize.ShloMosaic Idealize.ShloMosaic.TcCoe Idealize.SL.Sem
open Idealize.ShloMosaic.Pipeline (Dat)
open Cert.ResidFwdIdeal Cert.ResidFwdIdeal.Gen Cert.Reals

open Cert.RowNorm

/-! ## The kernel's payloads, row by row -/

/-- A row of the residual sum, and of its norm, weighted, scaled and shifted. -/
def res (x g a : Fin 1024 → EReal) (n : Fin 1024) : EReal := x n + g n * a n
def mdl (x w s b : Fin 1024 → EReal) (n : Fin 1024) : EReal := yn x n * w n * (Ideal.ofBits .f32 0x3F800000#32 + s n) + b n

/-- The sixteen heads of a block, side by side. -/
abbrev cat (O : S16x512x64.Idx → Elt Ideal .f32) : FVec Ideal S512x1024 .bf16 :=
  k0_pay8 (F := Ideal)
    (k0_pay3 (View.ld O (Rect.unit (s := S16x512x64) ![0, 0, 0] S1x512x64.size inb_S16x512x64_S1x512x64_0_0_0)) (View.ld O (Rect.unit (s := S16x512x64) ![1, 0, 0] S1x512x64.size inb_S16x512x64_S1x512x64_1_0_0)))
    (k0_pay4 (View.ld O (Rect.unit (s := S16x512x64) ![2, 0, 0] S1x512x64.size inb_S16x512x64_S1x512x64_2_0_0)) (View.ld O (Rect.unit (s := S16x512x64) ![3, 0, 0] S1x512x64.size inb_S16x512x64_S1x512x64_3_0_0)))
    (k0_pay5 (View.ld O (Rect.unit (s := S16x512x64) ![4, 0, 0] S1x512x64.size inb_S16x512x64_S1x512x64_4_0_0)) (View.ld O (Rect.unit (s := S16x512x64) ![5, 0, 0] S1x512x64.size inb_S16x512x64_S1x512x64_5_0_0)))
    (k0_pay6 (View.ld O (Rect.unit (s := S16x512x64) ![6, 0, 0] S1x512x64.size inb_S16x512x64_S1x512x64_6_0_0)) (View.ld O (Rect.unit (s := S16x512x64) ![7, 0, 0] S1x512x64.size inb_S16x512x64_S1x512x64_7_0_0)))
    (k0_pay7 (View.ld O (Rect.unit (s := S16x512x64) ![8, 0, 0] S1x512x64.size inb_S16x512x64_S1x512x64_8_0_0)) (View.ld O (Rect.unit (s := S16x512x64) ![9, 0, 0] S1x512x64.size inb_S16x512x64_S1x512x64_9_0_0)))
    (View.ld O (Rect.unit (s := S16x512x64) ![10, 0, 0] S1x512x64.size inb_S16x512x64_S1x512x64_10_0_0)) (View.ld O (Rect.unit (s := S16x512x64) ![11, 0, 0] S1x512x64.size inb_S16x512x64_S1x512x64_11_0_0))
    (View.ld O (Rect.unit (s := S16x512x64) ![12, 0, 0] S1x512x64.size inb_S16x512x64_S1x512x64_12_0_0)) (View.ld O (Rect.unit (s := S16x512x64) ![13, 0, 0] S1x512x64.size inb_S16x512x64_S1x512x64_13_0_0))
    (View.ld O (Rect.unit (s := S16x512x64) ![14, 0, 0] S1x512x64.size inb_S16x512x64_S1x512x64_14_0_0)) (View.ld O (Rect.unit (s := S16x512x64) ![15, 0, 0] S1x512x64.size inb_S16x512x64_S1x512x64_15_0_0))

set_option maxHeartbeats 4000000 in
theorem cat_at (O : S16x512x64.Idx → Elt Ideal .f32) (r : Fin 512) (n : Fin 1024) : cat O (ix2 r n) = O (ix3 ⟨n.val / 64, by omega⟩ r ⟨n.val % 64, by omega⟩) := by
  have ht : ∀ (h : Fin 16) (d : Fin 64), 64 * h.val + d.val = n.val → O (ix3 h r d) = O (ix3 ⟨n.val / 64, by omega⟩ r ⟨n.val % 64, by omega⟩) := fun h d e =>
    congrArg₂ (fun h d => O (ix3 h r d)) (Fin.ext (by show h.val = n.val / 64; omega)) (Fin.ext (by show d.val = n.val % 64; omega))
  unfold cat
  pointwise [k0_pay8, k0_pay3, k0_pay4, k0_pay5, k0_pay6, k0_pay7]
  split_ifs
  all_goals refine ht _ _ ?_
  all_goals dsimp only
  all_goals first | omega | (simp; omega)

section
variable (x a : FVec Ideal S256x1024 .f32) (g w s b : FVec Ideal S1x1024 .f32)

/-- Row `r` of the residual sum. -/
abbrev rs (r : Fin 256) : Fin 1024 → EReal := res (fun k => x (ix2 r k)) (fun k => g (ix2 0 k)) (fun k => a (ix2 r k))

theorem pay11_at (r : Fin 256) (n : Fin 1024) : k0_pay11 (F := Ideal) x a g (ix2 r n) = rs x a g r n := by
  unfold rs res
  pointwise [k0_pay11]

theorem pay12_at (r : Fin 256) (n : Fin 1024) : k0_pay12 (F := Ideal) x a g w s b (ix2 r n) = mdl (rs x a g r) (fun k => w (ix2 0 k)) (fun k => s (ix2 0 k)) (fun k => b (ix2 0 k)) n := by
  unfold mdl yn irt q
  simp only [← pay11_at]
  pointwise [k0_pay12]

theorem pay1_eq : k0_pay1 (F := Ideal) x a g = k0_pay11 x a g := rfl
theorem pay2_eq : k0_pay2 (F := Ideal) x a g w s b = k0_pay12 x a g w s b := rfl
theorem pay10_eq : k0_pay10 (F := Ideal) x = x := by
  funext y
  have hy : ∃ r n, y = ix2 (n0 := 256) (n1 := 1024) r n := ⟨y 0, y 1, by funext b; match b with | ⟨0, _⟩ => rfl | ⟨1, _⟩ => rfl⟩
  obtain ⟨r, n, rfl⟩ := hy
  pointwise [k0_pay10]
theorem pay13_eq : k0_pay13 (F := Ideal) x = x := pay10_eq x

end

theorem pay9_at (x : FVec Ideal S512x1024 .bf16) (w : FVec Ideal S1024x1024 .bf16) (r : Fin 512) (n : Fin 1024) :
    k0_pay9 (F := Ideal) x w (ix2 r n) = ∑ k : Fin 1024, x (ix2 r k) * w (ix2 k n) := by
  pointwise [k0_pay9]

/-! ## Reading back -/

/-- A load from a buffer that one store filled reads that store. -/
theorem buf_read {sp : Space} (v : View sig .tc sp S512x1024 .f32) (Z : S512x1024.Idx → Elt Ideal .f32) (r : Rect S512x1024) :
    v.readCov (Val := Elt Ideal) [⟨Rect.unit (s := S512x1024) ![0, 0] ![512, 1024] inb_S512x1024_S512x1024_0_0, Z⟩] r.toLoadRect = View.ld Z r := by
  rw [View.readCov_eq_canon']
  have h : View.canon (Val := Elt Ideal) [⟨Rect.unit (s := S512x1024) ![0, 0] ![512, 1024] inb_S512x1024_S512x1024_0_0, Z⟩] = Z := by
    funext y
    have h := View.canon_cons_emb (Val := Elt Ideal) (Rect.unit (s := S512x1024) ![0, 0] ![512, 1024] inb_S512x1024_S512x1024_0_0) Z [] y
    have e : (Rect.unit (s := S512x1024) ![0, 0] ![512, 1024] inb_S512x1024_S512x1024_0_0).emb y = y := by blk_ext
    rw [e] at h
    exact h
  rw [h]

theorem row_lo (Z : S512x1024.Idx → Elt Ideal .f32) (r : Fin 256) :
    (fun n : Fin 1024 => View.ld Z (Rect.unit ![0, 0] ![256, 1024] inb_S512x1024_S256x1024_0_0) (ix2 r n)) = fun n => Z (ix2 ⟨r.val, by omega⟩ n) := by
  funext n
  pointwise

theorem row_hi (Z : S512x1024.Idx → Elt Ideal .f32) (r : Fin 256) :
    (fun n : Fin 1024 => View.ld Z (Rect.unit ![256, 0] ![256, 1024] inb_S512x1024_S256x1024_256_0) (ix2 r n)) = fun n => Z (ix2 ⟨256 + r.val, by omega⟩ n) := by
  funext n
  pointwise

/-! ## One point -/

variable (m : (ℓ : Loc nD τ sig) → Buf (Elt Ideal) ℓ)

abbrev O (c : Dev nD) (t : Fin cfg0.N) : FVec Ideal S16x512x64 .f32 := iblk m c 0 t
abbrev W (c : Dev nD) (t : Fin cfg0.N) : FVec Ideal S1024x1024 .bf16 := iblk m c 1 t
abbrev X (c : Dev nD) (t : Fin cfg0.N) : FVec Ideal S512x1024 .f32 := iblk m c 2 t
abbrev Ga (c : Dev nD) (t : Fin cfg0.N) : FVec Ideal S1x1024 .f32 := iblk m c 3 t
abbrev Nw (c : Dev nD) (t : Fin cfg0.N) : FVec Ideal S1x1024 .f32 := iblk m c 4 t
abbrev Sc (c : Dev nD) (t : Fin cfg0.N) : FVec Ideal S1x1024 .f32 := iblk m c 5 t
abbrev Sh (c : Dev nD) (t : Fin cfg0.N) : FVec Ideal S1x1024 .f32 := iblk m c 6 t

/-- A block's rows: of the product; of the residual sum; of what the norm leaves. -/
def mr (c : Dev nD) (t : Fin cfg0.N) (r : Fin 512) (n : Fin 1024) : EReal := ∑ k : Fin 1024, cat (O m c t) (ix2 r k) * W m c t (ix2 k n)
def xr (c : Dev nD) (t : Fin cfg0.N) (r : Fin 512) : Fin 1024 → EReal := res (fun k => X m c t (ix2 r k)) (fun k => Ga m c t (ix2 0 k)) (mr m c t r)
def hr (c : Dev nD) (t : Fin cfg0.N) (r : Fin 512) : Fin 1024 → EReal := mdl (xr m c t r) (fun k => Nw m c t (ix2 0 k)) (fun k => Sc m c t (ix2 0 k)) (fun k => Sh m c t (ix2 0 k))

theorem mixed (c : Dev nD) (t : Fin cfg0.N) (r : Fin 512) : (fun n => k0_pay9 (F := Ideal) (cat (O m c t)) (W m c t) (ix2 r n)) = mr m c t r :=
  funext fun n => pay9_at _ _ r n

theorem point7 (c : Dev nD) (t : Fin cfg0.N) : (outsAt0 m c t).1 = cat (O m c t) := by
  unfold outsAt0 out0_A_7
  frame_out

theorem point8 (c : Dev nD) (t : Fin cfg0.N) (r : Fin 512) (n : Fin 1024) : (outsAt0 m c t).2.1 (ix2 r n) = mr m c t r n := by
  unfold outsAt0 out0_A_8
  frame_out
  exact pay9_at _ _ r n

theorem point9 (c : Dev nD) (t : Fin cfg0.N) (r : Fin 512) (n : Fin 1024) : (outsAt0 m c t).2.2.1 (ix2 r n) = xr m c t r n := by
  unfold outsAt0 out0_A_9
  frame_out
  rw [buf_read, buf_read]
  canon_tiles x h
  · have hx : ∃ a b, x = ix2 (n0 := 256) (n1 := 1024) a b := ⟨x 0, x 1, by funext b; match b with | ⟨0, _⟩ => rfl | ⟨1, _⟩ => rfl⟩
    obtain ⟨a, b, rfl⟩ := hx
    have hr : r = ⟨256 + a.val, by omega⟩ := Fin.ext h0
    have hn : n = b := Fin.ext h1
    subst hn
    rw [hr, pay1_eq, pay13_eq, pay11_at]
    unfold rs xr
    rw [row_hi, row_hi, ← mixed]
  · have hx : ∃ a b, x = ix2 (n0 := 256) (n1 := 1024) a b := ⟨x 0, x 1, by funext b; match b with | ⟨0, _⟩ => rfl | ⟨1, _⟩ => rfl⟩
    obtain ⟨a, b, rfl⟩ := hx
    have hr : r = ⟨a.val, by omega⟩ := Fin.ext h0
    have hn : n = b := Fin.ext h1
    subst hn
    rw [hr, pay10_eq, pay11_at]
    unfold rs xr
    rw [row_lo, row_lo, ← mixed]

theorem point10 (c : Dev nD) (t : Fin cfg0.N) (r : Fin 512) (n : Fin 1024) : (outsAt0 m c t).2.2.2 (ix2 r n) = Grad.hr m c t r n := by
  unfold outsAt0 out0_A_10
  frame_out
  rw [buf_read, buf_read]
  canon_tiles x h
  · have hx : ∃ a b, x = ix2 (n0 := 256) (n1 := 1024) a b := ⟨x 0, x 1, by funext b; match b with | ⟨0, _⟩ => rfl | ⟨1, _⟩ => rfl⟩
    obtain ⟨a, b, rfl⟩ := hx
    have hr : r = ⟨256 + a.val, by omega⟩ := Fin.ext h0
    have hn : n = b := Fin.ext h1
    subst hn
    rw [hr, pay2_eq, pay13_eq, pay12_at]
    unfold Grad.hr rs xr
    rw [row_hi, row_hi, ← mixed]
  · have hx : ∃ a b, x = ix2 (n0 := 256) (n1 := 1024) a b := ⟨x 0, x 1, by funext b; match b with | ⟨0, _⟩ => rfl | ⟨1, _⟩ => rfl⟩
    obtain ⟨a, b, rfl⟩ := hx
    have hr : r = ⟨a.val, by omega⟩ := Fin.ext h0
    have hn : n = b := Fin.ext h1
    subst hn
    rw [hr, pay10_eq, pay12_at]
    unfold Grad.hr rs xr
    rw [row_lo, row_lo, ← mixed]

end Cert.ResidFwdIdeal.Grad
end
-- ==== Proof.ResidFwdArray.lean ====
/- The gated residual and the second norm, forward: the arrays that the call leaves. -/
module

public import proofs.«01_k».proof.Defs
public import proofs.«01_k».proof.Proof.ResidFwdBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.ResidFwdIdeal.Grad

open Idealize.ShloMosaic Idealize.ShloMosaic.TcCoe Idealize.SL.Sem
open Idealize.ShloMosaic.Pipeline (Dat)
open Cert.ResidFwdIdeal Cert.ResidFwdIdeal.Gen Cert.Reals

variable (m : (ℓ : Loc nD τ sig) → Buf (Elt Ideal) ℓ)

open Cert.RowNorm

/-! ## Blocks of the host's arrays -/

abbrev A0 (c : Dev nD) : FVec Ideal S4096x1024 .f32 := m ((c.tc : Thread nD τ).loc main_arg0)
abbrev A1 (c : Dev nD) : FVec Ideal S1024x1024 .bf16 := m ((c.tc : Thread nD τ).loc main_arg1)
abbrev A2 (c : Dev nD) : FVec Ideal S4096x1024 .f32 := m ((c.tc : Thread nD τ).loc main_arg2)
abbrev A3 (c : Dev nD) : FVec Ideal S1x1024 .f32 := m ((c.tc : Thread nD τ).loc main_arg3)
abbrev A4 (c : Dev nD) : FVec Ideal S1x1024 .f32 := m ((c.tc : Thread nD τ).loc main_arg4)
abbrev A5 (c : Dev nD) : FVec Ideal S1x1024 .f32 := m ((c.tc : Thread nD τ).loc main_arg5)
abbrev A6 (c : Dev nD) : FVec Ideal S1x1024 .f32 := m ((c.tc : Thread nD τ).loc main_arg6)

theorem V_heads (c : Dev nD) : V m c main_v1 = transpose S16x4096x64 [1, 0, 2] (shapeCast S4096x16x64 (A0 m c) shapeCasts_S4096x1024_S4096x16x64) transposes_S4096x16x64_S16x4096x64_1_0_2 := by
  unfold V
  after_results
  rfl

theorem heads_at (c : Dev nD) (h : Fin 16) (r : Fin 4096) (d : Fin 64) : (show FVec Ideal S16x4096x64 .f32 from V m c main_v1) (ix3 h r d) = A0 m c (ix2 r ⟨64 * h.val + d.val, by omega⟩) := by
  rw [V_heads]
  pointwise
  exact congrArg (fun q => A0 m c (ix2 r q)) (Fin.ext (by show h.val * 64 + d.val = 64 * h.val + d.val; omega))

theorem idx : ∀ t : Fin cfg0.N, win0_0.index t = ![0, t.val, 0] ∧ win0_1.index t = ![0, 0] ∧ win0_2.index t = ![t.val, 0] ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, win0_0.index t = ![0, t.val, 0] ∧ win0_1.index t = ![0, 0] ∧ win0_2.index t = ![t.val, 0] ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0])

/-- The row at which a block's row stands. -/
def row (t : Fin cfg0.N) (r : Fin 512) : Fin 4096 := ⟨512 * t.val + r.val, by have : t.val < 8 := lt_of_lt_of_eq t.isLt (show cfg0.N = 8 from N_0); omega⟩

theorem blk_o (c : Dev nD) (t : Fin cfg0.N) (h : Fin 16) (r : Fin 512) (d : Fin 64) : O m c t (ix3 h r d) = A0 m c (ix2 (row t r) ⟨64 * h.val + d.val, by omega⟩) := by
  rw [← heads_at]
  unfold row
  blk_ext [O, iblk, idx t]
theorem blk_w (c : Dev nD) (t : Fin cfg0.N) (k n : Fin 1024) : W m c t (ix2 k n) = A1 m c (ix2 k n) := by
  rw [show A1 m c = V m c main_arg1 from (V_main_arg1 m c).symm]
  blk_ext [W, iblk, idx t]
theorem blk_x (c : Dev nD) (t : Fin cfg0.N) (r : Fin 512) (n : Fin 1024) : X m c t (ix2 r n) = A2 m c (ix2 (row t r) n) := by
  rw [show A2 m c = V m c main_arg2 from (V_main_arg2 m c).symm]
  unfold row
  blk_ext [X, iblk, idx t]
theorem blk_g (c : Dev nD) (t : Fin cfg0.N) (n : Fin 1024) : Ga m c t (ix2 0 n) = A3 m c (ix2 0 n) := by
  rw [show A3 m c = V m c main_arg3 from (V_main_arg3 m c).symm]
  blk_ext [Ga, iblk, idx t]
theorem blk_nw (c : Dev nD) (t : Fin cfg0.N) (n : Fin 1024) : Nw m c t (ix2 0 n) = A4 m c (ix2 0 n) := by
  rw [show A4 m c = V m c main_arg4 from (V_main_arg4 m c).symm]
  blk_ext [Nw, iblk, idx t]
theorem blk_sc (c : Dev nD) (t : Fin cfg0.N) (n : Fin 1024) : Sc m c t (ix2 0 n) = A5 m c (ix2 0 n) := by
  rw [show A5 m c = V m c main_arg5 from (V_main_arg5 m c).symm]
  blk_ext [Sc, iblk, idx t]
theorem blk_sh (c : Dev nD) (t : Fin cfg0.N) (n : Fin 1024) : Sh m c t (ix2 0 n) = A6 m c (ix2 0 n) := by
  rw [show A6 m c = V m c main_arg6 from (V_main_arg6 m c).symm]
  blk_ext [Sh, iblk, idx t]

theorem blk_cat (c : Dev nD) (t : Fin cfg0.N) (r : Fin 512) (n : Fin 1024) : cat (O m c t) (ix2 r n) = A0 m c (ix2 (row t r) n) := by
  refine (cat_at _ r n).trans ((blk_o m c t _ r _).trans ?_)
  exact congrArg (fun q => A0 m c (ix2 (row t r) q)) (Fin.ext (by show 64 * (n.val / 64) + n.val % 64 = n.val; omega))

/-- Row `i` of the product, of the residual sum, and of what the norm leaves. -/
def pr (a : FVec Ideal S4096x1024 .f32) (w : FVec Ideal S1024x1024 .bf16) (i : Fin 4096) (n : Fin 1024) : EReal := ∑ k : Fin 1024, a (ix2 i k) * w (ix2 k n)
def rx (a : FVec Ideal S4096x1024 .f32) (w : FVec Ideal S1024x1024 .bf16) (x : FVec Ideal S4096x1024 .f32) (g : FVec Ideal S1x1024 .f32) (i : Fin 4096) : Fin 1024 → EReal :=
  res (fun k => x (ix2 i k)) (fun k => g (ix2 0 k)) (pr a w i)
def rh (a : FVec Ideal S4096x1024 .f32) (w : FVec Ideal S1024x1024 .bf16) (x : FVec Ideal S4096x1024 .f32) (g nw sc sh : FVec Ideal S1x1024 .f32) (i : Fin 4096) : Fin 1024 → EReal :=
  mdl (rx a w x g i) (fun k => nw (ix2 0 k)) (fun k => sc (ix2 0 k)) (fun k => sh (ix2 0 k))

theorem blk_mr (c : Dev nD) (t : Fin cfg0.N) (r : Fin 512) : mr m c t r = pr (A0 m c) (A1 m c) (row t r) :=
  funext fun n => Finset.sum_congr rfl fun k _ => congrArg₂ (· * ·) (blk_cat m c t r k) (blk_w m c t k n)

theorem blk_xr (c : Dev nD) (t : Fin cfg0.N) (r : Fin 512) : xr m c t r = rx (A0 m c) (A1 m c) (A2 m c) (A3 m c) (row t r) := by
  unfold xr rx
  rw [blk_mr]
  simp only [blk_x, blk_g]

theorem blk_hr (c : Dev nD) (t : Fin cfg0.N) (r : Fin 512) : hr m c t r = rh (A0 m c) (A1 m c) (A2 m c) (A3 m c) (A4 m c) (A5 m c) (A6 m c) (row t r) := by
  unfold hr rh
  rw [blk_xr]
  simp only [blk_nw, blk_sc, blk_sh]

/-! ## The results -/

def MX (c : Dev nD) : FVec Ideal S4096x1024 .f32 := fun y => pr (A0 m c) (A1 m c) (y 0) (y 1)
def X1 (c : Dev nD) : FVec Ideal S4096x1024 .f32 := fun y => rx (A0 m c) (A1 m c) (A2 m c) (A3 m c) (y 0) (y 1)
def H2 (c : Dev nD) : FVec Ideal S4096x1024 .bf16 := fun y => rh (A0 m c) (A1 m c) (A2 m c) (A3 m c) (A4 m c) (A5 m c) (A6 m c) (y 0) (y 1)
def CT (c : Dev nD) : FVec Ideal S4096x1024 .bf16 := A0 m c

theorem final7 (c : Dev nD) : (dats m 0 c).arrAt 7 cfg0.N = CT m c := by
  refine (dats m 0 c).arrAt_eq_of_covers 7 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  blk_simp
  rw [after0_7, point7]
  refine (blk_cat m c t r n).trans ?_
  have hout : CT m c (((cfg0.win 7).blk t).view.emb (ix2 r n)) = CT m c (ix2 (row t r) n) := congrArg _ (by unfold row; blk_ext [idx t])
  exact hout.symm

theorem final8 (c : Dev nD) : (dats m 0 c).arrAt 8 cfg0.N = MX m c := by
  refine (dats m 0 c).arrAt_eq_of_covers 8 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  blk_simp
  rw [after0_8]
  refine (point8 m c t r n).trans ?_
  rw [blk_mr]
  have hout : MX m c (((cfg0.win 8).blk t).view.emb (ix2 r n)) = MX m c (ix2 (row t r) n) := congrArg _ (by unfold row; blk_ext [idx t])
  exact hout.symm

theorem final9 (c : Dev nD) : (dats m 0 c).arrAt 9 cfg0.N = X1 m c := by
  refine (dats m 0 c).arrAt_eq_of_covers 9 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  blk_simp
  rw [after0_9]
  refine (point9 m c t r n).trans ?_
  rw [blk_xr]
  have hout : X1 m c (((cfg0.win 9).blk t).view.emb (ix2 r n)) = X1 m c (ix2 (row t r) n) := congrArg _ (by unfold row; blk_ext [idx t])
  exact hout.symm

theorem final10 (c : Dev nD) : (dats m 0 c).arrAt 10 cfg0.N = H2 m c := by
  refine (dats m 0 c).arrAt_eq_of_covers 10 _ (by decide +kernel) fun t hf y => ?_
  have hy : ∃ r n, y = ix2 (n0 := 512) (n1 := 1024) r n := ⟨y 0, y 1, by funext b; match b with | ⟨0, _⟩ => rfl | ⟨1, _⟩ => rfl⟩
  obtain ⟨r, n, rfl⟩ := hy
  blk_simp
  rw [after0_10]
  refine (point10 m c t r n).trans ?_
  rw [blk_hr]
  have hout : H2 m c (((cfg0.win 10).blk t).view.emb (ix2 r n)) = H2 m c (ix2 (row t r) n) := congrArg _ (by unfold row; blk_ext [idx t])
  exact hout.symm

end Cert.ResidFwdIdeal.Grad
end
-- ==== Proof.ResidFwdClaims.lean ====
/- The claims about the gated residual and the second norm, forward. -/
module

public import proofs.«01_k».proof.Defs
public import proofs.«01_k».proof.Proof.ResidFwdArray
public import proofs.«01_k».proof.Proof.Gen.ResidFwd.Frame
public import proofs.«01_k».proof.Proof.Gen.ResidFwdRefIdeal.Read
public import Idealize.ShloMosaic.Adequacy
public import Idealize.ShloMosaic.Lib.KernelVsHost

@[expose] public section

set_option maxRecDepth 16384

noncomputable section

namespace Cert.Proof.ResidFwdClaims

open Idealize.ShloMosaic Idealize.ShloMosaic.TcCoe Idealize.SL.Sem
open Cert.ResidFwdIdeal Cert.ResidFwdIdeal.Grad Cert.RowNorm

/-- The reference leaves its arguments as they were; it has no semaphore. -/
theorem frame_ref : Cert.quiescent_ResidFwdRefIdeal := fun m ρ _ =>
  (θ_run Cert.ResidFwdRefIdeal.defs _ _).mono (fun r h => ⟨fun c => (h c).2.2.2.2, sem_eq_zero_of_no_sems (by decide) r.2⟩) (Cert.ResidFwdRefIdeal.Value.run m ρ)

section
open Cert.ResidFwdRefIdeal.Read

variable (x0 : FVec Ideal S4096x1024 .f32) (x1 : FVec Ideal S1024x1024 .bf16) (x2 : FVec Ideal S4096x1024 .f32) (x3 x4 x5 x6 : FVec Ideal S1x1024 .f32)

theorem at_v1 (i : Fin 4096) (n : Fin 1024) : val_main_v1 (F := Ideal) x0 x1 (ix2 i n) = pr x0 x1 i n := by
  unfold pr
  pointwise [val_main_v1, val_main_v0]

theorem at_v4 (i : Fin 4096) (n : Fin 1024) : val_main_v4 (F := Ideal) x0 x1 x2 x3 (ix2 i n) = rx x0 x1 x2 x3 i n := by
  unfold rx res
  rw [← at_v1]
  pointwise [val_main_v4, val_main_v3, val_main_v2]

theorem at_v11 (i : Fin 4096) : val_main_v11 (F := Ideal) x0 x1 x2 x3 (ix2 i 0) = q (rx x0 x1 x2 x3 i) := by
  unfold q
  simp only [← at_v4]
  pointwise [val_main_v11, val_main_v10, val_main_cst_1, val_main_v9, val_main_v8, val_main_cst_0, val_main_v7, val_main_v6, val_main_cst, val_main_v5]

theorem at_v12 (i : Fin 4096) : val_main_v12 (F := Ideal) x0 x1 x2 x3 (ix2 i 0) = irt (rx x0 x1 x2 x3 i) := by
  unfold irt
  rw [← at_v11]
  pointwise [val_main_v12]

theorem at_v14 (i : Fin 4096) (n : Fin 1024) : val_main_v14 (F := Ideal) x0 x1 x2 x3 (ix2 i n) = yn (rx x0 x1 x2 x3 i) n := by
  unfold yn
  rw [← at_v12, ← at_v4]
  pointwise [val_main_v14, val_main_v13]

theorem at_v24 (i : Fin 4096) (n : Fin 1024) : val_main_v24 (F := Ideal) x0 x1 x2 x3 x4 x5 x6 (ix2 i n) = rh x0 x1 x2 x3 x4 x5 x6 i n := by
  unfold rh mdl
  rw [← at_v14]
  pointwise [val_main_v24, val_main_v22, val_main_v21, val_main_v20, val_main_v19, val_main_v18, val_main_v17, val_main_cst_2, val_main_v16, val_main_v15]

end

variable (m : (ℓ : Loc nD τ sig) → Buf (Elt Ideal) ℓ)

theorem eq_cat (c : Dev nD) : Cert.ResidFwdRefIdeal.Read.val_main_v23 (F := Ideal) (A0 m c) = CT m c := by
  funext y
  rfl

theorem eq_mixed (c : Dev nD) : Cert.ResidFwdRefIdeal.Read.val_main_v1 (F := Ideal) (A0 m c) (A1 m c) = MX m c := by
  funext y
  have hy : ∃ i n, y = ix2 (n0 := 4096) (n1 := 1024) i n := ⟨y 0, y 1, by funext b; match b with | ⟨0, _⟩ => rfl | ⟨1, _⟩ => rfl⟩
  obtain ⟨i, n, rfl⟩ := hy
  exact at_v1 _ _ i n

theorem eq_sum (c : Dev nD) : Cert.ResidFwdRefIdeal.Read.val_main_v4 (F := Ideal) (A0 m c) (A1 m c) (A2 m c) (A3 m c) = X1 m c := by
  funext y
  have hy : ∃ i n, y = ix2 (n0 := 4096) (n1 := 1024) i n := ⟨y 0, y 1, by funext b; match b with | ⟨0, _⟩ => rfl | ⟨1, _⟩ => rfl⟩
  obtain ⟨i, n, rfl⟩ := hy
  exact at_v4 _ _ _ _ i n

theorem eq_norm (c : Dev nD) : Cert.ResidFwdRefIdeal.Read.val_main_v24 (F := Ideal) (A0 m c) (A1 m c) (A2 m c) (A3 m c) (A4 m c) (A5 m c) (A6 m c) = H2 m c := by
  funext y
  have hy : ∃ i n, y = ix2 (n0 := 4096) (n1 := 1024) i n := ⟨y 0, y 1, by funext b; match b with | ⟨0, _⟩ => rfl | ⟨1, _⟩ => rfl⟩
  obtain ⟨i, n, rfl⟩ := hy
  exact at_v24 _ _ _ _ _ _ _ i n

/-- Arguments that are the kernel's give the reference's results over them. -/
theorem eq_all (c : Dev nD) {x0 : FVec Ideal S4096x1024 .f32} {x1 : FVec Ideal S1024x1024 .bf16} {x2 : FVec Ideal S4096x1024 .f32} {x3 x4 x5 x6 : FVec Ideal S1x1024 .f32}
    (ha : x0 = A0 m c ∧ x1 = A1 m c ∧ x2 = A2 m c ∧ x3 = A3 m c ∧ x4 = A4 m c ∧ x5 = A5 m c ∧ x6 = A6 m c) :
    Cert.ResidFwdRefIdeal.Read.val_main_v23 (F := Ideal) x0 = CT m c
      ∧ Cert.ResidFwdRefIdeal.Read.val_main_v1 (F := Ideal) x0 x1 = MX m c
      ∧ Cert.ResidFwdRefIdeal.Read.val_main_v4 (F := Ideal) x0 x1 x2 x3 = X1 m c
      ∧ Cert.ResidFwdRefIdeal.Read.val_main_v24 (F := Ideal) x0 x1 x2 x3 x4 x5 x6 = H2 m c := by
  obtain ⟨rfl, rfl, rfl, rfl, rfl, rfl, rfl⟩ := ha
  exact ⟨eq_cat m c, eq_mixed m c, eq_sum m c, eq_norm m c⟩

/-- What the kernel leaves. -/
theorem ran (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = CT m c
      ∧ r.2.mem ((c.tc : Thread nD τ).loc main_v2_1) = MX m c
      ∧ r.2.mem ((c.tc : Thread nD τ).loc main_v2_2) = X1 m c
      ∧ r.2.mem ((c.tc : Thread nD τ).loc main_v2_3) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (Gen.run_main m ρ) (Gen.frame m ρ)) fun r h c =>
    ⟨((h.1 c).1 7).trans (final7 m c), ((h.1 c).1 8).trans (final8 m c), ((h.1 c).1 9).trans (final9 m c), ((h.1 c).1 10).trans (final10 m c), h.2.1 c⟩

/-- The kernel and the residual with its norm leave the same arrays, at every argument. -/
theorem algebraic : Cert.algebraic_ResidFwdIdeal_ResidFwdRefIdeal := fun m g m' g' _ hagree => by
  refine ⟨CT m, MX m, X1 m, H2 m, ran m g, ?_⟩
  refine θ_run_mono (Cert.ResidFwdRefIdeal.Value.run m' g') fun r h c => ?_
  have e := eq_all m c (hagree c)
  exact ⟨(h c).1.trans e.1, (h c).2.1.trans e.2.1, (h c).2.2.1.trans e.2.2.1, (h c).2.2.2.1.trans ((Cert.ResidFwdRefIdeal.Read.val_main_v24_eq _ _ _ _ _ _ _).trans e.2.2.2), (h c).2.2.2.2⟩

end Cert.Proof.ResidFwdClaims

end
-- ==== Proof.NormInRun.lean ====
/-
The first norm with the input projection: the two kinds of point, run.
-/
module

public import proofs.«01_k».proof.Proof.Gen.NormInIdeal.Skeleton
public import proofs.«01_k».proof.Proof.Gen.NormInIdeal.Frame
public import Idealize.ShloMosaic.Lib.Claim

@[expose] public section

set_option maxRecDepth 16384

noncomputable section

namespace Cert.NormInIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormInIdeal.Gen

variable {F : FTy → Type} [FloatOps F]

local notation "𝕄" => MT nD τ sig Unit (Elt F) ℕ (UR sig nD τ) ℕ

section
variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S3072x1024 .bf16) (harg6 : arg6.IsWhole)
  (arg7 : Memref sig .tc .vmem S1024x1024 .bf16) (harg7 : arg7.IsWhole)
  (arg8 : Memref sig .tc .vmem S1024x1536 .f32) (harg8 : arg8.IsWhole)
  (arg9 : Memref sig .tc .vmem S20x1024x64 .f32) (harg9 : arg9.IsWhole)
  (x0 : Vec F S1024x1024 .f32) (x1 x2 x3 : Vec F S1x1024 .f32) (x4 : Vec F S3072x1024 .bf16)

set_option maxHeartbeats 2000000 in
/-- A row block's first point stores its normed rows and its first half of the projection. -/
def first (h1 : k0_cond1 i = 1#1) (h2 : ¬k0_cond2 i = 1#1) :
    Σ' (L5 : List (View.Piece (Elt F) S1024x1024 .bf16)), { L6 : List (View.Piece (Elt F) S1024x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ (∃ d, owns (c : Thread nD τ) arg8 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
        ⊢ wp frame (wpE (defs₀ (F := F)) Variants.none c none) E (cc0_norm1_in_proj i arg2 harg2 arg3 harg3 arg4 harg4 arg5 harg5 arg6 harg6 arg7 harg7 arg8 harg8 arg9 harg9) K } := by
  refine ⟨?_, ?_, fun E K => ?run⟩
  case run =>
  simp only [cc0_norm1_in_proj_eq_skeleton]; unfold cc0_norm1_in_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  iexists _; iexact H6

set_option maxHeartbeats 2000000 in
/-- Its second point reads the rows back, and stores the other half and its heads. -/
def second (h1 : ¬k0_cond1 i = 1#1) (h2 : k0_cond2 i = 1#1) (x5 : Vec F S1024x1024 .bf16) :
    Σ' (L6 : List (View.Piece (Elt F) S1024x1536 .f32)), { L7 : List (View.Piece (Elt F) S20x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare x5 ∗ (∃ d, owns (c : Thread nD τ) arg8 fullShare d) ∗ (∃ d, owns (c : Thread nD τ) arg9 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
        ⊢ wp frame (wpE (defs₀ (F := F)) Variants.none c none) E (cc0_norm1_in_proj i arg2 harg2 arg3 harg3 arg4 harg4 arg5 harg5 arg6 harg6 arg7 harg7 arg8 harg8 arg9 harg9) K } := by
  refine ⟨?_, ?_, fun E K => ?run⟩
  case run =>
  simp only [cc0_norm1_in_proj_eq_skeleton]; unfold cc0_norm1_in_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]; · iexists _; iexact H6
  iexists _; iexact H7

end

end Cert.NormInIdeal.Grad
end
-- ==== Proof.NormInFrame.lean ====
/-
The frame of the first norm with the input projection, over the runs of its two kinds of point.
-/
module

public import proofs.«01_k».proof.Proof.NormInRun

@[expose] public section

set_option maxRecDepth 16384

noncomputable section

namespace Cert.NormInIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are first and which second -/

theorem at_first : ∀ t : Fin cfg0.N, k0_cond1 (grid0.coords t) = 1#1 ↔ t.val % 2 = 0 :=
  (by decide +kernel : ∀ t : Fin grid0.N, k0_cond1 (grid0.coords t) = 1#1 ↔ t.val % 2 = 0)
theorem at_second : ∀ t : Fin cfg0.N, k0_cond2 (grid0.coords t) = 1#1 ↔ t.val % 2 = 1 :=
  (by decide +kernel : ∀ t : Fin grid0.N, k0_cond2 (grid0.coords t) = 1#1 ↔ t.val % 2 = 1)

/-- The first point of a point's row block. -/
def head (t : Fin cfg0.N) : Fin cfg0.N := ⟨t.val - t.val % 2, Nat.lt_of_le_of_lt (Nat.sub_le _ _) t.isLt⟩
theorem head_even (t : Fin cfg0.N) : (head t).val % 2 = 0 := by unfold head; dsimp only; omega
theorem head_of_even (t : Fin cfg0.N) (h : t.val % 2 = 0) : head t = t := by unfold head; exact Fin.ext (by dsimp only; omega)
theorem head_of_odd (t : Fin cfg0.N) (h : ¬t.val % 2 = 0) : head ⟨t.val - 1, Nat.lt_of_le_of_lt (Nat.sub_le _ _) t.isLt⟩ = head t := by
  unfold head; exact Fin.ext (by dsimp only; omega)

/-! ## What a point leaves -/

abbrev V5 : View sig .tc .vmem S1024x1024 .bf16 := (Memref.whole cc0_stg5_0 : Memref sig .tc .vmem S1024x1024 .bf16).view
abbrev V6 : View sig .tc .vmem S1024x1536 .f32 := (Memref.whole cc0_stg6_0 : Memref sig .tc .vmem S1024x1536 .f32).view
abbrev V7 : View sig .tc .vmem S20x1024x64 .f32 := (Memref.whole cc0_stg7_0 : Memref sig .tc .vmem S20x1024x64 .f32).view

/-- The run of a first point, and of a second one from the rows the first left. -/
abbrev runA (c : Dev nD) (t : Fin cfg0.N) (h : t.val % 2 = 0) :=
  first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t)
    ((at_first t).mpr h) (fun h' => by have := (at_second t).mp h'; omega)
abbrev runB (c : Dev nD) (t : Fin cfg0.N) (h : ¬t.val % 2 = 0) (p : Vec F S1024x1024 .bf16) :=
  second (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t)
    (fun h' => h ((at_first t).mp h')) ((at_second t).mpr (by omega)) p

/-- The normed rows a first point leaves; those of a point's row block. -/
def rowsA (c : Dev nD) (t : Fin cfg0.N) (h : t.val % 2 = 0) : Vec F S1024x1024 .bf16 := V5.read (Elt F) (V5.writes (Elt F) V5.junk (runA m c t h).1)
def rows (c : Dev nD) (t : Fin cfg0.N) : Vec F S1024x1024 .bf16 := rowsA m c (head t) (head_even t)

theorem rowsA_eq (c : Dev nD) (t t' : Fin cfg0.N) (e : t = t') (h : t.val % 2 = 0) (h' : t'.val % 2 = 0) : rowsA m c t h = rowsA m c t' h' := by
  subst e; rfl
theorem rows_even (c : Dev nD) (t : Fin cfg0.N) (h : t.val % 2 = 0) : rows m c t = rowsA m c t h := rowsA_eq m c _ _ (head_of_even t h) _ _
theorem rows_odd (c : Dev nD) (t : Fin cfg0.N) (h : ¬t.val % 2 = 0) : rows m c ⟨t.val - 1, Nat.lt_of_le_of_lt (Nat.sub_le _ _) t.isLt⟩ = rows m c t :=
  rowsA_eq m c _ _ (head_of_odd t h) _ _

/-- The half of the projection a point leaves. -/
def half (c : Dev nD) (t : Fin cfg0.N) : Vec F S1024x1536 .f32 :=
  if h : t.val % 2 = 0 then V6.read (Elt F) (V6.writes (Elt F) V6.junk (runA m c t h).2.1)
  else V6.read (Elt F) (V6.writes (Elt F) V6.junk (runB m c t h (rows m c t)).1)

/-- The heads a second point leaves. -/
def heads (c : Dev nD) (t : Fin cfg0.N) : Vec F S20x1024x64 .f32 :=
  if h : t.val % 2 = 0 then V7.read (Elt F) V7.junk
  else V7.read (Elt F) (V7.writes (Elt F) V7.junk (runB m c t h (rows m c t)).2.1)

section Cover
variable (c : Dev nD) (t : Fin cfg0.N)

theorem covA_5 (h : t.val % 2 = 0) : ∀ y : S1024x1024.Idx, ∃ q ∈ (runA m c t h).1, y ∈ q.1.set :=
  View.cover_of_tiledL _ S256x1024.size (by sl_kernel_rfl)
theorem covA_6 (h : t.val % 2 = 0) : ∀ y : S1024x1536.Idx, ∃ q ∈ (runA m c t h).2.1, y ∈ q.1.set :=
  View.cover_of_tiledL _ S1024x1536.size (by sl_kernel_rfl)
theorem covB_6 (h : ¬t.val % 2 = 0) (p : Vec F S1024x1024 .bf16) : ∀ y : S1024x1536.Idx, ∃ q ∈ (runB m c t h p).1, y ∈ q.1.set :=
  View.cover_of_tiledL _ S1024x1536.size (by sl_kernel_rfl)
theorem covB_7 (h : ¬t.val % 2 = 0) (p : Vec F S1024x1024 .bf16) : ∀ y : S20x1024x64.Idx, ∃ q ∈ (runB m c t h p).2.1, y ∈ q.1.set :=
  View.cover_of_tiledL _ S1x1024x64.size (by sl_kernel_rfl)

end Cover

/-! ## The proof data -/

/-- Each operand's buffer at its block and each result's at what the points so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c t
    | ⟨6, _⟩ => half m c t
    | ⟨7, _⟩ => heads m c t
  Φ _ := Pipeline.ΦA spec0 c
  q _ := fullShare
  owed _ := 0

theorem entry_eq (c : Dev nD) (w : Fin cfg0.W) : (dats m 0 c).A w = V m c (Pipeline.arrRef spec0 w) := by dsimp only [dats]

section Windows
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = rows m c t := by dsimp only [dats]
theorem after_6 : (dats m 0 c).after 6 t = half m c t := by dsimp only [dats]
theorem after_7 : (dats m 0 c).after 7 t = heads m c t := by dsimp only [dats]
theorem before_0 (d) : (dats m 0 c).before 0 t d = iblk m c 0 t := before0_0_of m (dats m 0 c) (entry_eq m c 0) (after_0 m c) t d
theorem before_1 (d) : (dats m 0 c).before 1 t d = iblk m c 1 t := before0_1_of m (dats m 0 c) (entry_eq m c 1) (after_1 m c) t d
theorem before_2 (d) : (dats m 0 c).before 2 t d = iblk m c 2 t := before0_2_of m (dats m 0 c) (entry_eq m c 2) (after_2 m c) t d
theorem before_3 (d) : (dats m 0 c).before 3 t d = iblk m c 3 t := before0_3_of m (dats m 0 c) (entry_eq m c 3) (after_3 m c) t d
theorem before_4 (d) : (dats m 0 c).before 4 t d = iblk m c 4 t := before0_4_of m (dats m 0 c) (entry_eq m c 4) (after_4 m c) t d

theorem idle_5 (h : t.val % 2 = 0) : cfg0.idle 5 (grid0.coords t) = false := by
  show (!(k0_cond1 (grid0.coords t) == 1#1)) = false
  rw [(at_first t).mpr h]; rfl
theorem idle_5' (h : ¬t.val % 2 = 0) : cfg0.idle 5 (grid0.coords t) = true := by
  show (!(k0_cond1 (grid0.coords t) == 1#1)) = true
  have e : ¬k0_cond1 (grid0.coords t) = 1#1 := fun h' => h ((at_first t).mp h')
  simp [e]
theorem idle_7 (h : t.val % 2 = 0) : cfg0.idle 7 (grid0.coords t) = true := by
  show (!(k0_cond2 (grid0.coords t) == 1#1)) = true
  have e : ¬k0_cond2 (grid0.coords t) = 1#1 := fun h' => by have := (at_second t).mp h'; omega
  simp [e]
theorem idle_7' (h : ¬t.val % 2 = 0) : cfg0.idle 7 (grid0.coords t) = false := by
  show (!(k0_cond2 (grid0.coords t) == 1#1)) = false
  rw [(at_second t).mpr (by omega)]; rfl

/-- A second point finds the rows its first point left. -/
theorem before_5 (h : ¬t.val % 2 = 0) (d) : (dats m 0 c).before 5 t d = rows m c t := by
  have hp : (⟨t.val - 1, Nat.lt_of_le_of_lt (Nat.sub_le _ _) t.isLt⟩ : Fin cfg0.N).val % 2 = 0 := by dsimp only; omega
  rw [Dat.before_of_pos _ 5 t (by omega) rfl]
  rw [if_neg (by rw [flush0_5]; dsimp only; omega)]
  unfold Dat.left
  rw [idle_5 _ hp]
  exact (after_5 m c _).trans (rows_odd m c t h)

/-- What the obligation asks of the two results a point may leave alone. -/
theorem left_5 (h : t.val % 2 = 0) : (dats m 0 c).leavesExact 5 t = owns (c : Thread nD τ) (st0_5 t) fullShare (rows m c t) := by
  unfold Dat.leavesExact; rw [idle_5 t h, after_5]
theorem left_5' (h : ¬t.val % 2 = 0) : (dats m 0 c).leavesExact 5 t = owns (c : Thread nD τ) (st0_5 t) fullShare (rows m c t) := by
  unfold Dat.leavesExact; rw [idle_5' t h, (flush0_5 t).mpr (by omega), after_5]
theorem left_7 (h : t.val % 2 = 0) : (dats m 0 c).leavesExact 7 t = iprop(∃ d, owns (c : Thread nD τ) (st0_7 t) fullShare ((dats m 0 c).before 7 t d)) :=
  Dat.leavesExact_idle _ 7 t (idle_7 t h) (Bool.eq_false_iff.mpr fun h' => by have := (flush0_7 t).mp h'; omega)
theorem left_7' (h : ¬t.val % 2 = 0) : (dats m 0 c).leavesExact 7 t = owns (c : Thread nD τ) (st0_7 t) fullShare (heads m c t) := by
  unfold Dat.leavesExact; rw [idle_7' t h, after_7]

end Windows

/-! ## The body at a point -/

/-- What the body finds. -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it leaves. -/
def leaves (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ owns (c : Thread nD τ) (st0_6 t) fullShare ((dats m 0 c).after 6 t) ∗ (dats m 0 c).leavesExact 7 t)

set_option maxHeartbeats 3200000 in
theorem body_runs (c : Dev nD) (t : Fin cfg0.N) :
    found m c t ⊢ wp frame (wpE (defs₀ (F := F)) Variants.none c none) Set.univ (bodyAt0 t) (fun _ => leaves m c t) := by
  unfold found leaves bodyAt0
  simp only [before_0, before_1, before_2, before_3, before_4]
  rw [show (dats m 0 c).owesAt () t.succ = (dats m 0 c).owesAt () t.castSucc from rfl, show (dats m 0 c).Φ t.succ = (dats m 0 c).Φ t.castSucc from rfl, after_0, after_1, after_2, after_3, after_4, after_6]
  by_cases h : t.val % 2 = 0
  · rw [left_5 m c t h, left_7 m c t h, rows_even m c t h]
    unfold half rowsA; rw [dif_pos h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA m c t h).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (covA_5 m c t h)
    isplitl [H6]
    · unfold owns; iexists _; isplitr
      swap; · iexact H6
      ipureintro; exact View.read_writes_of_cover _ _ _ _ _ (covA_6 m c t h)
    iexists _; iexact H7
  · rw [left_5' m c t h, left_7' m c t h]
    simp only [before_5 m c t h]
    unfold half heads; rw [dif_neg h, dif_neg h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h (rows m c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (covB_6 m c t h _)
    unfold owns; iexists _; isplitr
    swap; · iexact H7
    ipureintro; exact View.read_writes_of_cover _ _ _ _ _ (covB_7 m c t h _)

theorem body_row (t : Fin cfg0.N) : defs₀ (F := F) .tc cfg0.body (cfg0.bodyArgs t (cfg0.slots t)) = bodyAt0 t := by
  unfold defs₀; rw [Defs.onTc_tc]

theorem body_met (c : Dev nD) : BodyObligation (dats (F := F) m 0 c) (defs₀ (F := F)) Variants.none () Set.univ := fun t => by
  rw [bigSep_W0, bigSep_W0, body_row]
  exact triple_restated (body_runs m c t) rfl .rfl fun _ => .rfl

/-! ## The run and the frame -/

set_option backward.isDefEq.respectTransparency.types false in
set_option maxHeartbeats 800000 in
/-- Every execution ends, every array at what the points left, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_met m c).loose) (hshare := fun c => (dats m 0 c).share_full fun _ => rfl) (howed := fun _ _ => rfl) (V₀ := V0 m) (opss := [hostOps1])
    (hsub := sfx_sub) (hfresh := sfx_fresh) (hkeep := sfx_keeps) (hmain := hmain m Variants.none) (hA := entry_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The operands stay as they were and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (entry_eq m) (run_main m ρ)) ((θ_run defs _ _).mono (fun _ h => h.2) (run_quiet m ρ))

end Cert.NormInIdeal.Grad
end
-- ==== Proof.NormInBlock.lean ====
/- The first norm with the input projection: what one point of the kernel leaves. -/
module

public import proofs.«01_k».proof.Defs
public import proofs.«01_k».proof.Proof.NormInFrame
public import proofs.«01_k».proof.Proof.Reals
public import proofs.«01_k».proof.Proof.RowNorm
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.NormInIdeal.Grad

open Idealize.ShloMosaic Idealize.ShloMosaic.TcCoe Idealize.SL.Sem
open Idealize.ShloMosaic.Pipeline (Dat)
open Cert.NormInIdeal Cert.NormInIdeal.Gen Cert.Reals

open Cert.RowNorm

/-- A row's norm, weighted, scaled and shifted. -/
def mdl (x w s b : Fin 1024 → EReal) (n : Fin 1024) : EReal := yn x n * w n * (Ideal.ofBits .f32 0x3F800000#32 + s n) + b n

section
variable (x : FVec Ideal S256x1024 .f32) (w s b : FVec Ideal S1x1024 .f32)

theorem pay5_at (r : Fin 256) (n : Fin 1024) : k0_pay5 (F := Ideal) x w s b (ix2 r n) = mdl (fun k => x (ix2 r k)) (fun k => w (ix2 0 k)) (fun k => s (ix2 0 k)) (fun k => b (ix2 0 k)) n := by
  unfold mdl yn irt q
  pointwise [k0_pay5]

theorem pay1_eq : k0_pay1 (F := Ideal) x w s b = k0_pay5 x w s b := rfl
theorem pay8_eq : k0_pay8 (F := Ideal) x w s b (k0_pay6 x) k0_pay7 = k0_pay5 x w s b := rfl
theorem pay9_eq : k0_pay9 (F := Ideal) x w s b = k0_pay5 x w s b := rfl

end

theorem pay2_at (x : FVec Ideal S1024x1024 .bf16) (w : FVec Ideal S1536x1024 .bf16) (r : Fin 1024) (n : Fin 1536) :
    k0_pay2 (F := Ideal) x w (ix2 r n) = ∑ k : Fin 1024, x (ix2 r k) * w (ix2 n k) := by
  pointwise [k0_pay2]

variable (m : (ℓ : Loc nD τ sig) → Buf (Elt Ideal) ℓ)

abbrev X (c : Dev nD) (t : Fin cfg0.N) : FVec Ideal S1024x1024 .f32 := iblk m c 0 t
abbrev Nw (c : Dev nD) (t : Fin cfg0.N) : FVec Ideal S1x1024 .f32 := iblk m c 1 t
abbrev Sc (c : Dev nD) (t : Fin cfg0.N) : FVec Ideal S1x1024 .f32 := iblk m c 2 t
abbrev Sh (c : Dev nD) (t : Fin cfg0.N) : FVec Ideal S1x1024 .f32 := iblk m c 3 t
abbrev W (c : Dev nD) (t : Fin cfg0.N) : FVec Ideal S3072x1024 .bf16 := iblk m c 4 t

/-- A block's normed row. -/
def hr (c : Dev nD) (t : Fin cfg0.N) (r : Fin 1024) : Fin 1024 → EReal := mdl (fun k => X m c t (ix2 r k)) (fun k => Nw m c t (ix2 0 k)) (fun k => Sc m c t (ix2 0 k)) (fun k => Sh m c t (ix2 0 k))

/-- A load of the whole buffer reads what its stores left. -/
theorem readCov_whole {sp : Space} (v : View sig .tc sp S1024x1024 .bf16) (L : List (View.Piece (Elt Ideal) S1024x1024 .bf16)) :
    v.readCov (Val := Elt Ideal) L (Rect.unit (s := S1024x1024) ![0, 0] S1024x1024.size inb_S1024x1024_S1024x1024_0_0).toLoadRect = View.canon (Val := Elt Ideal) L := by
  rw [View.readCov_eq_canon']
  funext y
  show View.canon (Val := Elt Ideal) L _ = _
  congr 1
  funext b
  match b with
  | ⟨0, _⟩ => exact Fin.ext (by show 0 + 1 * (y 0).val = _; simp)
  | ⟨1, _⟩ => exact Fin.ext (by show 0 + 1 * (y 1).val = _; simp)

/-- A load of 256 rows of a block, at an index. -/
theorem ld_at (Z : S1024x1024.Idx → Elt Ideal .f32) (o : ℕ) (ho : o + 256 ≤ 1024) (hi : ∀ a, (![o, 0] : Fin 2 → Nat) a + S256x1024.size a ≤ S1024x1024.size a) (r : Fin 256) (k : Fin 1024) :
    View.ld Z (Rect.unit ![o, 0] ![256, 1024] hi) (ix2 r k) = Z (ix2 ⟨o + r.val, by omega⟩ k) := by
  show Z _ = Z _
  congr 1
  funext b
  match b with
  | ⟨0, _⟩ => exact Fin.ext (by show o + 1 * r.val = _; simp)
  | ⟨1, _⟩ => exact Fin.ext (by show 0 + 1 * k.val = _; simp)

theorem rowsA_at (c : Dev nD) (t : Fin cfg0.N) (h : t.val % 2 = 0) (r n : Fin 1024) : rowsA m c t h (ix2 r n) = hr m c t r n := by
  unfold rowsA runA
  simp only [at_first, first]
  frame_out
  canon_tiles x h
  · have hx : ∃ a b, x = ix2 (n0 := 256) (n1 := 1024) a b := ⟨x 0, x 1, by funext b; match b with | ⟨0, _⟩ => rfl | ⟨1, _⟩ => rfl⟩
    obtain ⟨a, b, rfl⟩ := hx
    have hq : r = ⟨768 + a.val, by omega⟩ := Fin.ext h0
    have hn : n = b := Fin.ext h1
    subst hn
    rw [hq, pay1_eq, pay5_at]
    unfold hr
    congr 1
    funext k
    rw [ld_at (X m c t) 768 (by omega)]
  · have hx : ∃ a b, x = ix2 (n0 := 256) (n1 := 1024) a b := ⟨x 0, x 1, by funext b; match b with | ⟨0, _⟩ => rfl | ⟨1, _⟩ => rfl⟩
    obtain ⟨a, b, rfl⟩ := hx
    have hq : r = ⟨512 + a.val, by omega⟩ := Fin.ext h0
    have hn : n = b := Fin.ext h1
    subst hn
    rw [hq, pay9_eq, pay5_at]
    unfold hr
    congr 1
    funext k
    rw [ld_at (X m c t) 512 (by omega)]
  · have hx : ∃ a b, x = ix2 (n0 := 256) (n1 := 1024) a b := ⟨x 0, x 1, by funext b; match b with | ⟨0, _⟩ => rfl | ⟨1, _⟩ => rfl⟩
    obtain ⟨a, b, rfl⟩ := hx
    have hq : r = ⟨256 + a.val, by omega⟩ := Fin.ext h0
    have hn : n = b := Fin.ext h1
    subst hn
    rw [hq, pay8_eq, pay5_at]
    unfold hr
    congr 1
    funext k
    rw [ld_at (X m c t) 256 (by omega)]
  · have hx : ∃ a b, x = ix2 (n0 := 256) (n1 := 1024) a b := ⟨x 0, x 1, by funext b; match b with | ⟨0, _⟩ => rfl | ⟨1, _⟩ => rfl⟩
    obtain ⟨a, b, rfl⟩ := hx
    have hq : r = ⟨a.val, by omega⟩ := Fin.ext h0
    have hn : n = b := Fin.ext h1
    subst hn
    rw [hq, pay5_at]
    unfold hr
    congr 1
    funext k
    rw [ld_at (X m c t) 0 (by omega)]
    congr 2
    exact Fin.ext (by simp)

theorem halfA_at (c : Dev nD) (t : Fin cfg0.N) (h : t.val % 2 = 0) : half m c t = k0_pay2 (F := Ideal) (rows m c t) (View.ld (W m c t) (Rect.unit (s := S3072x1024) (k0_off1 (grid0.coords t)) S1536x1024.size (k0_off1_inb _))) := by
  rw [rows_even m c t h]
  unfold half rowsA runA
  rw [dif_pos h]
  simp only [at_first, first]
  frame_out
  rw [readCov_whole]

theorem halfB_at (c : Dev nD) (t : Fin cfg0.N) (h : ¬t.val % 2 = 0) : half m c t = k0_pay2 (F := Ideal) (rows m c t) (View.ld (W m c t) (Rect.unit (s := S3072x1024) (k0_off1 (grid0.coords t)) S1536x1024.size (k0_off1_inb _))) := by
  unfold half
  rw [dif_neg h]
  simp only [runB, second]
  frame_out

theorem head0_at (Y : FVec Ideal S1024x1536 .f32) (r : Fin 1024) (d : Fin 64) : k0_pay11 (F := Ideal) Y (ix3 0 r d) = Y (ix2 r ⟨0 + d.val, by omega⟩) := by
  pointwise [k0_pay11, k0_pay10]

theorem head1_at (Y : FVec Ideal S1024x1536 .f32) (r : Fin 1024) (d : Fin 64) : k0_pay12 (F := Ideal) Y (ix3 0 r d) = Y (ix2 r ⟨64 + d.val, by omega⟩) := by
  pointwise [k0_pay12, k0_pay10]
  congr 2
  exact Fin.ext (by show (d.val + 128 - 64) % 128 = 64 + d.val; omega)

theorem head2_at (Y : FVec Ideal S1024x1536 .f32) (r : Fin 1024) (d : Fin 64) : k0_pay14 (F := Ideal) Y (ix3 0 r d) = Y (ix2 r ⟨128 + d.val, by omega⟩) := by
  pointwise [k0_pay14, k0_pay13]

theorem head3_at (Y : FVec Ideal S1024x1536 .f32) (r : Fin 1024) (d : Fin 64) : k0_pay15 (F := Ideal) Y (ix3 0 r d) = Y (ix2 r ⟨192 + d.val, by omega⟩) := by
  pointwise [k0_pay15, k0_pay13]
  congr 2
  exact Fin.ext (by show 128 + (d.val + 128 - 64) % 128 = 192 + d.val; omega)

theorem head4_at (Y : FVec Ideal S1024x1536 .f32) (r : Fin 1024) (d : Fin 64) : k0_pay17 (F := Ideal) Y (ix3 0 r d) = Y (ix2 r ⟨256 + d.val, by omega⟩) := by
  pointwise [k0_pay17, k0_pay16]

theorem head5_at (Y : FVec Ideal S1024x1536 .f32) (r : Fin 1024) (d : Fin 64) : k0_pay18 (F := Ideal) Y (ix3 0 r d) = Y (ix2 r ⟨320 + d.val, by omega⟩) := by
  pointwise [k0_pay18, k0_pay16]
  congr 2
  exact Fin.ext (by show 256 + (d.val + 128 - 64) % 128 = 320 + d.val; omega)

theorem head6_at (Y : FVec Ideal S1024x1536 .f32) (r : Fin 1024) (d : Fin 64) : k0_pay21 (F := Ideal) (k0_pay20 Y) (ix3 0 r d) = Y (ix2 r ⟨384 + d.val, by omega⟩) := by
  pointwise [k0_pay21, k0_pay20, k0_pay19]

theorem head7_at (Y : FVec Ideal S1024x1536 .f32) (r : Fin 1024) (d : Fin 64) : k0_pay22 (F := Ideal) (k0_pay19 Y) 64#32 (ix3 0 r d) = Y (ix2 r ⟨448 + d.val, by omega⟩) := by
  pointwise [k0_pay22, k0_pay19]
  congr 2
  exact Fin.ext (by show 384 + (d.val + 128 - 64) % 128 = 448 + d.val; omega)

theorem head8_at (Y : FVec Ideal S1024x1536 .f32) (r : Fin 1024) (d : Fin 64) : k0_pay24 (F := Ideal) Y (ix3 0 r d) = Y (ix2 r ⟨512 + d.val, by omega⟩) := by
  pointwise [k0_pay24, k0_pay23]

theorem head9_at (Y : FVec Ideal S1024x1536 .f32) (r : Fin 1024) (d : Fin 64) : k0_pay25 (F := Ideal) Y (ix3 0 r d) = Y (ix2 r ⟨576 + d.val, by omega⟩) := by
  pointwise [k0_pay25, k0_pay23]
  congr 2
  exact Fin.ext (by show 512 + (d.val + 128 - 64) % 128 = 576 + d.val; omega)

theorem head10_at (Y : FVec Ideal S1024x1536 .f32) (r : Fin 1024) (d : Fin 64) : k0_pay27 (F := Ideal) Y (ix3 0 r d) = Y (ix2 r ⟨640 + d.val, by omega⟩) := by
  pointwise [k0_pay27, k0_pay26]

theorem head11_at (Y : FVec Ideal S1024x1536 .f32) (r : Fin 1024) (d : Fin 64) : k0_pay28 (F := Ideal) Y (ix3 0 r d) = Y (ix2 r ⟨704 + d.val, by omega⟩) := by
  pointwise [k0_pay28, k0_pay26]
  congr 2
  exact Fin.ext (by show 640 + (d.val + 128 - 64) % 128 = 704 + d.val; omega)

theorem head12_at (Y : FVec Ideal S1024x1536 .f32) (r : Fin 1024) (d : Fin 64) : k0_pay32 (F := Ideal) (k0_pay30 Y) (ix3 0 r d) = Y (ix2 r ⟨768 + d.val, by omega⟩) := by
  pointwise [k0_pay32, k0_pay30, k0_pay29]

theorem head13_at (Y : FVec Ideal S1024x1536 .f32) (r : Fin 1024) (d : Fin 64) : k0_pay33 (F := Ideal) (k0_pay31 Y) (ix3 0 r d) = Y (ix2 r ⟨832 + d.val, by omega⟩) := by
  pointwise [k0_pay33, k0_pay31, k0_pay29]
  congr 2
  exact Fin.ext (by show 768 + (d.val + 128 - 64) % 128 = 832 + d.val; omega)

theorem head14_at (Y : FVec Ideal S1024x1536 .f32) (r : Fin 1024) (d : Fin 64) : k0_pay35 (F := Ideal) Y (ix3 0 r d) = Y (ix2 r ⟨896 + d.val, by omega⟩) := by
  pointwise [k0_pay35, k0_pay34]

theorem head15_at (Y : FVec Ideal S1024x1536 .f32) (r : Fin 1024) (d : Fin 64) : k0_pay36 (F := Ideal) Y (ix3 0 r d) = Y (ix2 r ⟨960 + d.val, by omega⟩) := by
  pointwise [k0_pay36, k0_pay34]
  congr 2
  exact Fin.ext (by show 896 + (d.val + 128 - 64) % 128 = 960 + d.val; omega)

theorem head16_at (Y : FVec Ideal S1024x1536 .f32) (r : Fin 1024) (d : Fin 64) : k0_pay38 (F := Ideal) Y (ix3 0 r d) = Y (ix2 r ⟨1024 + d.val, by omega⟩) := by
  pointwise [k0_pay38, k0_pay37]

theorem head17_at (Y : FVec Ideal S1024x1536 .f32) (r : Fin 1024) (d : Fin 64) : k0_pay39 (F := Ideal) Y (ix3 0 r d) = Y (ix2 r ⟨1088 + d.val, by omega⟩) := by
  pointwise [k0_pay39, k0_pay37]
  congr 2
  exact Fin.ext (by show 1024 + (d.val + 128 - 64) % 128 = 1088 + d.val; omega)

theorem head18_at (Y : FVec Ideal S1024x1536 .f32) (r : Fin 1024) (d : Fin 64) : k0_pay3 (F := Ideal) (k0_pay41 Y) (ix3 0 r d) = Y (ix2 r ⟨1152 + d.val, by omega⟩) := by
  pointwise [k0_pay3, k0_pay41, k0_pay40]

theorem head19_at (Y : FVec Ideal S1024x1536 .f32) (r : Fin 1024) (d : Fin 64) : k0_pay4 (F := Ideal) (k0_pay42 Y) (ix3 0 r d) = Y (ix2 r ⟨1216 + d.val, by omega⟩) := by
  pointwise [k0_pay4, k0_pay42, k0_pay40]
  congr 2
  exact Fin.ext (by show 1152 + (d.val + 128 - 64) % 128 = 1216 + d.val; omega)

theorem heads_at (c : Dev nD) (t : Fin cfg0.N) (h : ¬t.val % 2 = 0) (k : Fin 20) (r : Fin 1024) (d : Fin 64) : heads m c t (ix3 k r d) = half m c t (ix2 r ⟨64 * k.val + d.val, by omega⟩) := by
  rw [halfB_at m c t h]
  unfold heads
  rw [dif_neg h]
  simp only [runB, second]
  frame_out
  generalize k0_pay2 (F := Ideal) (rows m c t) _ = Y
  canon_tiles x h
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 19 := h0
    subst hr hd
    rw [head19_at]
    congr 2
    exact Fin.ext (by show 1216 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 18 := h0
    subst hr hd
    rw [head18_at]
    congr 2
    exact Fin.ext (by show 1152 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 17 := h0
    subst hr hd
    rw [head17_at]
    congr 2
    exact Fin.ext (by show 1088 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 16 := h0
    subst hr hd
    rw [head16_at]
    congr 2
    exact Fin.ext (by show 1024 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 15 := h0
    subst hr hd
    rw [head15_at]
    congr 2
    exact Fin.ext (by show 960 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 14 := h0
    subst hr hd
    rw [head14_at]
    congr 2
    exact Fin.ext (by show 896 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 13 := h0
    subst hr hd
    rw [head13_at]
    congr 2
    exact Fin.ext (by show 832 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 12 := h0
    subst hr hd
    rw [head12_at]
    congr 2
    exact Fin.ext (by show 768 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 11 := h0
    subst hr hd
    rw [head11_at]
    congr 2
    exact Fin.ext (by show 704 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 10 := h0
    subst hr hd
    rw [head10_at]
    congr 2
    exact Fin.ext (by show 640 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 9 := h0
    subst hr hd
    rw [head9_at]
    congr 2
    exact Fin.ext (by show 576 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 8 := h0
    subst hr hd
    rw [head8_at]
    congr 2
    exact Fin.ext (by show 512 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 7 := h0
    subst hr hd
    rw [head7_at]
    congr 2
    exact Fin.ext (by show 448 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 6 := h0
    subst hr hd
    rw [head6_at]
    congr 2
    exact Fin.ext (by show 384 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 5 := h0
    subst hr hd
    rw [head5_at]
    congr 2
    exact Fin.ext (by show 320 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 4 := h0
    subst hr hd
    rw [head4_at]
    congr 2
    exact Fin.ext (by show 256 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 3 := h0
    subst hr hd
    rw [head3_at]
    congr 2
    exact Fin.ext (by show 192 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 2 := h0
    subst hr hd
    rw [head2_at]
    congr 2
    exact Fin.ext (by show 128 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 1 := h0
    subst hr hd
    rw [head1_at]
    congr 2
    exact Fin.ext (by show 64 + d.val = 64 * k.val + d.val; omega)
  · have hx : ∃ a b, x = ix3 (n0 := 1) (n1 := 1024) (n2 := 64) 0 a b := ⟨x 1, x 2, by funext b; match b with | ⟨0, _⟩ => exact Subsingleton.elim (α := Fin 1) _ _ | ⟨1, _⟩ => rfl | ⟨2, _⟩ => rfl⟩
    obtain ⟨a, b, rfl⟩ := hx
    have hr : r = a := Fin.ext h1
    have hd : d = b := Fin.ext h2
    have hk : k.val = 0 := h0
    subst hr hd
    rw [head0_at]
    congr 2
    exact Fin.ext (by show 0 + d.val = 64 * k.val + d.val; omega)

end Cert.NormInIdeal.Grad
end
-- ==== Proof.NormInArray.lean ====
/- The first norm with the input projection: the arrays that the kernel leaves. -/
module

public import proofs.«01_k».proof.Defs
public import proofs.«01_k».proof.Proof.NormInBlock
public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.WordCmp

@[expose] public section

set_option maxRecDepth 16384

noncomputable section

namespace Cert.NormInIdeal.Grad

open Idealize.ShloMosaic Idealize.ShloMosaic.TcCoe Idealize.SL.Sem
open Idealize.ShloMosaic.Pipeline (Dat)
open Cert.NormInIdeal Cert.NormInIdeal.Gen Cert.Reals Cert.RowNorm

/-- A row of the input, normed. -/
def rh (x : FVec Ideal S4096x1024 .f32) (w s b : FVec Ideal S1x1024 .f32) (i : Fin 4096) : Fin 1024 → EReal :=
  mdl (fun k => x (ix2 i k)) (fun k => w (ix2 0 k)) (fun k => s (ix2 0 k)) (fun k => b (ix2 0 k))

/-- Its projection. -/
def pj (x : FVec Ideal S4096x1024 .f32) (w s b : FVec Ideal S1x1024 .f32) (v : FVec Ideal S1024x2832 .bf16) (i : Fin 4096) (j : Fin 2832) : EReal :=
  ∑ k : Fin 1024, rh x w s b i k * v (ix2 k j)

variable (m : (ℓ : Loc nD τ sig) → Buf (Elt Ideal) ℓ)

abbrev A0 (c : Dev nD) : FVec Ideal S4096x1024 .f32 := m ((c.tc : Thread nD τ).loc main_arg0)
abbrev A1 (c : Dev nD) : FVec Ideal S1x1024 .f32 := m ((c.tc : Thread nD τ).loc main_arg1)
abbrev A2 (c : Dev nD) : FVec Ideal S1x1024 .f32 := m ((c.tc : Thread nD τ).loc main_arg2)
abbrev A3 (c : Dev nD) : FVec Ideal S1x1024 .f32 := m ((c.tc : Thread nD τ).loc main_arg3)
abbrev A4 (c : Dev nD) : FVec Ideal S1024x2832 .bf16 := m ((c.tc : Thread nD τ).loc main_arg4)

/-! ## The packed operand -/

theorem V_w (c : Dev nD) : V m c main_v5 = transpose S3072x1024 [1, 0] (concatenate S1024x3072 1 [⟨S1024x2048, extractStridedSlice S1024x2048 ![0, 0] (A4 m c) slices_S1024x2832_S1024x2048_0_0⟩,
    ⟨S1024x768, extractStridedSlice S1024x768 ![0, 2064] (A4 m c) slices_S1024x2832_S1024x768_0_2064⟩,
    ⟨S1024x16, extractStridedSlice S1024x16 ![0, 2048] (A4 m c) slices_S1024x2832_S1024x16_0_2048⟩,
    ⟨S1024x240, broadcastInDim S1024x240 ![] bcast_S_S1024x240 (constant (F := Ideal) S_ .bf16 0x0000#16)⟩] concatenates_S1024x2048_S1024x768_S1024x16_S1024x240_S1024x3072_d1) transposes_S1024x3072_S3072x1024_1_0 := by
  unfold V V0
  simp only [List.flatten_cons, List.flatten_nil, List.append_nil]
  after_results
  rfl

/-- A row of the projection in the packed order of its columns. -/
def col (f : Fin 2832 → EReal) (k : Fin 3072) : EReal :=
  if h : k.val < 2048 then f ⟨k.val, by omega⟩ else if h : k.val - 2048 < 768 then f ⟨2064 + (k.val - 2048), by omega⟩
  else if h : k.val - 2048 - 768 < 16 then f ⟨2048 + (k.val - 2048 - 768), by omega⟩ else 0

/-- A packed row in the original order. -/
def unc (f : Fin 3072 → EReal) (j : Fin 2832) : EReal :=
  if h : j.val < 2048 then f ⟨j.val, by omega⟩ else if h : j.val - 2048 < 16 then f ⟨2816 + (j.val - 2048), by omega⟩ else f ⟨2048 + (j.val - 2048 - 16), by omega⟩

theorem col_lo (f : Fin 2832 → EReal) (k : Fin 3072) (h : k.val < 2048) : col f k = f ⟨k.val, by omega⟩ := dif_pos h
theorem col_mid (f : Fin 2832 → EReal) (k : Fin 3072) (h : ¬k.val < 2048) (h' : k.val - 2048 < 768) : col f k = f ⟨2064 + (k.val - 2048), by omega⟩ :=
  (dif_neg h).trans (dif_pos h')

theorem unc_col (f : Fin 2832 → EReal) (j : Fin 2832) : unc (col f) j = f j := by
  unfold unc
  split_ifs with h1 h2
  · exact dif_pos h1
  · unfold col
    refine (dif_neg (by show ¬ 2816 + (j.val - 2048) < 2048; omega)).trans ((dif_neg (by show ¬ 2816 + (j.val - 2048) - 2048 < 768; omega)).trans ((dif_pos (by show 2816 + (j.val - 2048) - 2048 - 768 < 16; omega)).trans ?_))
    exact congrArg f (Fin.ext (by show 2048 + (2816 + (j.val - 2048) - 2048 - 768) = j.val; omega))
  · unfold col
    refine (dif_neg (by show ¬ 2048 + (j.val - 2048 - 16) < 2048; omega)).trans ((dif_pos (by show 2048 + (j.val - 2048 - 16) - 2048 < 768; omega)).trans ?_)
    exact congrArg f (Fin.ext (by show 2064 + (2048 + (j.val - 2048 - 16) - 2048) = j.val; omega))

theorem sum_mul_col (h : Fin 1024 → EReal) (f : Fin 1024 → Fin 2832 → EReal) (k : Fin 3072) : ∑ n : Fin 1024, h n * col (f n) k = col (fun j => ∑ n : Fin 1024, h n * f n j) k := by
  unfold col
  split_ifs
  · rfl
  · rfl
  · rfl
  · exact Finset.sum_eq_zero fun n _ => mul_zero _

theorem in_w (c : Dev nD) (k : Fin 3072) (n : Fin 1024) : (show FVec Ideal S3072x1024 .bf16 from V m c main_v5) (ix2 k n) = col (fun j => A4 m c (ix2 n j)) k := by
  unfold col
  dsimp only
  rw [V_w]
  pointwise

/-! ## The blocks -/

theorem idx : ∀ t : Fin cfg0.N, win0_0.index t = ![t.val / 2, 0] ∧ win0_1.index t = ![0, 0] ∧ win0_2.index t = ![0, 0] ∧ win0_3.index t = ![0, 0] ∧ win0_4.index t = ![0, 0] ∧ win0_5.index t = ![t.val / 2, 0] ∧ win0_6.index t = ![t.val / 2, t.val % 2] ∧ win0_7.index t = ![0, t.val / 2, 0] :=
  (by decide +kernel : ∀ t : Fin grid0.N, win0_0.index t = ![t.val / 2, 0] ∧ win0_1.index t = ![0, 0] ∧ win0_2.index t = ![0, 0] ∧ win0_3.index t = ![0, 0] ∧ win0_4.index t = ![0, 0] ∧ win0_5.index t = ![t.val / 2, 0] ∧ win0_6.index t = ![t.val / 2, t.val % 2] ∧ win0_7.index t = ![0, t.val / 2, 0])

theorem off : ∀ t : Fin cfg0.N, k0_off1 (grid0.coords t) = ![1536 * (t.val % 2), 0] :=
  (by decide +kernel : ∀ t : Fin grid0.N, k0_off1 (grid0.coords t) = ![1536 * (t.val % 2), 0])

theorem lt8 (t : Fin cfg0.N) : t.val < 8 := lt_of_lt_of_eq t.isLt (show cfg0.N = 8 from N_0)

/-- The row at which a block's row stands. -/
def row (t : Fin cfg0.N) (r : Fin 1024) : Fin 4096 := ⟨1024 * (t.val / 2) + r.val, by have := lt8 t; omega⟩

/-- The packed column at which a block's column stands. -/
def pc (t : Fin cfg0.N) (n : Fin 1536) : Fin 3072 := ⟨1536 * (t.val % 2) + n.val, by omega⟩

theorem blk_w (c : Dev nD) (t : Fin cfg0.N) (k : Fin 3072) (n : Fin 1024) : W m c t (ix2 k n) = col (fun j => A4 m c (ix2 n j)) k := by
  rw [← in_w]
  blk_ext [W, iblk, idx t]
theorem blk_x (c : Dev nD) (t : Fin cfg0.N) (r n : Fin 1024) : X m c t (ix2 r n) = A0 m c (ix2 (row t r) n) := by
  rw [show A0 m c = V m c main_arg0 from (V_main_arg0 m c).symm]
  unfold row
  blk_ext [X, iblk, idx t]
theorem blk_nw (c : Dev nD) (t : Fin cfg0.N) (n : Fin 1024) : Nw m c t (ix2 0 n) = A1 m c (ix2 0 n) := by
  rw [show A1 m c = V m c main_arg1 from (V_main_arg1 m c).symm]
  blk_ext [Nw, iblk, idx t]
theorem blk_sc (c : Dev nD) (t : Fin cfg0.N) (n : Fin 1024) : Sc m c t (ix2 0 n) = A2 m c (ix2 0 n) := by
  rw [show A2 m c = V m c main_arg2 from (V_main_arg2 m c).symm]
  blk_ext [Sc, iblk, idx t]
theorem blk_sh (c : Dev nD) (t : Fin cfg0.N) (n : Fin 1024) : Sh m c t (ix2 0 n) = A3 m c (ix2 0 n) := by
  rw [show A3 m c = V m c main_arg3 from (V_main_arg3 m c).symm]
  blk_ext [Sh, iblk, idx t]

theorem blk_hr (c : Dev nD) (t : Fin cfg0.N) (r : Fin 1024) : hr m c t r = rh (A0 m c) (A1 m c) (A2 m c) (A3 m c) (row t r) := by
  unfold hr rh
  simp only [blk_x, blk_nw, blk_sc, blk_sh]

theorem rows_at (c : Dev nD) (t : Fin cfg0.N) (r n : Fin 1024) : rows m c t (ix2 r n) = rh (A0 m c) (A1 m c) (A2 m c) (A3 m c) (row t r) n := by
  unfold rows
  rw [rowsA_at, blk_hr]
  have e : row (head t) r = row t r := Fin.ext (by unfold row head; show 1024 * (_ / 2) + r.val = 1024 * (t.val / 2) + r.val; simp only; omega)
  rw [e]

theorem half_at (c : Dev nD) (t : Fin cfg0.N) (r : Fin 1024) (n : Fin 1536) : half m c t (ix2 r n) = col (pj (A0 m c) (A1 m c) (A2 m c) (A3 m c) (A4 m c) (row t r)) (pc t n) := by
  have e : half m c t = k0_pay2 (F := Ideal) (rows m c t) (View.ld (W m c t) (Rect.unit (s := S3072x1024) (k0_off1 (grid0.coords t)) S1536x1024.size (k0_off1_inb _))) := by
    by_cases h : t.val % 2 = 0
    · exact halfA_at m c t h
    · exact halfB_at m c t h
  rw [e, pay2_at]
  unfold pj
  refine Eq.trans (Finset.sum_congr rfl fun k _ => ?_) (sum_mul_col _ _ _)
  rw [rows_at]
  refine congrArg _ (Eq.trans ?_ (blk_w m c t (pc t n) k))
  show W m c t _ = W m c t _
  congr 1
  funext b
  match b with
  | ⟨0, _⟩ => exact Fin.ext (by show k0_off1 (grid0.coords t) 0 + 1 * n.val = 1536 * (t.val % 2) + n.val; rw [off]; show 1536 * (t.val % 2) + 1 * n.val = _; omega)
  | ⟨1, _⟩ => exact Fin.ext (by show k0_off1 (grid0.coords t) 1 + 1 * k.val = k.val; rw [off]; show 0 + 1 * k.val = _; omega)

/-! ## The arrays -/

def HH (c : Dev nD) : FVec Ideal S4096x1024 .bf16 := fun y => rh (A0 m c) (A1 m c) (A2 m c) (A3 m c) (y 0) (y 1)
def PP (c : Dev nD) : FVec Ideal S4096x3072 .f32 := fun y => col (pj (A0 m c) (A1 m c) (A2 m c) (A3 m c) (A4 m c) (y 0)) (y 1)
def ZZ (c : Dev nD) : FVec Ideal S20x4096x64 .f32 := fun y => col (pj (A0 m c) (A1 m c) (A2 m c) (A3 m c) (A4 m c) (y 1)) ⟨1536 + (64 * (y 0).val + (y 2).val), by have h0 : (y 0).val < 20 := (y 0).isLt; have h2 : (y 2).val < 64 := (y 2).isLt; omega⟩

theorem final5 (c : Dev nD) : (dats m 0 c).arrAt 5 cfg0.N = HH m c := by
  refine (dats m 0 c).arrAt_eq_of_covers 5 _ (by decide +kernel) fun t hf y => ?_
  have hy : ∃ r n, y = ix2 (n0 := 1024) (n1 := 1024) r n := ⟨y 0, y 1, by funext b; match b with | ⟨0, _⟩ => rfl | ⟨1, _⟩ => rfl⟩
  obtain ⟨r, n, rfl⟩ := hy
  blk_simp
  rw [after_5]
  refine (rows_at m c t r n).trans ?_
  have hout : HH m c (((cfg0.win 5).blk t).view.emb (ix2 r n)) = HH m c (ix2 (row t r) n) := congrArg _ (by unfold row; blk_ext [idx t])
  exact hout.symm

theorem final6 (c : Dev nD) : (dats m 0 c).arrAt 6 cfg0.N = PP m c := by
  refine (dats m 0 c).arrAt_eq_of_covers 6 _ (by decide +kernel) fun t hf y => ?_
  have hy : ∃ r n, y = ix2 (n0 := 1024) (n1 := 1536) r n := ⟨y 0, y 1, by funext b; match b with | ⟨0, _⟩ => rfl | ⟨1, _⟩ => rfl⟩
  obtain ⟨r, n, rfl⟩ := hy
  blk_simp
  rw [after_6]
  refine (half_at m c t r n).trans ?_
  have hout : PP m c (((cfg0.win 6).blk t).view.emb (ix2 r n)) = PP m c (ix2 (row t r) (pc t n)) := congrArg _ (by unfold row pc; blk_ext [idx t])
  exact hout.symm

theorem final7 (c : Dev nD) : (dats m 0 c).arrAt 7 cfg0.N = ZZ m c := by
  refine (dats m 0 c).arrAt_eq_of_covers 7 _ (by decide +kernel) fun t hf y => ?_
  have hy : ∃ k r d, y = ix3 (n0 := 20) (n1 := 1024) (n2 := 64) k r d := ⟨y 0, y 1, y 2, by funext b; match b with | ⟨0, _⟩ => rfl | ⟨1, _⟩ => rfl | ⟨2, _⟩ => rfl⟩
  obtain ⟨k, r, d, rfl⟩ := hy
  have h1 := (flush0_7 t).mp hf
  blk_simp
  rw [after_7]
  refine (heads_at m c t (by omega) k r d).trans ?_
  rw [half_at]
  have hout : ZZ m c (((cfg0.win 7).blk t).view.emb (ix3 k r d)) = ZZ m c (ix3 k (row t r) d) := congrArg _ (by unfold row; blk_ext [idx t])
  refine Eq.trans ?_ hout.symm
  exact congrArg (col _) (Fin.ext (by show 1536 * (t.val % 2) + (64 * k.val + d.val) = 1536 + (64 * k.val + d.val); omega))

/-! ## After the call -/

theorem exit6 (c : Dev nD) : Pipeline.withArrays (cfgs 0).spec c (V0 m c) (fun w => (dats m 0 c).arrAt w (cfgs 0).N) (Proc.tc.devRef main_v6_1) = PP m c :=
  (Pipeline.withArrays_arr spec0 (by decide) c (V0 m c) (fun w => (dats m 0 c).arrAt w (cfgs 0).N) 6).trans (final6 m c)

theorem exit7 (c : Dev nD) : Pipeline.withArrays (cfgs 0).spec c (V0 m c) (fun w => (dats m 0 c).arrAt w (cfgs 0).N) (Proc.tc.devRef main_v6_2) = ZZ m c :=
  (Pipeline.withArrays_arr spec0 (by decide) c (V0 m c) (fun w => (dats m 0 c).arrAt w (cfgs 0).N) 7).trans (final7 m c)

theorem tail12 (c : Dev nD) : Pipeline.afterTail₀ cfgs (dats m) 0 (V0 m) [hostOps1] c main_v12 =
    concatenate S4096x2832 1 [⟨S4096x2048, extractStridedSlice S4096x2048 ![0, 0] (PP m c) slices_S4096x3072_S4096x2048_0_0⟩,
      ⟨S4096x16, extractStridedSlice S4096x16 ![0, 2816] (PP m c) slices_S4096x3072_S4096x16_0_2816⟩,
      ⟨S4096x768, extractStridedSlice S4096x768 ![0, 2048] (PP m c) slices_S4096x3072_S4096x768_0_2048⟩] concatenates_S4096x2048_S4096x16_S4096x768_S4096x2832_d1 := by
  unfold Pipeline.afterTail₀
  simp only [List.flatten_cons, List.flatten_nil, List.append_nil]
  after_results
  rw [← exit6]
  rfl

theorem tail8 (c : Dev nD) : Pipeline.afterTail₀ cfgs (dats m) 0 (V0 m) [hostOps1] c main_v8 =
    shapeCast S4096x1280 (transpose S4096x20x64 [1, 0, 2] (ZZ m c) transposes_S20x4096x64_S4096x20x64_1_0_2) shapeCasts_S4096x20x64_S4096x1280 := by
  unfold Pipeline.afterTail₀
  simp only [List.flatten_cons, List.flatten_nil, List.append_nil]
  after_results
  rw [exit7]
  rfl

theorem res_p (c : Dev nD) (i : Fin 4096) (j : Fin 2832) : (show FVec Ideal S4096x2832 .f32 from Pipeline.afterTail₀ cfgs (dats m) 0 (V0 m) [hostOps1] c main_v12) (ix2 i j) = pj (A0 m c) (A1 m c) (A2 m c) (A3 m c) (A4 m c) i j := by
  rw [tail12, ← unc_col (pj (A0 m c) (A1 m c) (A2 m c) (A3 m c) (A4 m c) i) j]
  have e : ∀ k, col (pj (A0 m c) (A1 m c) (A2 m c) (A3 m c) (A4 m c) i) k = PP m c (ix2 i k) := fun k => rfl
  rw [show col (pj (A0 m c) (A1 m c) (A2 m c) (A3 m c) (A4 m c) i) = fun k => PP m c (ix2 i k) from funext e]
  unfold unc
  dsimp only
  pointwise

theorem res_z (c : Dev nD) (i : Fin 4096) (j : Fin 1280) : (show FVec Ideal S4096x1280 .f32 from Pipeline.afterTail₀ cfgs (dats m) 0 (V0 m) [hostOps1] c main_v8) (ix2 i j) = col (pj (A0 m c) (A1 m c) (A2 m c) (A3 m c) (A4 m c) i) ⟨1536 + j.val, by omega⟩ := by
  rw [tail8]
  have e : ZZ m c (ix3 ⟨j.val / 64, by omega⟩ i ⟨j.val % 64, by omega⟩) = col (pj (A0 m c) (A1 m c) (A2 m c) (A3 m c) (A4 m c) i) ⟨1536 + j.val, by omega⟩ :=
    congrArg (col _) (Fin.ext (by show 1536 + (64 * (j.val / 64) + j.val % 64) = 1536 + j.val; omega))
  rw [← e]
  dsimp only
  pointwise

end Cert.NormInIdeal.Grad
end
-- ==== Proof.NormInClaims.lean ====
/- The claims about the first norm with the input projection, forward. -/
module

public import proofs.«01_k».proof.Defs
public import proofs.«01_k».proof.Proof.NormInArray
public import proofs.«01_k».proof.Proof.Gen.NormIn
public import proofs.«01_k».proof.Proof.Gen.NormInRefIdeal.Read
public import Idealize.ShloMosaic.Adequacy
public import Idealize.ShloMosaic.Lib.KernelVsHost

@[expose] public section

set_option maxRecDepth 16384

noncomputable section

namespace Cert.Proof.NormInClaims

open Idealize.ShloMosaic Idealize.ShloMosaic.TcCoe Idealize.SL.Sem
open Cert.NormInIdeal Cert.NormInIdeal.Grad Cert.RowNorm

/-- The kernel at the given words is the idealized one's text. -/
theorem frame_p : Cert.quiescent_NormIn := fun m ρ _ => by
  have h := @Cert.NormInIdeal.Grad.frame Bits _ m ρ
  refine cast ?_ h
  sl_kernel_rfl

theorem frame_pi : Cert.quiescent_NormInIdeal := fun m ρ _ => Cert.NormInIdeal.Grad.frame m ρ

/-- The reference leaves its arguments as they were; it has no semaphore. -/
theorem frame_ref : Cert.quiescent_NormInRefIdeal := fun m ρ _ =>
  (θ_run Cert.NormInRefIdeal.defs _ _).mono (fun r h => ⟨fun c => (h c).2.2.2, sem_eq_zero_of_no_sems (by decide) r.2⟩) (Cert.NormInRefIdeal.Value.run m ρ)

section
open Cert.NormInRefIdeal.Read

variable (x0 : FVec Ideal S4096x1024 .f32) (x1 x2 x3 : FVec Ideal S1x1024 .f32) (x4 : FVec Ideal S1024x2832 .bf16)

theorem at_v6 (i : Fin 4096) : val_main_v6 (F := Ideal) x0 (ix2 i 0) = q (fun k => x0 (ix2 i k)) := by
  unfold q
  pointwise [val_main_v6, val_main_v5, val_main_cst_1, val_main_v4, val_main_v3, val_main_cst_0, val_main_v2, val_main_v1, val_main_cst, val_main_v0]

theorem at_v7 (i : Fin 4096) : val_main_v7 (F := Ideal) x0 (ix2 i 0) = irt (fun k => x0 (ix2 i k)) := by
  unfold irt
  rw [← at_v6]
  pointwise [val_main_v7]

theorem at_v9 (i : Fin 4096) (n : Fin 1024) : val_main_v9 (F := Ideal) x0 (ix2 i n) = yn (fun k => x0 (ix2 i k)) n := by
  unfold yn
  rw [← at_v7]
  pointwise [val_main_v9, val_main_v8]

theorem at_v17 (i : Fin 4096) (n : Fin 1024) : val_main_v17 (F := Ideal) x0 x1 x2 x3 (ix2 i n) = rh x0 x1 x2 x3 i n := by
  unfold rh mdl
  rw [← at_v9]
  pointwise [val_main_v17, val_main_v16, val_main_v15, val_main_v14, val_main_v13, val_main_v12, val_main_cst_2, val_main_v11, val_main_v10]

theorem at_v20 (i : Fin 4096) (n : Fin 1024) : val_main_v20 (F := Ideal) x0 x1 x2 x3 (ix2 i n) = rh x0 x1 x2 x3 i n := by
  rw [← at_v17]
  pointwise [val_main_v20]

theorem at_v19 (i : Fin 4096) (j : Fin 2832) : val_main_v19 (F := Ideal) x0 x1 x2 x3 x4 (ix2 i j) = pj x0 x1 x2 x3 x4 i j := by
  unfold pj
  simp only [← at_v17]
  pointwise [val_main_v19, val_main_v18]

theorem at_v23 (i : Fin 4096) (j : Fin 1280) : val_main_v23 (F := Ideal) x0 x1 x2 x3 x4 (ix2 i j) = col (pj x0 x1 x2 x3 x4 i) ⟨1536 + j.val, by omega⟩ := by
  have e : val_main_v23 (F := Ideal) x0 x1 x2 x3 x4 (ix2 i j) = if h : j.val < 512 then val_main_v19 (F := Ideal) x0 x1 x2 x3 x4 (ix2 i ⟨1536 + j.val, by omega⟩) else val_main_v19 (F := Ideal) x0 x1 x2 x3 x4 (ix2 i ⟨2064 + (j.val - 512), by omega⟩) := by
    pointwise [val_main_v23, val_main_v22, val_main_v21]
  rw [e]
  simp only [at_v19]
  by_cases h : j.val < 512
  · rw [dif_pos h, col_lo _ _ (by show 1536 + j.val < 2048; omega)]
  · rw [dif_neg h, col_mid _ _ (by show ¬1536 + j.val < 2048; omega) (by show 1536 + j.val - 2048 < 768; omega)]
    exact congrArg (pj x0 x1 x2 x3 x4 i) (Fin.ext (by show 2064 + (j.val - 512) = 2064 + (1536 + j.val - 2048); omega))

end

variable (m : (ℓ : Loc nD τ sig) → Buf (Elt Ideal) ℓ)

abbrev P12 (c : Dev nD) : FVec Ideal S4096x2832 .f32 := Pipeline.afterTail₀ cfgs (Grad.dats m) 0 (Gen.V0 m) [Gen.hostOps1] c main_v12
abbrev P8 (c : Dev nD) : FVec Ideal S4096x1280 .f32 := Pipeline.afterTail₀ cfgs (Grad.dats m) 0 (Gen.V0 m) [Gen.hostOps1] c main_v8

theorem eq_norm (c : Dev nD) : Cert.NormInRefIdeal.Read.val_main_v20 (F := Ideal) (A0 m c) (A1 m c) (A2 m c) (A3 m c) = HH m c := by
  funext y
  have hy : ∃ i n, y = ix2 (n0 := 4096) (n1 := 1024) i n := ⟨y 0, y 1, by funext b; match b with | ⟨0, _⟩ => rfl | ⟨1, _⟩ => rfl⟩
  obtain ⟨i, n, rfl⟩ := hy
  exact at_v20 _ _ _ _ i n

theorem eq_proj (c : Dev nD) : Cert.NormInRefIdeal.Read.val_main_v19 (F := Ideal) (A0 m c) (A1 m c) (A2 m c) (A3 m c) (A4 m c) = P12 m c := by
  funext y
  have hy : ∃ i n, y = ix2 (n0 := 4096) (n1 := 2832) i n := ⟨y 0, y 1, by funext b; match b with | ⟨0, _⟩ => rfl | ⟨1, _⟩ => rfl⟩
  obtain ⟨i, n, rfl⟩ := hy
  exact (at_v19 _ _ _ _ _ i n).trans (res_p m c i n).symm

theorem eq_heads (c : Dev nD) : Cert.NormInRefIdeal.Read.val_main_v23 (F := Ideal) (A0 m c) (A1 m c) (A2 m c) (A3 m c) (A4 m c) = P8 m c := by
  funext y
  have hy : ∃ i n, y = ix2 (n0 := 4096) (n1 := 1280) i n := ⟨y 0, y 1, by funext b; match b with | ⟨0, _⟩ => rfl | ⟨1, _⟩ => rfl⟩
  obtain ⟨i, n, rfl⟩ := hy
  exact (at_v23 _ _ _ _ _ i n).trans (res_z m c i n).symm

/-- Arguments that are the kernel's give the reference's results over them. -/
theorem eq_all (c : Dev nD) {x0 : FVec Ideal S4096x1024 .f32} {x1 x2 x3 : FVec Ideal S1x1024 .f32} {x4 : FVec Ideal S1024x2832 .bf16}
    (ha : x0 = A0 m c ∧ x1 = A1 m c ∧ x2 = A2 m c ∧ x3 = A3 m c ∧ x4 = A4 m c) :
    Cert.NormInRefIdeal.Read.val_main_v20 (F := Ideal) x0 x1 x2 x3 = HH m c
      ∧ Cert.NormInRefIdeal.Read.val_main_v19 (F := Ideal) x0 x1 x2 x3 x4 = P12 m c
      ∧ Cert.NormInRefIdeal.Read.val_main_v23 (F := Ideal) x0 x1 x2 x3 x4 = P8 m c := by
  obtain ⟨rfl, rfl, rfl, rfl, rfl⟩ := ha
  exact ⟨eq_norm m c, eq_proj m c, eq_heads m c⟩

/-- What the kernel leaves. -/
theorem ran (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = HH m c
      ∧ r.2.mem ((c.tc : Thread nD τ).loc main_v12) = P12 m c
      ∧ r.2.mem ((c.tc : Thread nD τ).loc main_v8) = P8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (Grad.run_main m ρ) (Grad.frame m ρ)) fun r h c =>
    ⟨((h.1 c).1 5).trans (final5 m c), (h.1 c).2 main_v12 (Pipeline.mem_restRefs_of main_v12 (by decide) (by decide)),
      (h.1 c).2 main_v8 (Pipeline.mem_restRefs_of main_v8 (by decide) (by decide)), h.2.1 c⟩

/-- The kernel and the norm with its product leave the same arrays, at every argument. -/
theorem algebraic : Cert.algebraic_NormInIdeal_NormInRefIdeal := fun m g m' g' _ hagree => by
  refine ⟨HH m, P12 m, P8 m, ran m g, ?_⟩
  refine θ_run_mono (Cert.NormInRefIdeal.Value.run m' g') fun r h c => ?_
  have e := eq_all m c (hagree c)
  exact ⟨(h c).1.trans ((Cert.NormInRefIdeal.Read.val_main_v20_eq _ _ _ _).trans e.1), (h c).2.1.trans e.2.1, (h c).2.2.1.trans e.2.2, (h c).2.2.2⟩

end Cert.Proof.NormInClaims

end
-- ==== Proof.lean ====
/- The certificate: the claims about each call, assembled from the modules that prove them. -/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Read
public import proofs.«01_k».proof.Proof.Gen.Pre_conv_finite
public import proofs.«01_k».proof.Proof.ConvClaims
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Read
public import proofs.«01_k».proof.Proof.Gen.Pre_act_finite
public import proofs.«01_k».proof.Proof.ActClaims
public import proofs.«01_k».proof.Proof.Gen.Swa
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaRefIdeal
public import proofs.«01_k».proof.Proof.Gen.SwaIdeal.Frame.RunB
public import proofs.«01_k».proof.Proof.Gen.SwaRefIdeal.Read
public import proofs.«01_k».proof.Proof.Gen.Pre_swa_finite
public import proofs.«01_k».proof.Proof.SwaClaims
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Read
public import proofs.«01_k».proof.Proof.LossClaims
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Read
public import proofs.«01_k».proof.Proof.InProjClaims
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidRefIdeal
public import proofs.«01_k».proof.Proof.Gen.ResidRefIdeal.Read
public import proofs.«01_k».proof.Proof.ResidClaims
public import proofs.«01_k».proof.Proof.Gen.SwaFwd
public import proofs.«01_k».proof.Proof.Gen.SwaFwd.Skeleton
public import proofs.«01_k».proof.Proof.Gen.SwaFwd.Launch
public import proofs.«01_k».proof.Proof.Gen.SwaFwd.Points
public import proofs.«01_k».proof.Proof.Gen.SwaFwd.Frame
public import proofs.«01_k».proof.Proof.Gen.SwaFwdIdeal
public import proofs.«01_k».proof.Proof.Gen.SwaFwdIdeal.Skeleton
public import proofs.«01_k».proof.Proof.Gen.SwaFwdIdeal.Launch
public import proofs.«01_k».proof.Proof.Gen.SwaFwdIdeal.Points
public import proofs.«01_k».proof.Proof.Gen.SwaFwdIdeal.Frame
public import proofs.«01_k».proof.Proof.Gen.SwaFwdRefIdeal
public import proofs.«01_k».proof.Proof.Gen.SwaFwdRefIdeal.Read
public import proofs.«01_k».proof.Proof.Gen.Pre_swaf_finite
public import proofs.«01_k».proof.Proof.SwaFwdClaims
public import proofs.«01_k».proof.Proof.Gen.UpAct
public import proofs.«01_k».proof.Proof.Gen.UpAct.Skeleton
public import proofs.«01_k».proof.Proof.Gen.UpAct.Launch
public import proofs.«01_k».proof.Proof.Gen.UpAct.Points
public import proofs.«01_k».proof.Proof.Gen.UpAct.Frame
public import proofs.«01_k».proof.Proof.Gen.UpActIdeal
public import proofs.«01_k».proof.Proof.Gen.UpActIdeal.Skeleton
public import proofs.«01_k».proof.Proof.Gen.UpActIdeal.Launch
public import proofs.«01_k».proof.Proof.Gen.UpActIdeal.Points
public import proofs.«01_k».proof.Proof.Gen.UpActIdeal.Frame
public import proofs.«01_k».proof.Proof.Gen.UpActRefIdeal
public import proofs.«01_k».proof.Proof.Gen.UpActRefIdeal.Read
public import proofs.«01_k».proof.Proof.UpActClaims
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdRefIdeal.Read
public import proofs.«01_k».proof.Proof.ConvFwdClaims
public import proofs.«01_k».proof.Proof.Gen.ResidFwd
public import proofs.«01_k».proof.Proof.Gen.ResidFwd.Skeleton
public import proofs.«01_k».proof.Proof.Gen.ResidFwd.Launch
public import proofs.«01_k».proof.Proof.Gen.ResidFwd.Points
public import proofs.«01_k».proof.Proof.Gen.ResidFwd.Frame
public import proofs.«01_k».proof.Proof.Gen.ResidFwdIdeal
public import proofs.«01_k».proof.Proof.Gen.ResidFwdIdeal.Skeleton
public import proofs.«01_k».proof.Proof.Gen.ResidFwdIdeal.Launch
public import proofs.«01_k».proof.Proof.Gen.ResidFwdIdeal.Points
public import proofs.«01_k».proof.Proof.Gen.ResidFwdIdeal.Frame
public import proofs.«01_k».proof.Proof.Gen.ResidFwdRefIdeal
public import proofs.«01_k».proof.Proof.Gen.ResidFwdRefIdeal.Read
public import proofs.«01_k».proof.Proof.ResidFwdClaims
public import proofs.«01_k».proof.Proof.Gen.NormIn
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInRefIdeal
public import proofs.«01_k».proof.Proof.Gen.NormInRefIdeal.Read
public import proofs.«01_k».proof.Proof.NormInClaims
public import Idealize.ShloMosaic.Adequacy
public import Idealize.ShloMosaic.Init

@[expose] public section

noncomputable section

namespace Cert.Proof

open Idealize.ShloMosaic Idealize.SL.Sem

theorem claim : Cert.Claim := ⟨Cert.Conv.Gen.facts, Cert.ConvIdeal.Gen.facts, Cert.ConvRefIdeal.Gen.facts, Cert.Act.Gen.facts, Cert.ActIdeal.Gen.facts, Cert.ActRefIdeal.Gen.facts, Cert.Swa.Gen.facts, Cert.SwaIdeal.Gen.facts, Cert.SwaRefIdeal.Gen.facts, Cert.Loss.Gen.facts, Cert.LossIdeal.Gen.facts, Cert.LossRefIdeal.Gen.facts, Cert.InProj.Gen.facts, Cert.InProjIdeal.Gen.facts, Cert.InProjRefIdeal.Gen.facts, Cert.Resid.Gen.facts, Cert.ResidIdeal.Gen.facts, Cert.ResidRefIdeal.Gen.facts, Cert.SwaFwd.Gen.facts, Cert.SwaFwdIdeal.Gen.facts, Cert.SwaFwdRefIdeal.Gen.facts, Cert.UpAct.Gen.facts, Cert.UpActIdeal.Gen.facts, Cert.UpActRefIdeal.Gen.facts, Cert.ConvFwd.Gen.facts, Cert.ConvFwdIdeal.Gen.facts, Cert.ConvFwdRefIdeal.Gen.facts, Cert.ResidFwd.Gen.facts, Cert.ResidFwdIdeal.Gen.facts, Cert.ResidFwdRefIdeal.Gen.facts, Cert.NormIn.Gen.facts, Cert.NormInIdeal.Gen.facts, Cert.NormInRefIdeal.Gen.facts, Cert.Pre_conv_finite.Gen.facts, Cert.Pre_act_finite.Gen.facts, Cert.Pre_swa_finite.Gen.facts, Cert.Pre_swaf_finite.Gen.facts,
  fun m ρ _ => Cert.Conv.Gen.frame m ρ,
  fun m ρ _ => Cert.ConvIdeal.Gen.frame m ρ,
  fun m ρ _ => Cert.ConvIdeal.Gen.frame m ρ,
  ConvClaims.frame_ref,
  fun m ρ _ => ConvClaims.frame_ref m ρ trivial,
  fun m ρ _ => Cert.Act.Gen.frame m ρ,
  fun m ρ _ => Cert.ActIdeal.Gen.frame m ρ,
  fun m ρ _ => Cert.ActIdeal.Gen.frame m ρ,
  ActClaims.frame_ref,
  fun m ρ _ => ActClaims.frame_ref m ρ trivial,
  SwaClaims.frame_p,
  SwaClaims.frame_pi,
  SwaClaims.frame_pi_pre,
  SwaClaims.frame_ref,
  SwaClaims.frame_ref_pre,
  fun m ρ _ => Cert.Loss.Gen.frame m ρ,
  fun m ρ _ => Cert.LossIdeal.Gen.frame m ρ,
  LossClaims.frame_ref,
  fun m ρ _ => Cert.InProj.Gen.frame m ρ,
  fun m ρ _ => Cert.InProjIdeal.Gen.frame m ρ,
  InProjClaims.frame_ref,
  fun m ρ _ => Cert.Resid.Gen.frame m ρ,
  fun m ρ _ => Cert.ResidIdeal.Gen.frame m ρ,
  ResidClaims.frame_ref,
  fun m ρ _ => Cert.SwaFwd.Gen.frame m ρ,
  fun m ρ _ => Cert.SwaFwdIdeal.Gen.frame m ρ,
  fun m ρ _ => Cert.SwaFwdIdeal.Gen.frame m ρ,
  SwaFwdClaims.frame_ref,
  fun m ρ _ => SwaFwdClaims.frame_ref m ρ trivial,
  fun m ρ _ => Cert.UpAct.Gen.frame m ρ,
  fun m ρ _ => Cert.UpActIdeal.Gen.frame m ρ,
  UpActClaims.frame_ref,
  fun m ρ _ => Cert.ConvFwd.Gen.frame m ρ,
  fun m ρ _ => Cert.ConvFwdIdeal.Gen.frame m ρ,
  ConvFwdClaims.frame_ref,
  fun m ρ _ => Cert.ResidFwd.Gen.frame m ρ,
  fun m ρ _ => Cert.ResidFwdIdeal.Gen.frame m ρ,
  ResidFwdClaims.frame_ref,
  NormInClaims.frame_p,
  NormInClaims.frame_pi,
  NormInClaims.frame_ref,
  trivial,
  ConvClaims.algebraic,
  trivial,
  ActClaims.algebraic,
  SwaClaims.preserves,
  SwaClaims.algebraic,
  trivial,
  LossClaims.algebraic,
  trivial,
  InProjClaims.algebraic,
  trivial,
  ResidClaims.algebraic,
  SwaFwdClaims.preserves,
  SwaFwdClaims.algebraic,
  trivial,
  UpActClaims.algebraic,
  trivial,
  ConvFwdClaims.algebraic,
  trivial,
  ResidFwdClaims.algebraic,
  trivial,
  NormInClaims.algebraic⟩

end Cert.Proof

end
